-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dt_finite [hPre_dt_finite : Cert.Pre_dt_finite.Facts] (m : (ℓ : Loc Cert.KernelIdeal.nD Cert.KernelIdeal.τ Cert.KernelIdeal.sig) → Buf (Elt Ideal) ℓ) : Prop :=
  ∀ c : Dev Cert.KernelIdeal.nD,
    (Cert.Pre_dt_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_dt_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_dt_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dt_finite [hPre_dt_finite : Cert.Pre_dt_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dt_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_dt_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_dt_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjAReferenceIdeal (m : (ℓ : Loc Cert.ProjAReferenceIdeal.nD Cert.ProjAReferenceIdeal.τ Cert.ProjAReferenceIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBReferenceIdeal (m : (ℓ : Loc Cert.ProjBReferenceIdeal.nD Cert.ProjBReferenceIdeal.τ Cert.ProjBReferenceIdeal.sig) → Buf (Elt Ideal) ℓ) : Prop :=
  True

def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_ProjCReferenceIdeal (m : (ℓ : Loc Cert.ProjCReferenceIdeal.nD Cert.ProjCReferenceIdeal.τ Cert.ProjCReferenceIdeal.sig) → Buf (Elt Ideal) ℓ) : Prop :=
  True

def Pre_ProjE (m : (ℓ : Loc Cert.ProjE.nD Cert.ProjE.τ Cert.ProjE.sig) → Buf (Elt Bits) ℓ) : Prop :=
  True

def Pre_ProjEIdeal (m : (ℓ : Loc Cert.ProjEIdeal.nD Cert.ProjEIdeal.τ Cert.ProjEIdeal.sig) → Buf (Elt Ideal) ℓ) : Prop :=
  True

def Pre_ProjEReferenceIdeal (m : (ℓ : Loc Cert.ProjEReferenceIdeal.nD Cert.ProjEReferenceIdeal.τ Cert.ProjEReferenceIdeal.sig) → Buf (Elt Ideal) ℓ) : Prop :=
  True

def Pre_ProjF (m : (ℓ : Loc Cert.ProjF.nD Cert.ProjF.τ Cert.ProjF.sig) → Buf (Elt Bits) ℓ) : Prop :=
  True

def Pre_ProjFIdeal (m : (ℓ : Loc Cert.ProjFIdeal.nD Cert.ProjFIdeal.τ Cert.ProjFIdeal.sig) → Buf (Elt Ideal) ℓ) : Prop :=
  True

def Pre_ProjFReferenceIdeal (m : (ℓ : Loc Cert.ProjFReferenceIdeal.nD Cert.ProjFReferenceIdeal.τ Cert.ProjFReferenceIdeal.sig) → Buf (Elt Ideal) ℓ) : Prop :=
  True

def Pre_ProjG (m : (ℓ : Loc Cert.ProjG.nD Cert.ProjG.τ Cert.ProjG.sig) → Buf (Elt Bits) ℓ) : Prop :=
  True

def Pre_ProjGIdeal (m : (ℓ : Loc Cert.ProjGIdeal.nD Cert.ProjGIdeal.τ Cert.ProjGIdeal.sig) → Buf (Elt Ideal) ℓ) : Prop :=
  True

def Pre_ProjGReferenceIdeal (m : (ℓ : Loc Cert.ProjGReferenceIdeal.nD Cert.ProjGReferenceIdeal.τ Cert.ProjGReferenceIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_SampleKv (m : (ℓ : Loc Cert.SampleKv.nD Cert.SampleKv.τ Cert.SampleKv.sig) → Buf (Elt Bits) ℓ) : Prop :=
  True

def Pre_SampleKvIdeal (m : (ℓ : Loc Cert.SampleKvIdeal.nD Cert.SampleKvIdeal.τ Cert.SampleKvIdeal.sig) → Buf (Elt Ideal) ℓ) : Prop :=
  True

def Pre_SampleKvReferenceIdeal (m : (ℓ : Loc Cert.SampleKvReferenceIdeal.nD Cert.SampleKvReferenceIdeal.τ Cert.SampleKvReferenceIdeal.sig) → Buf (Elt Ideal) ℓ) : Prop :=
  True

def Pre_SampleConv (m : (ℓ : Loc Cert.SampleConv.nD Cert.SampleConv.τ Cert.SampleConv.sig) → Buf (Elt Bits) ℓ) : Prop :=
  True

def Pre_SampleConvIdeal (m : (ℓ : Loc Cert.SampleConvIdeal.nD Cert.SampleConvIdeal.τ Cert.SampleConvIdeal.sig) → Buf (Elt Ideal) ℓ) : Prop :=
  True

def Pre_SampleConvReferenceIdeal (m : (ℓ : Loc Cert.SampleConvReferenceIdeal.nD Cert.SampleConvReferenceIdeal.τ Cert.SampleConvReferenceIdeal.sig) → Buf (Elt Ideal) ℓ) : Prop :=
  True

def Pre_Experts [hPre_tables : Cert.Pre_tables.Facts] (m : (ℓ : Loc Cert.Experts.nD Cert.Experts.τ Cert.Experts.sig) → Buf (Elt Bits) ℓ) : Prop :=
  ∀ c : Dev Cert.Experts.nD,
    (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))).1 = (fun _ => 1#1)
    ∧ (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))).2.1 = (fun _ => 1#1)
    ∧ (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))).2.2.1 = (fun _ => 1#1)
    ∧ (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))).2.2.2 = (fun _ => 1#1)

def Pre_ExpertsIdeal [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).1 = (fun _ => 1#1)
    ∧ (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).2.1 = (fun _ => 1#1)
    ∧ (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).2.2.1 = (fun _ => 1#1)
    ∧ (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))).2.2.2 = (fun _ => 1#1)

def Pre_ExpertsReferenceIdeal [hPre_tables : Cert.Pre_tables.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tables.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))).1 = (fun _ => 1#1)
    ∧ (Cert.Pre_tables.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))).2.1 = (fun _ => 1#1)
    ∧ (Cert.Pre_tables.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))).2.2.1 = (fun _ => 1#1)
    ∧ (Cert.Pre_tables.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))).2.2.2 = (fun _ => 1#1)

def Pre_ExpertsDown [hPre_down_tables : Cert.Pre_down_tables.Facts] (m : (ℓ : Loc Cert.ExpertsDown.nD Cert.ExpertsDown.τ Cert.ExpertsDown.sig) → Buf (Elt Bits) ℓ) : Prop :=
  ∀ c : Dev Cert.ExpertsDown.nD,
    (Cert.Pre_down_tables.fn (F := Bits) (m ((c.tc : Thread Cert.ExpertsDown.nD Cert.ExpertsDown.τ).loc Cert.ExpertsDown.main_arg0)) (m ((c.tc : Thread Cert.ExpertsDown.nD Cert.ExpertsDown.τ).loc Cert.ExpertsDown.main_arg1)) (m ((c.tc : Thread Cert.ExpertsDown.nD Cert.ExpertsDown.τ).loc Cert.ExpertsDown.main_arg2)) (m ((c.tc : Thread Cert.ExpertsDown.nD Cert.ExpertsDown.τ).loc Cert.ExpertsDown.main_arg3)) (m ((c.tc : Thread Cert.ExpertsDown.nD Cert.ExpertsDown.τ).loc Cert.ExpertsDown.main_arg4))).1 = (fun _ => 1#1)
    ∧ (Cert.Pre_down_tables.fn (F := Bits) (m ((c.tc : Thread Cert.ExpertsDown.nD Cert.ExpertsDown.τ).loc Cert.ExpertsDown.main_arg0)) (m ((c.tc : Thread Cert.ExpertsDown.nD Cert.ExpertsDown.τ).loc Cert.ExpertsDown.main_arg1)) (m ((c.tc : Thread Cert.ExpertsDown.nD Cert.ExpertsDown.τ).loc Cert.ExpertsDown.main_arg2)) (m ((c.tc : Thread Cert.ExpertsDown.nD Cert.ExpertsDown.τ).loc Cert.ExpertsDown.main_arg3)) (m ((c.tc : Thread Cert.ExpertsDown.nD Cert.ExpertsDown.τ).loc Cert.ExpertsDown.main_arg4))).2.1 = (fun _ => 1#1)
    ∧ (Cert.Pre_down_tables.fn (F := Bits) (m ((c.tc : Thread Cert.ExpertsDown.nD Cert.ExpertsDown.τ).loc Cert.ExpertsDown.main_arg0)) (m ((c.tc : Thread Cert.ExpertsDown.nD Cert.ExpertsDown.τ).loc Cert.ExpertsDown.main_arg1)) (m ((c.tc : Thread Cert.ExpertsDown.nD Cert.ExpertsDown.τ).loc Cert.ExpertsDown.main_arg2)) (m ((c.tc : Thread Cert.ExpertsDown.nD Cert.ExpertsDown.τ).loc Cert.ExpertsDown.main_arg3)) (m ((c.tc : Thread Cert.ExpertsDown.nD Cert.ExpertsDown.τ).loc Cert.ExpertsDown.main_arg4))).2.2.1 = (fun _ => 1#1)
    ∧ (Cert.Pre_down_tables.fn (F := Bits) (m ((c.tc : Thread Cert.ExpertsDown.nD Cert.ExpertsDown.τ).loc Cert.ExpertsDown.main_arg0)) (m ((c.tc : Thread Cert.ExpertsDown.nD Cert.ExpertsDown.τ).loc Cert.ExpertsDown.main_arg1)) (m ((c.tc : Thread Cert.ExpertsDown.nD Cert.ExpertsDown.τ).loc Cert.ExpertsDown.main_arg2)) (m ((c.tc : Thread Cert.ExpertsDown.nD Cert.ExpertsDown.τ).loc Cert.ExpertsDown.main_arg3)) (m ((c.tc : Thread Cert.ExpertsDown.nD Cert.ExpertsDown.τ).loc Cert.ExpertsDown.main_arg4))).2.2.2 = (fun _ => 1#1)

def Pre_ExpertsDownIdeal [hPre_down_tables : Cert.Pre_down_tables.Facts] (m : (ℓ : Loc Cert.ExpertsDownIdeal.nD Cert.ExpertsDownIdeal.τ Cert.ExpertsDownIdeal.sig) → Buf (Elt Ideal) ℓ) : Prop :=
  ∀ c : Dev Cert.ExpertsDownIdeal.nD,
    (Cert.Pre_down_tables.fn (F := Ideal) (m ((c.tc : Thread Cert.ExpertsDownIdeal.nD Cert.ExpertsDownIdeal.τ).loc Cert.ExpertsDownIdeal.main_arg0)) (m ((c.tc : Thread Cert.ExpertsDownIdeal.nD Cert.ExpertsDownIdeal.τ).loc Cert.ExpertsDownIdeal.main_arg1)) (m ((c.tc : Thread Cert.ExpertsDownIdeal.nD Cert.ExpertsDownIdeal.τ).loc Cert.ExpertsDownIdeal.main_arg2)) (m ((c.tc : Thread Cert.ExpertsDownIdeal.nD Cert.ExpertsDownIdeal.τ).loc Cert.ExpertsDownIdeal.main_arg3)) (m ((c.tc : Thread Cert.ExpertsDownIdeal.nD Cert.ExpertsDownIdeal.τ).loc Cert.ExpertsDownIdeal.main_arg4))).1 = (fun _ => 1#1)
    ∧ (Cert.Pre_down_tables.fn (F := Ideal) (m ((c.tc : Thread Cert.ExpertsDownIdeal.nD Cert.ExpertsDownIdeal.τ).loc Cert.ExpertsDownIdeal.main_arg0)) (m ((c.tc : Thread Cert.ExpertsDownIdeal.nD Cert.ExpertsDownIdeal.τ).loc Cert.ExpertsDownIdeal.main_arg1)) (m ((c.tc : Thread Cert.ExpertsDownIdeal.nD Cert.ExpertsDownIdeal.τ).loc Cert.ExpertsDownIdeal.main_arg2)) (m ((c.tc : Thread Cert.ExpertsDownIdeal.nD Cert.ExpertsDownIdeal.τ).loc Cert.ExpertsDownIdeal.main_arg3)) (m ((c.tc : Thread Cert.ExpertsDownIdeal.nD Cert.ExpertsDownIdeal.τ).loc Cert.ExpertsDownIdeal.main_arg4))).2.1 = (fun _ => 1#1)
    ∧ (Cert.Pre_down_tables.fn (F := Ideal) (m ((c.tc : Thread Cert.ExpertsDownIdeal.nD Cert.ExpertsDownIdeal.τ).loc Cert.ExpertsDownIdeal.main_arg0)) (m ((c.tc : Thread Cert.ExpertsDownIdeal.nD Cert.ExpertsDownIdeal.τ).loc Cert.ExpertsDownIdeal.main_arg1)) (m ((c.tc : Thread Cert.ExpertsDownIdeal.nD Cert.ExpertsDownIdeal.τ).loc Cert.ExpertsDownIdeal.main_arg2)) (m ((c.tc : Thread Cert.ExpertsDownIdeal.nD Cert.ExpertsDownIdeal.τ).loc Cert.ExpertsDownIdeal.main_arg3)) (m ((c.tc : Thread Cert.ExpertsDownIdeal.nD Cert.ExpertsDownIdeal.τ).loc Cert.ExpertsDownIdeal.main_arg4))).2.2.1 = (fun _ => 1#1)
    ∧ (Cert.Pre_down_tables.fn (F := Ideal) (m ((c.tc : Thread Cert.ExpertsDownIdeal.nD Cert.ExpertsDownIdeal.τ).loc Cert.ExpertsDownIdeal.main_arg0)) (m ((c.tc : Thread Cert.ExpertsDownIdeal.nD Cert.ExpertsDownIdeal.τ).loc Cert.ExpertsDownIdeal.main_arg1)) (m ((c.tc : Thread Cert.ExpertsDownIdeal.nD Cert.ExpertsDownIdeal.τ).loc Cert.ExpertsDownIdeal.main_arg2)) (m ((c.tc : Thread Cert.ExpertsDownIdeal.nD Cert.ExpertsDownIdeal.τ).loc Cert.ExpertsDownIdeal.main_arg3)) (m ((c.tc : Thread Cert.ExpertsDownIdeal.nD Cert.ExpertsDownIdeal.τ).loc Cert.ExpertsDownIdeal.main_arg4))).2.2.2 = (fun _ => 1#1)

def Pre_ExpertsDownReferenceIdeal [hPre_down_tables : Cert.Pre_down_tables.Facts] (m : (ℓ : Loc Cert.ExpertsDownReferenceIdeal.nD Cert.ExpertsDownReferenceIdeal.τ Cert.ExpertsDownReferenceIdeal.sig) → Buf (Elt Ideal) ℓ) : Prop :=
  ∀ c : Dev Cert.ExpertsDownReferenceIdeal.nD,
    (Cert.Pre_down_tables.fn (F := Ideal) (m ((c.tc : Thread Cert.ExpertsDownReferenceIdeal.nD Cert.ExpertsDownReferenceIdeal.τ).loc Cert.ExpertsDownReferenceIdeal.main_arg0)) (m ((c.tc : Thread Cert.ExpertsDownReferenceIdeal.nD Cert.ExpertsDownReferenceIdeal.τ).loc Cert.ExpertsDownReferenceIdeal.main_arg1)) (m ((c.tc : Thread Cert.ExpertsDownReferenceIdeal.nD Cert.ExpertsDownReferenceIdeal.τ).loc Cert.ExpertsDownReferenceIdeal.main_arg2)) (m ((c.tc : Thread Cert.ExpertsDownReferenceIdeal.nD Cert.ExpertsDownReferenceIdeal.τ).loc Cert.ExpertsDownReferenceIdeal.main_arg3)) (m ((c.tc : Thread Cert.ExpertsDownReferenceIdeal.nD Cert.ExpertsDownReferenceIdeal.τ).loc Cert.ExpertsDownReferenceIdeal.main_arg4))).1 = (fun _ => 1#1)
    ∧ (Cert.Pre_down_tables.fn (F := Ideal) (m ((c.tc : Thread Cert.ExpertsDownReferenceIdeal.nD Cert.ExpertsDownReferenceIdeal.τ).loc Cert.ExpertsDownReferenceIdeal.main_arg0)) (m ((c.tc : Thread Cert.ExpertsDownReferenceIdeal.nD Cert.ExpertsDownReferenceIdeal.τ).loc Cert.ExpertsDownReferenceIdeal.main_arg1)) (m ((c.tc : Thread Cert.ExpertsDownReferenceIdeal.nD Cert.ExpertsDownReferenceIdeal.τ).loc Cert.ExpertsDownReferenceIdeal.main_arg2)) (m ((c.tc : Thread Cert.ExpertsDownReferenceIdeal.nD Cert.ExpertsDownReferenceIdeal.τ).loc Cert.ExpertsDownReferenceIdeal.main_arg3)) (m ((c.tc : Thread Cert.ExpertsDownReferenceIdeal.nD Cert.ExpertsDownReferenceIdeal.τ).loc Cert.ExpertsDownReferenceIdeal.main_arg4))).2.1 = (fun _ => 1#1)
    ∧ (Cert.Pre_down_tables.fn (F := Ideal) (m ((c.tc : Thread Cert.ExpertsDownReferenceIdeal.nD Cert.ExpertsDownReferenceIdeal.τ).loc Cert.ExpertsDownReferenceIdeal.main_arg0)) (m ((c.tc : Thread Cert.ExpertsDownReferenceIdeal.nD Cert.ExpertsDownReferenceIdeal.τ).loc Cert.ExpertsDownReferenceIdeal.main_arg1)) (m ((c.tc : Thread Cert.ExpertsDownReferenceIdeal.nD Cert.ExpertsDownReferenceIdeal.τ).loc Cert.ExpertsDownReferenceIdeal.main_arg2)) (m ((c.tc : Thread Cert.ExpertsDownReferenceIdeal.nD Cert.ExpertsDownReferenceIdeal.τ).loc Cert.ExpertsDownReferenceIdeal.main_arg3)) (m ((c.tc : Thread Cert.ExpertsDownReferenceIdeal.nD Cert.ExpertsDownReferenceIdeal.τ).loc Cert.ExpertsDownReferenceIdeal.main_arg4))).2.2.1 = (fun _ => 1#1)
    ∧ (Cert.Pre_down_tables.fn (F := Ideal) (m ((c.tc : Thread Cert.ExpertsDownReferenceIdeal.nD Cert.ExpertsDownReferenceIdeal.τ).loc Cert.ExpertsDownReferenceIdeal.main_arg0)) (m ((c.tc : Thread Cert.ExpertsDownReferenceIdeal.nD Cert.ExpertsDownReferenceIdeal.τ).loc Cert.ExpertsDownReferenceIdeal.main_arg1)) (m ((c.tc : Thread Cert.ExpertsDownReferenceIdeal.nD Cert.ExpertsDownReferenceIdeal.τ).loc Cert.ExpertsDownReferenceIdeal.main_arg2)) (m ((c.tc : Thread Cert.ExpertsDownReferenceIdeal.nD Cert.ExpertsDownReferenceIdeal.τ).loc Cert.ExpertsDownReferenceIdeal.main_arg3)) (m ((c.tc : Thread Cert.ExpertsDownReferenceIdeal.nD Cert.ExpertsDownReferenceIdeal.τ).loc Cert.ExpertsDownReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_dt_finite [hKernelIdeal : Cert.KernelIdeal.Facts] [hPre_dt_finite : Cert.Pre_dt_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dt_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_dt_finite [hReferenceIdeal : Cert.ReferenceIdeal.Facts] [hPre_dt_finite : Cert.Pre_dt_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dt_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjAReferenceIdeal [hProjAReferenceIdeal : Cert.ProjAReferenceIdeal.Facts] : Prop :=
  ∀ (m : (ℓ : Loc Cert.ProjAReferenceIdeal.nD Cert.ProjAReferenceIdeal.τ Cert.ProjAReferenceIdeal.sig) → Buf (Elt Ideal) ℓ) (g : Dev Cert.ProjAReferenceIdeal.nD → PrngReg), Pre_ProjAReferenceIdeal m →
    θ_run (Cert.ProjAReferenceIdeal.defs (F := Ideal)) (onTc (τ := Cert.ProjAReferenceIdeal.τ) (Cert.ProjAReferenceIdeal.main (F := Ideal))) ⟨m, fun _ => 0, g⟩ (fun r => (∀ c : Dev Cert.ProjAReferenceIdeal.nD,
      r.2.mem ((c.tc : Thread Cert.ProjAReferenceIdeal.nD Cert.ProjAReferenceIdeal.τ).loc Cert.ProjAReferenceIdeal.main_arg0) = m ((c.tc : Thread Cert.ProjAReferenceIdeal.nD Cert.ProjAReferenceIdeal.τ).loc Cert.ProjAReferenceIdeal.main_arg0)
      ∧ r.2.mem ((c.tc : Thread Cert.ProjAReferenceIdeal.nD Cert.ProjAReferenceIdeal.τ).loc Cert.ProjAReferenceIdeal.main_arg1) = m ((c.tc : Thread Cert.ProjAReferenceIdeal.nD Cert.ProjAReferenceIdeal.τ).loc Cert.ProjAReferenceIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ r.2.sem = fun _ => 0)

def quiescent_ProjBReferenceIdeal [hProjBReferenceIdeal : Cert.ProjBReferenceIdeal.Facts] : Prop :=
  ∀ (m : (ℓ : Loc Cert.ProjBReferenceIdeal.nD Cert.ProjBReferenceIdeal.τ Cert.ProjBReferenceIdeal.sig) → Buf (Elt Ideal) ℓ) (g : Dev Cert.ProjBReferenceIdeal.nD → PrngReg), Pre_ProjBReferenceIdeal m →
    θ_run (Cert.ProjBReferenceIdeal.defs (F := Ideal)) (onTc (τ := Cert.ProjBReferenceIdeal.τ) (Cert.ProjBReferenceIdeal.main (F := Ideal))) ⟨m, fun _ => 0, g⟩ (fun r => (∀ c : Dev Cert.ProjBReferenceIdeal.nD,
      r.2.mem ((c.tc : Thread Cert.ProjBReferenceIdeal.nD Cert.ProjBReferenceIdeal.τ).loc Cert.ProjBReferenceIdeal.main_arg0) = m ((c.tc : Thread Cert.ProjBReferenceIdeal.nD Cert.ProjBReferenceIdeal.τ).loc Cert.ProjBReferenceIdeal.main_arg0)
      ∧ r.2.mem ((c.tc : Thread Cert.ProjBReferenceIdeal.nD Cert.ProjBReferenceIdeal.τ).loc Cert.ProjBReferenceIdeal.main_arg1) = m ((c.tc : Thread Cert.ProjBReferenceIdeal.nD Cert.ProjBReferenceIdeal.τ).loc Cert.ProjBReferenceIdeal.main_arg1))
      ∧ r.2.sem = fun _ => 0)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1))
      ∧ r.2.sem = fun _ => 0)

def quiescent_ProjCReferenceIdeal [hProjCReferenceIdeal : Cert.ProjCReferenceIdeal.Facts] : Prop :=
  ∀ (m : (ℓ : Loc Cert.ProjCReferenceIdeal.nD Cert.ProjCReferenceIdeal.τ Cert.ProjCReferenceIdeal.sig) → Buf (Elt Ideal) ℓ) (g : Dev Cert.ProjCReferenceIdeal.nD → PrngReg), Pre_ProjCReferenceIdeal m →
    θ_run (Cert.ProjCReferenceIdeal.defs (F := Ideal)) (onTc (τ := Cert.ProjCReferenceIdeal.τ) (Cert.ProjCReferenceIdeal.main (F := Ideal))) ⟨m, fun _ => 0, g⟩ (fun r => (∀ c : Dev Cert.ProjCReferenceIdeal.nD,
      r.2.mem ((c.tc : Thread Cert.ProjCReferenceIdeal.nD Cert.ProjCReferenceIdeal.τ).loc Cert.ProjCReferenceIdeal.main_arg0) = m ((c.tc : Thread Cert.ProjCReferenceIdeal.nD Cert.ProjCReferenceIdeal.τ).loc Cert.ProjCReferenceIdeal.main_arg0)
      ∧ r.2.mem ((c.tc : Thread Cert.ProjCReferenceIdeal.nD Cert.ProjCReferenceIdeal.τ).loc Cert.ProjCReferenceIdeal.main_arg1) = m ((c.tc : Thread Cert.ProjCReferenceIdeal.nD Cert.ProjCReferenceIdeal.τ).loc Cert.ProjCReferenceIdeal.main_arg1))
      ∧ r.2.sem = fun _ => 0)

def quiescent_ProjE [hProjE : Cert.ProjE.Facts] : Prop :=
  ∀ (m : (ℓ : Loc Cert.ProjE.nD Cert.ProjE.τ Cert.ProjE.sig) → Buf (Elt Bits) ℓ) (g : Dev Cert.ProjE.nD → PrngReg), Pre_ProjE m →
    θ_run (Cert.ProjE.defs (F := Bits)) (onTc (τ := Cert.ProjE.τ) (Cert.ProjE.main (F := Bits))) ⟨m, fun _ => 0, g⟩ (fun r => (∀ c : Dev Cert.ProjE.nD,
      r.2.mem ((c.tc : Thread Cert.ProjE.nD Cert.ProjE.τ).loc Cert.ProjE.main_arg0) = m ((c.tc : Thread Cert.ProjE.nD Cert.ProjE.τ).loc Cert.ProjE.main_arg0)
      ∧ r.2.mem ((c.tc : Thread Cert.ProjE.nD Cert.ProjE.τ).loc Cert.ProjE.main_arg1) = m ((c.tc : Thread Cert.ProjE.nD Cert.ProjE.τ).loc Cert.ProjE.main_arg1))
      ∧ r.2.sem = fun _ => 0)

def quiescent_ProjEIdeal [hProjEIdeal : Cert.ProjEIdeal.Facts] : Prop :=
  ∀ (m : (ℓ : Loc Cert.ProjEIdeal.nD Cert.ProjEIdeal.τ Cert.ProjEIdeal.sig) → Buf (Elt Ideal) ℓ) (g : Dev Cert.ProjEIdeal.nD → PrngReg), Pre_ProjEIdeal m →
    θ_run (Cert.ProjEIdeal.defs (F := Ideal)) (onTc (τ := Cert.ProjEIdeal.τ) (Cert.ProjEIdeal.main (F := Ideal))) ⟨m, fun _ => 0, g⟩ (fun r => (∀ c : Dev Cert.ProjEIdeal.nD,
      r.2.mem ((c.tc : Thread Cert.ProjEIdeal.nD Cert.ProjEIdeal.τ).loc Cert.ProjEIdeal.main_arg0) = m ((c.tc : Thread Cert.ProjEIdeal.nD Cert.ProjEIdeal.τ).loc Cert.ProjEIdeal.main_arg0)
      ∧ r.2.mem ((c.tc : Thread Cert.ProjEIdeal.nD Cert.ProjEIdeal.τ).loc Cert.ProjEIdeal.main_arg1) = m ((c.tc : Thread Cert.ProjEIdeal.nD Cert.ProjEIdeal.τ).loc Cert.ProjEIdeal.main_arg1))
      ∧ r.2.sem = fun _ => 0)

def quiescent_ProjEReferenceIdeal [hProjEReferenceIdeal : Cert.ProjEReferenceIdeal.Facts] : Prop :=
  ∀ (m : (ℓ : Loc Cert.ProjEReferenceIdeal.nD Cert.ProjEReferenceIdeal.τ Cert.ProjEReferenceIdeal.sig) → Buf (Elt Ideal) ℓ) (g : Dev Cert.ProjEReferenceIdeal.nD → PrngReg), Pre_ProjEReferenceIdeal m →
    θ_run (Cert.ProjEReferenceIdeal.defs (F := Ideal)) (onTc (τ := Cert.ProjEReferenceIdeal.τ) (Cert.ProjEReferenceIdeal.main (F := Ideal))) ⟨m, fun _ => 0, g⟩ (fun r => (∀ c : Dev Cert.ProjEReferenceIdeal.nD,
      r.2.mem ((c.tc : Thread Cert.ProjEReferenceIdeal.nD Cert.ProjEReferenceIdeal.τ).loc Cert.ProjEReferenceIdeal.main_arg0) = m ((c.tc : Thread Cert.ProjEReferenceIdeal.nD Cert.ProjEReferenceIdeal.τ).loc Cert.ProjEReferenceIdeal.main_arg0)
      ∧ r.2.mem ((c.tc : Thread Cert.ProjEReferenceIdeal.nD Cert.ProjEReferenceIdeal.τ).loc Cert.ProjEReferenceIdeal.main_arg1) = m ((c.tc : Thread Cert.ProjEReferenceIdeal.nD Cert.ProjEReferenceIdeal.τ).loc Cert.ProjEReferenceIdeal.main_arg1))
      ∧ r.2.sem = fun _ => 0)

def quiescent_ProjF [hProjF : Cert.ProjF.Facts] : Prop :=
  ∀ (m : (ℓ : Loc Cert.ProjF.nD Cert.ProjF.τ Cert.ProjF.sig) → Buf (Elt Bits) ℓ) (g : Dev Cert.ProjF.nD → PrngReg), Pre_ProjF m →
    θ_run (Cert.ProjF.defs (F := Bits)) (onTc (τ := Cert.ProjF.τ) (Cert.ProjF.main (F := Bits))) ⟨m, fun _ => 0, g⟩ (fun r => (∀ c : Dev Cert.ProjF.nD,
      r.2.mem ((c.tc : Thread Cert.ProjF.nD Cert.ProjF.τ).loc Cert.ProjF.main_arg0) = m ((c.tc : Thread Cert.ProjF.nD Cert.ProjF.τ).loc Cert.ProjF.main_arg0)
      ∧ r.2.mem ((c.tc : Thread Cert.ProjF.nD Cert.ProjF.τ).loc Cert.ProjF.main_arg1) = m ((c.tc : Thread Cert.ProjF.nD Cert.ProjF.τ).loc Cert.ProjF.main_arg1))
      ∧ r.2.sem = fun _ => 0)

def quiescent_ProjFIdeal [hProjFIdeal : Cert.ProjFIdeal.Facts] : Prop :=
  ∀ (m : (ℓ : Loc Cert.ProjFIdeal.nD Cert.ProjFIdeal.τ Cert.ProjFIdeal.sig) → Buf (Elt Ideal) ℓ) (g : Dev Cert.ProjFIdeal.nD → PrngReg), Pre_ProjFIdeal m →
    θ_run (Cert.ProjFIdeal.defs (F := Ideal)) (onTc (τ := Cert.ProjFIdeal.τ) (Cert.ProjFIdeal.main (F := Ideal))) ⟨m, fun _ => 0, g⟩ (fun r => (∀ c : Dev Cert.ProjFIdeal.nD,
      r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
      ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1))
      ∧ r.2.sem = fun _ => 0)

def quiescent_ProjFReferenceIdeal [hProjFReferenceIdeal : Cert.ProjFReferenceIdeal.Facts] : Prop :=
  ∀ (m : (ℓ : Loc Cert.ProjFReferenceIdeal.nD Cert.ProjFReferenceIdeal.τ Cert.ProjFReferenceIdeal.sig) → Buf (Elt Ideal) ℓ) (g : Dev Cert.ProjFReferenceIdeal.nD → PrngReg), Pre_ProjFReferenceIdeal m →
    θ_run (Cert.ProjFReferenceIdeal.defs (F := Ideal)) (onTc (τ := Cert.ProjFReferenceIdeal.τ) (Cert.ProjFReferenceIdeal.main (F := Ideal))) ⟨m, fun _ => 0, g⟩ (fun r => (∀ c : Dev Cert.ProjFReferenceIdeal.nD,
      r.2.mem ((c.tc : Thread Cert.ProjFReferenceIdeal.nD Cert.ProjFReferenceIdeal.τ).loc Cert.ProjFReferenceIdeal.main_arg0) = m ((c.tc : Thread Cert.ProjFReferenceIdeal.nD Cert.ProjFReferenceIdeal.τ).loc Cert.ProjFReferenceIdeal.main_arg0)
      ∧ r.2.mem ((c.tc : Thread Cert.ProjFReferenceIdeal.nD Cert.ProjFReferenceIdeal.τ).loc Cert.ProjFReferenceIdeal.main_arg1) = m ((c.tc : Thread Cert.ProjFReferenceIdeal.nD Cert.ProjFReferenceIdeal.τ).loc Cert.ProjFReferenceIdeal.main_arg1))
      ∧ r.2.sem = fun _ => 0)

def quiescent_ProjG [hProjG : Cert.ProjG.Facts] : Prop :=
  ∀ (m : (ℓ : Loc Cert.ProjG.nD Cert.ProjG.τ Cert.ProjG.sig) → Buf (Elt Bits) ℓ) (g : Dev Cert.ProjG.nD → PrngReg), Pre_ProjG m →
    θ_run (Cert.ProjG.defs (F := Bits)) (onTc (τ := Cert.ProjG.τ) (Cert.ProjG.main (F := Bits))) ⟨m, fun _ => 0, g⟩ (fun r => (∀ c : Dev Cert.ProjG.nD,
      r.2.mem ((c.tc : Thread Cert.ProjG.nD Cert.ProjG.τ).loc Cert.ProjG.main_arg0) = m ((c.tc : Thread Cert.ProjG.nD Cert.ProjG.τ).loc Cert.ProjG.main_arg0)
      ∧ r.2.mem ((c.tc : Thread Cert.ProjG.nD Cert.ProjG.τ).loc Cert.ProjG.main_arg1) = m ((c.tc : Thread Cert.ProjG.nD Cert.ProjG.τ).loc Cert.ProjG.main_arg1))
      ∧ r.2.sem = fun _ => 0)

def quiescent_ProjGIdeal [hProjGIdeal : Cert.ProjGIdeal.Facts] : Prop :=
  ∀ (m : (ℓ : Loc Cert.ProjGIdeal.nD Cert.ProjGIdeal.τ Cert.ProjGIdeal.sig) → Buf (Elt Ideal) ℓ) (g : Dev Cert.ProjGIdeal.nD → PrngReg), Pre_ProjGIdeal m →
    θ_run (Cert.ProjGIdeal.defs (F := Ideal)) (onTc (τ := Cert.ProjGIdeal.τ) (Cert.ProjGIdeal.main (F := Ideal))) ⟨m, fun _ => 0, g⟩ (fun r => (∀ c : Dev Cert.ProjGIdeal.nD,
      r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
      ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1))
      ∧ r.2.sem = fun _ => 0)

def quiescent_ProjGReferenceIdeal [hProjGReferenceIdeal : Cert.ProjGReferenceIdeal.Facts] : Prop :=
  ∀ (m : (ℓ : Loc Cert.ProjGReferenceIdeal.nD Cert.ProjGReferenceIdeal.τ Cert.ProjGReferenceIdeal.sig) → Buf (Elt Ideal) ℓ) (g : Dev Cert.ProjGReferenceIdeal.nD → PrngReg), Pre_ProjGReferenceIdeal m →
    θ_run (Cert.ProjGReferenceIdeal.defs (F := Ideal)) (onTc (τ := Cert.ProjGReferenceIdeal.τ) (Cert.ProjGReferenceIdeal.main (F := Ideal))) ⟨m, fun _ => 0, g⟩ (fun r => (∀ c : Dev Cert.ProjGReferenceIdeal.nD,
      r.2.mem ((c.tc : Thread Cert.ProjGReferenceIdeal.nD Cert.ProjGReferenceIdeal.τ).loc Cert.ProjGReferenceIdeal.main_arg0) = m ((c.tc : Thread Cert.ProjGReferenceIdeal.nD Cert.ProjGReferenceIdeal.τ).loc Cert.ProjGReferenceIdeal.main_arg0)
      ∧ r.2.mem ((c.tc : Thread Cert.ProjGReferenceIdeal.nD Cert.ProjGReferenceIdeal.τ).loc Cert.ProjGReferenceIdeal.main_arg1) = m ((c.tc : Thread Cert.ProjGReferenceIdeal.nD Cert.ProjGReferenceIdeal.τ).loc Cert.ProjGReferenceIdeal.main_arg1))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0))
      ∧ r.2.sem = fun _ => 0)

def quiescent_SampleKv [hSampleKv : Cert.SampleKv.Facts] : Prop :=
  ∀ (m : (ℓ : Loc Cert.SampleKv.nD Cert.SampleKv.τ Cert.SampleKv.sig) → Buf (Elt Bits) ℓ) (g : Dev Cert.SampleKv.nD → PrngReg), Pre_SampleKv m →
    θ_run (Cert.SampleKv.defs (F := Bits)) (onTc (τ := Cert.SampleKv.τ) (Cert.SampleKv.main (F := Bits))) ⟨m, fun _ => 0, g⟩ (fun r => (∀ c : Dev Cert.SampleKv.nD,
      r.2.mem ((c.tc : Thread Cert.SampleKv.nD Cert.SampleKv.τ).loc Cert.SampleKv.main_arg0) = m ((c.tc : Thread Cert.SampleKv.nD Cert.SampleKv.τ).loc Cert.SampleKv.main_arg0)
      ∧ r.2.mem ((c.tc : Thread Cert.SampleKv.nD Cert.SampleKv.τ).loc Cert.SampleKv.main_arg1) = m ((c.tc : Thread Cert.SampleKv.nD Cert.SampleKv.τ).loc Cert.SampleKv.main_arg1)
      ∧ r.2.mem ((c.tc : Thread Cert.SampleKv.nD Cert.SampleKv.τ).loc Cert.SampleKv.main_arg2) = m ((c.tc : Thread Cert.SampleKv.nD Cert.SampleKv.τ).loc Cert.SampleKv.main_arg2)
      ∧ r.2.mem ((c.tc : Thread Cert.SampleKv.nD Cert.SampleKv.τ).loc Cert.SampleKv.main_arg3) = m ((c.tc : Thread Cert.SampleKv.nD Cert.SampleKv.τ).loc Cert.SampleKv.main_arg3))
      ∧ r.2.sem = fun _ => 0)

def quiescent_SampleKvIdeal [hSampleKvIdeal : Cert.SampleKvIdeal.Facts] : Prop :=
  ∀ (m : (ℓ : Loc Cert.SampleKvIdeal.nD Cert.SampleKvIdeal.τ Cert.SampleKvIdeal.sig) → Buf (Elt Ideal) ℓ) (g : Dev Cert.SampleKvIdeal.nD → PrngReg), Pre_SampleKvIdeal m →
    θ_run (Cert.SampleKvIdeal.defs (F := Ideal)) (onTc (τ := Cert.SampleKvIdeal.τ) (Cert.SampleKvIdeal.main (F := Ideal))) ⟨m, fun _ => 0, g⟩ (fun r => (∀ c : Dev Cert.SampleKvIdeal.nD,
      r.2.mem ((c.tc : Thread Cert.SampleKvIdeal.nD Cert.SampleKvIdeal.τ).loc Cert.SampleKvIdeal.main_arg0) = m ((c.tc : Thread Cert.SampleKvIdeal.nD Cert.SampleKvIdeal.τ).loc Cert.SampleKvIdeal.main_arg0)
      ∧ r.2.mem ((c.tc : Thread Cert.SampleKvIdeal.nD Cert.SampleKvIdeal.τ).loc Cert.SampleKvIdeal.main_arg1) = m ((c.tc : Thread Cert.SampleKvIdeal.nD Cert.SampleKvIdeal.τ).loc Cert.SampleKvIdeal.main_arg1)
      ∧ r.2.mem ((c.tc : Thread Cert.SampleKvIdeal.nD Cert.SampleKvIdeal.τ).loc Cert.SampleKvIdeal.main_arg2) = m ((c.tc : Thread Cert.SampleKvIdeal.nD Cert.SampleKvIdeal.τ).loc Cert.SampleKvIdeal.main_arg2)
      ∧ r.2.mem ((c.tc : Thread Cert.SampleKvIdeal.nD Cert.SampleKvIdeal.τ).loc Cert.SampleKvIdeal.main_arg3) = m ((c.tc : Thread Cert.SampleKvIdeal.nD Cert.SampleKvIdeal.τ).loc Cert.SampleKvIdeal.main_arg3))
      ∧ r.2.sem = fun _ => 0)

def quiescent_SampleKvReferenceIdeal [hSampleKvReferenceIdeal : Cert.SampleKvReferenceIdeal.Facts] : Prop :=
  ∀ (m : (ℓ : Loc Cert.SampleKvReferenceIdeal.nD Cert.SampleKvReferenceIdeal.τ Cert.SampleKvReferenceIdeal.sig) → Buf (Elt Ideal) ℓ) (g : Dev Cert.SampleKvReferenceIdeal.nD → PrngReg), Pre_SampleKvReferenceIdeal m →
    θ_run (Cert.SampleKvReferenceIdeal.defs (F := Ideal)) (onTc (τ := Cert.SampleKvReferenceIdeal.τ) (Cert.SampleKvReferenceIdeal.main (F := Ideal))) ⟨m, fun _ => 0, g⟩ (fun r => (∀ c : Dev Cert.SampleKvReferenceIdeal.nD,
      r.2.mem ((c.tc : Thread Cert.SampleKvReferenceIdeal.nD Cert.SampleKvReferenceIdeal.τ).loc Cert.SampleKvReferenceIdeal.main_arg0) = m ((c.tc : Thread Cert.SampleKvReferenceIdeal.nD Cert.SampleKvReferenceIdeal.τ).loc Cert.SampleKvReferenceIdeal.main_arg0)
      ∧ r.2.mem ((c.tc : Thread Cert.SampleKvReferenceIdeal.nD Cert.SampleKvReferenceIdeal.τ).loc Cert.SampleKvReferenceIdeal.main_arg1) = m ((c.tc : Thread Cert.SampleKvReferenceIdeal.nD Cert.SampleKvReferenceIdeal.τ).loc Cert.SampleKvReferenceIdeal.main_arg1)
      ∧ r.2.mem ((c.tc : Thread Cert.SampleKvReferenceIdeal.nD Cert.SampleKvReferenceIdeal.τ).loc Cert.SampleKvReferenceIdeal.main_arg2) = m ((c.tc : Thread Cert.SampleKvReferenceIdeal.nD Cert.SampleKvReferenceIdeal.τ).loc Cert.SampleKvReferenceIdeal.main_arg2)
      ∧ r.2.mem ((c.tc : Thread Cert.SampleKvReferenceIdeal.nD Cert.SampleKvReferenceIdeal.τ).loc Cert.SampleKvReferenceIdeal.main_arg3) = m ((c.tc : Thread Cert.SampleKvReferenceIdeal.nD Cert.SampleKvReferenceIdeal.τ).loc Cert.SampleKvReferenceIdeal.main_arg3))
      ∧ r.2.sem = fun _ => 0)

def quiescent_SampleConv [hSampleConv : Cert.SampleConv.Facts] : Prop :=
  ∀ (m : (ℓ : Loc Cert.SampleConv.nD Cert.SampleConv.τ Cert.SampleConv.sig) → Buf (Elt Bits) ℓ) (g : Dev Cert.SampleConv.nD → PrngReg), Pre_SampleConv m →
    θ_run (Cert.SampleConv.defs (F := Bits)) (onTc (τ := Cert.SampleConv.τ) (Cert.SampleConv.main (F := Bits))) ⟨m, fun _ => 0, g⟩ (fun r => (∀ c : Dev Cert.SampleConv.nD,
      r.2.mem ((c.tc : Thread Cert.SampleConv.nD Cert.SampleConv.τ).loc Cert.SampleConv.main_arg0) = m ((c.tc : Thread Cert.SampleConv.nD Cert.SampleConv.τ).loc Cert.SampleConv.main_arg0)
      ∧ r.2.mem ((c.tc : Thread Cert.SampleConv.nD Cert.SampleConv.τ).loc Cert.SampleConv.main_arg1) = m ((c.tc : Thread Cert.SampleConv.nD Cert.SampleConv.τ).loc Cert.SampleConv.main_arg1)
      ∧ r.2.mem ((c.tc : Thread Cert.SampleConv.nD Cert.SampleConv.τ).loc Cert.SampleConv.main_arg2) = m ((c.tc : Thread Cert.SampleConv.nD Cert.SampleConv.τ).loc Cert.SampleConv.main_arg2))
      ∧ r.2.sem = fun _ => 0)

def quiescent_SampleConvIdeal [hSampleConvIdeal : Cert.SampleConvIdeal.Facts] : Prop :=
  ∀ (m : (ℓ : Loc Cert.SampleConvIdeal.nD Cert.SampleConvIdeal.τ Cert.SampleConvIdeal.sig) → Buf (Elt Ideal) ℓ) (g : Dev Cert.SampleConvIdeal.nD → PrngReg), Pre_SampleConvIdeal m →
    θ_run (Cert.SampleConvIdeal.defs (F := Ideal)) (onTc (τ := Cert.SampleConvIdeal.τ) (Cert.SampleConvIdeal.main (F := Ideal))) ⟨m, fun _ => 0, g⟩ (fun r => (∀ c : Dev Cert.SampleConvIdeal.nD,
      r.2.mem ((c.tc : Thread Cert.SampleConvIdeal.nD Cert.SampleConvIdeal.τ).loc Cert.SampleConvIdeal.main_arg0) = m ((c.tc : Thread Cert.SampleConvIdeal.nD Cert.SampleConvIdeal.τ).loc Cert.SampleConvIdeal.main_arg0)
      ∧ r.2.mem ((c.tc : Thread Cert.SampleConvIdeal.nD Cert.SampleConvIdeal.τ).loc Cert.SampleConvIdeal.main_arg1) = m ((c.tc : Thread Cert.SampleConvIdeal.nD Cert.SampleConvIdeal.τ).loc Cert.SampleConvIdeal.main_arg1)
      ∧ r.2.mem ((c.tc : Thread Cert.SampleConvIdeal.nD Cert.SampleConvIdeal.τ).loc Cert.SampleConvIdeal.main_arg2) = m ((c.tc : Thread Cert.SampleConvIdeal.nD Cert.SampleConvIdeal.τ).loc Cert.SampleConvIdeal.main_arg2))
      ∧ r.2.sem = fun _ => 0)

def quiescent_SampleConvReferenceIdeal [hSampleConvReferenceIdeal : Cert.SampleConvReferenceIdeal.Facts] : Prop :=
  ∀ (m : (ℓ : Loc Cert.SampleConvReferenceIdeal.nD Cert.SampleConvReferenceIdeal.τ Cert.SampleConvReferenceIdeal.sig) → Buf (Elt Ideal) ℓ) (g : Dev Cert.SampleConvReferenceIdeal.nD → PrngReg), Pre_SampleConvReferenceIdeal m →
    θ_run (Cert.SampleConvReferenceIdeal.defs (F := Ideal)) (onTc (τ := Cert.SampleConvReferenceIdeal.τ) (Cert.SampleConvReferenceIdeal.main (F := Ideal))) ⟨m, fun _ => 0, g⟩ (fun r => (∀ c : Dev Cert.SampleConvReferenceIdeal.nD,
      r.2.mem ((c.tc : Thread Cert.SampleConvReferenceIdeal.nD Cert.SampleConvReferenceIdeal.τ).loc Cert.SampleConvReferenceIdeal.main_arg0) = m ((c.tc : Thread Cert.SampleConvReferenceIdeal.nD Cert.SampleConvReferenceIdeal.τ).loc Cert.SampleConvReferenceIdeal.main_arg0)
      ∧ r.2.mem ((c.tc : Thread Cert.SampleConvReferenceIdeal.nD Cert.SampleConvReferenceIdeal.τ).loc Cert.SampleConvReferenceIdeal.main_arg1) = m ((c.tc : Thread Cert.SampleConvReferenceIdeal.nD Cert.SampleConvReferenceIdeal.τ).loc Cert.SampleConvReferenceIdeal.main_arg1)
      ∧ r.2.mem ((c.tc : Thread Cert.SampleConvReferenceIdeal.nD Cert.SampleConvReferenceIdeal.τ).loc Cert.SampleConvReferenceIdeal.main_arg2) = m ((c.tc : Thread Cert.SampleConvReferenceIdeal.nD Cert.SampleConvReferenceIdeal.τ).loc Cert.SampleConvReferenceIdeal.main_arg2))
      ∧ r.2.sem = fun _ => 0)

def quiescent_Experts [hExperts : Cert.Experts.Facts] [hPre_tables : Cert.Pre_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] [hPre_tables : Cert.Pre_tables.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_ExpertsDown [hExpertsDown : Cert.ExpertsDown.Facts] [hPre_down_tables : Cert.Pre_down_tables.Facts] : Prop :=
  ∀ (m : (ℓ : Loc Cert.ExpertsDown.nD Cert.ExpertsDown.τ Cert.ExpertsDown.sig) → Buf (Elt Bits) ℓ) (g : Dev Cert.ExpertsDown.nD → PrngReg), Pre_ExpertsDown m →
    θ_run (Cert.ExpertsDown.defs (F := Bits)) (onTc (τ := Cert.ExpertsDown.τ) (Cert.ExpertsDown.main (F := Bits))) ⟨m, fun _ => 0, g⟩ (fun r => (∀ c : Dev Cert.ExpertsDown.nD,
      r.2.mem ((c.tc : Thread Cert.ExpertsDown.nD Cert.ExpertsDown.τ).loc Cert.ExpertsDown.main_arg0) = m ((c.tc : Thread Cert.ExpertsDown.nD Cert.ExpertsDown.τ).loc Cert.ExpertsDown.main_arg0)
      ∧ r.2.mem ((c.tc : Thread Cert.ExpertsDown.nD Cert.ExpertsDown.τ).loc Cert.ExpertsDown.main_arg1) = m ((c.tc : Thread Cert.ExpertsDown.nD Cert.ExpertsDown.τ).loc Cert.ExpertsDown.main_arg1)
      ∧ r.2.mem ((c.tc : Thread Cert.ExpertsDown.nD Cert.ExpertsDown.τ).loc Cert.ExpertsDown.main_arg2) = m ((c.tc : Thread Cert.ExpertsDown.nD Cert.ExpertsDown.τ).loc Cert.ExpertsDown.main_arg2)
      ∧ r.2.mem ((c.tc : Thread Cert.ExpertsDown.nD Cert.ExpertsDown.τ).loc Cert.ExpertsDown.main_arg3) = m ((c.tc : Thread Cert.ExpertsDown.nD Cert.ExpertsDown.τ).loc Cert.ExpertsDown.main_arg3)
      ∧ r.2.mem ((c.tc : Thread Cert.ExpertsDown.nD Cert.ExpertsDown.τ).loc Cert.ExpertsDown.main_arg4) = m ((c.tc : Thread Cert.ExpertsDown.nD Cert.ExpertsDown.τ).loc Cert.ExpertsDown.main_arg4))
      ∧ r.2.sem = fun _ => 0)

def quiescent_ExpertsDownIdeal [hExpertsDownIdeal : Cert.ExpertsDownIdeal.Facts] [hPre_down_tables : Cert.Pre_down_tables.Facts] : Prop :=
  ∀ (m : (ℓ : Loc Cert.ExpertsDownIdeal.nD Cert.ExpertsDownIdeal.τ Cert.ExpertsDownIdeal.sig) → Buf (Elt Ideal) ℓ) (g : Dev Cert.ExpertsDownIdeal.nD → PrngReg), Pre_ExpertsDownIdeal m →
    θ_run (Cert.ExpertsDownIdeal.defs (F := Ideal)) (onTc (τ := Cert.ExpertsDownIdeal.τ) (Cert.ExpertsDownIdeal.main (F := Ideal))) ⟨m, fun _ => 0, g⟩ (fun r => (∀ c : Dev Cert.ExpertsDownIdeal.nD,
      r.2.mem ((c.tc : Thread Cert.ExpertsDownIdeal.nD Cert.ExpertsDownIdeal.τ).loc Cert.ExpertsDownIdeal.main_arg0) = m ((c.tc : Thread Cert.ExpertsDownIdeal.nD Cert.ExpertsDownIdeal.τ).loc Cert.ExpertsDownIdeal.main_arg0)
      ∧ r.2.mem ((c.tc : Thread Cert.ExpertsDownIdeal.nD Cert.ExpertsDownIdeal.τ).loc Cert.ExpertsDownIdeal.main_arg1) = m ((c.tc : Thread Cert.ExpertsDownIdeal.nD Cert.ExpertsDownIdeal.τ).loc Cert.ExpertsDownIdeal.main_arg1)
      ∧ r.2.mem ((c.tc : Thread Cert.ExpertsDownIdeal.nD Cert.ExpertsDownIdeal.τ).loc Cert.ExpertsDownIdeal.main_arg2) = m ((c.tc : Thread Cert.ExpertsDownIdeal.nD Cert.ExpertsDownIdeal.τ).loc Cert.ExpertsDownIdeal.main_arg2)
      ∧ r.2.mem ((c.tc : Thread Cert.ExpertsDownIdeal.nD Cert.ExpertsDownIdeal.τ).loc Cert.ExpertsDownIdeal.main_arg3) = m ((c.tc : Thread Cert.ExpertsDownIdeal.nD Cert.ExpertsDownIdeal.τ).loc Cert.ExpertsDownIdeal.main_arg3)
      ∧ r.2.mem ((c.tc : Thread Cert.ExpertsDownIdeal.nD Cert.ExpertsDownIdeal.τ).loc Cert.ExpertsDownIdeal.main_arg4) = m ((c.tc : Thread Cert.ExpertsDownIdeal.nD Cert.ExpertsDownIdeal.τ).loc Cert.ExpertsDownIdeal.main_arg4))
      ∧ r.2.sem = fun _ => 0)

def quiescent_ExpertsDownReferenceIdeal [hExpertsDownReferenceIdeal : Cert.ExpertsDownReferenceIdeal.Facts] [hPre_down_tables : Cert.Pre_down_tables.Facts] : Prop :=
  ∀ (m : (ℓ : Loc Cert.ExpertsDownReferenceIdeal.nD Cert.ExpertsDownReferenceIdeal.τ Cert.ExpertsDownReferenceIdeal.sig) → Buf (Elt Ideal) ℓ) (g : Dev Cert.ExpertsDownReferenceIdeal.nD → PrngReg), Pre_ExpertsDownReferenceIdeal m →
    θ_run (Cert.ExpertsDownReferenceIdeal.defs (F := Ideal)) (onTc (τ := Cert.ExpertsDownReferenceIdeal.τ) (Cert.ExpertsDownReferenceIdeal.main (F := Ideal))) ⟨m, fun _ => 0, g⟩ (fun r => (∀ c : Dev Cert.ExpertsDownReferenceIdeal.nD,
      r.2.mem ((c.tc : Thread Cert.ExpertsDownReferenceIdeal.nD Cert.ExpertsDownReferenceIdeal.τ).loc Cert.ExpertsDownReferenceIdeal.main_arg0) = m ((c.tc : Thread Cert.ExpertsDownReferenceIdeal.nD Cert.ExpertsDownReferenceIdeal.τ).loc Cert.ExpertsDownReferenceIdeal.main_arg0)
      ∧ r.2.mem ((c.tc : Thread Cert.ExpertsDownReferenceIdeal.nD Cert.ExpertsDownReferenceIdeal.τ).loc Cert.ExpertsDownReferenceIdeal.main_arg1) = m ((c.tc : Thread Cert.ExpertsDownReferenceIdeal.nD Cert.ExpertsDownReferenceIdeal.τ).loc Cert.ExpertsDownReferenceIdeal.main_arg1)
      ∧ r.2.mem ((c.tc : Thread Cert.ExpertsDownReferenceIdeal.nD Cert.ExpertsDownReferenceIdeal.τ).loc Cert.ExpertsDownReferenceIdeal.main_arg2) = m ((c.tc : Thread Cert.ExpertsDownReferenceIdeal.nD Cert.ExpertsDownReferenceIdeal.τ).loc Cert.ExpertsDownReferenceIdeal.main_arg2)
      ∧ r.2.mem ((c.tc : Thread Cert.ExpertsDownReferenceIdeal.nD Cert.ExpertsDownReferenceIdeal.τ).loc Cert.ExpertsDownReferenceIdeal.main_arg3) = m ((c.tc : Thread Cert.ExpertsDownReferenceIdeal.nD Cert.ExpertsDownReferenceIdeal.τ).loc Cert.ExpertsDownReferenceIdeal.main_arg3)
      ∧ r.2.mem ((c.tc : Thread Cert.ExpertsDownReferenceIdeal.nD Cert.ExpertsDownReferenceIdeal.τ).loc Cert.ExpertsDownReferenceIdeal.main_arg4) = m ((c.tc : Thread Cert.ExpertsDownReferenceIdeal.nD Cert.ExpertsDownReferenceIdeal.τ).loc Cert.ExpertsDownReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_dt_finite [hKernelIdeal : Cert.KernelIdeal.Facts] [hReferenceIdeal : Cert.ReferenceIdeal.Facts] [hPre_dt_finite : Cert.Pre_dt_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dt_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v4) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v1) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v18) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_ProjA_ProjAIdeal : Prop :=
  True

def algebraic_ProjAIdeal_ProjAReferenceIdeal [hProjAIdeal : Cert.ProjAIdeal.Facts] [hProjAReferenceIdeal : Cert.ProjAReferenceIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjAReferenceIdeal.nD Cert.ProjAReferenceIdeal.τ Cert.ProjAReferenceIdeal.sig) → Buf (Elt Ideal) ℓ) (g' : Dev Cert.ProjAReferenceIdeal.nD → PrngReg), Pre_ProjAIdeal m →
    (∀ c : Dev Cert.ProjAIdeal.nD,
      m' ((c.tc : Thread Cert.ProjAReferenceIdeal.nD Cert.ProjAReferenceIdeal.τ).loc Cert.ProjAReferenceIdeal.main_arg0) = m ((c.tc : Thread Cert.ProjAIdeal.nD Cert.ProjAIdeal.τ).loc Cert.ProjAIdeal.main_arg0)
      ∧ m' ((c.tc : Thread Cert.ProjAReferenceIdeal.nD Cert.ProjAReferenceIdeal.τ).loc Cert.ProjAReferenceIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v0)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v0) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjAReferenceIdeal.defs (F := Ideal)) (onTc (τ := Cert.ProjAReferenceIdeal.τ) (Cert.ProjAReferenceIdeal.main (F := Ideal))) ⟨m', fun _ => 0, g'⟩ (fun r => ∀ c : Dev Cert.ProjAReferenceIdeal.nD,
          r.2.mem ((c.tc : Thread Cert.ProjAReferenceIdeal.nD Cert.ProjAReferenceIdeal.τ).loc Cert.ProjAReferenceIdeal.main_v1) = v0 c
          ∧ r.2.mem ((c.tc : Thread Cert.ProjAReferenceIdeal.nD Cert.ProjAReferenceIdeal.τ).loc Cert.ProjAReferenceIdeal.main_arg0) = m' ((c.tc : Thread Cert.ProjAReferenceIdeal.nD Cert.ProjAReferenceIdeal.τ).loc Cert.ProjAReferenceIdeal.main_arg0)
          ∧ r.2.mem ((c.tc : Thread Cert.ProjAReferenceIdeal.nD Cert.ProjAReferenceIdeal.τ).loc Cert.ProjAReferenceIdeal.main_arg1) = m' ((c.tc : Thread Cert.ProjAReferenceIdeal.nD Cert.ProjAReferenceIdeal.τ).loc Cert.ProjAReferenceIdeal.main_arg1))

def preserves_ProjB_ProjBIdeal : Prop :=
  True

def algebraic_ProjBIdeal_ProjBReferenceIdeal [hProjBIdeal : Cert.ProjBIdeal.Facts] [hProjBReferenceIdeal : Cert.ProjBReferenceIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBReferenceIdeal.nD Cert.ProjBReferenceIdeal.τ Cert.ProjBReferenceIdeal.sig) → Buf (Elt Ideal) ℓ) (g' : Dev Cert.ProjBReferenceIdeal.nD → PrngReg), Pre_ProjBIdeal m →
    (∀ c : Dev Cert.ProjBIdeal.nD,
      m' ((c.tc : Thread Cert.ProjBReferenceIdeal.nD Cert.ProjBReferenceIdeal.τ).loc Cert.ProjBReferenceIdeal.main_arg0) = m ((c.tc : Thread Cert.ProjBIdeal.nD Cert.ProjBIdeal.τ).loc Cert.ProjBIdeal.main_arg0)
      ∧ m' ((c.tc : Thread Cert.ProjBReferenceIdeal.nD Cert.ProjBReferenceIdeal.τ).loc Cert.ProjBReferenceIdeal.main_arg1) = m ((c.tc : Thread Cert.ProjBIdeal.nD Cert.ProjBIdeal.τ).loc Cert.ProjBIdeal.main_arg1)) →
    ∃ (v0 : (c : Dev Cert.ProjBIdeal.nD) → Buf (Elt Ideal) ((c.tc : Thread Cert.ProjBIdeal.nD Cert.ProjBIdeal.τ).loc Cert.ProjBIdeal.main_v0)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v0) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1))
      ∧ θ_run (Cert.ProjBReferenceIdeal.defs (F := Ideal)) (onTc (τ := Cert.ProjBReferenceIdeal.τ) (Cert.ProjBReferenceIdeal.main (F := Ideal))) ⟨m', fun _ => 0, g'⟩ (fun r => ∀ c : Dev Cert.ProjBReferenceIdeal.nD,
          r.2.mem ((c.tc : Thread Cert.ProjBReferenceIdeal.nD Cert.ProjBReferenceIdeal.τ).loc Cert.ProjBReferenceIdeal.main_v1) = v0 c
          ∧ r.2.mem ((c.tc : Thread Cert.ProjBReferenceIdeal.nD Cert.ProjBReferenceIdeal.τ).loc Cert.ProjBReferenceIdeal.main_arg0) = m' ((c.tc : Thread Cert.ProjBReferenceIdeal.nD Cert.ProjBReferenceIdeal.τ).loc Cert.ProjBReferenceIdeal.main_arg0)
          ∧ r.2.mem ((c.tc : Thread Cert.ProjBReferenceIdeal.nD Cert.ProjBReferenceIdeal.τ).loc Cert.ProjBReferenceIdeal.main_arg1) = m' ((c.tc : Thread Cert.ProjBReferenceIdeal.nD Cert.ProjBReferenceIdeal.τ).loc Cert.ProjBReferenceIdeal.main_arg1))

def preserves_ProjC_ProjCIdeal : Prop :=
  True

def algebraic_ProjCIdeal_ProjCReferenceIdeal [hProjCIdeal : Cert.ProjCIdeal.Facts] [hProjCReferenceIdeal : Cert.ProjCReferenceIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.ProjCReferenceIdeal.nD Cert.ProjCReferenceIdeal.τ Cert.ProjCReferenceIdeal.sig) → Buf (Elt Ideal) ℓ) (g' : Dev Cert.ProjCReferenceIdeal.nD → PrngReg), Pre_ProjCIdeal m →
    (∀ c : Dev Cert.ProjCIdeal.nD,
      m' ((c.tc : Thread Cert.ProjCReferenceIdeal.nD Cert.ProjCReferenceIdeal.τ).loc Cert.ProjCReferenceIdeal.main_arg0) = m ((c.tc : Thread Cert.ProjCIdeal.nD Cert.ProjCIdeal.τ).loc Cert.ProjCIdeal.main_arg0)
      ∧ m' ((c.tc : Thread Cert.ProjCReferenceIdeal.nD Cert.ProjCReferenceIdeal.τ).loc Cert.ProjCReferenceIdeal.main_arg1) = m ((c.tc : Thread Cert.ProjCIdeal.nD Cert.ProjCIdeal.τ).loc Cert.ProjCIdeal.main_arg1)) →
    ∃ (v0 : (c : Dev Cert.ProjCIdeal.nD) → Buf (Elt Ideal) ((c.tc : Thread Cert.ProjCIdeal.nD Cert.ProjCIdeal.τ).loc Cert.ProjCIdeal.main_v0)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v0) = v0 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1))
      ∧ θ_run (Cert.ProjCReferenceIdeal.defs (F := Ideal)) (onTc (τ := Cert.ProjCReferenceIdeal.τ) (Cert.ProjCReferenceIdeal.main (F := Ideal))) ⟨m', fun _ => 0, g'⟩ (fun r => ∀ c : Dev Cert.ProjCReferenceIdeal.nD,
          r.2.mem ((c.tc : Thread Cert.ProjCReferenceIdeal.nD Cert.ProjCReferenceIdeal.τ).loc Cert.ProjCReferenceIdeal.main_v1) = v0 c
          ∧ r.2.mem ((c.tc : Thread Cert.ProjCReferenceIdeal.nD Cert.ProjCReferenceIdeal.τ).loc Cert.ProjCReferenceIdeal.main_arg0) = m' ((c.tc : Thread Cert.ProjCReferenceIdeal.nD Cert.ProjCReferenceIdeal.τ).loc Cert.ProjCReferenceIdeal.main_arg0)
          ∧ r.2.mem ((c.tc : Thread Cert.ProjCReferenceIdeal.nD Cert.ProjCReferenceIdeal.τ).loc Cert.ProjCReferenceIdeal.main_arg1) = m' ((c.tc : Thread Cert.ProjCReferenceIdeal.nD Cert.ProjCReferenceIdeal.τ).loc Cert.ProjCReferenceIdeal.main_arg1))

def preserves_ProjE_ProjEIdeal : Prop :=
  True

def algebraic_ProjEIdeal_ProjEReferenceIdeal [hProjEIdeal : Cert.ProjEIdeal.Facts] [hProjEReferenceIdeal : Cert.ProjEReferenceIdeal.Facts] : Prop :=
  ∀ (m : (ℓ : Loc Cert.ProjEIdeal.nD Cert.ProjEIdeal.τ Cert.ProjEIdeal.sig) → Buf (Elt Ideal) ℓ) (g : Dev Cert.ProjEIdeal.nD → PrngReg)
    (m' : (ℓ : Loc Cert.ProjEReferenceIdeal.nD Cert.ProjEReferenceIdeal.τ Cert.ProjEReferenceIdeal.sig) → Buf (Elt Ideal) ℓ) (g' : Dev Cert.ProjEReferenceIdeal.nD → PrngReg), Pre_ProjEIdeal m →
    (∀ c : Dev Cert.ProjEIdeal.nD,
      m' ((c.tc : Thread Cert.ProjEReferenceIdeal.nD Cert.ProjEReferenceIdeal.τ).loc Cert.ProjEReferenceIdeal.main_arg0) = m ((c.tc : Thread Cert.ProjEIdeal.nD Cert.ProjEIdeal.τ).loc Cert.ProjEIdeal.main_arg0)
      ∧ m' ((c.tc : Thread Cert.ProjEReferenceIdeal.nD Cert.ProjEReferenceIdeal.τ).loc Cert.ProjEReferenceIdeal.main_arg1) = m ((c.tc : Thread Cert.ProjEIdeal.nD Cert.ProjEIdeal.τ).loc Cert.ProjEIdeal.main_arg1)) →
    ∃ (v0 : (c : Dev Cert.ProjEIdeal.nD) → Buf (Elt Ideal) ((c.tc : Thread Cert.ProjEIdeal.nD Cert.ProjEIdeal.τ).loc Cert.ProjEIdeal.main_v0)),
      θ_run (Cert.ProjEIdeal.defs (F := Ideal)) (onTc (τ := Cert.ProjEIdeal.τ) (Cert.ProjEIdeal.main (F := Ideal))) ⟨m, fun _ => 0, g⟩ (fun r => ∀ c : Dev Cert.ProjEIdeal.nD,
          r.2.mem ((c.tc : Thread Cert.ProjEIdeal.nD Cert.ProjEIdeal.τ).loc Cert.ProjEIdeal.main_v0) = v0 c
          ∧ r.2.mem ((c.tc : Thread Cert.ProjEIdeal.nD Cert.ProjEIdeal.τ).loc Cert.ProjEIdeal.main_arg0) = m ((c.tc : Thread Cert.ProjEIdeal.nD Cert.ProjEIdeal.τ).loc Cert.ProjEIdeal.main_arg0)
          ∧ r.2.mem ((c.tc : Thread Cert.ProjEIdeal.nD Cert.ProjEIdeal.τ).loc Cert.ProjEIdeal.main_arg1) = m ((c.tc : Thread Cert.ProjEIdeal.nD Cert.ProjEIdeal.τ).loc Cert.ProjEIdeal.main_arg1))
      ∧ θ_run (Cert.ProjEReferenceIdeal.defs (F := Ideal)) (onTc (τ := Cert.ProjEReferenceIdeal.τ) (Cert.ProjEReferenceIdeal.main (F := Ideal))) ⟨m', fun _ => 0, g'⟩ (fun r => ∀ c : Dev Cert.ProjEReferenceIdeal.nD,
          r.2.mem ((c.tc : Thread Cert.ProjEReferenceIdeal.nD Cert.ProjEReferenceIdeal.τ).loc Cert.ProjEReferenceIdeal.main_v1) = v0 c
          ∧ r.2.mem ((c.tc : Thread Cert.ProjEReferenceIdeal.nD Cert.ProjEReferenceIdeal.τ).loc Cert.ProjEReferenceIdeal.main_arg0) = m' ((c.tc : Thread Cert.ProjEReferenceIdeal.nD Cert.ProjEReferenceIdeal.τ).loc Cert.ProjEReferenceIdeal.main_arg0)
          ∧ r.2.mem ((c.tc : Thread Cert.ProjEReferenceIdeal.nD Cert.ProjEReferenceIdeal.τ).loc Cert.ProjEReferenceIdeal.main_arg1) = m' ((c.tc : Thread Cert.ProjEReferenceIdeal.nD Cert.ProjEReferenceIdeal.τ).loc Cert.ProjEReferenceIdeal.main_arg1))

def preserves_ProjF_ProjFIdeal : Prop :=
  True

def algebraic_ProjFIdeal_ProjFReferenceIdeal [hProjFIdeal : Cert.ProjFIdeal.Facts] [hProjFReferenceIdeal : Cert.ProjFReferenceIdeal.Facts] : Prop :=
  ∀ (m : (ℓ : Loc Cert.ProjFIdeal.nD Cert.ProjFIdeal.τ Cert.ProjFIdeal.sig) → Buf (Elt Ideal) ℓ) (g : Dev Cert.ProjFIdeal.nD → PrngReg)
    (m' : (ℓ : Loc Cert.ProjFReferenceIdeal.nD Cert.ProjFReferenceIdeal.τ Cert.ProjFReferenceIdeal.sig) → Buf (Elt Ideal) ℓ) (g' : Dev Cert.ProjFReferenceIdeal.nD → PrngReg), Pre_ProjFIdeal m →
    (∀ c : Dev Cert.ProjFIdeal.nD,
      m' ((c.tc : Thread Cert.ProjFReferenceIdeal.nD Cert.ProjFReferenceIdeal.τ).loc Cert.ProjFReferenceIdeal.main_arg0) = m ((c.tc : Thread Cert.ProjFIdeal.nD Cert.ProjFIdeal.τ).loc Cert.ProjFIdeal.main_arg0)
      ∧ m' ((c.tc : Thread Cert.ProjFReferenceIdeal.nD Cert.ProjFReferenceIdeal.τ).loc Cert.ProjFReferenceIdeal.main_arg1) = m ((c.tc : Thread Cert.ProjFIdeal.nD Cert.ProjFIdeal.τ).loc Cert.ProjFIdeal.main_arg1)) →
    ∃ (v0 : (c : Dev Cert.ProjFIdeal.nD) → Buf (Elt Ideal) ((c.tc : Thread Cert.ProjFIdeal.nD Cert.ProjFIdeal.τ).loc Cert.ProjFIdeal.main_v0)),
      θ_run (Cert.ProjFIdeal.defs (F := Ideal)) (onTc (τ := Cert.ProjFIdeal.τ) (Cert.ProjFIdeal.main (F := Ideal))) ⟨m, fun _ => 0, g⟩ (fun r => ∀ c : Dev Cert.ProjFIdeal.nD,
          r.2.mem ((c.tc : Thread Cert.ProjFIdeal.nD Cert.ProjFIdeal.τ).loc Cert.ProjFIdeal.main_v0) = v0 c
          ∧ r.2.mem ((c.tc : Thread Cert.ProjFIdeal.nD Cert.ProjFIdeal.τ).loc Cert.ProjFIdeal.main_arg0) = m ((c.tc : Thread Cert.ProjFIdeal.nD Cert.ProjFIdeal.τ).loc Cert.ProjFIdeal.main_arg0)
          ∧ r.2.mem ((c.tc : Thread Cert.ProjFIdeal.nD Cert.ProjFIdeal.τ).loc Cert.ProjFIdeal.main_arg1) = m ((c.tc : Thread Cert.ProjFIdeal.nD Cert.ProjFIdeal.τ).loc Cert.ProjFIdeal.main_arg1))
      ∧ θ_run (Cert.ProjFReferenceIdeal.defs (F := Ideal)) (onTc (τ := Cert.ProjFReferenceIdeal.τ) (Cert.ProjFReferenceIdeal.main (F := Ideal))) ⟨m', fun _ => 0, g'⟩ (fun r => ∀ c : Dev Cert.ProjFReferenceIdeal.nD,
          r.2.mem ((c.tc : Thread Cert.ProjFReferenceIdeal.nD Cert.ProjFReferenceIdeal.τ).loc Cert.ProjFReferenceIdeal.main_v1) = v0 c
          ∧ r.2.mem ((c.tc : Thread Cert.ProjFReferenceIdeal.nD Cert.ProjFReferenceIdeal.τ).loc Cert.ProjFReferenceIdeal.main_arg0) = m' ((c.tc : Thread Cert.ProjFReferenceIdeal.nD Cert.ProjFReferenceIdeal.τ).loc Cert.ProjFReferenceIdeal.main_arg0)
          ∧ r.2.mem ((c.tc : Thread Cert.ProjFReferenceIdeal.nD Cert.ProjFReferenceIdeal.τ).loc Cert.ProjFReferenceIdeal.main_arg1) = m' ((c.tc : Thread Cert.ProjFReferenceIdeal.nD Cert.ProjFReferenceIdeal.τ).loc Cert.ProjFReferenceIdeal.main_arg1))

def preserves_ProjG_ProjGIdeal : Prop :=
  True

def algebraic_ProjGIdeal_ProjGReferenceIdeal [hProjGIdeal : Cert.ProjGIdeal.Facts] [hProjGReferenceIdeal : Cert.ProjGReferenceIdeal.Facts] : Prop :=
  ∀ (m : (ℓ : Loc Cert.ProjGIdeal.nD Cert.ProjGIdeal.τ Cert.ProjGIdeal.sig) → Buf (Elt Ideal) ℓ) (g : Dev Cert.ProjGIdeal.nD → PrngReg)
    (m' : (ℓ : Loc Cert.ProjGReferenceIdeal.nD Cert.ProjGReferenceIdeal.τ Cert.ProjGReferenceIdeal.sig) → Buf (Elt Ideal) ℓ) (g' : Dev Cert.ProjGReferenceIdeal.nD → PrngReg), Pre_ProjGIdeal m →
    (∀ c : Dev Cert.ProjGIdeal.nD,
      m' ((c.tc : Thread Cert.ProjGReferenceIdeal.nD Cert.ProjGReferenceIdeal.τ).loc Cert.ProjGReferenceIdeal.main_arg0) = m ((c.tc : Thread Cert.ProjGIdeal.nD Cert.ProjGIdeal.τ).loc Cert.ProjGIdeal.main_arg0)
      ∧ m' ((c.tc : Thread Cert.ProjGReferenceIdeal.nD Cert.ProjGReferenceIdeal.τ).loc Cert.ProjGReferenceIdeal.main_arg1) = m ((c.tc : Thread Cert.ProjGIdeal.nD Cert.ProjGIdeal.τ).loc Cert.ProjGIdeal.main_arg1)) →
    ∃ (v0 : (c : Dev Cert.ProjGIdeal.nD) → Buf (Elt Ideal) ((c.tc : Thread Cert.ProjGIdeal.nD Cert.ProjGIdeal.τ).loc Cert.ProjGIdeal.main_v0)),
      θ_run (Cert.ProjGIdeal.defs (F := Ideal)) (onTc (τ := Cert.ProjGIdeal.τ) (Cert.ProjGIdeal.main (F := Ideal))) ⟨m, fun _ => 0, g⟩ (fun r => ∀ c : Dev Cert.ProjGIdeal.nD,
          r.2.mem ((c.tc : Thread Cert.ProjGIdeal.nD Cert.ProjGIdeal.τ).loc Cert.ProjGIdeal.main_v0) = v0 c
          ∧ r.2.mem ((c.tc : Thread Cert.ProjGIdeal.nD Cert.ProjGIdeal.τ).loc Cert.ProjGIdeal.main_arg0) = m ((c.tc : Thread Cert.ProjGIdeal.nD Cert.ProjGIdeal.τ).loc Cert.ProjGIdeal.main_arg0)
          ∧ r.2.mem ((c.tc : Thread Cert.ProjGIdeal.nD Cert.ProjGIdeal.τ).loc Cert.ProjGIdeal.main_arg1) = m ((c.tc : Thread Cert.ProjGIdeal.nD Cert.ProjGIdeal.τ).loc Cert.ProjGIdeal.main_arg1))
      ∧ θ_run (Cert.ProjGReferenceIdeal.defs (F := Ideal)) (onTc (τ := Cert.ProjGReferenceIdeal.τ) (Cert.ProjGReferenceIdeal.main (F := Ideal))) ⟨m', fun _ => 0, g'⟩ (fun r => ∀ c : Dev Cert.ProjGReferenceIdeal.nD,
          r.2.mem ((c.tc : Thread Cert.ProjGReferenceIdeal.nD Cert.ProjGReferenceIdeal.τ).loc Cert.ProjGReferenceIdeal.main_v1) = v0 c
          ∧ r.2.mem ((c.tc : Thread Cert.ProjGReferenceIdeal.nD Cert.ProjGReferenceIdeal.τ).loc Cert.ProjGReferenceIdeal.main_arg0) = m' ((c.tc : Thread Cert.ProjGReferenceIdeal.nD Cert.ProjGReferenceIdeal.τ).loc Cert.ProjGReferenceIdeal.main_arg0)
          ∧ r.2.mem ((c.tc : Thread Cert.ProjGReferenceIdeal.nD Cert.ProjGReferenceIdeal.τ).loc Cert.ProjGReferenceIdeal.main_arg1) = m' ((c.tc : Thread Cert.ProjGReferenceIdeal.nD Cert.ProjGReferenceIdeal.τ).loc Cert.ProjGReferenceIdeal.main_arg1))

def preserves_Rope_RopeIdeal : Prop :=
  True

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v20)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v20) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v33) = v0 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0))

def preserves_SampleKv_SampleKvIdeal : Prop :=
  True

def algebraic_SampleKvIdeal_SampleKvReferenceIdeal [hSampleKvIdeal : Cert.SampleKvIdeal.Facts] [hSampleKvReferenceIdeal : Cert.SampleKvReferenceIdeal.Facts] : Prop :=
  ∀ (m : (ℓ : Loc Cert.SampleKvIdeal.nD Cert.SampleKvIdeal.τ Cert.SampleKvIdeal.sig) → Buf (Elt Ideal) ℓ) (g : Dev Cert.SampleKvIdeal.nD → PrngReg)
    (m' : (ℓ : Loc Cert.SampleKvReferenceIdeal.nD Cert.SampleKvReferenceIdeal.τ Cert.SampleKvReferenceIdeal.sig) → Buf (Elt Ideal) ℓ) (g' : Dev Cert.SampleKvReferenceIdeal.nD → PrngReg), Pre_SampleKvIdeal m →
    (∀ c : Dev Cert.SampleKvIdeal.nD,
      m' ((c.tc : Thread Cert.SampleKvReferenceIdeal.nD Cert.SampleKvReferenceIdeal.τ).loc Cert.SampleKvReferenceIdeal.main_arg0) = m ((c.tc : Thread Cert.SampleKvIdeal.nD Cert.SampleKvIdeal.τ).loc Cert.SampleKvIdeal.main_arg0)
      ∧ m' ((c.tc : Thread Cert.SampleKvReferenceIdeal.nD Cert.SampleKvReferenceIdeal.τ).loc Cert.SampleKvReferenceIdeal.main_arg1) = m ((c.tc : Thread Cert.SampleKvIdeal.nD Cert.SampleKvIdeal.τ).loc Cert.SampleKvIdeal.main_arg1)
      ∧ m' ((c.tc : Thread Cert.SampleKvReferenceIdeal.nD Cert.SampleKvReferenceIdeal.τ).loc Cert.SampleKvReferenceIdeal.main_arg2) = m ((c.tc : Thread Cert.SampleKvIdeal.nD Cert.SampleKvIdeal.τ).loc Cert.SampleKvIdeal.main_arg2)
      ∧ m' ((c.tc : Thread Cert.SampleKvReferenceIdeal.nD Cert.SampleKvReferenceIdeal.τ).loc Cert.SampleKvReferenceIdeal.main_arg3) = m ((c.tc : Thread Cert.SampleKvIdeal.nD Cert.SampleKvIdeal.τ).loc Cert.SampleKvIdeal.main_arg3)) →
    ∃ (v0 : (c : Dev Cert.SampleKvIdeal.nD) → Buf (Elt Ideal) ((c.tc : Thread Cert.SampleKvIdeal.nD Cert.SampleKvIdeal.τ).loc Cert.SampleKvIdeal.main_v38)) (v1 : (c : Dev Cert.SampleKvIdeal.nD) → Buf (Elt Ideal) ((c.tc : Thread Cert.SampleKvIdeal.nD Cert.SampleKvIdeal.τ).loc Cert.SampleKvIdeal.main_v104)) (v2 : (c : Dev Cert.SampleKvIdeal.nD) → Buf (Elt Ideal) ((c.tc : Thread Cert.SampleKvIdeal.nD Cert.SampleKvIdeal.τ).loc Cert.SampleKvIdeal.main_v70)) (v3 : (c : Dev Cert.SampleKvIdeal.nD) → Buf (Elt Ideal) ((c.tc : Thread Cert.SampleKvIdeal.nD Cert.SampleKvIdeal.τ).loc Cert.SampleKvIdeal.main_v106)) (v4 : (c : Dev Cert.SampleKvIdeal.nD) → Buf (Elt Ideal) ((c.tc : Thread Cert.SampleKvIdeal.nD Cert.SampleKvIdeal.τ).loc Cert.SampleKvIdeal.main_v111)) (v5 : (c : Dev Cert.SampleKvIdeal.nD) → Buf (Elt Ideal) ((c.tc : Thread Cert.SampleKvIdeal.nD Cert.SampleKvIdeal.τ).loc Cert.SampleKvIdeal.main_v112)),
      θ_run (Cert.SampleKvIdeal.defs (F := Ideal)) (onTc (τ := Cert.SampleKvIdeal.τ) (Cert.SampleKvIdeal.main (F := Ideal))) ⟨m, fun _ => 0, g⟩ (fun r => ∀ c : Dev Cert.SampleKvIdeal.nD,
          r.2.mem ((c.tc : Thread Cert.SampleKvIdeal.nD Cert.SampleKvIdeal.τ).loc Cert.SampleKvIdeal.main_v38) = v0 c
          ∧ r.2.mem ((c.tc : Thread Cert.SampleKvIdeal.nD Cert.SampleKvIdeal.τ).loc Cert.SampleKvIdeal.main_v104) = v1 c
          ∧ r.2.mem ((c.tc : Thread Cert.SampleKvIdeal.nD Cert.SampleKvIdeal.τ).loc Cert.SampleKvIdeal.main_v70) = v2 c
          ∧ r.2.mem ((c.tc : Thread Cert.SampleKvIdeal.nD Cert.SampleKvIdeal.τ).loc Cert.SampleKvIdeal.main_v106) = v3 c
          ∧ r.2.mem ((c.tc : Thread Cert.SampleKvIdeal.nD Cert.SampleKvIdeal.τ).loc Cert.SampleKvIdeal.main_v111) = v4 c
          ∧ r.2.mem ((c.tc : Thread Cert.SampleKvIdeal.nD Cert.SampleKvIdeal.τ).loc Cert.SampleKvIdeal.main_v112) = v5 c
          ∧ r.2.mem ((c.tc : Thread Cert.SampleKvIdeal.nD Cert.SampleKvIdeal.τ).loc Cert.SampleKvIdeal.main_arg0) = m ((c.tc : Thread Cert.SampleKvIdeal.nD Cert.SampleKvIdeal.τ).loc Cert.SampleKvIdeal.main_arg0)
          ∧ r.2.mem ((c.tc : Thread Cert.SampleKvIdeal.nD Cert.SampleKvIdeal.τ).loc Cert.SampleKvIdeal.main_arg1) = m ((c.tc : Thread Cert.SampleKvIdeal.nD Cert.SampleKvIdeal.τ).loc Cert.SampleKvIdeal.main_arg1)
          ∧ r.2.mem ((c.tc : Thread Cert.SampleKvIdeal.nD Cert.SampleKvIdeal.τ).loc Cert.SampleKvIdeal.main_arg2) = m ((c.tc : Thread Cert.SampleKvIdeal.nD Cert.SampleKvIdeal.τ).loc Cert.SampleKvIdeal.main_arg2)
          ∧ r.2.mem ((c.tc : Thread Cert.SampleKvIdeal.nD Cert.SampleKvIdeal.τ).loc Cert.SampleKvIdeal.main_arg3) = m ((c.tc : Thread Cert.SampleKvIdeal.nD Cert.SampleKvIdeal.τ).loc Cert.SampleKvIdeal.main_arg3))
      ∧ θ_run (Cert.SampleKvReferenceIdeal.defs (F := Ideal)) (onTc (τ := Cert.SampleKvReferenceIdeal.τ) (Cert.SampleKvReferenceIdeal.main (F := Ideal))) ⟨m', fun _ => 0, g'⟩ (fun r => ∀ c : Dev Cert.SampleKvReferenceIdeal.nD,
          r.2.mem ((c.tc : Thread Cert.SampleKvReferenceIdeal.nD Cert.SampleKvReferenceIdeal.τ).loc Cert.SampleKvReferenceIdeal.main_v36) = v0 c
          ∧ r.2.mem ((c.tc : Thread Cert.SampleKvReferenceIdeal.nD Cert.SampleKvReferenceIdeal.τ).loc Cert.SampleKvReferenceIdeal.main_v102) = v1 c
          ∧ r.2.mem ((c.tc : Thread Cert.SampleKvReferenceIdeal.nD Cert.SampleKvReferenceIdeal.τ).loc Cert.SampleKvReferenceIdeal.main_v68) = v2 c
          ∧ r.2.mem ((c.tc : Thread Cert.SampleKvReferenceIdeal.nD Cert.SampleKvReferenceIdeal.τ).loc Cert.SampleKvReferenceIdeal.main_v104) = v3 c
          ∧ r.2.mem ((c.tc : Thread Cert.SampleKvReferenceIdeal.nD Cert.SampleKvReferenceIdeal.τ).loc Cert.SampleKvReferenceIdeal.main_v109) = v4 c
          ∧ r.2.mem ((c.tc : Thread Cert.SampleKvReferenceIdeal.nD Cert.SampleKvReferenceIdeal.τ).loc Cert.SampleKvReferenceIdeal.main_v110) = v5 c
          ∧ r.2.mem ((c.tc : Thread Cert.SampleKvReferenceIdeal.nD Cert.SampleKvReferenceIdeal.τ).loc Cert.SampleKvReferenceIdeal.main_arg0) = m' ((c.tc : Thread Cert.SampleKvReferenceIdeal.nD Cert.SampleKvReferenceIdeal.τ).loc Cert.SampleKvReferenceIdeal.main_arg0)
          ∧ r.2.mem ((c.tc : Thread Cert.SampleKvReferenceIdeal.nD Cert.SampleKvReferenceIdeal.τ).loc Cert.SampleKvReferenceIdeal.main_arg1) = m' ((c.tc : Thread Cert.SampleKvReferenceIdeal.nD Cert.SampleKvReferenceIdeal.τ).loc Cert.SampleKvReferenceIdeal.main_arg1)
          ∧ r.2.mem ((c.tc : Thread Cert.SampleKvReferenceIdeal.nD Cert.SampleKvReferenceIdeal.τ).loc Cert.SampleKvReferenceIdeal.main_arg2) = m' ((c.tc : Thread Cert.SampleKvReferenceIdeal.nD Cert.SampleKvReferenceIdeal.τ).loc Cert.SampleKvReferenceIdeal.main_arg2)
          ∧ r.2.mem ((c.tc : Thread Cert.SampleKvReferenceIdeal.nD Cert.SampleKvReferenceIdeal.τ).loc Cert.SampleKvReferenceIdeal.main_arg3) = m' ((c.tc : Thread Cert.SampleKvReferenceIdeal.nD Cert.SampleKvReferenceIdeal.τ).loc Cert.SampleKvReferenceIdeal.main_arg3))

def preserves_SampleConv_SampleConvIdeal : Prop :=
  True

def algebraic_SampleConvIdeal_SampleConvReferenceIdeal [hSampleConvIdeal : Cert.SampleConvIdeal.Facts] [hSampleConvReferenceIdeal : Cert.SampleConvReferenceIdeal.Facts] : Prop :=
  ∀ (m : (ℓ : Loc Cert.SampleConvIdeal.nD Cert.SampleConvIdeal.τ Cert.SampleConvIdeal.sig) → Buf (Elt Ideal) ℓ) (g : Dev Cert.SampleConvIdeal.nD → PrngReg)
    (m' : (ℓ : Loc Cert.SampleConvReferenceIdeal.nD Cert.SampleConvReferenceIdeal.τ Cert.SampleConvReferenceIdeal.sig) → Buf (Elt Ideal) ℓ) (g' : Dev Cert.SampleConvReferenceIdeal.nD → PrngReg), Pre_SampleConvIdeal m →
    (∀ c : Dev Cert.SampleConvIdeal.nD,
      m' ((c.tc : Thread Cert.SampleConvReferenceIdeal.nD Cert.SampleConvReferenceIdeal.τ).loc Cert.SampleConvReferenceIdeal.main_arg0) = m ((c.tc : Thread Cert.SampleConvIdeal.nD Cert.SampleConvIdeal.τ).loc Cert.SampleConvIdeal.main_arg0)
      ∧ m' ((c.tc : Thread Cert.SampleConvReferenceIdeal.nD Cert.SampleConvReferenceIdeal.τ).loc Cert.SampleConvReferenceIdeal.main_arg1) = m ((c.tc : Thread Cert.SampleConvIdeal.nD Cert.SampleConvIdeal.τ).loc Cert.SampleConvIdeal.main_arg1)
      ∧ m' ((c.tc : Thread Cert.SampleConvReferenceIdeal.nD Cert.SampleConvReferenceIdeal.τ).loc Cert.SampleConvReferenceIdeal.main_arg2) = m ((c.tc : Thread Cert.SampleConvIdeal.nD Cert.SampleConvIdeal.τ).loc Cert.SampleConvIdeal.main_arg2)) →
    ∃ (v0 : (c : Dev Cert.SampleConvIdeal.nD) → Buf (Elt Ideal) ((c.tc : Thread Cert.SampleConvIdeal.nD Cert.SampleConvIdeal.τ).loc Cert.SampleConvIdeal.main_v4)),
      θ_run (Cert.SampleConvIdeal.defs (F := Ideal)) (onTc (τ := Cert.SampleConvIdeal.τ) (Cert.SampleConvIdeal.main (F := Ideal))) ⟨m, fun _ => 0, g⟩ (fun r => ∀ c : Dev Cert.SampleConvIdeal.nD,
          r.2.mem ((c.tc : Thread Cert.SampleConvIdeal.nD Cert.SampleConvIdeal.τ).loc Cert.SampleConvIdeal.main_v4) = v0 c
          ∧ r.2.mem ((c.tc : Thread Cert.SampleConvIdeal.nD Cert.SampleConvIdeal.τ).loc Cert.SampleConvIdeal.main_arg0) = m ((c.tc : Thread Cert.SampleConvIdeal.nD Cert.SampleConvIdeal.τ).loc Cert.SampleConvIdeal.main_arg0)
          ∧ r.2.mem ((c.tc : Thread Cert.SampleConvIdeal.nD Cert.SampleConvIdeal.τ).loc Cert.SampleConvIdeal.main_arg1) = m ((c.tc : Thread Cert.SampleConvIdeal.nD Cert.SampleConvIdeal.τ).loc Cert.SampleConvIdeal.main_arg1)
          ∧ r.2.mem ((c.tc : Thread Cert.SampleConvIdeal.nD Cert.SampleConvIdeal.τ).loc Cert.SampleConvIdeal.main_arg2) = m ((c.tc : Thread Cert.SampleConvIdeal.nD Cert.SampleConvIdeal.τ).loc Cert.SampleConvIdeal.main_arg2))
      ∧ θ_run (Cert.SampleConvReferenceIdeal.defs (F := Ideal)) (onTc (τ := Cert.SampleConvReferenceIdeal.τ) (Cert.SampleConvReferenceIdeal.main (F := Ideal))) ⟨m', fun _ => 0, g'⟩ (fun r => ∀ c : Dev Cert.SampleConvReferenceIdeal.nD,
          r.2.mem ((c.tc : Thread Cert.SampleConvReferenceIdeal.nD Cert.SampleConvReferenceIdeal.τ).loc Cert.SampleConvReferenceIdeal.main_v2) = v0 c
          ∧ r.2.mem ((c.tc : Thread Cert.SampleConvReferenceIdeal.nD Cert.SampleConvReferenceIdeal.τ).loc Cert.SampleConvReferenceIdeal.main_arg0) = m' ((c.tc : Thread Cert.SampleConvReferenceIdeal.nD Cert.SampleConvReferenceIdeal.τ).loc Cert.SampleConvReferenceIdeal.main_arg0)
          ∧ r.2.mem ((c.tc : Thread Cert.SampleConvReferenceIdeal.nD Cert.SampleConvReferenceIdeal.τ).loc Cert.SampleConvReferenceIdeal.main_arg1) = m' ((c.tc : Thread Cert.SampleConvReferenceIdeal.nD Cert.SampleConvReferenceIdeal.τ).loc Cert.SampleConvReferenceIdeal.main_arg1)
          ∧ r.2.mem ((c.tc : Thread Cert.SampleConvReferenceIdeal.nD Cert.SampleConvReferenceIdeal.τ).loc Cert.SampleConvReferenceIdeal.main_arg2) = m' ((c.tc : Thread Cert.SampleConvReferenceIdeal.nD Cert.SampleConvReferenceIdeal.τ).loc Cert.SampleConvReferenceIdeal.main_arg2))

def preserves_Experts_ExpertsIdeal : Prop :=
  True

def algebraic_ExpertsIdeal_ExpertsReferenceIdeal_on_rows_used [hExpertsIdeal : Cert.ExpertsIdeal.Facts] [hExpertsReferenceIdeal : Cert.ExpertsReferenceIdeal.Facts] [hPre_tables : Cert.Pre_tables.Facts] [hOn_rows_used : Cert.On_rows_used.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![41984, 7168]⟩ : Shape).Idx, (Cert.On_rows_used.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) i = 1#1 → r.2.mem ((c.tc : Thread Cert.ExpertsIdeal.nD Cert.ExpertsIdeal.τ).loc Cert.ExpertsIdeal.main_v0) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          (∀ i : (⟨2, ![41984, 7168]⟩ : Shape).Idx, (Cert.On_rows_used.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) i = 1#1 → r.2.mem ((c.tc : Thread Cert.ExpertsReferenceIdeal.nD Cert.ExpertsReferenceIdeal.τ).loc Cert.ExpertsReferenceIdeal.main_v19) i = v0 c i)
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def preserves_ExpertsDown_ExpertsDownIdeal : Prop :=
  True

def algebraic_ExpertsDownIdeal_ExpertsDownReferenceIdeal_on_down_rows_used [hExpertsDownIdeal : Cert.ExpertsDownIdeal.Facts] [hExpertsDownReferenceIdeal : Cert.ExpertsDownReferenceIdeal.Facts] [hPre_down_tables : Cert.Pre_down_tables.Facts] [hOn_down_rows_used : Cert.On_down_rows_used.Facts] : Prop :=
  ∀ (m : (ℓ : Loc Cert.ExpertsDownIdeal.nD Cert.ExpertsDownIdeal.τ Cert.ExpertsDownIdeal.sig) → Buf (Elt Ideal) ℓ) (g : Dev Cert.ExpertsDownIdeal.nD → PrngReg)
    (m' : (ℓ : Loc Cert.ExpertsDownReferenceIdeal.nD Cert.ExpertsDownReferenceIdeal.τ Cert.ExpertsDownReferenceIdeal.sig) → Buf (Elt Ideal) ℓ) (g' : Dev Cert.ExpertsDownReferenceIdeal.nD → PrngReg), Pre_ExpertsDownIdeal m →
    (∀ c : Dev Cert.ExpertsDownIdeal.nD,
      m' ((c.tc : Thread Cert.ExpertsDownReferenceIdeal.nD Cert.ExpertsDownReferenceIdeal.τ).loc Cert.ExpertsDownReferenceIdeal.main_arg0) = m ((c.tc : Thread Cert.ExpertsDownIdeal.nD Cert.ExpertsDownIdeal.τ).loc Cert.ExpertsDownIdeal.main_arg0)
      ∧ m' ((c.tc : Thread Cert.ExpertsDownReferenceIdeal.nD Cert.ExpertsDownReferenceIdeal.τ).loc Cert.ExpertsDownReferenceIdeal.main_arg1) = m ((c.tc : Thread Cert.ExpertsDownIdeal.nD Cert.ExpertsDownIdeal.τ).loc Cert.ExpertsDownIdeal.main_arg1)
      ∧ m' ((c.tc : Thread Cert.ExpertsDownReferenceIdeal.nD Cert.ExpertsDownReferenceIdeal.τ).loc Cert.ExpertsDownReferenceIdeal.main_arg2) = m ((c.tc : Thread Cert.ExpertsDownIdeal.nD Cert.ExpertsDownIdeal.τ).loc Cert.ExpertsDownIdeal.main_arg2)
      ∧ m' ((c.tc : Thread Cert.ExpertsDownReferenceIdeal.nD Cert.ExpertsDownReferenceIdeal.τ).loc Cert.ExpertsDownReferenceIdeal.main_arg3) = m ((c.tc : Thread Cert.ExpertsDownIdeal.nD Cert.ExpertsDownIdeal.τ).loc Cert.ExpertsDownIdeal.main_arg3)
      ∧ m' ((c.tc : Thread Cert.ExpertsDownReferenceIdeal.nD Cert.ExpertsDownReferenceIdeal.τ).loc Cert.ExpertsDownReferenceIdeal.main_arg4) = m ((c.tc : Thread Cert.ExpertsDownIdeal.nD Cert.ExpertsDownIdeal.τ).loc Cert.ExpertsDownIdeal.main_arg4)) →
    ∃ (v0 : (c : Dev Cert.ExpertsDownIdeal.nD) → Buf (Elt Ideal) ((c.tc : Thread Cert.ExpertsDownIdeal.nD Cert.ExpertsDownIdeal.τ).loc Cert.ExpertsDownIdeal.main_v0)),
      θ_run (Cert.ExpertsDownIdeal.defs (F := Ideal)) (onTc (τ := Cert.ExpertsDownIdeal.τ) (Cert.ExpertsDownIdeal.main (F := Ideal))) ⟨m, fun _ => 0, g⟩ (fun r => ∀ c : Dev Cert.ExpertsDownIdeal.nD,
          (∀ i : (⟨2, ![41984, 2048]⟩ : Shape).Idx, (Cert.On_down_rows_used.fn (F := Ideal) (m ((c.tc : Thread Cert.ExpertsDownIdeal.nD Cert.ExpertsDownIdeal.τ).loc Cert.ExpertsDownIdeal.main_arg0)) (m ((c.tc : Thread Cert.ExpertsDownIdeal.nD Cert.ExpertsDownIdeal.τ).loc Cert.ExpertsDownIdeal.main_arg1)) (m ((c.tc : Thread Cert.ExpertsDownIdeal.nD Cert.ExpertsDownIdeal.τ).loc Cert.ExpertsDownIdeal.main_arg2)) (m ((c.tc : Thread Cert.ExpertsDownIdeal.nD Cert.ExpertsDownIdeal.τ).loc Cert.ExpertsDownIdeal.main_arg3)) (m ((c.tc : Thread Cert.ExpertsDownIdeal.nD Cert.ExpertsDownIdeal.τ).loc Cert.ExpertsDownIdeal.main_arg4))) i = 1#1 → r.2.mem ((c.tc : Thread Cert.ExpertsDownIdeal.nD Cert.ExpertsDownIdeal.τ).loc Cert.ExpertsDownIdeal.main_v0) i = v0 c i)
          ∧ r.2.mem ((c.tc : Thread Cert.ExpertsDownIdeal.nD Cert.ExpertsDownIdeal.τ).loc Cert.ExpertsDownIdeal.main_arg0) = m ((c.tc : Thread Cert.ExpertsDownIdeal.nD Cert.ExpertsDownIdeal.τ).loc Cert.ExpertsDownIdeal.main_arg0)
          ∧ r.2.mem ((c.tc : Thread Cert.ExpertsDownIdeal.nD Cert.ExpertsDownIdeal.τ).loc Cert.ExpertsDownIdeal.main_arg1) = m ((c.tc : Thread Cert.ExpertsDownIdeal.nD Cert.ExpertsDownIdeal.τ).loc Cert.ExpertsDownIdeal.main_arg1)
          ∧ r.2.mem ((c.tc : Thread Cert.ExpertsDownIdeal.nD Cert.ExpertsDownIdeal.τ).loc Cert.ExpertsDownIdeal.main_arg2) = m ((c.tc : Thread Cert.ExpertsDownIdeal.nD Cert.ExpertsDownIdeal.τ).loc Cert.ExpertsDownIdeal.main_arg2)
          ∧ r.2.mem ((c.tc : Thread Cert.ExpertsDownIdeal.nD Cert.ExpertsDownIdeal.τ).loc Cert.ExpertsDownIdeal.main_arg3) = m ((c.tc : Thread Cert.ExpertsDownIdeal.nD Cert.ExpertsDownIdeal.τ).loc Cert.ExpertsDownIdeal.main_arg3)
          ∧ r.2.mem ((c.tc : Thread Cert.ExpertsDownIdeal.nD Cert.ExpertsDownIdeal.τ).loc Cert.ExpertsDownIdeal.main_arg4) = m ((c.tc : Thread Cert.ExpertsDownIdeal.nD Cert.ExpertsDownIdeal.τ).loc Cert.ExpertsDownIdeal.main_arg4))
      ∧ θ_run (Cert.ExpertsDownReferenceIdeal.defs (F := Ideal)) (onTc (τ := Cert.ExpertsDownReferenceIdeal.τ) (Cert.ExpertsDownReferenceIdeal.main (F := Ideal))) ⟨m', fun _ => 0, g'⟩ (fun r => ∀ c : Dev Cert.ExpertsDownReferenceIdeal.nD,
          (∀ i : (⟨2, ![41984, 2048]⟩ : Shape).Idx, (Cert.On_down_rows_used.fn (F := Ideal) (m ((c.tc : Thread Cert.ExpertsDownIdeal.nD Cert.ExpertsDownIdeal.τ).loc Cert.ExpertsDownIdeal.main_arg0)) (m ((c.tc : Thread Cert.ExpertsDownIdeal.nD Cert.ExpertsDownIdeal.τ).loc Cert.ExpertsDownIdeal.main_arg1)) (m ((c.tc : Thread Cert.ExpertsDownIdeal.nD Cert.ExpertsDownIdeal.τ).loc Cert.ExpertsDownIdeal.main_arg2)) (m ((c.tc : Thread Cert.ExpertsDownIdeal.nD Cert.ExpertsDownIdeal.τ).loc Cert.ExpertsDownIdeal.main_arg3)) (m ((c.tc : Thread Cert.ExpertsDownIdeal.nD Cert.ExpertsDownIdeal.τ).loc Cert.ExpertsDownIdeal.main_arg4))) i = 1#1 → r.2.mem ((c.tc : Thread Cert.ExpertsDownReferenceIdeal.nD Cert.ExpertsDownReferenceIdeal.τ).loc Cert.ExpertsDownReferenceIdeal.main_v11) i = v0 c i)
          ∧ r.2.mem ((c.tc : Thread Cert.ExpertsDownReferenceIdeal.nD Cert.ExpertsDownReferenceIdeal.τ).loc Cert.ExpertsDownReferenceIdeal.main_arg0) = m' ((c.tc : Thread Cert.ExpertsDownReferenceIdeal.nD Cert.ExpertsDownReferenceIdeal.τ).loc Cert.ExpertsDownReferenceIdeal.main_arg0)
          ∧ r.2.mem ((c.tc : Thread Cert.ExpertsDownReferenceIdeal.nD Cert.ExpertsDownReferenceIdeal.τ).loc Cert.ExpertsDownReferenceIdeal.main_arg1) = m' ((c.tc : Thread Cert.ExpertsDownReferenceIdeal.nD Cert.ExpertsDownReferenceIdeal.τ).loc Cert.ExpertsDownReferenceIdeal.main_arg1)
          ∧ r.2.mem ((c.tc : Thread Cert.ExpertsDownReferenceIdeal.nD Cert.ExpertsDownReferenceIdeal.τ).loc Cert.ExpertsDownReferenceIdeal.main_arg2) = m' ((c.tc : Thread Cert.ExpertsDownReferenceIdeal.nD Cert.ExpertsDownReferenceIdeal.τ).loc Cert.ExpertsDownReferenceIdeal.main_arg2)
          ∧ r.2.mem ((c.tc : Thread Cert.ExpertsDownReferenceIdeal.nD Cert.ExpertsDownReferenceIdeal.τ).loc Cert.ExpertsDownReferenceIdeal.main_arg3) = m' ((c.tc : Thread Cert.ExpertsDownReferenceIdeal.nD Cert.ExpertsDownReferenceIdeal.τ).loc Cert.ExpertsDownReferenceIdeal.main_arg3)
          ∧ r.2.mem ((c.tc : Thread Cert.ExpertsDownReferenceIdeal.nD Cert.ExpertsDownReferenceIdeal.τ).loc Cert.ExpertsDownReferenceIdeal.main_arg4) = m' ((c.tc : Thread Cert.ExpertsDownReferenceIdeal.nD Cert.ExpertsDownReferenceIdeal.τ).loc Cert.ExpertsDownReferenceIdeal.main_arg4))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hMerge : Cert.Merge.Facts) (hMergeIdeal : Cert.MergeIdeal.Facts) (hMergeReferenceIdeal : Cert.MergeReferenceIdeal.Facts) (hProjA : Cert.ProjA.Facts) (hProjAIdeal : Cert.ProjAIdeal.Facts) (hProjAReferenceIdeal : Cert.ProjAReferenceIdeal.Facts) (hProjB : Cert.ProjB.Facts) (hProjBIdeal : Cert.ProjBIdeal.Facts) (hProjBReferenceIdeal : Cert.ProjBReferenceIdeal.Facts) (hProjC : Cert.ProjC.Facts) (hProjCIdeal : Cert.ProjCIdeal.Facts) (hProjCReferenceIdeal : Cert.ProjCReferenceIdeal.Facts) (hProjE : Cert.ProjE.Facts) (hProjEIdeal : Cert.ProjEIdeal.Facts) (hProjEReferenceIdeal : Cert.ProjEReferenceIdeal.Facts) (hProjF : Cert.ProjF.Facts) (hProjFIdeal : Cert.ProjFIdeal.Facts) (hProjFReferenceIdeal : Cert.ProjFReferenceIdeal.Facts) (hProjG : Cert.ProjG.Facts) (hProjGIdeal : Cert.ProjGIdeal.Facts) (hProjGReferenceIdeal : Cert.ProjGReferenceIdeal.Facts) (hRope : Cert.Rope.Facts) (hRopeIdeal : Cert.RopeIdeal.Facts) (hRopeReferenceIdeal : Cert.RopeReferenceIdeal.Facts) (hSampleKv : Cert.SampleKv.Facts) (hSampleKvIdeal : Cert.SampleKvIdeal.Facts) (hSampleKvReferenceIdeal : Cert.SampleKvReferenceIdeal.Facts) (hSampleConv : Cert.SampleConv.Facts) (hSampleConvIdeal : Cert.SampleConvIdeal.Facts) (hSampleConvReferenceIdeal : Cert.SampleConvReferenceIdeal.Facts) (hExperts : Cert.Experts.Facts) (hExpertsIdeal : Cert.ExpertsIdeal.Facts) (hExpertsReferenceIdeal : Cert.ExpertsReferenceIdeal.Facts) (hExpertsDown : Cert.ExpertsDown.Facts) (hExpertsDownIdeal : Cert.ExpertsDownIdeal.Facts) (hExpertsDownReferenceIdeal : Cert.ExpertsDownReferenceIdeal.Facts) (hPre_dt_finite : Cert.Pre_dt_finite.Facts) (hPre_tables : Cert.Pre_tables.Facts) (hPre_down_tables : Cert.Pre_down_tables.Facts) (hOn_rows_used : Cert.On_rows_used.Facts) (hOn_down_rows_used : Cert.On_down_rows_used.Facts),
    quiescent_Kernel (hKernel := hKernel)
    ∧ quiescent_KernelIdeal (hKernelIdeal := hKernelIdeal)
    ∧ quiescent_KernelIdeal_pre_dt_finite (hKernelIdeal := hKernelIdeal) (hPre_dt_finite := hPre_dt_finite)
    ∧ quiescent_ReferenceIdeal (hReferenceIdeal := hReferenceIdeal)
    ∧ quiescent_ReferenceIdeal_pre_dt_finite (hReferenceIdeal := hReferenceIdeal) (hPre_dt_finite := hPre_dt_finite)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_ProjA (hProjA := hProjA)
    ∧ quiescent_ProjAIdeal (hProjAIdeal := hProjAIdeal)
    ∧ quiescent_ProjAReferenceIdeal (hProjAReferenceIdeal := hProjAReferenceIdeal)
    ∧ quiescent_ProjB (hProjB := hProjB)
    ∧ quiescent_ProjBIdeal (hProjBIdeal := hProjBIdeal)
    ∧ quiescent_ProjBReferenceIdeal (hProjBReferenceIdeal := hProjBReferenceIdeal)
    ∧ quiescent_ProjC (hProjC := hProjC)
    ∧ quiescent_ProjCIdeal (hProjCIdeal := hProjCIdeal)
    ∧ quiescent_ProjCReferenceIdeal (hProjCReferenceIdeal := hProjCReferenceIdeal)
    ∧ quiescent_ProjE (hProjE := hProjE)
    ∧ quiescent_ProjEIdeal (hProjEIdeal := hProjEIdeal)
    ∧ quiescent_ProjEReferenceIdeal (hProjEReferenceIdeal := hProjEReferenceIdeal)
    ∧ quiescent_ProjF (hProjF := hProjF)
    ∧ quiescent_ProjFIdeal (hProjFIdeal := hProjFIdeal)
    ∧ quiescent_ProjFReferenceIdeal (hProjFReferenceIdeal := hProjFReferenceIdeal)
    ∧ quiescent_ProjG (hProjG := hProjG)
    ∧ quiescent_ProjGIdeal (hProjGIdeal := hProjGIdeal)
    ∧ quiescent_ProjGReferenceIdeal (hProjGReferenceIdeal := hProjGReferenceIdeal)
    ∧ quiescent_Rope (hRope := hRope)
    ∧ quiescent_RopeIdeal (hRopeIdeal := hRopeIdeal)
    ∧ quiescent_RopeReferenceIdeal (hRopeReferenceIdeal := hRopeReferenceIdeal)
    ∧ quiescent_SampleKv (hSampleKv := hSampleKv)
    ∧ quiescent_SampleKvIdeal (hSampleKvIdeal := hSampleKvIdeal)
    ∧ quiescent_SampleKvReferenceIdeal (hSampleKvReferenceIdeal := hSampleKvReferenceIdeal)
    ∧ quiescent_SampleConv (hSampleConv := hSampleConv)
    ∧ quiescent_SampleConvIdeal (hSampleConvIdeal := hSampleConvIdeal)
    ∧ quiescent_SampleConvReferenceIdeal (hSampleConvReferenceIdeal := hSampleConvReferenceIdeal)
    ∧ quiescent_Experts (hExperts := hExperts) (hPre_tables := hPre_tables)
    ∧ quiescent_ExpertsIdeal (hExpertsIdeal := hExpertsIdeal) (hPre_tables := hPre_tables)
    ∧ quiescent_ExpertsReferenceIdeal (hExpertsReferenceIdeal := hExpertsReferenceIdeal) (hPre_tables := hPre_tables)
    ∧ quiescent_ExpertsDown (hExpertsDown := hExpertsDown) (hPre_down_tables := hPre_down_tables)
    ∧ quiescent_ExpertsDownIdeal (hExpertsDownIdeal := hExpertsDownIdeal) (hPre_down_tables := hPre_down_tables)
    ∧ quiescent_ExpertsDownReferenceIdeal (hExpertsDownReferenceIdeal := hExpertsDownReferenceIdeal) (hPre_down_tables := hPre_down_tables)
    ∧ preserves_Kernel_KernelIdeal
    ∧ algebraic_KernelIdeal_ReferenceIdeal_pre_dt_finite (hKernelIdeal := hKernelIdeal) (hReferenceIdeal := hReferenceIdeal) (hPre_dt_finite := hPre_dt_finite)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Merge_MergeIdeal
    ∧ algebraic_MergeIdeal_MergeReferenceIdeal (hMergeIdeal := hMergeIdeal) (hMergeReferenceIdeal := hMergeReferenceIdeal)
    ∧ preserves_ProjA_ProjAIdeal
    ∧ algebraic_ProjAIdeal_ProjAReferenceIdeal (hProjAIdeal := hProjAIdeal) (hProjAReferenceIdeal := hProjAReferenceIdeal)
    ∧ preserves_ProjB_ProjBIdeal
    ∧ algebraic_ProjBIdeal_ProjBReferenceIdeal (hProjBIdeal := hProjBIdeal) (hProjBReferenceIdeal := hProjBReferenceIdeal)
    ∧ preserves_ProjC_ProjCIdeal
    ∧ algebraic_ProjCIdeal_ProjCReferenceIdeal (hProjCIdeal := hProjCIdeal) (hProjCReferenceIdeal := hProjCReferenceIdeal)
    ∧ preserves_ProjE_ProjEIdeal
    ∧ algebraic_ProjEIdeal_ProjEReferenceIdeal (hProjEIdeal := hProjEIdeal) (hProjEReferenceIdeal := hProjEReferenceIdeal)
    ∧ preserves_ProjF_ProjFIdeal
    ∧ algebraic_ProjFIdeal_ProjFReferenceIdeal (hProjFIdeal := hProjFIdeal) (hProjFReferenceIdeal := hProjFReferenceIdeal)
    ∧ preserves_ProjG_ProjGIdeal
    ∧ algebraic_ProjGIdeal_ProjGReferenceIdeal (hProjGIdeal := hProjGIdeal) (hProjGReferenceIdeal := hProjGReferenceIdeal)
    ∧ preserves_Rope_RopeIdeal
    ∧ algebraic_RopeIdeal_RopeReferenceIdeal (hRopeIdeal := hRopeIdeal) (hRopeReferenceIdeal := hRopeReferenceIdeal)
    ∧ preserves_SampleKv_SampleKvIdeal
    ∧ algebraic_SampleKvIdeal_SampleKvReferenceIdeal (hSampleKvIdeal := hSampleKvIdeal) (hSampleKvReferenceIdeal := hSampleKvReferenceIdeal)
    ∧ preserves_SampleConv_SampleConvIdeal
    ∧ algebraic_SampleConvIdeal_SampleConvReferenceIdeal (hSampleConvIdeal := hSampleConvIdeal) (hSampleConvReferenceIdeal := hSampleConvReferenceIdeal)
    ∧ preserves_Experts_ExpertsIdeal
    ∧ algebraic_ExpertsIdeal_ExpertsReferenceIdeal_on_rows_used (hExpertsIdeal := hExpertsIdeal) (hExpertsReferenceIdeal := hExpertsReferenceIdeal) (hPre_tables := hPre_tables) (hOn_rows_used := hOn_rows_used)
    ∧ preserves_ExpertsDown_ExpertsDownIdeal
    ∧ algebraic_ExpertsDownIdeal_ExpertsDownReferenceIdeal_on_down_rows_used (hExpertsDownIdeal := hExpertsDownIdeal) (hExpertsDownReferenceIdeal := hExpertsDownReferenceIdeal) (hPre_down_tables := hPre_down_tables) (hOn_down_rows_used := hOn_down_rows_used)
-- ==== On_down_rows_used.lean ====
abbrev S41 : Shape := ⟨1, ![41]⟩
abbrev S1 : Shape := ⟨1, ![1]⟩
abbrev S41984x7168 : Shape := ⟨2, ![41984, 7168]⟩
abbrev S8x7168x2048 : Shape := ⟨3, ![8, 7168, 2048]⟩
abbrev S41984x1 : Shape := ⟨2, ![41984, 1]⟩
abbrev S_ : Shape := ⟨0, ![]⟩
abbrev S41984x2048 : Shape := ⟨2, ![41984, 2048]⟩

class Facts : Prop where
  bcast_S_S1 : S_.BroadcastsInDim S1 (![] : Fin 0 → Fin S1.rank)
  bcast_S1_S41984x2048_1 : S1.BroadcastsInDim S41984x2048 (![1] : Fin 1 → Fin S41984x2048.rank)

variable [Facts]

def fn {F : FTy → Type} [FloatOps F] (main_arg0 : IVec S41 32) (main_arg1 : IVec S1 32) (main_arg2 : FVec F S41984x7168 .bf16) (main_arg3 : FVec F S8x7168x2048 .f32) (main_arg4 : FVec F S41984x1 .f32) : IVec S41984x2048 1 :=
  let main_c : IVec S_ 32 := constantI S_ 32 1024#32
  let main_v0 : IVec S1 32 := broadcastInDim S1 ![] bcast_S_S1 main_c
  let main_v1 : IVec S1 32 := muli main_arg1 main_v0
  let main_v2 : IVec S41984x2048 32 := broadcastInDim S41984x2048 ![1] bcast_S1_S41984x2048_1 main_v1
  let main_v3 : IVec S41984x2048 32 := iotaInDim S41984x2048 32 0
  let main_v4 : IVec S41984x2048 1 := cmpi .slt main_v3 main_v2
  main_v4
-- ==== On_rows_used.lean ====
abbrev S41 : Shape := ⟨1, ![41]⟩
abbrev S1 : Shape := ⟨1, ![1]⟩
abbrev S41984x2048 : Shape := ⟨2, ![41984, 2048]⟩
abbrev S8x2048x7168 : Shape := ⟨3, ![8, 2048, 7168]⟩
abbrev S_ : Shape := ⟨0, ![]⟩
abbrev S41984x7168 : Shape := ⟨2, ![41984, 7168]⟩

class Facts : Prop where
  bcast_S_S1 : S_.BroadcastsInDim S1 (![] : Fin 0 → Fin S1.rank)
  bcast_S1_S41984x7168_1 : S1.BroadcastsInDim S41984x7168 (![1] : Fin 1 → Fin S41984x7168.rank)

variable [Facts]

def fn {F : FTy → Type} [FloatOps F] (main_arg0 : IVec S41 32) (main_arg1 : IVec S1 32) (main_arg2 : FVec F S41984x2048 .bf16) (main_arg3 : FVec F S8x2048x7168 .f32) (main_arg4 : FVec F S8x2048x7168 .f32) : IVec S41984x7168 1 :=
  let main_c : IVec S_ 32 := constantI S_ 32 1024#32
  let main_v0 : IVec S1 32 := broadcastInDim S1 ![] bcast_S_S1 main_c
  let main_v1 : IVec S1 32 := muli main_arg1 main_v0
  let main_v2 : IVec S41984x7168 32 := broadcastInDim S41984x7168 ![1] bcast_S1_S41984x7168_1 main_v1
  let main_v3 : IVec S41984x7168 32 := iotaInDim S41984x7168 32 0
  let main_v4 : IVec S41984x7168 1 := cmpi .slt main_v3 main_v2
  main_v4
-- ==== Pre_down_tables.lean ====
abbrev S41 : Shape := ⟨1, ![41]⟩
abbrev S1 : Shape := ⟨1, ![1]⟩
abbrev S41984x7168 : Shape := ⟨2, ![41984, 7168]⟩
abbrev S8x7168x2048 : Shape := ⟨3, ![8, 7168, 2048]⟩
abbrev S41984x1 : Shape := ⟨2, ![41984, 1]⟩
abbrev S_ : Shape := ⟨0, ![]⟩

class Facts : Prop where
  bcast_S_S41 : S_.BroadcastsInDim S41 (![] : Fin 0 → Fin S41.rank)
  bcast_S_S1 : S_.BroadcastsInDim S1 (![] : Fin 0 → Fin S1.rank)

variable [Facts]

def fn {F : FTy → Type} [FloatOps F] (main_arg0 : IVec S41 32) (main_arg1 : IVec S1 32) (main_arg2 : FVec F S41984x7168 .bf16) (main_arg3 : FVec F S8x7168x2048 .f32) (main_arg4 : FVec F S41984x1 .f32) : IVec S41 1 × IVec S41 1 × IVec S1 1 × IVec S1 1 :=
  let main_c : IVec S_ 32 := constantI S_ 32 0#32
  let main_v0 : IVec S41 32 := broadcastInDim S41 ![] bcast_S_S41 main_c
  let main_v1 : IVec S41 1 := cmpi .sge main_arg0 main_v0
  let main_c_0 : IVec S_ 32 := constantI S_ 32 8#32
  let main_v2 : IVec S41 32 := broadcastInDim S41 ![] bcast_S_S41 main_c_0
  let main_v3 : IVec S41 1 := cmpi .slt main_arg0 main_v2
  let main_c_1 : IVec S_ 32 := constantI S_ 32 1#32
  let main_v4 : IVec S1 32 := broadcastInDim S1 ![] bcast_S_S1 main_c_1
  let main_v5 : IVec S1 1 := cmpi .sge main_arg1 main_v4
  let main_c_2 : IVec S_ 32 := constantI S_ 32 42#32
  let main_v6 : IVec S1 32 := broadcastInDim S1 ![] bcast_S_S1 main_c_2
  let main_v7 : IVec S1 1 := cmpi .slt main_arg1 main_v6
  (main_v1, main_v3, main_v5, main_v7)
-- ==== Pre_dt_finite.lean ====
abbrev S8x2048x6144 : Shape := ⟨3, ![8, 2048, 6144]⟩
abbrev S8x2048x4096 : Shape := ⟨3, ![8, 2048, 4096]⟩
abbrev S8x2048x128 : Shape := ⟨3, ![8, 2048, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S8x2048x64 : Shape := ⟨3, ![8, 2048, 64]⟩
abbrev S_ : Shape := ⟨0, ![]⟩

class Facts : Prop where
  slices_S8x2048x128_S8x2048x64_0_0_0 : S8x2048x128.Slices ![0, 0, 0] S8x2048x64
  bcast_S_S8x2048x64 : S_.BroadcastsInDim S8x2048x64 (![] : Fin 0 → Fin S8x2048x64.rank)
  bcast_S_S64 : S_.BroadcastsInDim S64 (![] : Fin 0 → Fin S64.rank)

variable [Facts]

def fn {F : FTy → Type} [FloatOps F] (main_arg0 : FVec F S8x2048x6144 .f32) (main_arg1 : FVec F S8x2048x4096 .f32) (main_arg2 : FVec F S8x2048x128 .f32) (main_arg3 : FVec F S4x6144 .f32) (main_arg4 : FVec F S6144 .f32) (main_arg5 : FVec F S64 .f32) (main_arg6 : FVec F S64 .f32) (main_arg7 : FVec F S64 .f32) (main_arg8 : FVec F S4096 .f32) : IVec S8x2048x64 1 × IVec S64 1 × IVec S64 1 :=
  let main_v0 : FVec F S8x2048x64 .f32 := (extractStridedSlice S8x2048x64 ![0, 0, 0] · slices_S8x2048x128_S8x2048x64_0_0_0) main_arg2
  let main_v1 : FVec F S8x2048x64 .f32 := Host.absf main_v0
  let main_cst : FVec F S_ .f32 := constant S_ .f32 0x7F800000#32
  let main_v2 : FVec F S8x2048x64 .f32 := broadcastInDim S8x2048x64 ![] bcast_S_S8x2048x64 main_cst
  let main_v3 : IVec S8x2048x64 1 := cmpf .olt main_v1 main_v2
  let main_v4 : FVec F S64 .f32 := Host.absf main_arg5
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_v7 : FVec F S64 .f32 := Host.absf main_arg6
  let main_cst_1 : FVec F S_ .f32 := constant S_ .f32 0x7F800000#32
  let main_v8 : FVec F S64 .f32 := broadcastInDim S64 ![] bcast_S_S64 main_cst_1
  let main_v9 : IVec S64 1 := cmpf .olt main_v7 main_v8
  (main_v3, main_v6, main_v9)
-- ==== Pre_tables.lean ====
abbrev S41 : Shape := ⟨1, ![41]⟩
abbrev S1 : Shape := ⟨1, ![1]⟩
abbrev S41984x2048 : Shape := ⟨2, ![41984, 2048]⟩
abbrev S8x2048x7168 : Shape := ⟨3, ![8, 2048, 7168]⟩
abbrev S_ : Shape := ⟨0, ![]⟩

class Facts : Prop where
  bcast_S_S41 : S_.BroadcastsInDim S41 (![] : Fin 0 → Fin S41.rank)
  bcast_S_S1 : S_.BroadcastsInDim S1 (![] : Fin 0 → Fin S1.rank)

variable [Facts]

def fn {F : FTy → Type} [FloatOps F] (main_arg0 : IVec S41 32) (main_arg1 : IVec S1 32) (main_arg2 : FVec F S41984x2048 .bf16) (main_arg3 : FVec F S8x2048x7168 .f32) (main_arg4 : FVec F S8x2048x7168 .f32) : IVec S41 1 × IVec S41 1 × IVec S1 1 × IVec S1 1 :=
  let main_c : IVec S_ 32 := constantI S_ 32 0#32
  let main_v0 : IVec S41 32 := broadcastInDim S41 ![] bcast_S_S41 main_c
  let main_v1 : IVec S41 1 := cmpi .sge main_arg0 main_v0
  let main_c_0 : IVec S_ 32 := constantI S_ 32 8#32
  let main_v2 : IVec S41 32 := broadcastInDim S41 ![] bcast_S_S41 main_c_0
  let main_v3 : IVec S41 1 := cmpi .slt main_arg0 main_v2
  let main_c_1 : IVec S_ 32 := constantI S_ 32 1#32
  let main_v4 : IVec S1 32 := broadcastInDim S1 ![] bcast_S_S1 main_c_1
  let main_v5 : IVec S1 1 := cmpi .sge main_arg1 main_v4
  let main_c_2 : IVec S_ 32 := constantI S_ 32 42#32
  let main_v6 : IVec S1 32 := broadcastInDim S1 ![] bcast_S_S1 main_c_2
  let main_v7 : IVec S1 1 := cmpi .slt main_arg1 main_v6
  (main_v1, main_v3, main_v5, main_v7)
-- ==== Kernel.lean ====
abbrev S8x2048x6144 : Shape := ⟨3, ![8, 2048, 6144]⟩
abbrev S8x2048x4096 : Shape := ⟨3, ![8, 2048, 4096]⟩
abbrev S8x2048x128 : Shape := ⟨3, ![8, 2048, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S128x4096 : Shape := ⟨2, ![128, 4096]⟩
abbrev S_ : Shape := ⟨0, ![]⟩
abbrev S128x128 : Shape := ⟨2, ![128, 128]⟩
abbrev S64x64 : Shape := ⟨2, ![64, 64]⟩
abbrev S1x4096 : Shape := ⟨2, ![1, 4096]⟩
abbrev S1x6144 : Shape := ⟨2, ![1, 6144]⟩
abbrev S128 : Shape := ⟨1, ![128]⟩
abbrev S1x128 : Shape := ⟨2, ![1, 128]⟩
abbrev S8x4096x128 : Shape := ⟨3, ![8, 4096, 128]⟩
abbrev S1x128x6144 : Shape := ⟨3, ![1, 128, 6144]⟩
abbrev S1x128x4096 : Shape := ⟨3, ![1, 128, 4096]⟩
abbrev S1x128x128 : Shape := ⟨3, ![1, 128, 128]⟩
abbrev S1x4096x128 : Shape := ⟨3, ![1, 4096, 128]⟩
abbrev S128x6144 : Shape := ⟨2, ![128, 6144]⟩
abbrev S8x128x512 : Shape := ⟨3, ![8, 128, 512]⟩
abbrev S1x128x512 : Shape := ⟨3, ![1, 128, 512]⟩
abbrev S128x512 : Shape := ⟨2, ![128, 512]⟩
abbrev S128x1 : Shape := ⟨2, ![128, 1]⟩
abbrev S1x512 : Shape := ⟨2, ![1, 512]⟩
abbrev S512x128 : Shape := ⟨2, ![512, 128]⟩
abbrev S1x512x128 : Shape := ⟨3, ![1, 512, 128]⟩

abbrev nBuf : Space → Nat
  | .hbm => 62
  | .vmem => 20
  | .smem => 0
  | _ => 0

abbrev bufTy : (tb : Table) → Fin (tcTables nBuf tb) → BufTy
  | .hbm, ⟨0, _⟩ => ⟨S8x2048x6144, .f32⟩
  | .hbm, ⟨1, _⟩ => ⟨S8x2048x4096, .f32⟩
  | .hbm, ⟨2, _⟩ => ⟨S8x2048x128, .f32⟩
  | .hbm, ⟨3, _⟩ => ⟨S4x6144, .f32⟩
  | .hbm, ⟨4, _⟩ => ⟨S6144, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S4096, .f32⟩
  | .hbm, ⟨9, _⟩ => ⟨S128x4096, .i32⟩
  | .hbm, ⟨10, _⟩ => ⟨S128x4096, .i32⟩
  | .hbm, ⟨11, _⟩ => ⟨S_, .i32⟩
  | .hbm, ⟨12, _⟩ => ⟨S_, .i32⟩
  | .hbm, ⟨13, _⟩ => ⟨S128x4096, .i32⟩
  | .hbm, ⟨14, _⟩ => ⟨S128x4096, .i32⟩
  | .hbm, ⟨15, _⟩ => ⟨S128x4096, .i32⟩
  | .hbm, ⟨16, _⟩ => ⟨S_, .i32⟩
  | .hbm, ⟨17, _⟩ => ⟨S128x4096, .i32⟩
  | .hbm, ⟨18, _⟩ => ⟨S128x4096, .i1⟩
  | .hbm, ⟨19, _⟩ => ⟨S128x4096, .i32⟩
  | .hbm, ⟨20, _⟩ => ⟨S128x4096, .i32⟩
  | .hbm, ⟨21, _⟩ => ⟨S_, .i32⟩
  | .hbm, ⟨22, _⟩ => ⟨S128x4096, .i32⟩
  | .hbm, ⟨23, _⟩ => ⟨S128x4096, .i1⟩
  | .hbm, ⟨24, _⟩ => ⟨S128x4096, .i1⟩
  | .hbm, ⟨25, _⟩ => ⟨S_, .i32⟩
  | .hbm, ⟨26, _⟩ => ⟨S128x4096, .i32⟩
  | .hbm, ⟨27, _⟩ => ⟨S128x4096, .i32⟩
  | .hbm, ⟨28, _⟩ => ⟨S128x4096, .i32⟩
  | .hbm, ⟨29, _⟩ => ⟨S128x4096, .i1⟩
  | .hbm, ⟨30, _⟩ => ⟨S_, .f32⟩
  | .hbm, ⟨31, _⟩ => ⟨S_, .f32⟩
  | .hbm, ⟨32, _⟩ => ⟨S128x4096, .f32⟩
  | .hbm, ⟨33, _⟩ => ⟨S128x4096, .f32⟩
  | .hbm, ⟨34, _⟩ => ⟨S128x4096, .f32⟩
  | .hbm, ⟨35, _⟩ => ⟨S128x4096, .bf16⟩
  | .hbm, ⟨36, _⟩ => ⟨S128x128, .i32⟩
  | .hbm, ⟨37, _⟩ => ⟨S128x128, .i32⟩
  | .hbm, ⟨38, _⟩ => ⟨S128x128, .i1⟩
  | .hbm, ⟨39, _⟩ => ⟨S_, .f32⟩
  | .hbm, ⟨40, _⟩ => ⟨S_, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S128x128, .bf16⟩
  | .hbm, ⟨45, _⟩ => ⟨S64x64, .f32⟩
  | .hbm, ⟨46, _⟩ => ⟨S4096, .f32⟩
  | .hbm, ⟨47, _⟩ => ⟨S1x4096, .f32⟩
  | .hbm, ⟨48, _⟩ => ⟨S1x6144, .f32⟩
  | .hbm, ⟨49, _⟩ => ⟨S_, .i32⟩
  | .hbm, ⟨50, _⟩ => ⟨S_, .f32⟩
  | .hbm, ⟨51, _⟩ => ⟨S128, .f32⟩
  | .hbm, ⟨52, _⟩ => ⟨S1x128, .f32⟩
  | .hbm, ⟨53, _⟩ => ⟨S64, .f32⟩
  | .hbm, ⟨54, _⟩ => ⟨S64, .f32⟩
  | .hbm, ⟨55, _⟩ => ⟨S_, .i32⟩
  | .hbm, ⟨56, _⟩ => ⟨S_, .f32⟩
  | .hbm, ⟨57, _⟩ => ⟨S128, .f32⟩
  | .hbm, ⟨58, _⟩ => ⟨S1x128, .f32⟩
  | .hbm, ⟨59, _⟩ => ⟨S1x4096, .f32⟩
  | .hbm, ⟨60, _⟩ => ⟨S8x2048x4096, .bf16⟩
  | .hbm, ⟨61, _⟩ => ⟨S8x4096x128, .f32⟩
  | .local _ .vmem, ⟨0, _⟩ => ⟨S1x128x6144, .f32⟩
  | .local _ .vmem, ⟨1, _⟩ => ⟨S1x128x6144, .f32⟩
  | .local _ .vmem, ⟨2, _⟩ => ⟨S1x128x4096, .f32⟩
  | .local _ .vmem, ⟨3, _⟩ => ⟨S1x128x4096, .f32⟩
  | .local _ .vmem, ⟨4, _⟩ => ⟨S1x128x128, .f32⟩
  | .local _ .vmem, ⟨5, _⟩ => ⟨S1x128x128, .f32⟩
  | .local _ .vmem, ⟨6, _⟩ => ⟨S4x6144, .f32⟩
  | .local _ .vmem, ⟨7, _⟩ => ⟨S1x6144, .f32⟩
  | .local _ .vmem, ⟨8, _⟩ => ⟨S1x128, .f32⟩
  | .local _ .vmem, ⟨9, _⟩ => ⟨S1x128, .f32⟩
  | .local _ .vmem, ⟨10, _⟩ => ⟨S1x4096, .f32⟩
  | .local _ .vmem, ⟨11, _⟩ => ⟨S1x4096, .f32⟩
  | .local _ .vmem, ⟨12, _⟩ => ⟨S128x4096, .bf16⟩
  | .local _ .vmem, ⟨13, _⟩ => ⟨S128x128, .bf16⟩
  | .local _ .vmem, ⟨14, _⟩ => ⟨S1x128x4096, .bf16⟩
  | .local _ .vmem, ⟨15, _⟩ => ⟨S1x128x4096, .bf16⟩
  | .local _ .vmem, ⟨16, _⟩ => ⟨S1x4096x128, .f32⟩
  | .local _ .vmem, ⟨17, _⟩ => ⟨S1x4096x128, .f32⟩
  | .local _ .vmem, ⟨18, _⟩ => ⟨S128x6144, .f32⟩
  | .local _ .vmem, ⟨19, _⟩ => ⟨S8x128x512, .f32⟩
  | _, _ => ⟨S8x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_1 : Ref sig .tc := ⟨.hbm, 39, rfl⟩
abbrev main_cst_2 : Ref sig .tc := ⟨.hbm, 40, rfl⟩
abbrev main_call2_v0 : Ref sig .tc := ⟨.hbm, 41, rfl⟩
abbrev main_call2_v1 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_c_3 : Ref sig .tc := ⟨.hbm, 49, rfl⟩
abbrev main_call3_v0 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_c_4 : Ref sig .tc := ⟨.hbm, 55, rfl⟩
abbrev main_call4_v0 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22_0 : Ref sig .tc := ⟨.hbm, 60, rfl⟩
abbrev main_v22_1 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v1317 : BitVec 1 := Scalar.cmpi .eq arg1 c15_i32
  let v1318 : BitVec 32 := Scalar.extui v1317
  let c0_i32_336 : BitVec 32 := 0#32
  let v1319 : BitVec 1 := Scalar.cmpi .ne v1318 c0_i32_336
  v1319

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8x2048x6144 : Shape := ⟨3, ![8, 2048, 6144]⟩
abbrev S8x2048x4096 : Shape := ⟨3, ![8, 2048, 4096]⟩
abbrev S8x2048x128 : Shape := ⟨3, ![8, 2048, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S_ : Shape := ⟨0, ![]⟩
abbrev S8x3x6144 : Shape := ⟨3, ![8, 3, 6144]⟩
abbrev S8x2051x6144 : Shape := ⟨3, ![8, 2051, 6144]⟩
abbrev S1x6144 : Shape := ⟨2, ![1, 6144]⟩
abbrev S1x1x6144 : Shape := ⟨3, ![1, 1, 6144]⟩
abbrev S8x2048x1024 : Shape := ⟨3, ![8, 2048, 1024]⟩
abbrev S8x2048x8x8x64 : Shape := ⟨5, ![8, 2048, 8, 8, 64]⟩
abbrev S8x2048x8x128 : Shape := ⟨4, ![8, 2048, 8, 128]⟩
abbrev S8x2048x64 : Shape := ⟨3, ![8, 2048, 64]⟩
abbrev S1x1x64 : Shape := ⟨3, ![1, 1, 64]⟩
abbrev S8x2048x8x8 : Shape := ⟨4, ![8, 2048, 8, 8]⟩
abbrev S8x8 : Shape := ⟨2, ![8, 8]⟩
abbrev S8x8x8x64x128 : Shape := ⟨5, ![8, 8, 8, 64, 128]⟩
abbrev S128x128 : Shape := ⟨2, ![128, 128]⟩
abbrev S1x128x128x1x1 : Shape := ⟨5, ![1, 128, 128, 1, 1]⟩
abbrev S8x16x128x8x8x64 : Shape := ⟨6, ![8, 16, 128, 8, 8, 64]⟩
abbrev S16x8x128x8x8x64 : Shape := ⟨6, ![16, 8, 128, 8, 8, 64]⟩
abbrev S8x16x128x8x8 : Shape := ⟨5, ![8, 16, 128, 8, 8]⟩
abbrev S16x8x128x8x8 : Shape := ⟨5, ![16, 8, 128, 8, 8]⟩
abbrev S8x16x128x8x128 : Shape := ⟨5, ![8, 16, 128, 8, 128]⟩
abbrev S16x8x128x8x128 : Shape := ⟨5, ![16, 8, 128, 8, 128]⟩
abbrev S1x8x128x8x8x64 : Shape := ⟨6, ![1, 8, 128, 8, 8, 64]⟩
abbrev S8x128x8x8x64 : Shape := ⟨5, ![8, 128, 8, 8, 64]⟩
abbrev S1x8x128x8x8 : Shape := ⟨5, ![1, 8, 128, 8, 8]⟩
abbrev S8x128x8x8 : Shape := ⟨4, ![8, 128, 8, 8]⟩
abbrev S1x8x128x8x128 : Shape := ⟨5, ![1, 8, 128, 8, 128]⟩
abbrev S8x128x8x128 : Shape := ⟨4, ![8, 128, 8, 128]⟩
abbrev S1x1x8x8 : Shape := ⟨4, ![1, 1, 8, 8]⟩
abbrev S8x128x1x8x8 : Shape := ⟨5, ![8, 128, 1, 8, 8]⟩
abbrev S8x1x128x8x8 : Shape := ⟨5, ![8, 1, 128, 8, 8]⟩
abbrev S8x128x128x8x8 : Shape := ⟨5, ![8, 128, 128, 8, 8]⟩
abbrev S8x8x128x128 : Shape := ⟨4, ![8, 8, 128, 128]⟩
abbrev S8x128x128x8 : Shape := ⟨4, ![8, 128, 128, 8]⟩
abbrev S8x128x128x8x1 : Shape := ⟨5, ![8, 128, 128, 8, 1]⟩
abbrev S8x128x8x8x1 : Shape := ⟨5, ![8, 128, 8, 8, 1]⟩
abbrev S8x1x8x8 : Shape := ⟨4, ![8, 1, 8, 8]⟩
abbrev S8x8x8 : Shape := ⟨3, ![8, 8, 8]⟩
abbrev S8x8x8x1x1 : Shape := ⟨5, ![8, 8, 8, 1, 1]⟩
abbrev S8x8x1 : Shape := ⟨3, ![8, 8, 1]⟩
abbrev S1x1x8x8x1 : Shape := ⟨5, ![1, 1, 8, 8, 1]⟩
abbrev S8x2048x8x512 : Shape := ⟨4, ![8, 2048, 8, 512]⟩
abbrev S8x2048x8 : Shape := ⟨3, ![8, 2048, 8]⟩
abbrev S8x2048x8x1 : Shape := ⟨4, ![8, 2048, 8, 1]⟩
abbrev S1x1x4096 : Shape := ⟨3, ![1, 1, 4096]⟩
abbrev S8x4096x128 : Shape := ⟨3, ![8, 4096, 128]⟩

abbrev nBuf : Space → Nat
  | .hbm => 239
  | .vmem => 0
  | .smem => 0
  | _ => 0

abbrev hbmTy0_0 (i : Nat) : BufTy := match i % 128 with
  | 0 => ⟨S8x2048x6144, .f32⟩
  | 1 => ⟨S8x2048x4096, .f32⟩
  | 2 => ⟨S8x2048x128, .f32⟩
  | 3 => ⟨S4x6144, .f32⟩
  | 4 => ⟨S6144, .f32⟩
  | 5 => ⟨S64, .f32⟩
  | 6 => ⟨S64, .f32⟩
  | 7 => ⟨S64, .f32⟩
  | 8 => ⟨S4096, .f32⟩
  | 9 => ⟨S_, .f32⟩
  | 10 => ⟨S8x3x6144, .f32⟩
  | 11 => ⟨S8x2051x6144, .f32⟩
  | 12 => ⟨S8x2048x6144, .f32⟩
  | 13 => ⟨S1x6144, .f32⟩
  | 14 => ⟨S6144, .f32⟩
  | 15 => ⟨S1x1x6144, .f32⟩
  | 16 => ⟨S8x2048x6144, .f32⟩
  | 17 => ⟨S8x2048x6144, .f32⟩
  | 18 => ⟨S1x1x6144, .f32⟩
  | 19 => ⟨S8x2048x6144, .f32⟩
  | 20 => ⟨S8x2048x6144, .f32⟩
  | 21 => ⟨S8x2048x6144, .f32⟩
  | 22 => ⟨S1x6144, .f32⟩
  | 23 => ⟨S6144, .f32⟩
  | 24 => ⟨S1x1x6144, .f32⟩
  | 25 => ⟨S8x2048x6144, .f32⟩
  | 26 => ⟨S8x2048x6144, .f32⟩
  | 27 => ⟨S8x2048x6144, .f32⟩
  | 28 => ⟨S8x2048x6144, .f32⟩
  | 29 => ⟨S1x6144, .f32⟩
  | 30 => ⟨S6144, .f32⟩
  | 31 => ⟨S1x1x6144, .f32⟩
  | 32 => ⟨S8x2048x6144, .f32⟩
  | 33 => ⟨S8x2048x6144, .f32⟩
  | 34 => ⟨S8x2048x6144, .f32⟩
  | 35 => ⟨S8x2048x6144, .f32⟩
  | 36 => ⟨S1x6144, .f32⟩
  | 37 => ⟨S6144, .f32⟩
  | 38 => ⟨S1x1x6144, .f32⟩
  | 39 => ⟨S8x2048x6144, .f32⟩
  | 40 => ⟨S8x2048x6144, .f32⟩
  | 41 => ⟨S8x2048x6144, .f32⟩
  | 42 => ⟨S8x2048x6144, .f32⟩
  | 43 => ⟨S8x2048x6144, .f32⟩
  | 44 => ⟨S_, .f32⟩
  | 45 => ⟨S8x2048x6144, .f32⟩
  | 46 => ⟨S8x2048x6144, .f32⟩
  | 47 => ⟨S_, .f32⟩
  | 48 => ⟨S8x2048x6144, .f32⟩
  | 49 => ⟨S8x2048x6144, .f32⟩
  | 50 => ⟨S8x2048x6144, .f32⟩
  | 51 => ⟨S8x2048x4096, .f32⟩
  | 52 => ⟨S8x2048x1024, .f32⟩
  | 53 => ⟨S8x2048x1024, .f32⟩
  | 54 => ⟨S8x2048x8x8x64, .f32⟩
  | 55 => ⟨S8x2048x8x128, .f32⟩
  | 56 => ⟨S8x2048x8x128, .f32⟩
  | 57 => ⟨S8x2048x64, .f32⟩
  | 58 => ⟨S1x1x64, .f32⟩
  | 59 => ⟨S8x2048x64, .f32⟩
  | 60 => ⟨S8x2048x64, .f32⟩
  | 61 => ⟨S_, .f32⟩
  | 62 => ⟨S8x2048x64, .f32⟩
  | 63 => ⟨S8x2048x64, .f32⟩
  | 64 => ⟨S8x2048x64, .f32⟩
  | 65 => ⟨S8x2048x64, .f32⟩
  | 66 => ⟨S8x2048x64, .i1⟩
  | 67 => ⟨S8x2048x64, .f32⟩
  | 68 => ⟨S8x2048x64, .f32⟩
  | 69 => ⟨S8x2048x64, .f32⟩
  | 70 => ⟨S8x2048x64, .f32⟩
  | 71 => ⟨S8x2048x64, .f32⟩
  | 72 => ⟨S8x2048x64, .f32⟩
  | 73 => ⟨S8x2048x64, .f32⟩
  | 74 => ⟨S8x2048x64, .f32⟩
  | 75 => ⟨S8x2048x8x8, .f32⟩
  | 76 => ⟨S64, .f32⟩
  | 77 => ⟨S8x8, .f32⟩
  | 78 => ⟨S8x8, .f32⟩
  | 79 => ⟨S_, .f32⟩
  | 80 => ⟨S8x8x8x64x128, .f32⟩
  | 81 => ⟨S8x8, .f32⟩
  | 82 => ⟨S_, .i1⟩
  | 83 => ⟨S128x128, .i1⟩
  | 84 => ⟨S128x128, .i32⟩
  | 85 => ⟨S_, .i32⟩
  | 86 => ⟨S128x128, .i32⟩
  | 87 => ⟨S128x128, .i32⟩
  | 88 => ⟨S128x128, .i32⟩
  | 89 => ⟨S128x128, .i1⟩
  | 90 => ⟨S_, .i1⟩
  | 91 => ⟨S128x128, .i1⟩
  | 92 => ⟨S128x128, .i1⟩
  | 93 => ⟨S1x128x128x1x1, .i1⟩
  | 94 => ⟨S8x16x128x8x8x64, .f32⟩
  | 95 => ⟨S16x8x128x8x8x64, .f32⟩
  | 96 => ⟨S8x16x128x8x8, .f32⟩
  | 97 => ⟨S16x8x128x8x8, .f32⟩
  | 98 => ⟨S8x16x128x8x128, .f32⟩
  | 99 => ⟨S16x8x128x8x128, .f32⟩
  | 100 => ⟨S8x16x128x8x128, .f32⟩
  | 101 => ⟨S16x8x128x8x128, .f32⟩
  | 102 => ⟨S_, .f32⟩
  | 103 => ⟨S16x8x128x8x8x64, .f32⟩
  | 104 => ⟨S_, .i32⟩
  | 105 => ⟨S16x8x128x8x8x64, .f32⟩
  | 106 => ⟨S16x8x128x8x8, .f32⟩
  | 107 => ⟨S16x8x128x8x128, .f32⟩
  | 108 => ⟨S16x8x128x8x128, .f32⟩
  | 109 => ⟨S8x8, .f32⟩
  | 110 => ⟨S1x128x128x1x1, .i1⟩
  | 111 => ⟨S8x8, .f32⟩
  | 112 => ⟨S_, .i32⟩
  | 113 => ⟨S8x8x8x64x128, .f32⟩
  | 114 => ⟨S16x8x128x8x8x64, .f32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S1x8x128x8x8x64, .f32⟩
  | 123 => ⟨S8x128x8x8x64, .f32⟩
  | 124 => ⟨S_, .i32⟩
  | 125 => ⟨S_, .i32⟩
  | 126 => ⟨S_, .i32⟩
  | 127 => ⟨S_, .i32⟩
  | _ => ⟨S8x2048x6144, .f32⟩

abbrev hbmTy0_1 (i : Nat) : BufTy := match i % 128 with
  | 0 => ⟨S1x8x128x8x8, .f32⟩
  | 1 => ⟨S8x128x8x8, .f32⟩
  | 2 => ⟨S_, .i32⟩
  | 3 => ⟨S_, .i32⟩
  | 4 => ⟨S_, .i32⟩
  | 5 => ⟨S_, .i32⟩
  | 6 => ⟨S1x8x128x8x128, .f32⟩
  | 7 => ⟨S8x128x8x128, .f32⟩
  | 8 => ⟨S_, .i32⟩
  | 9 => ⟨S_, .i32⟩
  | 10 => ⟨S_, .i32⟩
  | 11 => ⟨S_, .i32⟩
  | 12 => ⟨S1x8x128x8x128, .f32⟩
  | 13 => ⟨S8x128x8x128, .f32⟩
  | 14 => ⟨S1x1x8x8, .f32⟩
  | 15 => ⟨S8x128x8x8, .f32⟩
  | 16 => ⟨S8x128x8x8, .f32⟩
  | 17 => ⟨S_, .f32⟩
  | 18 => ⟨S_, .f32⟩
  | 19 => ⟨S8x128x8x8, .f32⟩
  | 20 => ⟨S8x128x1x8x8, .f32⟩
  | 21 => ⟨S8x1x128x8x8, .f32⟩
  | 22 => ⟨S8x128x128x8x8, .f32⟩
  | 23 => ⟨S8x128x128x8x8, .f32⟩
  | 24 => ⟨S8x128x128x8x8, .f32⟩
  | 25 => ⟨S_, .f32⟩
  | 26 => ⟨S_, .f32⟩
  | 27 => ⟨S8x128x128x8x8, .i1⟩
  | 28 => ⟨S8x128x128x8x8, .f32⟩
  | 29 => ⟨S8x128x128x8x8, .f32⟩
  | 30 => ⟨S8x128x128x8x8, .f32⟩
  | 31 => ⟨S8x8x128x128, .f32⟩
  | 32 => ⟨S8x128x128x8, .f32⟩
  | 33 => ⟨S8x128x128x8x1, .f32⟩
  | 34 => ⟨S8x128x128x8x8, .f32⟩
  | 35 => ⟨S8x128x128x8x8, .f32⟩
  | 36 => ⟨S8x128x8x8x1, .f32⟩
  | 37 => ⟨S8x128x8x8x64, .f32⟩
  | 38 => ⟨S8x128x8x8x64, .f32⟩
  | 39 => ⟨S8x8x8x64x128, .f32⟩
  | 40 => ⟨S8x128x8x8x64, .f32⟩
  | 41 => ⟨S8x8x8x64x128, .f32⟩
  | 42 => ⟨S8x128x8x8x64, .f32⟩
  | 43 => ⟨S8x128x8x8, .f32⟩
  | 44 => ⟨S8x128x8x8x1, .f32⟩
  | 45 => ⟨S8x128x8x8x64, .f32⟩
  | 46 => ⟨S8x128x8x8x64, .f32⟩
  | 47 => ⟨S8x1x8x8, .f32⟩
  | 48 => ⟨S8x128x8x8, .f32⟩
  | 49 => ⟨S8x128x8x8, .f32⟩
  | 50 => ⟨S8x128x8x8, .f32⟩
  | 51 => ⟨S8x128x8x8, .f32⟩
  | 52 => ⟨S8x1x8x8, .f32⟩
  | 53 => ⟨S8x8x8, .f32⟩
  | 54 => ⟨S8x8x8, .f32⟩
  | 55 => ⟨S8x8x8x1x1, .f32⟩
  | 56 => ⟨S8x8x8x64x128, .f32⟩
  | 57 => ⟨S8x8x8x64x128, .f32⟩
  | 58 => ⟨S8x128x8x8x1, .f32⟩
  | 59 => ⟨S8x128x8x8x64, .f32⟩
  | 60 => ⟨S8x128x8x8x64, .f32⟩
  | 61 => ⟨S8x8x8x64x128, .f32⟩
  | 62 => ⟨S8x8x8x64x128, .f32⟩
  | 63 => ⟨S8x128x8x8x64, .f32⟩
  | 64 => ⟨S8x8x1, .f32⟩
  | 65 => ⟨S1x1x8x8x1, .f32⟩
  | 66 => ⟨S8x128x8x8x64, .f32⟩
  | 67 => ⟨S8x128x8x8x64, .f32⟩
  | 68 => ⟨S8x128x8x8x64, .f32⟩
  | 69 => ⟨S1x8x128x8x8x64, .f32⟩
  | 70 => ⟨S_, .i32⟩
  | 71 => ⟨S_, .i32⟩
  | 72 => ⟨S_, .i32⟩
  | 73 => ⟨S_, .i32⟩
  | 74 => ⟨S_, .i32⟩
  | 75 => ⟨S16x8x128x8x8x64, .f32⟩
  | 76 => ⟨S_, .i32⟩
  | 77 => ⟨S_, .i32⟩
  | 78 => ⟨S8x16x128x8x8x64, .f32⟩
  | 79 => ⟨S8x2048x8x8x64, .f32⟩
  | 80 => ⟨S8x2048x4096, .f32⟩
  | 81 => ⟨S8x2048x4096, .f32⟩
  | 82 => ⟨S8x2048x4096, .f32⟩
  | 83 => ⟨S_, .f32⟩
  | 84 => ⟨S8x2048x4096, .f32⟩
  | 85 => ⟨S8x2048x4096, .f32⟩
  | 86 => ⟨S_, .f32⟩
  | 87 => ⟨S8x2048x4096, .f32⟩
  | 88 => ⟨S8x2048x4096, .f32⟩
  | 89 => ⟨S8x2048x4096, .f32⟩
  | 90 => ⟨S8x2048x4096, .f32⟩
  | 91 => ⟨S8x2048x8x512, .f32⟩
  | 92 => ⟨S8x2048x8x512, .f32⟩
  | 93 => ⟨S_, .f32⟩
  | 94 => ⟨S8x2048x8, .f32⟩
  | 95 => ⟨S8x2048x8x1, .f32⟩
  | 96 => ⟨S_, .f32⟩
  | 97 => ⟨S8x2048x8x1, .f32⟩
  | 98 => ⟨S8x2048x8x1, .f32⟩
  | 99 => ⟨S_, .f32⟩
  | 100 => ⟨S8x2048x8x1, .f32⟩
  | 101 => ⟨S8x2048x8x1, .f32⟩
  | 102 => ⟨S8x2048x8x1, .f32⟩
  | 103 => ⟨S8x2048x8x512, .f32⟩
  | 104 => ⟨S8x2048x8x512, .f32⟩
  | 105 => ⟨S8x2048x4096, .f32⟩
  | 106 => ⟨S1x1x4096, .f32⟩
  | 107 => ⟨S8x2048x4096, .f32⟩
  | 108 => ⟨S8x2048x4096, .f32⟩
  | 109 => ⟨S8x2048x4096, .bf16⟩
  | 110 => ⟨S8x4096x128, .f32⟩
  | _ => ⟨S8x2048x6144, .f32⟩

abbrev hbmTy (i : Nat) : BufTy := match i / 128 with
  | 0 => hbmTy0_0 i
  | 1 => hbmTy0_1 i
  | _ => ⟨S8x2048x6144, .f32⟩

abbrev bufTy : (tb : Table) → Fin (tcTables nBuf tb) → BufTy
  | .hbm, ⟨i, _⟩ => hbmTy i
  | _, _ => ⟨S8x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_0 : Ref sig .tc := ⟨.hbm, 79, rfl⟩
abbrev main_v48 : Ref sig .tc := ⟨.hbm, 80, rfl⟩
abbrev main_v49 : Ref sig .tc := ⟨.hbm, 81, rfl⟩
abbrev main_c : Ref sig .tc := ⟨.hbm, 82, rfl⟩
abbrev main_v50 : Ref sig .tc := ⟨.hbm, 83, rfl⟩
abbrev main_call2_v0 : Ref sig .tc := ⟨.hbm, 84, rfl⟩
abbrev main_call2_c : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_c_0 : Ref sig .tc := ⟨.hbm, 90, rfl⟩
abbrev main_call2_v5 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_1 : Ref sig .tc := ⟨.hbm, 102, rfl⟩
abbrev main_v61 : Ref sig .tc := ⟨.hbm, 103, rfl⟩
abbrev main_c_2 : Ref sig .tc := ⟨.hbm, 104, rfl⟩
abbrev main_v62_0 : Ref sig .tc := ⟨.hbm, 105, rfl⟩
abbrev main_v62_1 : Ref sig .tc := ⟨.hbm, 106, rfl⟩
abbrev main_v62_2 : Ref sig .tc := ⟨.hbm, 107, rfl⟩
abbrev main_v62_3 : Ref sig .tc := ⟨.hbm, 108, rfl⟩
abbrev main_v62_4 : Ref sig .tc := ⟨.hbm, 109, rfl⟩
abbrev main_v62_5 : Ref sig .tc := ⟨.hbm, 110, rfl⟩
abbrev main_v62_6 : Ref sig .tc := ⟨.hbm, 111, rfl⟩
abbrev main_v62_7 : Ref sig .tc := ⟨.hbm, 112, rfl⟩
abbrev main_v62_8 : Ref sig .tc := ⟨.hbm, 113, rfl⟩
abbrev main_v62_9 : Ref sig .tc := ⟨.hbm, 114, rfl⟩
abbrev main_while0c_c_15 : Ref sig .tc := ⟨.hbm, 115, rfl⟩
abbrev main_while0c_v85 : Ref sig .tc := ⟨.hbm, 116, rfl⟩
abbrev main_while0b_call3_c : Ref sig .tc := ⟨.hbm, 117, rfl⟩
abbrev main_while0b_call3_c_0 : Ref sig .tc := ⟨.hbm, 118, rfl⟩
abbrev main_while0b_call3_c_1 : Ref sig .tc := ⟨.hbm, 119, rfl⟩
abbrev main_while0b_call3_c_2 : Ref sig .tc := ⟨.hbm, 120, rfl⟩
abbrev main_while0b_call3_c_3 : Ref sig .tc := ⟨.hbm, 121, rfl⟩
abbrev main_while0b_call3_v0 : Ref sig .tc := ⟨.hbm, 122, rfl⟩
abbrev main_while0b_v85 : Ref sig .tc := ⟨.hbm, 123, rfl⟩
abbrev main_while0b_call4_c : Ref sig .tc := ⟨.hbm, 124, rfl⟩
abbrev main_while0b_call4_c_0 : Ref sig .tc := ⟨.hbm, 125, rfl⟩
abbrev main_while0b_call4_c_1 : Ref sig .tc := ⟨.hbm, 126, rfl⟩
abbrev main_while0b_call4_c_2 : Ref sig .tc := ⟨.hbm, 127, rfl⟩
abbrev main_while0b_call4_v0 : Ref sig .tc := ⟨.hbm, 128, rfl⟩
abbrev main_while0b_v86 : Ref sig .tc := ⟨.hbm, 129, rfl⟩
abbrev main_while0b_call5_c : Ref sig .tc := ⟨.hbm, 130, rfl⟩
abbrev main_while0b_call5_c_0 : Ref sig .tc := ⟨.hbm, 131, rfl⟩
abbrev main_while0b_call5_c_1 : Ref sig .tc := ⟨.hbm, 132, rfl⟩
abbrev main_while0b_call5_c_2 : Ref sig .tc := ⟨.hbm, 133, rfl⟩
abbrev main_while0b_call5_v0 : Ref sig .tc := ⟨.hbm, 134, rfl⟩
abbrev main_while0b_v87 : Ref sig .tc := ⟨.hbm, 135, rfl⟩
abbrev main_while0b_call6_c : Ref sig .tc := ⟨.hbm, 136, rfl⟩
abbrev main_while0b_call6_c_0 : Ref sig .tc := ⟨.hbm, 137, rfl⟩
abbrev main_while0b_call6_c_1 : Ref sig .tc := ⟨.hbm, 138, rfl⟩
abbrev main_while0b_call6_c_2 : Ref sig .tc := ⟨.hbm, 139, rfl⟩
abbrev main_while0b_call6_v0 : Ref sig .tc := ⟨.hbm, 140, rfl⟩
abbrev main_while0b_v88 : Ref sig .tc := ⟨.hbm, 141, rfl⟩
abbrev main_while0b_v89 : Ref sig .tc := ⟨.hbm, 142, rfl⟩
abbrev main_while0b_v90 : Ref sig .tc := ⟨.hbm, 143, rfl⟩
abbrev main_while0b_v91 : Ref sig .tc := ⟨.hbm, 144, rfl⟩
abbrev main_while0b_call7_call0_cst : Ref sig .tc := ⟨.hbm, 145, rfl⟩
abbrev main_while0b_call7_call0_v0 : Ref sig .tc := ⟨.hbm, 146, rfl⟩
abbrev main_while0b_v92 : Ref sig .tc := ⟨.hbm, 147, rfl⟩
abbrev main_while0b_v93 : Ref sig .tc := ⟨.hbm, 148, rfl⟩
abbrev main_while0b_v94 : Ref sig .tc := ⟨.hbm, 149, rfl⟩
abbrev main_while0b_v95 : Ref sig .tc := ⟨.hbm, 150, rfl⟩
abbrev main_while0b_v96 : Ref sig .tc := ⟨.hbm, 151, rfl⟩
abbrev main_while0b_v97 : Ref sig .tc := ⟨.hbm, 152, rfl⟩
abbrev main_while0b_cst_15 : Ref sig .tc := ⟨.hbm, 153, rfl⟩
abbrev main_while0b_call8_v0 : Ref sig .tc := ⟨.hbm, 154, rfl⟩
abbrev main_while0b_call8_v1 : Ref sig .tc := ⟨.hbm, 155, rfl⟩
abbrev main_while0b_call8_v2 : Ref sig .tc := ⟨.hbm, 156, rfl⟩
abbrev main_while0b_v98 : Ref sig .tc := ⟨.hbm, 157, rfl⟩
abbrev main_while0b_v99 : Ref sig .tc := ⟨.hbm, 158, rfl⟩
abbrev main_while0b_v100 : Ref sig .tc := ⟨.hbm, 159, rfl⟩
abbrev main_while0b_v101 : Ref sig .tc := ⟨.hbm, 160, rfl⟩
abbrev main_while0b_v102 : Ref sig .tc := ⟨.hbm, 161, rfl⟩
abbrev main_while0b_v103 : Ref sig .tc := ⟨.hbm, 162, rfl⟩
abbrev main_while0b_v104 : Ref sig .tc := ⟨.hbm, 163, rfl⟩
abbrev main_while0b_v105 : Ref sig .tc := ⟨.hbm, 164, rfl⟩
abbrev main_while0b_v106 : Ref sig .tc := ⟨.hbm, 165, rfl⟩
abbrev main_while0b_v107 : Ref sig .tc := ⟨.hbm, 166, rfl⟩
abbrev main_while0b_v108 : Ref sig .tc := ⟨.hbm, 167, rfl⟩
abbrev main_while0b_v109 : Ref sig .tc := ⟨.hbm, 168, rfl⟩
abbrev main_while0b_v110 : Ref sig .tc := ⟨.hbm, 169, rfl⟩
abbrev main_while0b_v111 : Ref sig .tc := ⟨.hbm, 170, rfl⟩
abbrev main_while0b_v112 : Ref sig .tc := ⟨.hbm, 171, rfl⟩
abbrev main_while0b_v113 : Ref sig .tc := ⟨.hbm, 172, rfl⟩
abbrev main_while0b_v114 : Ref sig .tc := ⟨.hbm, 173, rfl⟩
abbrev main_while0b_v115 : Ref sig .tc := ⟨.hbm, 174, rfl⟩
abbrev main_while0b_v116 : Ref sig .tc := ⟨.hbm, 175, rfl⟩
abbrev main_while0b_v117 : Ref sig .tc := ⟨.hbm, 176, rfl⟩
abbrev main_while0b_v118 : Ref sig .tc := ⟨.hbm, 177, rfl⟩
abbrev main_while0b_v119 : Ref sig .tc := ⟨.hbm, 178, rfl⟩
abbrev main_while0b_v120 : Ref sig .tc := ⟨.hbm, 179, rfl⟩
abbrev main_while0b_v121 : Ref sig .tc := ⟨.hbm, 180, rfl⟩
abbrev main_while0b_v122 : Ref sig .tc := ⟨.hbm, 181, rfl⟩
abbrev main_while0b_v123 : Ref sig .tc := ⟨.hbm, 182, rfl⟩
abbrev main_while0b_v124 : Ref sig .tc := ⟨.hbm, 183, rfl⟩
abbrev main_while0b_v125 : Ref sig .tc := ⟨.hbm, 184, rfl⟩
abbrev main_while0b_v126 : Ref sig .tc := ⟨.hbm, 185, rfl⟩
abbrev main_while0b_v127 : Ref sig .tc := ⟨.hbm, 186, rfl⟩
abbrev main_while0b_v128 : Ref sig .tc := ⟨.hbm, 187, rfl⟩
abbrev main_while0b_v129 : Ref sig .tc := ⟨.hbm, 188, rfl⟩
abbrev main_while0b_v130 : Ref sig .tc := ⟨.hbm, 189, rfl⟩
abbrev main_while0b_v131 : Ref sig .tc := ⟨.hbm, 190, rfl⟩
abbrev main_while0b_v132 : Ref sig .tc := ⟨.hbm, 191, rfl⟩
abbrev main_while0b_v133 : Ref sig .tc := ⟨.hbm, 192, rfl⟩
abbrev main_while0b_v134 : Ref sig .tc := ⟨.hbm, 193, rfl⟩
abbrev main_while0b_v135 : Ref sig .tc := ⟨.hbm, 194, rfl⟩
abbrev main_while0b_v136 : Ref sig .tc := ⟨.hbm, 195, rfl⟩
abbrev main_while0b_v137 : Ref sig .tc := ⟨.hbm, 196, rfl⟩
abbrev main_while0b_call9_v0 : Ref sig .tc := ⟨.hbm, 197, rfl⟩
abbrev main_while0b_call9_c : Ref sig .tc := ⟨.hbm, 198, rfl⟩
abbrev main_while0b_call9_c_0 : Ref sig .tc := ⟨.hbm, 199, rfl⟩
abbrev main_while0b_call9_c_1 : Ref sig .tc := ⟨.hbm, 200, rfl⟩
abbrev main_while0b_call9_c_2 : Ref sig .tc := ⟨.hbm, 201, rfl⟩
abbrev main_while0b_call9_c_3 : Ref sig .tc := ⟨.hbm, 202, rfl⟩
abbrev main_while0b_v138 : Ref sig .tc := ⟨.hbm, 203, rfl⟩
abbrev main_while0b_c_16 : Ref sig .tc := ⟨.hbm, 204, rfl⟩
abbrev main_while0b_v139 : Ref sig .tc := ⟨.hbm, 205, rfl⟩
abbrev main_v63 : Ref sig .tc := ⟨.hbm, 206, rfl⟩
abbrev main_v64 : Ref sig .tc := ⟨.hbm, 207, rfl⟩
abbrev main_v65 : Ref sig .tc := ⟨.hbm, 208, rfl⟩
abbrev main_call10_v0 : Ref sig .tc := ⟨.hbm, 209, rfl⟩
abbrev main_call10_v1 : Ref sig .tc := ⟨.hbm, 210, rfl⟩
abbrev main_call10_cst : Ref sig .tc := ⟨.hbm, 211, rfl⟩
abbrev main_call10_v2 : Ref sig .tc := ⟨.hbm, 212, rfl⟩
abbrev main_call10_v3 : Ref sig .tc := ⟨.hbm, 213, rfl⟩
abbrev main_call10_cst_0 : Ref sig .tc := ⟨.hbm, 214, rfl⟩
abbrev main_call10_v4 : Ref sig .tc := ⟨.hbm, 215, rfl⟩
abbrev main_call10_v5 : Ref sig .tc := ⟨.hbm, 216, rfl⟩
abbrev main_v66 : Ref sig .tc := ⟨.hbm, 217, rfl⟩
abbrev main_v67 : Ref sig .tc := ⟨.hbm, 218, rfl⟩
abbrev main_v68 : Ref sig .tc := ⟨.hbm, 219, rfl⟩
abbrev main_v69 : Ref sig .tc := ⟨.hbm, 220, rfl⟩
abbrev main_cst_3 : Ref sig .tc := ⟨.hbm, 221, rfl⟩
abbrev main_v70 : Ref sig .tc := ⟨.hbm, 222, rfl⟩
abbrev main_v71 : Ref sig .tc := ⟨.hbm, 223, rfl⟩
abbrev main_cst_4 : Ref sig .tc := ⟨.hbm, 224, rfl⟩
abbrev main_v72 : Ref sig .tc := ⟨.hbm, 225, rfl⟩
abbrev main_v73 : Ref sig .tc := ⟨.hbm, 226, rfl⟩
abbrev main_cst_5 : Ref sig .tc := ⟨.hbm, 227, rfl⟩
abbrev main_v74 : Ref sig .tc := ⟨.hbm, 228, rfl⟩
abbrev main_v75 : Ref sig .tc := ⟨.hbm, 229, rfl⟩
abbrev main_v76 : Ref sig .tc := ⟨.hbm, 230, rfl⟩
abbrev main_v77 : Ref sig .tc := ⟨.hbm, 231, rfl⟩
abbrev main_v78 : Ref sig .tc := ⟨.hbm, 232, rfl⟩
abbrev main_v79 : Ref sig .tc := ⟨.hbm, 233, rfl⟩
abbrev main_v80 : Ref sig .tc := ⟨.hbm, 234, rfl⟩
abbrev main_v81 : Ref sig .tc := ⟨.hbm, 235, rfl⟩
abbrev main_v82 : Ref sig .tc := ⟨.hbm, 236, rfl⟩
abbrev main_v83 : Ref sig .tc := ⟨.hbm, 237, rfl⟩
abbrev main_v84 : Ref sig .tc := ⟨.hbm, 238, rfl⟩

abbrev nD : Nat := 1
abbrev τ : Topo := Topo.v7x

variable {F : FTy → Type} [FloatOps F]

abbrev main_while0_count : Scf.Loop 32 := ⟨0#32, 16#32, 1#32⟩
-- ==== Up.lean ====
abbrev S16384x2048 : Shape := ⟨2, ![16384, 2048]⟩
abbrev S2048x5632 : Shape := ⟨2, ![2048, 5632]⟩
abbrev S16384x5632 : Shape := ⟨2, ![16384, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x5632, .f32⟩
  | .hbm, ⟨2, _⟩ => ⟨S2048x5632, .f32⟩
  | .hbm, ⟨3, _⟩ => ⟨S16384x2048, .bf16⟩
  | .hbm, ⟨4, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1024x512, .bf16⟩
  | .local _ .vmem, ⟨7, _⟩ => ⟨S1024x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S16384x2048 : Shape := ⟨2, ![16384, 2048]⟩
abbrev S2048x5632 : Shape := ⟨2, ![2048, 5632]⟩
abbrev S16384x5632 : Shape := ⟨2, ![16384, 5632]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x5632, .f32⟩
  | .hbm, ⟨2, _⟩ => ⟨S2048x5632, .f32⟩
  | .hbm, ⟨3, _⟩ => ⟨S16384x5632, .f32⟩
  | .hbm, ⟨4, _⟩ => ⟨S16384x5632, .f32⟩
  | .hbm, ⟨5, _⟩ => ⟨S16384x5632, .f32⟩
  | .hbm, ⟨6, _⟩ => ⟨S_, .f32⟩
  | .hbm, ⟨7, _⟩ => ⟨S16384x5632, .f32⟩
  | .hbm, ⟨8, _⟩ => ⟨S16384x5632, .f32⟩
  | .hbm, ⟨9, _⟩ => ⟨S_, .f32⟩
  | .hbm, ⟨10, _⟩ => ⟨S16384x5632, .f32⟩
  | .hbm, ⟨11, _⟩ => ⟨S16384x5632, .f32⟩
  | .hbm, ⟨12, _⟩ => ⟨S16384x5632, .f32⟩
  | .hbm, ⟨13, _⟩ => ⟨S16384x5632, .f32⟩
  | .hbm, ⟨14, _⟩ => ⟨S16384x5632, .f32⟩
  | .hbm, ⟨15, _⟩ => ⟨S16384x5632, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Down.lean ====
abbrev S16384x5632 : Shape := ⟨2, ![16384, 5632]⟩
abbrev S5632x2048 : Shape := ⟨2, ![5632, 2048]⟩
abbrev S16384x2048 : Shape := ⟨2, ![16384, 2048]⟩
abbrev S1024x1408 : Shape := ⟨2, ![1024, 1408]⟩
abbrev S1408x512 : Shape := ⟨2, ![1408, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x512, .f32⟩
  | .local _ .vmem, ⟨3, _⟩ => ⟨S1408x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownIdeal.lean ====
abbrev S16384x5632 : Shape := ⟨2, ![16384, 5632]⟩
abbrev S5632x2048 : Shape := ⟨2, ![5632, 2048]⟩
abbrev S16384x2048 : Shape := ⟨2, ![16384, 2048]⟩
abbrev S1024x1408 : Shape := ⟨2, ![1024, 1408]⟩
abbrev S1408x512 : Shape := ⟨2, ![1408, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x512, .f32⟩
  | .local _ .vmem, ⟨3, _⟩ => ⟨S1408x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S16384x5632 : Shape := ⟨2, ![16384, 5632]⟩
abbrev S5632x2048 : Shape := ⟨2, ![5632, 2048]⟩
abbrev S16384x2048 : Shape := ⟨2, ![16384, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S5632x2048, .f32⟩
  | .hbm, ⟨2, _⟩ => ⟨S16384x5632, .f32⟩
  | .hbm, ⟨3, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Merge.lean ====
abbrev S16384x4096 : Shape := ⟨2, ![16384, 4096]⟩
abbrev S4096x2048 : Shape := ⟨2, ![4096, 2048]⟩
abbrev S16384x2048 : Shape := ⟨2, ![16384, 2048]⟩
abbrev S2048x2048 : Shape := ⟨2, ![2048, 2048]⟩
abbrev S1024x4096 : Shape := ⟨2, ![1024, 4096]⟩
abbrev S4096x256 : Shape := ⟨2, ![4096, 256]⟩
abbrev S1024x2048 : Shape := ⟨2, ![1024, 2048]⟩
abbrev S2048x256 : Shape := ⟨2, ![2048, 256]⟩
abbrev S1024x256 : Shape := ⟨2, ![1024, 256]⟩

abbrev nBuf : Space → Nat
  | .hbm => 6
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .bf16⟩
  | .hbm, ⟨3, _⟩ => ⟨S2048x2048, .f32⟩
  | .hbm, ⟨4, _⟩ => ⟨S16384x4096, .f32⟩
  | .hbm, ⟨5, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .f32⟩
  | .local _ .vmem, ⟨3, _⟩ => ⟨S4096x256, .f32⟩
  | .local _ .vmem, ⟨4, _⟩ => ⟨S1024x2048, .bf16⟩
  | .local _ .vmem, ⟨5, _⟩ => ⟨S1024x2048, .bf16⟩
  | .local _ .vmem, ⟨6, _⟩ => ⟨S2048x256, .f32⟩
  | .local _ .vmem, ⟨7, _⟩ => ⟨S2048x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .bf16⟩
  | .local _ .vmem, ⟨13, _⟩ => ⟨S1024x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S16384x4096 : Shape := ⟨2, ![16384, 4096]⟩
abbrev S4096x2048 : Shape := ⟨2, ![4096, 2048]⟩
abbrev S16384x2048 : Shape := ⟨2, ![16384, 2048]⟩
abbrev S2048x2048 : Shape := ⟨2, ![2048, 2048]⟩
abbrev S_ : Shape := ⟨0, ![]⟩
abbrev S16384x2x2048 : Shape := ⟨3, ![16384, 2, 2048]⟩
abbrev S16384x1x2048 : Shape := ⟨3, ![16384, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .bf16⟩
  | .hbm, ⟨3, _⟩ => ⟨S2048x2048, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x2x2048, .f32⟩
  | .hbm, ⟨14, _⟩ => ⟨S16384x1x2048, .f32⟩
  | .hbm, ⟨15, _⟩ => ⟨S16384x2048, .f32⟩
  | .hbm, ⟨16, _⟩ => ⟨S16384x4096, .f32⟩
  | .hbm, ⟨17, _⟩ => ⟨S16384x2048, .f32⟩
  | .hbm, ⟨18, _⟩ => ⟨S16384x2048, .f32⟩
  | .hbm, ⟨19, _⟩ => ⟨S16384x1x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== ProjA.lean ====
abbrev S16384x2048 : Shape := ⟨2, ![16384, 2048]⟩
abbrev S2048x4096 : Shape := ⟨2, ![2048, 4096]⟩
abbrev S16384x4096 : Shape := ⟨2, ![16384, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .f32⟩
  | .hbm, ⟨2, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAIdeal.lean ====
abbrev S16384x2048 : Shape := ⟨2, ![16384, 2048]⟩
abbrev S2048x4096 : Shape := ⟨2, ![2048, 4096]⟩
abbrev S16384x4096 : Shape := ⟨2, ![16384, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .f32⟩
  | .hbm, ⟨2, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAReferenceIdeal.lean ====
abbrev S16384x2048 : Shape := ⟨2, ![16384, 2048]⟩
abbrev S2048x4096 : Shape := ⟨2, ![2048, 4096]⟩
abbrev S16384x4096 : Shape := ⟨2, ![16384, 4096]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .f32⟩
  | .hbm, ⟨2, _⟩ => ⟨S16384x2048, .f32⟩
  | .hbm, ⟨3, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjB.lean ====
abbrev S16384x2048 : Shape := ⟨2, ![16384, 2048]⟩
abbrev S2048x6144 : Shape := ⟨2, ![2048, 6144]⟩
abbrev S16384x6144 : Shape := ⟨2, ![16384, 6144]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x6144, .f32⟩
  | .hbm, ⟨2, _⟩ => ⟨S16384x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 12, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBIdeal.lean ====
abbrev S16384x2048 : Shape := ⟨2, ![16384, 2048]⟩
abbrev S2048x6144 : Shape := ⟨2, ![2048, 6144]⟩
abbrev S16384x6144 : Shape := ⟨2, ![16384, 6144]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x6144, .f32⟩
  | .hbm, ⟨2, _⟩ => ⟨S16384x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 12, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBReferenceIdeal.lean ====
abbrev S16384x2048 : Shape := ⟨2, ![16384, 2048]⟩
abbrev S2048x6144 : Shape := ⟨2, ![2048, 6144]⟩
abbrev S16384x6144 : Shape := ⟨2, ![16384, 6144]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x6144, .f32⟩
  | .hbm, ⟨2, _⟩ => ⟨S16384x2048, .f32⟩
  | .hbm, ⟨3, _⟩ => ⟨S16384x6144, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjC.lean ====
abbrev S16384x2048 : Shape := ⟨2, ![16384, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjCIdeal.lean ====
abbrev S16384x2048 : Shape := ⟨2, ![16384, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjCReferenceIdeal.lean ====
abbrev S16384x2048 : Shape := ⟨2, ![16384, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjE.lean ====
abbrev S16384x2048 : Shape := ⟨2, ![16384, 2048]⟩
abbrev S2048x512 : Shape := ⟨2, ![2048, 512]⟩
abbrev S16384x512 : Shape := ⟨2, ![16384, 512]⟩
abbrev S1024x2048 : Shape := ⟨2, ![1024, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x512, .f32⟩
  | .hbm, ⟨2, _⟩ => ⟨S16384x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjEIdeal.lean ====
abbrev S16384x2048 : Shape := ⟨2, ![16384, 2048]⟩
abbrev S2048x512 : Shape := ⟨2, ![2048, 512]⟩
abbrev S16384x512 : Shape := ⟨2, ![16384, 512]⟩
abbrev S1024x2048 : Shape := ⟨2, ![1024, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x512, .f32⟩
  | .hbm, ⟨2, _⟩ => ⟨S16384x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjEReferenceIdeal.lean ====
abbrev S16384x2048 : Shape := ⟨2, ![16384, 2048]⟩
abbrev S2048x512 : Shape := ⟨2, ![2048, 512]⟩
abbrev S16384x512 : Shape := ⟨2, ![16384, 512]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x512, .f32⟩
  | .hbm, ⟨2, _⟩ => ⟨S16384x2048, .f32⟩
  | .hbm, ⟨3, _⟩ => ⟨S16384x512, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjF.lean ====
abbrev S16384x2048 : Shape := ⟨2, ![16384, 2048]⟩
abbrev S2048x128 : Shape := ⟨2, ![2048, 128]⟩
abbrev S16384x128 : Shape := ⟨2, ![16384, 128]⟩
abbrev S1024x2048 : Shape := ⟨2, ![1024, 2048]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x128, .f32⟩
  | .hbm, ⟨2, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFIdeal.lean ====
abbrev S16384x2048 : Shape := ⟨2, ![16384, 2048]⟩
abbrev S2048x128 : Shape := ⟨2, ![2048, 128]⟩
abbrev S16384x128 : Shape := ⟨2, ![16384, 128]⟩
abbrev S1024x2048 : Shape := ⟨2, ![1024, 2048]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x128, .f32⟩
  | .hbm, ⟨2, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFReferenceIdeal.lean ====
abbrev S16384x2048 : Shape := ⟨2, ![16384, 2048]⟩
abbrev S2048x128 : Shape := ⟨2, ![2048, 128]⟩
abbrev S16384x128 : Shape := ⟨2, ![16384, 128]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x128, .f32⟩
  | .hbm, ⟨2, _⟩ => ⟨S16384x2048, .f32⟩
  | .hbm, ⟨3, _⟩ => ⟨S16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjG.lean ====
abbrev S16384x2048 : Shape := ⟨2, ![16384, 2048]⟩
abbrev S2048x48 : Shape := ⟨2, ![2048, 48]⟩
abbrev S16384x48 : Shape := ⟨2, ![16384, 48]⟩
abbrev S1024x2048 : Shape := ⟨2, ![1024, 2048]⟩
abbrev S1024x48 : Shape := ⟨2, ![1024, 48]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x48, .f32⟩
  | .hbm, ⟨2, _⟩ => ⟨S16384x48, .f32⟩
  | .local _ .vmem, ⟨0, _⟩ => ⟨S1024x2048, .bf16⟩
  | .local _ .vmem, ⟨1, _⟩ => ⟨S1024x2048, .bf16⟩
  | .local _ .vmem, ⟨2, _⟩ => ⟨S2048x48, .f32⟩
  | .local _ .vmem, ⟨3, _⟩ => ⟨S1024x48, .f32⟩
  | .local _ .vmem, ⟨4, _⟩ => ⟨S1024x48, .f32⟩
  | .local _ .vmem, ⟨5, _⟩ => ⟨S1024x48, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGReferenceIdeal.lean ====
abbrev S16384x2048 : Shape := ⟨2, ![16384, 2048]⟩
abbrev S2048x48 : Shape := ⟨2, ![2048, 48]⟩
abbrev S16384x48 : Shape := ⟨2, ![16384, 48]⟩

abbrev nBuf : Space → Nat
  | .hbm => 4
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x48, .f32⟩
  | .hbm, ⟨2, _⟩ => ⟨S16384x2048, .f32⟩
  | .hbm, ⟨3, _⟩ => ⟨S16384x48, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Rope.lean ====
abbrev S16384x512 : Shape := ⟨2, ![16384, 512]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S512x512 : Shape := ⟨2, ![512, 512]⟩
abbrev S512x128 : Shape := ⟨2, ![512, 128]⟩

abbrev nBuf : Space → Nat
  | .hbm => 26
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S2048, .i32⟩
  | .hbm, ⟨2, _⟩ => ⟨S16, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S2048, .f32⟩
  | .hbm, ⟨11, _⟩ => ⟨S2048x1, .f32⟩
  | .hbm, ⟨12, _⟩ => ⟨S1x16, .f32⟩
  | .hbm, ⟨13, _⟩ => ⟨S2048x16, .f32⟩
  | .hbm, ⟨14, _⟩ => ⟨S2048x16, .f32⟩
  | .hbm, ⟨15, _⟩ => ⟨S2048x16, .f32⟩
  | .hbm, ⟨16, _⟩ => ⟨S2048x16, .f32⟩
  | .hbm, ⟨17, _⟩ => ⟨S2048x16, .f32⟩
  | .hbm, ⟨18, _⟩ => ⟨S_, .f32⟩
  | .hbm, ⟨19, _⟩ => ⟨S2048x96, .f32⟩
  | .hbm, ⟨20, _⟩ => ⟨S2048x128, .f32⟩
  | .hbm, ⟨21, _⟩ => ⟨S2048x16, .f32⟩
  | .hbm, ⟨22, _⟩ => ⟨S_, .f32⟩
  | .hbm, ⟨23, _⟩ => ⟨S2048x96, .f32⟩
  | .hbm, ⟨24, _⟩ => ⟨S2048x128, .f32⟩
  | .hbm, ⟨25, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x512, .f32⟩
  | .local _ .vmem, ⟨7, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeReferenceIdeal.lean ====
abbrev S16384x512 : Shape := ⟨2, ![16384, 512]⟩
abbrev S8x2048x4x128 : Shape := ⟨4, ![8, 2048, 4, 128]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S8x2048x4x32 : Shape := ⟨4, ![8, 2048, 4, 32]⟩
abbrev S8x2048x4x16 : Shape := ⟨4, ![8, 2048, 4, 16]⟩
abbrev S8x2048x4x96 : Shape := ⟨4, ![8, 2048, 4, 96]⟩

abbrev nBuf : Space → Nat
  | .hbm => 37
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S8x2048x4x128, .f32⟩
  | .hbm, ⟨2, _⟩ => ⟨S2048, .i32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S2048, .f32⟩
  | .hbm, ⟨12, _⟩ => ⟨S2048x1, .f32⟩
  | .hbm, ⟨13, _⟩ => ⟨S1x16, .f32⟩
  | .hbm, ⟨14, _⟩ => ⟨S2048x16, .f32⟩
  | .hbm, ⟨15, _⟩ => ⟨S2048x16, .f32⟩
  | .hbm, ⟨16, _⟩ => ⟨S2048x16, .f32⟩
  | .hbm, ⟨17, _⟩ => ⟨S1x2048x1x16, .f32⟩
  | .hbm, ⟨18, _⟩ => ⟨S1x2048x1x16, .f32⟩
  | .hbm, ⟨19, _⟩ => ⟨S1x2048x1x16, .f32⟩
  | .hbm, ⟨20, _⟩ => ⟨S8x2048x4x32, .f32⟩
  | .hbm, ⟨21, _⟩ => ⟨S8x2048x4x16, .f32⟩
  | .hbm, ⟨22, _⟩ => ⟨S8x2048x4x16, .f32⟩
  | .hbm, ⟨23, _⟩ => ⟨S8x2048x4x16, .f32⟩
  | .hbm, ⟨24, _⟩ => ⟨S8x2048x4x16, .f32⟩
  | .hbm, ⟨25, _⟩ => ⟨S8x2048x4x16, .f32⟩
  | .hbm, ⟨26, _⟩ => ⟨S8x2048x4x16, .f32⟩
  | .hbm, ⟨27, _⟩ => ⟨S8x2048x4x16, .f32⟩
  | .hbm, ⟨28, _⟩ => ⟨S8x2048x4x16, .f32⟩
  | .hbm, ⟨29, _⟩ => ⟨S8x2048x4x16, .f32⟩
  | .hbm, ⟨30, _⟩ => ⟨S8x2048x4x16, .f32⟩
  | .hbm, ⟨31, _⟩ => ⟨S8x2048x4x16, .f32⟩
  | .hbm, ⟨32, _⟩ => ⟨S8x2048x4x16, .f32⟩
  | .hbm, ⟨33, _⟩ => ⟨S8x2048x4x32, .f32⟩
  | .hbm, ⟨34, _⟩ => ⟨S8x2048x4x96, .f32⟩
  | .hbm, ⟨35, _⟩ => ⟨S8x2048x4x128, .f32⟩
  | .hbm, ⟨36, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩

abbrev nD : Nat := 1
abbrev τ : Topo := Topo.v7x

variable {F : FTy → Type} [FloatOps F]
-- ==== SampleKv.lean ====
abbrev S32x1x2048 : Shape := ⟨3, ![32, 1, 2048]⟩
abbrev S2048x3072 : Shape := ⟨2, ![2048, 3072]⟩
abbrev S32x512x4x128 : Shape := ⟨4, ![32, 512, 4, 128]⟩
abbrev S32x2048 : Shape := ⟨2, ![32, 2048]⟩
abbrev S32x3072 : Shape := ⟨2, ![32, 3072]⟩
abbrev S2048x512 : Shape := ⟨2, ![2048, 512]⟩
abbrev S32x512 : Shape := ⟨2, ![32, 512]⟩
abbrev S32x1x3072 : Shape := ⟨3, ![32, 1, 3072]⟩
abbrev S32x1x6x4x128 : Shape := ⟨5, ![32, 1, 6, 4, 128]⟩
abbrev S1 : Shape := ⟨1, ![1]⟩
abbrev S_ : Shape := ⟨0, ![]⟩
abbrev S32x1x1x4x128 : Shape := ⟨5, ![32, 1, 1, 4, 128]⟩
abbrev S32x1x4x128 : Shape := ⟨4, ![32, 1, 4, 128]⟩
abbrev S16 : Shape := ⟨1, ![16]⟩
abbrev S1x1 : Shape := ⟨2, ![1, 1]⟩
abbrev S1x16 : Shape := ⟨2, ![1, 16]⟩
abbrev S1x1x1x16 : Shape := ⟨4, ![1, 1, 1, 16]⟩
abbrev S32x1x4x32 : Shape := ⟨4, ![32, 1, 4, 32]⟩
abbrev S32x1x4x16 : Shape := ⟨4, ![32, 1, 4, 16]⟩
abbrev S32x1x4x96 : Shape := ⟨4, ![32, 1, 4, 96]⟩
abbrev S32x513x4x128 : Shape := ⟨4, ![32, 513, 4, 128]⟩

abbrev nBuf : Space → Nat
  | .hbm => 124
  | .vmem => 6
  | .smem => 0
  | _ => 0

abbrev bufTy : (tb : Table) → Fin (tcTables nBuf tb) → BufTy
  | .hbm, ⟨0, _⟩ => ⟨S32x1x2048, .f32⟩
  | .hbm, ⟨1, _⟩ => ⟨S2048x3072, .f32⟩
  | .hbm, ⟨2, _⟩ => ⟨S32x512x4x128, .f32⟩
  | .hbm, ⟨3, _⟩ => ⟨S32x512x4x128, .f32⟩
  | .hbm, ⟨4, _⟩ => ⟨S32x2048, .f32⟩
  | .hbm, ⟨5, _⟩ => ⟨S32x3072, .f32⟩
  | .hbm, ⟨6, _⟩ => ⟨S32x1x3072, .f32⟩
  | .hbm, ⟨7, _⟩ => ⟨S32x1x6x4x128, .f32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S32x1x1x4x128, .f32⟩
  | .hbm, ⟨13, _⟩ => ⟨S32x1x4x128, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S1, .f32⟩
  | .hbm, ⟨23, _⟩ => ⟨S1x1, .f32⟩
  | .hbm, ⟨24, _⟩ => ⟨S1x16, .f32⟩
  | .hbm, ⟨25, _⟩ => ⟨S1x16, .f32⟩
  | .hbm, ⟨26, _⟩ => ⟨S1x16, .f32⟩
  | .hbm, ⟨27, _⟩ => ⟨S1x1x1x16, .f32⟩
  | .hbm, ⟨28, _⟩ => ⟨S1x1x1x16, .f32⟩
  | .hbm, ⟨29, _⟩ => ⟨S1x1x1x16, .f32⟩
  | .hbm, ⟨30, _⟩ => ⟨S32x1x4x32, .f32⟩
  | .hbm, ⟨31, _⟩ => ⟨S32x1x4x16, .f32⟩
  | .hbm, ⟨32, _⟩ => ⟨S32x1x4x16, .f32⟩
  | .hbm, ⟨33, _⟩ => ⟨S32x1x4x16, .f32⟩
  | .hbm, ⟨34, _⟩ => ⟨S32x1x4x16, .f32⟩
  | .hbm, ⟨35, _⟩ => ⟨S32x1x4x16, .f32⟩
  | .hbm, ⟨36, _⟩ => ⟨S32x1x4x16, .f32⟩
  | .hbm, ⟨37, _⟩ => ⟨S32x1x4x16, .f32⟩
  | .hbm, ⟨38, _⟩ => ⟨S32x1x4x16, .f32⟩
  | .hbm, ⟨39, _⟩ => ⟨S32x1x4x16, .f32⟩
  | .hbm, ⟨40, _⟩ => ⟨S32x1x4x16, .f32⟩
  | .hbm, ⟨41, _⟩ => ⟨S32x1x4x16, .f32⟩
  | .hbm, ⟨42, _⟩ => ⟨S32x1x4x16, .f32⟩
  | .hbm, ⟨43, _⟩ => ⟨S32x1x4x32, .f32⟩
  | .hbm, ⟨44, _⟩ => ⟨S32x1x4x96, .f32⟩
  | .hbm, ⟨45, _⟩ => ⟨S32x1x4x128, .f32⟩
  | .hbm, ⟨46, _⟩ => ⟨S32x1x1x4x128, .f32⟩
  | .hbm, ⟨47, _⟩ => ⟨S32x1x4x128, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S1, .f32⟩
  | .hbm, ⟨57, _⟩ => ⟨S1x1, .f32⟩
  | .hbm, ⟨58, _⟩ => ⟨S1x16, .f32⟩
  | .hbm, ⟨59, _⟩ => ⟨S1x16, .f32⟩
  | .hbm, ⟨60, _⟩ => ⟨S1x16, .f32⟩
  | .hbm, ⟨61, _⟩ => ⟨S1x1x1x16, .f32⟩
  | .hbm, ⟨62, _⟩ => ⟨S1x1x1x16, .f32⟩
  | .hbm, ⟨63, _⟩ => ⟨S1x1x1x16, .f32⟩
  | .hbm, ⟨64, _⟩ => ⟨S32x1x4x32, .f32⟩
  | .hbm, ⟨65, _⟩ => ⟨S32x1x4x16, .f32⟩
  | .hbm, ⟨66, _⟩ => ⟨S32x1x4x16, .f32⟩
  | .hbm, ⟨67, _⟩ => ⟨S32x1x4x16, .f32⟩
  | .hbm, ⟨68, _⟩ => ⟨S32x1x4x16, .f32⟩
  | .hbm, ⟨69, _⟩ => ⟨S32x1x4x16, .f32⟩
  | .hbm, ⟨70, _⟩ => ⟨S32x1x4x16, .f32⟩
  | .hbm, ⟨71, _⟩ => ⟨S32x1x4x16, .f32⟩
  | .hbm, ⟨72, _⟩ => ⟨S32x1x4x16, .f32⟩
  | .hbm, ⟨73, _⟩ => ⟨S32x1x4x16, .f32⟩
  | .hbm, ⟨74, _⟩ => ⟨S32x1x4x16, .f32⟩
  | .hbm, ⟨75, _⟩ => ⟨S32x1x4x16, .f32⟩
  | .hbm, ⟨76, _⟩ => ⟨S32x1x4x16, .f32⟩
  | .hbm, ⟨77, _⟩ => ⟨S32x1x4x32, .f32⟩
  | .hbm, ⟨78, _⟩ => ⟨S32x1x4x96, .f32⟩
  | .hbm, ⟨79, _⟩ => ⟨S32x1x4x128, .f32⟩
  | .hbm, ⟨80, _⟩ => ⟨S32x1x1x4x128, .f32⟩
  | .hbm, ⟨81, _⟩ => ⟨S32x1x4x128, .f32⟩
  | .hbm, ⟨82, _⟩ => ⟨S16, .f32⟩
  | .hbm, ⟨83, _⟩ => ⟨S16, .f32⟩
  | .hbm, ⟨84, _⟩ => ⟨S_, .f32⟩
  | .hbm, ⟨85, _⟩ => ⟨S16, .f32⟩
  | .hbm, ⟨86, _⟩ => ⟨S16, .f32⟩
  | .hbm, ⟨87, _⟩ => ⟨S_, .f32⟩
  | .hbm, ⟨88, _⟩ => ⟨S16, .f32⟩
  | .hbm, ⟨89, _⟩ => ⟨S16, .f32⟩
  | .hbm, ⟨90, _⟩ => ⟨S1, .f32⟩
  | .hbm, ⟨91, _⟩ => ⟨S1x1, .f32⟩
  | .hbm, ⟨92, _⟩ => ⟨S1x16, .f32⟩
  | .hbm, ⟨93, _⟩ => ⟨S1x16, .f32⟩
  | .hbm, ⟨94, _⟩ => ⟨S1x16, .f32⟩
  | .hbm, ⟨95, _⟩ => ⟨S1x1x1x16, .f32⟩
  | .hbm, ⟨96, _⟩ => ⟨S1x1x1x16, .f32⟩
  | .hbm, ⟨97, _⟩ => ⟨S1x1x1x16, .f32⟩
  | .hbm, ⟨98, _⟩ => ⟨S32x1x4x32, .f32⟩
  | .hbm, ⟨99, _⟩ => ⟨S32x1x4x16, .f32⟩
  | .hbm, ⟨100, _⟩ => ⟨S32x1x4x16, .f32⟩
  | .hbm, ⟨101, _⟩ => ⟨S32x1x4x16, .f32⟩
  | .hbm, ⟨102, _⟩ => ⟨S32x1x4x16, .f32⟩
  | .hbm, ⟨103, _⟩ => ⟨S32x1x4x16, .f32⟩
  | .hbm, ⟨104, _⟩ => ⟨S32x1x4x16, .f32⟩
  | .hbm, ⟨105, _⟩ => ⟨S32x1x4x16, .f32⟩
  | .hbm, ⟨106, _⟩ => ⟨S32x1x4x16, .f32⟩
  | .hbm, ⟨107, _⟩ => ⟨S32x1x4x16, .f32⟩
  | .hbm, ⟨108, _⟩ => ⟨S32x1x4x16, .f32⟩
  | .hbm, ⟨109, _⟩ => ⟨S32x1x4x16, .f32⟩
  | .hbm, ⟨110, _⟩ => ⟨S32x1x4x16, .f32⟩
  | .hbm, ⟨111, _⟩ => ⟨S32x1x4x32, .f32⟩
  | .hbm, ⟨112, _⟩ => ⟨S32x1x4x96, .f32⟩
  | .hbm, ⟨113, _⟩ => ⟨S32x1x4x128, .f32⟩
  | .hbm, ⟨114, _⟩ => ⟨S32x1x1x4x128, .f32⟩
  | .hbm, ⟨115, _⟩ => ⟨S32x1x4x128, .f32⟩
  | .hbm, ⟨116, _⟩ => ⟨S32x1x1x4x128, .f32⟩
  | .hbm, ⟨117, _⟩ => ⟨S32x1x4x128, .f32⟩
  | .hbm, ⟨118, _⟩ => ⟨S32x1x1x4x128, .f32⟩
  | .hbm, ⟨119, _⟩ => ⟨S32x1x4x128, .f32⟩
  | .hbm, ⟨120, _⟩ => ⟨S32x513x4x128, .f32⟩
  | .hbm, ⟨121, _⟩ => ⟨S32x513x4x128, .f32⟩
  | .hbm, ⟨122, _⟩ => ⟨S32x512x4x128, .f32⟩
  | .hbm, ⟨123, _⟩ => ⟨S32x512x4x128, .f32⟩
  | .local _ .vmem, ⟨0, _⟩ => ⟨S32x2048, .f32⟩
  | .local _ .vmem, ⟨1, _⟩ => ⟨S2048x512, .f32⟩
  | .local _ .vmem, ⟨2, _⟩ => ⟨S2048x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_1 : Ref sig .tc := ⟨.hbm, 50, rfl⟩
abbrev main_v43 : Ref sig .tc := ⟨.hbm, 51, rfl⟩
abbrev main_v44 : Ref sig .tc := ⟨.hbm, 52, rfl⟩
abbrev main_cst_2 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_cst_3 : Ref sig .tc := ⟨.hbm, 84, rfl⟩
abbrev main_v75 : Ref sig .tc := ⟨.hbm, 85, rfl⟩
abbrev main_v76 : Ref sig .tc := ⟨.hbm, 86, rfl⟩
abbrev main_cst_4 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SampleKvReferenceIdeal.lean ====
abbrev S32x1x2048 : Shape := ⟨3, ![32, 1, 2048]⟩
abbrev S2048x3072 : Shape := ⟨2, ![2048, 3072]⟩
abbrev S32x512x4x128 : Shape := ⟨4, ![32, 512, 4, 128]⟩
abbrev S32x1x3072 : Shape := ⟨3, ![32, 1, 3072]⟩
abbrev S32x1x6x4x128 : Shape := ⟨5, ![32, 1, 6, 4, 128]⟩
abbrev S1 : Shape := ⟨1, ![1]⟩
abbrev S_ : Shape := ⟨0, ![]⟩
abbrev S32x1x1x4x128 : Shape := ⟨5, ![32, 1, 1, 4, 128]⟩
abbrev S32x1x4x128 : Shape := ⟨4, ![32, 1, 4, 128]⟩
abbrev S16 : Shape := ⟨1, ![16]⟩
abbrev S1x1 : Shape := ⟨2, ![1, 1]⟩
abbrev S1x16 : Shape := ⟨2, ![1, 16]⟩
abbrev S1x1x1x16 : Shape := ⟨4, ![1, 1, 1, 16]⟩
abbrev S32x1x4x32 : Shape := ⟨4, ![32, 1, 4, 32]⟩
abbrev S32x1x4x16 : Shape := ⟨4, ![32, 1, 4, 16]⟩
abbrev S32x1x4x96 : Shape := ⟨4, ![32, 1, 4, 96]⟩
abbrev S32x513x4x128 : Shape := ⟨4, ![32, 513, 4, 128]⟩

abbrev nBuf : Space → Nat
  | .hbm => 122
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S2048x3072, .f32⟩
  | .hbm, ⟨2, _⟩ => ⟨S32x512x4x128, .f32⟩
  | .hbm, ⟨3, _⟩ => ⟨S32x512x4x128, .f32⟩
  | .hbm, ⟨4, _⟩ => ⟨S32x1x3072, .f32⟩
  | .hbm, ⟨5, _⟩ => ⟨S32x1x6x4x128, .f32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S32x1x1x4x128, .f32⟩
  | .hbm, ⟨11, _⟩ => ⟨S32x1x4x128, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S1, .f32⟩
  | .hbm, ⟨21, _⟩ => ⟨S1x1, .f32⟩
  | .hbm, ⟨22, _⟩ => ⟨S1x16, .f32⟩
  | .hbm, ⟨23, _⟩ => ⟨S1x16, .f32⟩
  | .hbm, ⟨24, _⟩ => ⟨S1x16, .f32⟩
  | .hbm, ⟨25, _⟩ => ⟨S1x1x1x16, .f32⟩
  | .hbm, ⟨26, _⟩ => ⟨S1x1x1x16, .f32⟩
  | .hbm, ⟨27, _⟩ => ⟨S1x1x1x16, .f32⟩
  | .hbm, ⟨28, _⟩ => ⟨S32x1x4x32, .f32⟩
  | .hbm, ⟨29, _⟩ => ⟨S32x1x4x16, .f32⟩
  | .hbm, ⟨30, _⟩ => ⟨S32x1x4x16, .f32⟩
  | .hbm, ⟨31, _⟩ => ⟨S32x1x4x16, .f32⟩
  | .hbm, ⟨32, _⟩ => ⟨S32x1x4x16, .f32⟩
  | .hbm, ⟨33, _⟩ => ⟨S32x1x4x16, .f32⟩
  | .hbm, ⟨34, _⟩ => ⟨S32x1x4x16, .f32⟩
  | .hbm, ⟨35, _⟩ => ⟨S32x1x4x16, .f32⟩
  | .hbm, ⟨36, _⟩ => ⟨S32x1x4x16, .f32⟩
  | .hbm, ⟨37, _⟩ => ⟨S32x1x4x16, .f32⟩
  | .hbm, ⟨38, _⟩ => ⟨S32x1x4x16, .f32⟩
  | .hbm, ⟨39, _⟩ => ⟨S32x1x4x16, .f32⟩
  | .hbm, ⟨40, _⟩ => ⟨S32x1x4x16, .f32⟩
  | .hbm, ⟨41, _⟩ => ⟨S32x1x4x32, .f32⟩
  | .hbm, ⟨42, _⟩ => ⟨S32x1x4x96, .f32⟩
  | .hbm, ⟨43, _⟩ => ⟨S32x1x4x128, .f32⟩
  | .hbm, ⟨44, _⟩ => ⟨S32x1x1x4x128, .f32⟩
  | .hbm, ⟨45, _⟩ => ⟨S32x1x4x128, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S1, .f32⟩
  | .hbm, ⟨55, _⟩ => ⟨S1x1, .f32⟩
  | .hbm, ⟨56, _⟩ => ⟨S1x16, .f32⟩
  | .hbm, ⟨57, _⟩ => ⟨S1x16, .f32⟩
  | .hbm, ⟨58, _⟩ => ⟨S1x16, .f32⟩
  | .hbm, ⟨59, _⟩ => ⟨S1x1x1x16, .f32⟩
  | .hbm, ⟨60, _⟩ => ⟨S1x1x1x16, .f32⟩
  | .hbm, ⟨61, _⟩ => ⟨S1x1x1x16, .f32⟩
  | .hbm, ⟨62, _⟩ => ⟨S32x1x4x32, .f32⟩
  | .hbm, ⟨63, _⟩ => ⟨S32x1x4x16, .f32⟩
  | .hbm, ⟨64, _⟩ => ⟨S32x1x4x16, .f32⟩
  | .hbm, ⟨65, _⟩ => ⟨S32x1x4x16, .f32⟩
  | .hbm, ⟨66, _⟩ => ⟨S32x1x4x16, .f32⟩
  | .hbm, ⟨67, _⟩ => ⟨S32x1x4x16, .f32⟩
  | .hbm, ⟨68, _⟩ => ⟨S32x1x4x16, .f32⟩
  | .hbm, ⟨69, _⟩ => ⟨S32x1x4x16, .f32⟩
  | .hbm, ⟨70, _⟩ => ⟨S32x1x4x16, .f32⟩
  | .hbm, ⟨71, _⟩ => ⟨S32x1x4x16, .f32⟩
  | .hbm, ⟨72, _⟩ => ⟨S32x1x4x16, .f32⟩
  | .hbm, ⟨73, _⟩ => ⟨S32x1x4x16, .f32⟩
  | .hbm, ⟨74, _⟩ => ⟨S32x1x4x16, .f32⟩
  | .hbm, ⟨75, _⟩ => ⟨S32x1x4x32, .f32⟩
  | .hbm, ⟨76, _⟩ => ⟨S32x1x4x96, .f32⟩
  | .hbm, ⟨77, _⟩ => ⟨S32x1x4x128, .f32⟩
  | .hbm, ⟨78, _⟩ => ⟨S32x1x1x4x128, .f32⟩
  | .hbm, ⟨79, _⟩ => ⟨S32x1x4x128, .f32⟩
  | .hbm, ⟨80, _⟩ => ⟨S16, .f32⟩
  | .hbm, ⟨81, _⟩ => ⟨S16, .f32⟩
  | .hbm, ⟨82, _⟩ => ⟨S_, .f32⟩
  | .hbm, ⟨83, _⟩ => ⟨S16, .f32⟩
  | .hbm, ⟨84, _⟩ => ⟨S16, .f32⟩
  | .hbm, ⟨85, _⟩ => ⟨S_, .f32⟩
  | .hbm, ⟨86, _⟩ => ⟨S16, .f32⟩
  | .hbm, ⟨87, _⟩ => ⟨S16, .f32⟩
  | .hbm, ⟨88, _⟩ => ⟨S1, .f32⟩
  | .hbm, ⟨89, _⟩ => ⟨S1x1, .f32⟩
  | .hbm, ⟨90, _⟩ => ⟨S1x16, .f32⟩
  | .hbm, ⟨91, _⟩ => ⟨S1x16, .f32⟩
  | .hbm, ⟨92, _⟩ => ⟨S1x16, .f32⟩
  | .hbm, ⟨93, _⟩ => ⟨S1x1x1x16, .f32⟩
  | .hbm, ⟨94, _⟩ => ⟨S1x1x1x16, .f32⟩
  | .hbm, ⟨95, _⟩ => ⟨S1x1x1x16, .f32⟩
  | .hbm, ⟨96, _⟩ => ⟨S32x1x4x32, .f32⟩
  | .hbm, ⟨97, _⟩ => ⟨S32x1x4x16, .f32⟩
  | .hbm, ⟨98, _⟩ => ⟨S32x1x4x16, .f32⟩
  | .hbm, ⟨99, _⟩ => ⟨S32x1x4x16, .f32⟩
  | .hbm, ⟨100, _⟩ => ⟨S32x1x4x16, .f32⟩
  | .hbm, ⟨101, _⟩ => ⟨S32x1x4x16, .f32⟩
  | .hbm, ⟨102, _⟩ => ⟨S32x1x4x16, .f32⟩
  | .hbm, ⟨103, _⟩ => ⟨S32x1x4x16, .f32⟩
  | .hbm, ⟨104, _⟩ => ⟨S32x1x4x16, .f32⟩
  | .hbm, ⟨105, _⟩ => ⟨S32x1x4x16, .f32⟩
  | .hbm, ⟨106, _⟩ => ⟨S32x1x4x16, .f32⟩
  | .hbm, ⟨107, _⟩ => ⟨S32x1x4x16, .f32⟩
  | .hbm, ⟨108, _⟩ => ⟨S32x1x4x16, .f32⟩
  | .hbm, ⟨109, _⟩ => ⟨S32x1x4x32, .f32⟩
  | .hbm, ⟨110, _⟩ => ⟨S32x1x4x96, .f32⟩
  | .hbm, ⟨111, _⟩ => ⟨S32x1x4x128, .f32⟩
  | .hbm, ⟨112, _⟩ => ⟨S32x1x1x4x128, .f32⟩
  | .hbm, ⟨113, _⟩ => ⟨S32x1x4x128, .f32⟩
  | .hbm, ⟨114, _⟩ => ⟨S32x1x1x4x128, .f32⟩
  | .hbm, ⟨115, _⟩ => ⟨S32x1x4x128, .f32⟩
  | .hbm, ⟨116, _⟩ => ⟨S32x1x1x4x128, .f32⟩
  | .hbm, ⟨117, _⟩ => ⟨S32x1x4x128, .f32⟩
  | .hbm, ⟨118, _⟩ => ⟨S32x513x4x128, .f32⟩
  | .hbm, ⟨119, _⟩ => ⟨S32x513x4x128, .f32⟩
  | .hbm, ⟨120, _⟩ => ⟨S32x512x4x128, .f32⟩
  | .hbm, ⟨121, _⟩ => ⟨S32x512x4x128, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_1 : Ref sig .tc := ⟨.hbm, 48, rfl⟩
abbrev main_v41 : Ref sig .tc := ⟨.hbm, 49, rfl⟩
abbrev main_v42 : Ref sig .tc := ⟨.hbm, 50, rfl⟩
abbrev main_cst_2 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_cst_3 : Ref sig .tc := ⟨.hbm, 82, rfl⟩
abbrev main_v73 : Ref sig .tc := ⟨.hbm, 83, rfl⟩
abbrev main_v74 : Ref sig .tc := ⟨.hbm, 84, rfl⟩
abbrev main_cst_4 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩

abbrev nD : Nat := 1
abbrev τ : Topo := Topo.v7x

variable {F : FTy → Type} [FloatOps F]
-- ==== SampleConv.lean ====
abbrev S32x1x2048 : Shape := ⟨3, ![32, 1, 2048]⟩
abbrev S2048x6144 : Shape := ⟨2, ![2048, 6144]⟩
abbrev S32x3x6144 : Shape := ⟨3, ![32, 3, 6144]⟩
abbrev S32x2048 : Shape := ⟨2, ![32, 2048]⟩
abbrev S32x6144 : Shape := ⟨2, ![32, 6144]⟩
abbrev S2048x512 : Shape := ⟨2, ![2048, 512]⟩
abbrev S32x512 : Shape := ⟨2, ![32, 512]⟩
abbrev S32x1x6144 : Shape := ⟨3, ![32, 1, 6144]⟩
abbrev S32x4x6144 : Shape := ⟨3, ![32, 4, 6144]⟩

abbrev nBuf : Space → Nat
  | .hbm => 8
  | .vmem => 6
  | .smem => 0
  | _ => 0

abbrev bufTy : (tb : Table) → Fin (tcTables nBuf tb) → BufTy
  | .hbm, ⟨0, _⟩ => ⟨S32x1x2048, .f32⟩
  | .hbm, ⟨1, _⟩ => ⟨S2048x6144, .f32⟩
  | .hbm, ⟨2, _⟩ => ⟨S32x3x6144, .f32⟩
  | .hbm, ⟨3, _⟩ => ⟨S32x2048, .f32⟩
  | .hbm, ⟨4, _⟩ => ⟨S32x6144, .f32⟩
  | .hbm, ⟨5, _⟩ => ⟨S32x1x6144, .f32⟩
  | .hbm, ⟨6, _⟩ => ⟨S32x4x6144, .f32⟩
  | .hbm, ⟨7, _⟩ => ⟨S32x3x6144, .f32⟩
  | .local _ .vmem, ⟨0, _⟩ => ⟨S32x2048, .f32⟩
  | .local _ .vmem, ⟨1, _⟩ => ⟨S2048x512, .f32⟩
  | .local _ .vmem, ⟨2, _⟩ => ⟨S2048x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SampleConvReferenceIdeal.lean ====
abbrev S32x1x2048 : Shape := ⟨3, ![32, 1, 2048]⟩
abbrev S2048x6144 : Shape := ⟨2, ![2048, 6144]⟩
abbrev S32x3x6144 : Shape := ⟨3, ![32, 3, 6144]⟩
abbrev S32x1x6144 : Shape := ⟨3, ![32, 1, 6144]⟩
abbrev S32x4x6144 : Shape := ⟨3, ![32, 4, 6144]⟩

abbrev nBuf : Space → Nat
  | .hbm => 6
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S2048x6144, .f32⟩
  | .hbm, ⟨2, _⟩ => ⟨S32x3x6144, .f32⟩
  | .hbm, ⟨3, _⟩ => ⟨S32x1x6144, .f32⟩
  | .hbm, ⟨4, _⟩ => ⟨S32x4x6144, .f32⟩
  | .hbm, ⟨5, _⟩ => ⟨S32x3x6144, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Experts.lean ====
abbrev S41 : Shape := ⟨1, ![41]⟩
abbrev S1 : Shape := ⟨1, ![1]⟩
abbrev S41984x2048 : Shape := ⟨2, ![41984, 2048]⟩
abbrev S8x2048x7168 : Shape := ⟨3, ![8, 2048, 7168]⟩
abbrev S41984x7168 : Shape := ⟨2, ![41984, 7168]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 8
  | .smem => 2
  | _ => 0

abbrev bufTy : (tb : Table) → Fin (tcTables nBuf tb) → BufTy
  | .hbm, ⟨0, _⟩ => ⟨S41984x2048, .bf16⟩
  | .hbm, ⟨1, _⟩ => ⟨S8x2048x7168, .f32⟩
  | .hbm, ⟨2, _⟩ => ⟨S8x2048x7168, .f32⟩
  | .hbm, ⟨3, _⟩ => ⟨S41984x7168, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .smem, ⟨0, _⟩ => ⟨S41, .i32⟩
  | .local _ .smem, ⟨1, _⟩ => ⟨S1, .i32⟩
  | _, _ => ⟨S41984x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![41, 14], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S41.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S41) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c13_i32 : BitVec 32 := 13#32
  let v4 : BitVec 32 := Scalar.select v3 arg1 c13_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S41.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S41) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c13_i32 : BitVec 32 := 13#32
  let v4 : BitVec 32 := Scalar.select v3 arg1 c13_i32
  let c0_i32 : BitVec 32 := 0#32
  let c0_i32_0 : BitVec 32 := 0#32
  ![v1.toNat, c0_i32.toNat, v4.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_0 : Index := 0#32
  let v3 : BitVec 32 := pf.at 1 (Rect.unit (s := S1) ![0] S1.size inb_S1_S1_0) numel1_S1
  let v4 : BitVec 1 := Scalar.cmpi .slt arg0 v3
  let c13_i32 : BitVec 32 := 13#32
  let v5 : BitVec 32 := Scalar.select v4 arg1 c13_i32
  let c0_i32 : BitVec 32 := 0#32
  ![v2.toNat, v5.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ExpertsReferenceIdeal.lean ====
abbrev S41 : Shape := ⟨1, ![41]⟩
abbrev S1 : Shape := ⟨1, ![1]⟩
abbrev S41984x2048 : Shape := ⟨2, ![41984, 2048]⟩
abbrev S8x2048x7168 : Shape := ⟨3, ![8, 2048, 7168]⟩
abbrev S41984x8x7168 : Shape := ⟨3, ![41984, 8, 7168]⟩
abbrev S_ : Shape := ⟨0, ![]⟩
abbrev S41x1024 : Shape := ⟨2, ![41, 1024]⟩
abbrev S41984 : Shape := ⟨1, ![41984]⟩
abbrev S41984x7168 : Shape := ⟨2, ![41984, 7168]⟩

abbrev nBuf : Space → Nat
  | .hbm => 29
  | .vmem => 0
  | .smem => 0
  | _ => 0

abbrev bufTy : (tb : Table) → Fin (tcTables nBuf tb) → BufTy
  | .hbm, ⟨0, _⟩ => ⟨S41, .i32⟩
  | .hbm, ⟨1, _⟩ => ⟨S1, .i32⟩
  | .hbm, ⟨2, _⟩ => ⟨S41984x2048, .bf16⟩
  | .hbm, ⟨3, _⟩ => ⟨S8x2048x7168, .f32⟩
  | .hbm, ⟨4, _⟩ => ⟨S8x2048x7168, .f32⟩
  | .hbm, ⟨5, _⟩ => ⟨S41984x2048, .f32⟩
  | .hbm, ⟨6, _⟩ => ⟨S41984x8x7168, .f32⟩
  | .hbm, ⟨7, _⟩ => ⟨S41984x8x7168, .f32⟩
  | .hbm, ⟨8, _⟩ => ⟨S41984x8x7168, .f32⟩
  | .hbm, ⟨9, _⟩ => ⟨S41984x8x7168, .f32⟩
  | .hbm, ⟨10, _⟩ => ⟨S_, .f32⟩
  | .hbm, ⟨11, _⟩ => ⟨S41984x8x7168, .f32⟩
  | .hbm, ⟨12, _⟩ => ⟨S41984x8x7168, .f32⟩
  | .hbm, ⟨13, _⟩ => ⟨S_, .f32⟩
  | .hbm, ⟨14, _⟩ => ⟨S41984x8x7168, .f32⟩
  | .hbm, ⟨15, _⟩ => ⟨S41984x8x7168, .f32⟩
  | .hbm, ⟨16, _⟩ => ⟨S41984x8x7168, .f32⟩
  | .hbm, ⟨17, _⟩ => ⟨S41984x8x7168, .f32⟩
  | .hbm, ⟨18, _⟩ => ⟨S41x1024, .i32⟩
  | .hbm, ⟨19, _⟩ => ⟨S41984, .i32⟩
  | .hbm, ⟨20, _⟩ => ⟨S41984x8x7168, .i32⟩
  | .hbm, ⟨21, _⟩ => ⟨S41984x8x7168, .i32⟩
  | .hbm, ⟨22, _⟩ => ⟨S41984x8x7168, .i1⟩
  | .hbm, ⟨23, _⟩ => ⟨S_, .f32⟩
  | .hbm, ⟨24, _⟩ => ⟨S41984x8x7168, .f32⟩
  | .hbm, ⟨25, _⟩ => ⟨S41984x8x7168, .f32⟩
  | .hbm, ⟨26, _⟩ => ⟨S_, .f32⟩
  | .hbm, ⟨27, _⟩ => ⟨S41984x7168, .f32⟩
  | .hbm, ⟨28, _⟩ => ⟨S41984x7168, .bf16⟩
  | _, _ => ⟨S41, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== ExpertsDown.lean ====
abbrev S41 : Shape := ⟨1, ![41]⟩
abbrev S1 : Shape := ⟨1, ![1]⟩
abbrev S41984x7168 : Shape := ⟨2, ![41984, 7168]⟩
abbrev S8x7168x2048 : Shape := ⟨3, ![8, 7168, 2048]⟩
abbrev S41984x1 : Shape := ⟨2, ![41984, 1]⟩
abbrev S41984x2048 : Shape := ⟨2, ![41984, 2048]⟩
abbrev S1024x1024 : Shape := ⟨2, ![1024, 1024]⟩
abbrev S1x1024x2048 : Shape := ⟨3, ![1, 1024, 2048]⟩
abbrev S1024x1 : Shape := ⟨2, ![1024, 1]⟩
abbrev S1024x2048 : Shape := ⟨2, ![1024, 2048]⟩

abbrev nBuf : Space → Nat
  | .hbm => 4
  | .vmem => 8
  | .smem => 2
  | _ => 0

abbrev bufTy : (tb : Table) → Fin (tcTables nBuf tb) → BufTy
  | .hbm, ⟨0, _⟩ => ⟨S41984x7168, .bf16⟩
  | .hbm, ⟨1, _⟩ => ⟨S8x7168x2048, .f32⟩
  | .hbm, ⟨2, _⟩ => ⟨S41984x1, .f32⟩
  | .hbm, ⟨3, _⟩ => ⟨S41984x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1024x1, .f32⟩
  | .local _ .vmem, ⟨5, _⟩ => ⟨S1024x1, .f32⟩
  | .local _ .vmem, ⟨6, _⟩ => ⟨S1024x2048, .f32⟩
  | .local _ .vmem, ⟨7, _⟩ => ⟨S1024x2048, .f32⟩
  | .local _ .smem, ⟨0, _⟩ => ⟨S41, .i32⟩
  | .local _ .smem, ⟨1, _⟩ => ⟨S1, .i32⟩
  | _, _ => ⟨S41984x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![41, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c0_i32_5 : BitVec 32 := 0#32
  let v9 : BitVec 1 := Scalar.cmpi .eq arg1 c0_i32_5
  let v10 : BitVec 32 := Scalar.extui v9
  let c0_i32_6 : BitVec 32 := 0#32
  let v11 : BitVec 1 := Scalar.cmpi .ne v10 c0_i32_6
  v11

def k0_cond3 (i : grid0.Coords) : BitVec 1 :=
  let arg1 : BitVec 32 := BitVec.ofNat 32 (i 1).val
  let c0_i32_7 : BitVec 32 := 0#32
  let v12 : BitVec 1 := Scalar.cmpi .sgt arg1 c0_i32_7
  let v13 : BitVec 32 := Scalar.extui v12
  let c0_i32_8 : BitVec 32 := 0#32
  let v14 : BitVec 1 := Scalar.cmpi .ne v13 c0_i32_8
  v14

def k0_cond4 (i : grid0.Coords) : BitVec 1 :=
  let arg1 : BitVec 32 := BitVec.ofNat 32 (i 1).val
  let c6_i32 : BitVec 32 := 6#32
  let v15 : BitVec 1 := Scalar.cmpi .eq arg1 c6_i32
  let v16 : BitVec 32 := Scalar.extui v15
  let c0_i32_9 : BitVec 32 := 0#32
  let v17 : BitVec 1 := Scalar.cmpi .ne v16 c0_i32_9
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_0 : Index := 0#32
  let v3 : BitVec 32 := pf.at 1 (Rect.unit (s := S1) ![0] S1.size inb_S1_S1_0) numel1_S1
  let v4 : BitVec 1 := Scalar.cmpi .slt arg0 v3
  let c6_i32 : BitVec 32 := 6#32
  let v5 : BitVec 32 := Scalar.select v4 arg1 c6_i32
  let c0_i32 : BitVec 32 := 0#32
  ![v2.toNat, v5.toNat]

def cc0_transform_1 (k0_off1_inb : ∀ i : grid0.Coords, ∀ a, (k0_off1 i) a + S1.size a ≤ S41.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S41) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ExpertsDownReferenceIdeal.lean ====
abbrev S41 : Shape := ⟨1, ![41]⟩
abbrev S1 : Shape := ⟨1, ![1]⟩
abbrev S41984x7168 : Shape := ⟨2, ![41984, 7168]⟩
abbrev S8x7168x2048 : Shape := ⟨3, ![8, 7168, 2048]⟩
abbrev S41984x1 : Shape := ⟨2, ![41984, 1]⟩
abbrev S41984x8x2048 : Shape := ⟨3, ![41984, 8, 2048]⟩
abbrev S41x1024 : Shape := ⟨2, ![41, 1024]⟩
abbrev S41984 : Shape := ⟨1, ![41984]⟩
abbrev S_ : Shape := ⟨0, ![]⟩
abbrev S41984x2048 : Shape := ⟨2, ![41984, 2048]⟩

abbrev nBuf : Space → Nat
  | .hbm => 19
  | .vmem => 0
  | .smem => 0
  | _ => 0

abbrev bufTy : (tb : Table) → Fin (tcTables nBuf tb) → BufTy
  | .hbm, ⟨0, _⟩ => ⟨S41, .i32⟩
  | .hbm, ⟨1, _⟩ => ⟨S1, .i32⟩
  | .hbm, ⟨2, _⟩ => ⟨S41984x7168, .bf16⟩
  | .hbm, ⟨3, _⟩ => ⟨S8x7168x2048, .f32⟩
  | .hbm, ⟨4, _⟩ => ⟨S41984x1, .f32⟩
  | .hbm, ⟨5, _⟩ => ⟨S41984x7168, .f32⟩
  | .hbm, ⟨6, _⟩ => ⟨S41984x8x2048, .f32⟩
  | .hbm, ⟨7, _⟩ => ⟨S41x1024, .i32⟩
  | .hbm, ⟨8, _⟩ => ⟨S41984, .i32⟩
  | .hbm, ⟨9, _⟩ => ⟨S41984x8x2048, .i32⟩
  | .hbm, ⟨10, _⟩ => ⟨S41984x8x2048, .i32⟩
  | .hbm, ⟨11, _⟩ => ⟨S41984x8x2048, .i1⟩
  | .hbm, ⟨12, _⟩ => ⟨S_, .f32⟩
  | .hbm, ⟨13, _⟩ => ⟨S41984x8x2048, .f32⟩
  | .hbm, ⟨14, _⟩ => ⟨S41984x8x2048, .f32⟩
  | .hbm, ⟨15, _⟩ => ⟨S_, .f32⟩
  | .hbm, ⟨16, _⟩ => ⟨S41984x2048, .f32⟩
  | .hbm, ⟨17, _⟩ => ⟨S41984x2048, .f32⟩
  | .hbm, ⟨18, _⟩ => ⟨S41984x2048, .f32⟩
  | _, _ => ⟨S41, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Proof.Spec.lean ====
/-
  The mathematics both programs compute, over the extended reals: one chunk of 128 rows of the
  selective state-space recurrence, the recurrence over the chunks, and the gated normalisation.
-/
module

public import Idealize.ShloMosaic.PureOps.Ideal

@[expose] public section

noncomputable section

namespace Cert.Ssd

open Idealize.ShloMosaic

/-- The head that column `j` of group `g` belongs to. -/
def head (g : Fin 8) (j : Fin 512) : Fin 64 := ⟨8 * g.val + j.val / 64, by omega⟩

/-- Column `j` of group `g` among the 6144 columns of the convolution. -/
def colX (g : Fin 8) (j : Fin 512) : Fin 6144 := ⟨512 * g.val + j.val, by omega⟩
/-- Column `j` of group `g` among the 4096 columns of the result. -/
def colY (g : Fin 8) (j : Fin 512) : Fin 4096 := ⟨512 * g.val + j.val, by omega⟩
/-- Entry `n` of group `g`'s B among the columns of the convolution. -/
def colB (g : Fin 8) (n : Fin 128) : Fin 6144 := ⟨4096 + 128 * g.val + n.val, by omega⟩
/-- Entry `n` of group `g`'s C among the columns of the convolution. -/
def colC (g : Fin 8) (n : Fin 128) : Fin 6144 := ⟨5120 + 128 * g.val + n.val, by omega⟩

/-- The softplus. -/
def softplus (x : EReal) : EReal := max x 0 + Ideal.log1p (Ideal.exp (0 - max x (-x)))

/-- The swish. -/
def swish (x : EReal) : EReal := x * Ideal.logistic x

/-- The running sum, down the chunk's rows, of a head's step times its rate. -/
def AC (DT : Fin 128 → Fin 64 → EReal) (A : Fin 64 → EReal) (l : Fin 128) (h : Fin 64) : EReal :=
  ∑ s : Fin 128, if s ≤ l then DT s h * A h else 0

/-- A chunk's rows before the gate, from its convolved columns, its steps, the rates, the skip
    weights and the state it starts from. -/
def yraw (XC : Fin 128 → Fin 6144 → EReal) (DT : Fin 128 → Fin 64 → EReal) (A D : Fin 64 → EReal)
    (H : Fin 8 → Fin 128 → Fin 512 → EReal) (l : Fin 128) (g : Fin 8) (j : Fin 512) : EReal :=
  (∑ s : Fin 128, (∑ n : Fin 128, XC l (colC g n) * XC s (colB g n))
      * Ideal.exp (if s ≤ l then AC DT A l (head g j) - AC DT A s (head g j) else ⊥)
      * (DT s (head g j) * XC s (colX g j)))
    + (∑ n : Fin 128, XC l (colC g n) * H g n j) * Ideal.exp (AC DT A l (head g j))
    + D (head g j) * XC l (colX g j)

/-- The state after a chunk. -/
def hnext (XC : Fin 128 → Fin 6144 → EReal) (DT : Fin 128 → Fin 64 → EReal) (A : Fin 64 → EReal)
    (H : Fin 8 → Fin 128 → Fin 512 → EReal) (g : Fin 8) (n : Fin 128) (j : Fin 512) : EReal :=
  Ideal.exp (AC DT A 127 (head g j)) * H g n j
    + ∑ s : Fin 128, XC s (colB g n)
        * (Ideal.exp (AC DT A 127 (head g j) - AC DT A s (head g j)) * DT s (head g j) * XC s (colX g j))

/-- The gated row of a group, normalised and weighted. -/
def gnorm (yg : Fin 512 → EReal) (w : EReal) (j : Fin 512) : EReal :=
  yg j * Ideal.rsqrt (Ideal.div (∑ k : Fin 512, yg k * yg k) (Ideal.ofBits .f32 0x44000000#32)
    + Ideal.ofBits .f32 0x358637BD#32) * w

/-- The convolution down the rows: the row itself and the three before it. -/
def conv (x : Fin 128 → Fin 6144 → EReal) (xp : Fin 128 → Fin 6144 → EReal) (w : Fin 4 → Fin 6144 → EReal)
    (b : Fin 6144 → EReal) (l : Fin 128) (j : Fin 6144) : EReal :=
  b j + back x xp 3 l j * w 0 j + back x xp 2 l j * w 1 j + back x xp 1 l j * w 2 j + x l j * w 3 j
where
  /-- The row `k` before row `l`, out of the chunk before where the chunk has none. -/
  back (x xp : Fin 128 → Fin 6144 → EReal) (k : Fin 4) (l : Fin 128) (j : Fin 6144) : EReal :=
    if k.val ≤ l.val then x ⟨l.val - k.val, by omega⟩ j else xp ⟨(128 + l.val - k.val) % 128, by omega⟩ j

/-! ## The whole sequence -/

/-- Row `l` of chunk `c` of a sequence (of chunk `c mod 16`, so that it is defined for every `c`). -/
def rowOf (c : ℕ) (l : Fin 128) : Fin 2048 := ⟨128 * (c % 16) + l.val, by omega⟩

/-- A chunk's convolved columns. -/
def xcOf (x : Fin 2048 → Fin 6144 → EReal) (w : Fin 4 → Fin 6144 → EReal) (b : Fin 6144 → EReal) (c : ℕ)
    (l : Fin 128) (j : Fin 6144) : EReal :=
  swish (conv (fun l j => x (rowOf c l) j) (fun l j => if c = 0 then 0 else x (rowOf (c - 1) l) j) w b l j)

/-- A chunk's steps. -/
def dtOf (dt : Fin 2048 → Fin 128 → EReal) (bias : Fin 64 → EReal) (c : ℕ) (l : Fin 128) (h : Fin 64) : EReal :=
  softplus (dt (rowOf c l) ⟨h.val, by omega⟩ + bias h)

/-- The state before chunk `c`. -/
def state (x : Fin 2048 → Fin 6144 → EReal) (w : Fin 4 → Fin 6144 → EReal) (b : Fin 6144 → EReal)
    (dt : Fin 2048 → Fin 128 → EReal) (bias A : Fin 64 → EReal) : ℕ → Fin 8 → Fin 128 → Fin 512 → EReal
  | 0 => fun _ _ _ => 0
  | c + 1 => hnext (xcOf x w b c) (dtOf dt bias c) A (state x w b dt bias A c)

/-- A chunk's gated rows. -/
def ygOf (x : Fin 2048 → Fin 6144 → EReal) (z : Fin 2048 → Fin 4096 → EReal) (w : Fin 4 → Fin 6144 → EReal)
    (b : Fin 6144 → EReal) (dt : Fin 2048 → Fin 128 → EReal) (bias A D : Fin 64 → EReal) (c : ℕ) (l : Fin 128)
    (g : Fin 8) (j : Fin 512) : EReal :=
  yraw (xcOf x w b c) (dtOf dt bias c) A D (state x w b dt bias A c) l g j * swish (z (rowOf c l) (colY g j))

/-- A chunk's result rows. -/
def yOf (x : Fin 2048 → Fin 6144 → EReal) (z : Fin 2048 → Fin 4096 → EReal) (w : Fin 4 → Fin 6144 → EReal)
    (b : Fin 6144 → EReal) (dt : Fin 2048 → Fin 128 → EReal) (bias A D : Fin 64 → EReal) (nw : Fin 4096 → EReal)
    (c : ℕ) (l : Fin 128) (g : Fin 8) (j : Fin 512) : EReal :=
  gnorm (ygOf x z w b dt bias A D c l g) (nw (colY g j)) j

end Cert.Ssd

end
-- ==== Proof.Group.lean ====
/-
  One group of eight heads of the kernel's chunk, as functions of the slices it reads, and what
  they hold at an index.  The kernel's text writes the group out eight times with other slice
  offsets; each of the eight is one of these functions of its own slices.
-/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Group

open Idealize.ShloMosaic Idealize.SL.Sem Cert.KernelIdeal.Gen

/-- One head's product of masked weights with the pair of value columns it is stored beside. -/
def wdot (cbm : FVec Ideal S128x128 .f32) (acol : FVec Ideal S128x1 .f32) (arow : FVec Ideal S1x128 .f32)
    (causal : IVec S128x128 1) (dp : FVec Ideal S128x128 .bf16) : FVec Ideal S128x128 .f32 :=
  matmul dot_S128x128_S128x128_S128x128_1_0_0_1_n_n none
    (truncf .bf16 (mulf cbm (exp (select causal
      (subf (broadcastTo S128x128 acol broadcasts_S128x1_S128x128) (broadcastTo S128x128 arow broadcasts_S1x128_S128x128))
      (broadcast S128x128 (Named.named κ "mask" 0xF149F2CA#32 : Ideal .f32))))) bitsLt_bf16_f32)
    dp (constant S128x128 .f32 0x00000000#32)

/-- Two heads side by side: the left 64 columns from the first, the right 64 from the second. -/
def pair (cbm : FVec Ideal S128x128 .f32) (a0 : FVec Ideal S128x1 .f32) (r0 : FVec Ideal S1x128 .f32)
    (a1 : FVec Ideal S128x1 .f32) (r1 : FVec Ideal S1x128 .f32) (causal half : IVec S128x128 1)
    (dp : FVec Ideal S128x128 .bf16) : FVec Ideal S128x128 .f32 :=
  select half (wdot cbm a0 r0 causal dp) (wdot cbm a1 r1 causal dp)

/-- The group's products of the rows' C with the rows' B. -/
def cbmOf (bg cg : FVec Ideal S128x128 .f32) : FVec Ideal S128x128 .f32 :=
  matmul dot_S128x128_S128x128_S128x128_1_1_0_0_n_n none (truncf .bf16 cg bitsLt_bf16_f32)
    (truncf .bf16 bg bitsLt_bf16_f32) (constant S128x128 .f32 0x00000000#32)

/-- What the state held before the chunk adds to the group's rows. -/
def yoff (cg : FVec Ideal S128x128 .f32) (ht : FVec Ideal S1x128x512 .f32) (eg : FVec Ideal S128x512 .f32) :
    FVec Ideal S128x512 .f32 :=
  mulf (matmul dot_S128x128_S128x512_S128x512_1_0_0_1_n_n none (truncf .bf16 cg bitsLt_bf16_f32)
    (truncf .bf16 (shapeCast S128x512 ht shapeCasts_S1x128x512_S128x512) bitsLt_bf16_f32)
    (constant S128x512 .f32 0x00000000#32)) eg

/-- The group's rows before the gate: the four pairs side by side, the carried part, the skip. -/
def yraw (q0 q1 q2 q3 : FVec Ideal S128x128 .f32) (yo : FVec Ideal S128x512 .f32) (dsk : FVec Ideal S1x512 .f32)
    (xsg : FVec Ideal S128x512 .f32) : FVec Ideal S128x512 .f32 :=
  addf (addf (concatenate S128x512 1 [⟨S128x128, q0⟩, ⟨S128x128, q1⟩, ⟨S128x128, q2⟩, ⟨S128x128, q3⟩]
      concatenates_S128x128_S128x128_S128x128_S128x128_S128x512_d1) yo)
    (mulf (broadcastTo S128x512 (shapeCast S1x512 dsk shapeCasts_S1x512_S1x512) broadcasts_S1x512_S128x512) xsg)

/-- The gate. -/
def gate (y : FVec Ideal S128x512 .f32) (z : FVec Ideal S1x128x512 .f32) : FVec Ideal S128x512 .f32 :=
  mulf y (mulf (shapeCast S128x512 z shapeCasts_S1x128x512_S128x512)
    (logistic (shapeCast S128x512 z shapeCasts_S1x128x512_S128x512)))

/-- The group's normalisation and its weights. -/
def norm (yg : FVec Ideal S128x512 .f32) (nw : FVec Ideal S1x512 .f32) : FVec Ideal S1x128x512 .bf16 :=
  shapeCast S1x128x512 (truncf .bf16 (mulf (mulf yg (broadcastTo S128x512
    (rsqrt (addf (divf (shapeCast S128x1 (multiReduction .add [1] S128 (mulf yg yg) 0x00000000#32 reduces_S128x512_S128
        (.inl rfl) rfl) shapeCasts_S128_S128x1) (broadcast S128x1 (Scalar.ofBits .f32 0x44000000#32 : Ideal .f32)))
      (broadcast S128x1 (Scalar.ofBits .f32 0x358637BD#32 : Ideal .f32)))) broadcasts_S128x1_S128x512))
    (broadcastTo S128x512 (shapeCast S1x512 nw shapeCasts_S1x512_S1x512) broadcasts_S1x512_S128x512)) bitsLt_bf16_f32)
    shapeCasts_S128x512_S1x128x512

/-- The group's state after the chunk. -/
def hnext (bg : FVec Ideal S128x128 .f32) (ht : FVec Ideal S1x128x512 .f32) (el : FVec Ideal S1x512 .f32)
    (dx : FVec Ideal S128x512 .bf16) : FVec Ideal S1x128x512 .f32 :=
  shapeCast S1x128x512 (addf (mulf (broadcastTo S128x512 el broadcasts_S1x512_S128x512)
      (shapeCast S128x512 ht shapeCasts_S1x128x512_S128x512))
    (matmul dot_S128x128_S128x512_S128x512_1_0_0_1_n_n none
      (truncf .bf16 (transpose S128x128 [1, 0] bg transposes_S128x128_p1_0_S128x128) bitsLt_bf16_f32) dx
      (constant S128x512 .f32 0x00000000#32))) shapeCasts_S128x512_S1x128x512

theorem wdot_apply (cbm acol arow causal dp) (l j : Fin 128) :
    wdot cbm acol arow causal dp (ix2 l j) = ∑ s : Fin 128, cbm (ix2 l s)
      * Ideal.exp (if causal (ix2 l s) = 1#1 then acol (ix2 l 0) - arow (ix2 0 s) else ⊥) * dp (ix2 s j) := by
  pointwise [wdot]
  rfl

theorem cbmOf_apply (bg cg) (l s : Fin 128) :
    cbmOf bg cg (ix2 l s) = ∑ n : Fin 128, cg (ix2 l n) * bg (ix2 s n) := by
  pointwise [cbmOf]

theorem yoff_apply (cg ht eg) (l : Fin 128) (j : Fin 512) :
    yoff cg ht eg (ix2 l j) = (∑ n : Fin 128, cg (ix2 l n) * ht (ix3 0 n j)) * eg (ix2 l j) := by
  pointwise [yoff]

/-- The column of a pair a column of the group is. -/
def lane (j : Fin 512) : Fin 128 := ⟨j.val % 128, Nat.mod_lt _ (by decide)⟩

theorem yraw_apply (q0 q1 q2 q3 yo dsk xsg) (l : Fin 128) (j : Fin 512) :
    yraw q0 q1 q2 q3 yo dsk xsg (ix2 l j) =
      (if j.val < 128 then q0 (ix2 l (lane j)) else if j.val < 256 then q1 (ix2 l (lane j))
        else if j.val < 384 then q2 (ix2 l (lane j)) else q3 (ix2 l (lane j))) + yo (ix2 l j)
        + dsk (ix2 0 j) * xsg (ix2 l j) := by
  pointwise [yraw]
  have e : ∀ (k : ℕ) (h : k < 128), k = j.val % 128 → (⟨k, h⟩ : Fin 128) = lane j := fun k h hk => Fin.ext hk
  by_cases h1 : j.val < 128
  · rw [dif_pos h1, if_pos h1, e _ _ (by omega)]
  rw [dif_neg h1, if_neg h1]
  by_cases h2 : j.val < 256
  · rw [dif_pos (by omega), if_pos h2, e _ _ (by omega)]
  rw [dif_neg (by omega), if_neg h2]
  by_cases h3 : j.val < 384
  · rw [dif_pos (by omega), if_pos h3, e _ _ (by omega)]
  rw [dif_neg (by omega), if_neg h3, e _ _ (by omega)]

theorem gate_apply (y z) (l : Fin 128) (j : Fin 512) :
    gate y z (ix2 l j) = y (ix2 l j) * (z (ix3 0 l j) * Ideal.logistic (z (ix3 0 l j))) := by
  pointwise [gate]

theorem norm_apply (yg nw) (l : Fin 128) (j : Fin 512) :
    norm yg nw (ix3 0 l j) = yg (ix2 l j) * Ideal.rsqrt (Ideal.div (∑ k : Fin 512, yg (ix2 l k) * yg (ix2 l k))
      (Ideal.ofBits .f32 0x44000000#32) + Ideal.ofBits .f32 0x358637BD#32) * nw (ix2 0 j) := by
  pointwise [norm]

theorem hnext_apply (bg ht el dx) (n : Fin 128) (j : Fin 512) :
    hnext bg ht el dx (ix3 0 n j) = el (ix2 0 j) * ht (ix3 0 n j) + ∑ s : Fin 128, bg (ix2 s n) * dx (ix2 s j) := by
  pointwise [hnext]

/-! ## The group as a function of its number -/

theorem sB (g : Fin 8) : S128x6144.Slices ![0, 4096 + 128 * g.val] S128x128 := by revert g; decide
theorem sC (g : Fin 8) : S128x6144.Slices ![0, 5120 + 128 * g.val] S128x128 := by revert g; decide
theorem sG (g : Fin 8) : S128x4096.Slices ![0, 512 * g.val] S128x512 := by revert g; decide
theorem sL (g : Fin 8) : S128x4096.Slices ![127, 512 * g.val] S1x512 := by revert g; decide
theorem sP (g : Fin 8) (i : Fin 4) : S128x4096.Slices ![0, 512 * g.val + 128 * i.val] S128x128 := by revert g i; decide
theorem sCol (g r : Fin 8) : S128x128.Slices ![0, 8 * g.val + r.val] S128x1 := by revert g r; decide
theorem sRow (g r : Fin 8) : S128x128.Slices ![8 * g.val + r.val, 0] S1x128 := by revert g r; decide

/-- The group's B. -/
def bOf (g : Fin 8) (xc : FVec Ideal S128x6144 .f32) : FVec Ideal S128x128 .f32 :=
  extractStridedSlice S128x128 ![0, 4096 + 128 * g.val] xc (sB g)

/-- The group's C. -/
def cOf (g : Fin 8) (xc : FVec Ideal S128x6144 .f32) : FVec Ideal S128x128 .f32 :=
  extractStridedSlice S128x128 ![0, 5120 + 128 * g.val] xc (sC g)

/-- Two heads of the group, `r` and `r'`, against the columns of pair `i`. -/
def pairOf (g r r' : Fin 8) (i : Fin 4) (cbm acum acumT : FVec Ideal S128x128 .f32) (causal half : IVec S128x128 1)
    (dtx : FVec Ideal S128x4096 .bf16) : FVec Ideal S128x128 .f32 :=
  pair cbm (extractStridedSlice S128x1 ![0, 8 * g.val + r.val] acum (sCol g r))
    (extractStridedSlice S1x128 ![8 * g.val + r.val, 0] acumT (sRow g r))
    (extractStridedSlice S128x1 ![0, 8 * g.val + r'.val] acum (sCol g r'))
    (extractStridedSlice S1x128 ![8 * g.val + r'.val, 0] acumT (sRow g r')) causal half
    (extractStridedSlice S128x128 ![0, 512 * g.val + 128 * i.val] dtx (sP g i))

/-- The group's rows before the gate. -/
def grpRaw (g : Fin 8) (xc : FVec Ideal S128x6144 .f32) (acum acumT : FVec Ideal S128x128 .f32)
    (causal half : IVec S128x128 1) (dtx : FVec Ideal S128x4096 .bf16) (eac xs : FVec Ideal S128x4096 .f32)
    (ht : FVec Ideal S1x128x512 .f32) (dsk : FVec Ideal S1x512 .f32) : FVec Ideal S128x512 .f32 :=
  yraw (pairOf g 0 1 0 (cbmOf (bOf g xc) (cOf g xc)) acum acumT causal half dtx)
    (pairOf g 2 3 1 (cbmOf (bOf g xc) (cOf g xc)) acum acumT causal half dtx)
    (pairOf g 4 5 2 (cbmOf (bOf g xc) (cOf g xc)) acum acumT causal half dtx)
    (pairOf g 6 7 3 (cbmOf (bOf g xc) (cOf g xc)) acum acumT causal half dtx)
    (yoff (cOf g xc) ht (extractStridedSlice S128x512 ![0, 512 * g.val] eac (sG g))) dsk
    (extractStridedSlice S128x512 ![0, 512 * g.val] xs (sG g))

/-- The group's result rows. -/
def grpY (g : Fin 8) (xc : FVec Ideal S128x6144 .f32) (acum acumT : FVec Ideal S128x128 .f32)
    (causal half : IVec S128x128 1) (dtx : FVec Ideal S128x4096 .bf16) (eac xs : FVec Ideal S128x4096 .f32)
    (ht : FVec Ideal S1x128x512 .f32) (dsk : FVec Ideal S1x512 .f32) (z : FVec Ideal S1x128x512 .f32)
    (nw : FVec Ideal S1x512 .f32) : FVec Ideal S1x128x512 .bf16 :=
  norm (gate (grpRaw g xc acum acumT causal half dtx eac xs ht dsk) z) nw

/-- The group's state after the chunk. -/
def grpH (g : Fin 8) (xc : FVec Ideal S128x6144 .f32) (eac : FVec Ideal S128x4096 .f32)
    (dxs : FVec Ideal S128x4096 .bf16) (ht : FVec Ideal S1x128x512 .f32) : FVec Ideal S1x128x512 .f32 :=
  hnext (bOf g xc) ht (extractStridedSlice S1x512 ![127, 512 * g.val] eac (sL g))
    (extractStridedSlice S128x512 ![0, 512 * g.val] dxs (sG g))

variable {XC : Fin 128 → Fin 6144 → EReal} {DT : Fin 128 → Fin 64 → EReal} {A D : Fin 64 → EReal}
  {H : Fin 8 → Fin 128 → Fin 512 → EReal}

theorem bOf_apply {xc : FVec Ideal S128x6144 .f32} (hxc : ∀ l j, xc (ix2 l j) = XC l j) (g : Fin 8) (s n : Fin 128) :
    bOf g xc (ix2 s n) = XC s (Ssd.colB g n) := by
  rw [← hxc]
  pointwise [bOf, Ssd.colB]

theorem cOf_apply {xc : FVec Ideal S128x6144 .f32} (hxc : ∀ l j, xc (ix2 l j) = XC l j) (g : Fin 8) (s n : Fin 128) :
    cOf g xc (ix2 s n) = XC s (Ssd.colC g n) := by
  rw [← hxc]
  pointwise [cOf, Ssd.colC]

theorem pairOf_apply {xc : FVec Ideal S128x6144 .f32} (hxc : ∀ l j, xc (ix2 l j) = XC l j)
    {acum acumT : FVec Ideal S128x128 .f32}
    (hac : ∀ l (h : Fin 64), acum (ix2 l ⟨h.val, by omega⟩) = Ssd.AC DT A l h)
    (hacT : ∀ l (h : Fin 64), acumT (ix2 ⟨h.val, by omega⟩ l) = Ssd.AC DT A l h)
    {causal half : IVec S128x128 1} (hcausal : ∀ l s, causal (ix2 l s) = 1#1 ↔ s ≤ l)
    (hhalf : ∀ l c, half (ix2 l c) = 1#1 ↔ c.val < 64)
    {dtx : FVec Ideal S128x4096 .bf16}
    (hdtx : ∀ s g j, dtx (ix2 s (Ssd.colY g j)) = DT s (Ssd.head g j) * XC s (Ssd.colX g j))
    (g r r' : Fin 8) (i : Fin 4) (hr : r.val = 2 * i.val) (hr' : r'.val = 2 * i.val + 1)
    (l : Fin 128) (j : Fin 512) (hj : j.val / 128 = i.val) :
    pairOf g r r' i (cbmOf (bOf g xc) (cOf g xc)) acum acumT causal half dtx (ix2 l (lane j)) =
      ∑ s : Fin 128, (∑ n : Fin 128, XC l (Ssd.colC g n) * XC s (Ssd.colB g n))
      * Ideal.exp (if s ≤ l then Ssd.AC DT A l (Ssd.head g j) - Ssd.AC DT A s (Ssd.head g j) else ⊥)
      * (DT s (Ssd.head g j) * XC s (Ssd.colX g j)) := by
  have key : ∀ q : Fin 8, q.val = j.val / 64 →
      wdot (cbmOf (bOf g xc) (cOf g xc)) (extractStridedSlice S128x1 ![0, 8 * g.val + q.val] acum (sCol g q))
        (extractStridedSlice S1x128 ![8 * g.val + q.val, 0] acumT (sRow g q)) causal
        (extractStridedSlice S128x128 ![0, 512 * g.val + 128 * i.val] dtx (sP g i)) (ix2 l (lane j)) =
      ∑ s : Fin 128, (∑ n : Fin 128, XC l (Ssd.colC g n) * XC s (Ssd.colB g n))
      * Ideal.exp (if s ≤ l then Ssd.AC DT A l (Ssd.head g j) - Ssd.AC DT A s (Ssd.head g j) else ⊥)
      * (DT s (Ssd.head g j) * XC s (Ssd.colX g j)) := by
    intro q hq
    rw [wdot_apply]
    refine Finset.sum_congr rfl fun s _ => ?_
    rw [cbmOf_apply]
    simp only [bOf_apply hxc, cOf_apply hxc, hcausal]
    have e1 : extractStridedSlice S128x1 ![0, 8 * g.val + q.val] acum (sCol g q) (ix2 l 0)
        = Ssd.AC DT A l (Ssd.head g j) := by
      rw [← hac]
      pointwise [Ssd.head]
      simp only [hq]
    have e2 : extractStridedSlice S1x128 ![8 * g.val + q.val, 0] acumT (sRow g q) (ix2 0 s)
        = Ssd.AC DT A s (Ssd.head g j) := by
      rw [← hacT]
      pointwise [Ssd.head]
      simp only [hq]
    have e3 : extractStridedSlice S128x128 ![0, 512 * g.val + 128 * i.val] dtx (sP g i) (ix2 s (lane j))
        = DT s (Ssd.head g j) * XC s (Ssd.colX g j) := by
      rw [← hdtx]
      pointwise [Ssd.colY, lane]
      have e : 512 * g.val + 128 * i.val + j.val % 128 = 512 * g.val + j.val := by omega
      simp only [e]
    rw [e1, e2, e3]
  show Scalar.select (half (ix2 l (lane j))) _ _ = _
  by_cases h : (lane j).val < 64
  · refine (if_pos ((hhalf l (lane j)).2 h)).trans ?_
    exact key r (by simp only [lane] at h; omega)
  · refine (if_neg (fun e => h ((hhalf l (lane j)).1 e))).trans ?_
    exact key r' (by simp only [lane] at h; omega)

theorem grpRaw_apply {xc : FVec Ideal S128x6144 .f32} (hxc : ∀ l j, xc (ix2 l j) = XC l j)
    {acum acumT : FVec Ideal S128x128 .f32}
    (hac : ∀ l (h : Fin 64), acum (ix2 l ⟨h.val, by omega⟩) = Ssd.AC DT A l h)
    (hacT : ∀ l (h : Fin 64), acumT (ix2 ⟨h.val, by omega⟩ l) = Ssd.AC DT A l h)
    {causal half : IVec S128x128 1} (hcausal : ∀ l s, causal (ix2 l s) = 1#1 ↔ s ≤ l)
    (hhalf : ∀ l c, half (ix2 l c) = 1#1 ↔ c.val < 64)
    {dtx : FVec Ideal S128x4096 .bf16}
    (hdtx : ∀ s g j, dtx (ix2 s (Ssd.colY g j)) = DT s (Ssd.head g j) * XC s (Ssd.colX g j))
    {eac xs : FVec Ideal S128x4096 .f32}
    (heac : ∀ l g j, eac (ix2 l (Ssd.colY g j)) = Ideal.exp (Ssd.AC DT A l (Ssd.head g j)))
    (hxs : ∀ l g j, xs (ix2 l (Ssd.colY g j)) = XC l (Ssd.colX g j))
    (g : Fin 8) {ht : FVec Ideal S1x128x512 .f32} (hht : ∀ n j, ht (ix3 0 n j) = H g n j)
    {dsk : FVec Ideal S1x512 .f32} (hdsk : ∀ j, dsk (ix2 0 j) = D (Ssd.head g j)) (l : Fin 128) (j : Fin 512) :
    grpRaw g xc acum acumT causal half dtx eac xs ht dsk (ix2 l j) = Ssd.yraw XC DT A D H l g j := by
  have e1 : extractStridedSlice S128x512 ![0, 512 * g.val] eac (sG g) (ix2 l j)
      = Ideal.exp (Ssd.AC DT A l (Ssd.head g j)) := by
    rw [← heac]
    pointwise [Ssd.colY]
  have e2 : extractStridedSlice S128x512 ![0, 512 * g.val] xs (sG g) (ix2 l j) = XC l (Ssd.colX g j) := by
    rw [← hxs]
    pointwise [Ssd.colY]
  rw [grpRaw, yraw_apply, yoff_apply, e1, e2, hdsk, Ssd.yraw]
  simp only [cOf_apply hxc, hht]
  congr 2
  have hp := pairOf_apply hxc hac hacT hcausal hhalf hdtx g (l := l) (j := j)
  split_ifs with h1 h2 h3
  · exact hp 0 1 0 rfl rfl (by show _ = 0; omega)
  · exact hp 2 3 1 rfl rfl (by show _ = 1; omega)
  · exact hp 4 5 2 rfl rfl (by show _ = 2; omega)
  · exact hp 6 7 3 rfl rfl (by show _ = 3; omega)

theorem grpH_apply {xc : FVec Ideal S128x6144 .f32} (hxc : ∀ l j, xc (ix2 l j) = XC l j)
    {eac : FVec Ideal S128x4096 .f32}
    (heac : ∀ l g j, eac (ix2 l (Ssd.colY g j)) = Ideal.exp (Ssd.AC DT A l (Ssd.head g j)))
    {dxs : FVec Ideal S128x4096 .bf16}
    (hdxs : ∀ s g j, dxs (ix2 s (Ssd.colY g j)) =
      Ideal.exp (Ssd.AC DT A 127 (Ssd.head g j) - Ssd.AC DT A s (Ssd.head g j)) * DT s (Ssd.head g j) * XC s (Ssd.colX g j))
    (g : Fin 8) {ht : FVec Ideal S1x128x512 .f32} (hht : ∀ n j, ht (ix3 0 n j) = H g n j) (n : Fin 128) (j : Fin 512) :
    grpH g xc eac dxs ht (ix3 0 n j) = Ssd.hnext XC DT A H g n j := by
  have e1 : extractStridedSlice S1x512 ![127, 512 * g.val] eac (sL g) (ix2 0 j)
      = Ideal.exp (Ssd.AC DT A 127 (Ssd.head g j)) := by
    rw [← heac]
    pointwise [Ssd.colY]
    try rfl
  have e2 : ∀ s, extractStridedSlice S128x512 ![0, 512 * g.val] dxs (sG g) (ix2 s j) = dxs (ix2 s (Ssd.colY g j)) := by
    intro s
    pointwise [Ssd.colY]
  rw [grpH, hnext_apply, e1, hht, Ssd.hnext]
  simp only [e2, hdxs, bOf_apply hxc]

theorem grpY_apply (g : Fin 8) (xc acum acumT causal half dtx eac xs ht dsk) {z : FVec Ideal S1x128x512 .f32} (nw)
    {Y : Fin 512 → EReal} {Z : Fin 512 → EReal} (l : Fin 128)
    (hY : ∀ j, grpRaw g xc acum acumT causal half dtx eac xs ht dsk (ix2 l j) = Y j)
    (hz : ∀ j, z (ix3 0 l j) = Z j) (j : Fin 512) :
    grpY g xc acum acumT causal half dtx eac xs ht dsk z nw (ix3 0 l j)
      = Ssd.gnorm (fun j => Y j * Ssd.swish (Z j)) (nw (ix2 0 j)) j := by
  rw [grpY, norm_apply]
  simp only [gate_apply, hY, hz]
  rfl

end Cert.KernelIdeal.Group

end
-- ==== Proof.ChunkDefs.lean ====
/-
  What one chunk computes, as functions of its blocks and of what the chunk before left in the two
  scratch buffers, and that this is what the kernel's three kinds of grid point store.
-/
module

public import proofs.«01_k».proof.Proof.Group
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Chunk

open Cert.KernelIdeal Cert.KernelIdeal.Gen Idealize.ShloMosaic Idealize.ShloMosaic.TcCoe Idealize.SL.Sem
open Cert.KernelIdeal.Group

theorem inbW (k : Fin 4) : ∀ a, (![k.val, 0] : Fin 2 → Nat) a + S1x6144.size a ≤ S4x6144.size a := by revert k; decide
theorem inbH (g : Fin 8) : ∀ a, (![g.val, 0, 0] : Fin 3 → Nat) a + S1x128x512.size a ≤ S8x128x512.size a := by
  revert g; decide
theorem inbY (g : Fin 8) : ∀ a, (![0, 0, 512 * g.val] : Fin 3 → Nat) a + S1x128x512.size a ≤ S1x128x4096.size a := by
  revert g; decide
theorem inbR (g : Fin 8) : ∀ a, (![0, 512 * g.val] : Fin 2 → Nat) a + S1x512.size a ≤ S1x4096.size a := by
  revert g; decide

/-- Row `k` of the convolution's weights, as a load reads it. -/
def wrow (k : Fin 4) (x3 : Vec Ideal S4x6144 .f32) : FVec Ideal S1x6144 .f32 :=
  View.ld (Val := Elt Ideal) (e' := .f32) x3 (Rect.unit (s := S4x6144) ![k.val, 0] S1x6144.size (inbW k))

/-- Group `g` of the state, as a load reads it. -/
def tile (g : Fin 8) (s1 : Vec Ideal S8x128x512 .f32) : FVec Ideal S1x128x512 .f32 :=
  View.ld (Val := Elt Ideal) (e' := .f32) s1 (Rect.unit (s := S8x128x512) ![g.val, 0, 0] S1x128x512.size (inbH g))

/-- Group `g`'s columns of a block of rows, as a load reads them. -/
def cols (g : Fin 8) (x1 : Vec Ideal S1x128x4096 .f32) : FVec Ideal S1x128x512 .f32 :=
  View.ld (Val := Elt Ideal) (e' := .f32) x1 (Rect.unit (s := S1x128x4096) ![0, 0, 512 * g.val] S1x128x512.size (inbY g))

/-- Group `g`'s columns of a single row, as a load reads them. -/
def rowg (g : Fin 8) (x7 : Vec Ideal S1x4096 .f32) : FVec Ideal S1x512 .f32 :=
  View.ld (Val := Elt Ideal) (e' := .f32) x7 (Rect.unit (s := S1x4096) ![0, 512 * g.val] S1x512.size (inbR g))

section
variable (x0 : FVec Ideal S1x128x6144 .f32) (x1 : FVec Ideal S1x128x4096 .f32) (x2 : FVec Ideal S1x128x128 .f32)
  (x3 : FVec Ideal S4x6144 .f32) (x4 : FVec Ideal S1x6144 .f32) (x5 x6 : FVec Ideal S1x128 .f32)
  (x7 x8 : FVec Ideal S1x4096 .f32) (x9 : FVec Ideal S128x4096 .bf16) (x10 : FVec Ideal S128x128 .bf16)
  (s0 : FVec Ideal S128x6144 .f32) (s1 : FVec Ideal S8x128x512 .f32)

/-- The chunk's convolved columns. -/
def xcV : FVec Ideal S128x6144 .f32 :=
  k0_pay17 (k0_pay13 x0) (k0_pay14 x0 s0 x4 (wrow 0 x3) (wrow 1 x3)) (k0_pay15 x0 s0) (wrow 2 x3) (wrow 3 x3)

/-- The first 4096 of them. -/
def xsV : FVec Ideal S128x4096 .f32 :=
  k0_pay18 (k0_pay13 x0) (k0_pay14 x0 s0 x4 (wrow 0 x3) (wrow 1 x3)) (k0_pay15 x0 s0) (wrow 2 x3) (wrow 3 x3)

/-- The chunk's steps. -/
def dtV : FVec Ideal S128x128 .f32 := k0_pay19 x2 x5

/-- The running sums. -/
def acumV : FVec Ideal S128x128 .f32 :=
  k0_pay24 (k0_pay20 x10) (k0_pay21 x2 x5 x6) (k0_pay22 x2 x5 x6) (k0_pay23 x2 x5 x6)

/-- The running sums, transposed. -/
def acumTV : FVec Ideal S128x128 .f32 :=
  k0_pay25 (k0_pay20 x10) (k0_pay21 x2 x5 x6) (k0_pay22 x2 x5 x6) (k0_pay23 x2 x5 x6)

/-- Their exponentials, spread over the heads' columns. -/
def eacV : FVec Ideal S128x4096 .f32 :=
  k0_pay27 (k0_pay20 x10) (k0_pay21 x2 x5 x6) (k0_pay22 x2 x5 x6) (k0_pay23 x2 x5 x6) x9

/-- The columns times the steps. -/
def dtxV : FVec Ideal S128x4096 .bf16 := k0_pay28 (xsV x0 x3 x4 s0) (dtV x2 x5) x9

/-- The columns times the steps and what is left of each at the chunk's end. -/
def dxsV : FVec Ideal S128x4096 .bf16 :=
  k0_pay29 (xsV x0 x3 x4 s0) (dtV x2 x5) (k0_pay20 x10) (k0_pay21 x2 x5 x6) (k0_pay22 x2 x5 x6) (k0_pay23 x2 x5 x6) x9

/-- Group `g`'s result rows. -/
def yV (g : Fin 8) : FVec Ideal S1x128x512 .bf16 :=
  grpY g (xcV x0 x3 x4 s0) (acumV x2 x5 x6 x10) (acumTV x2 x5 x6 x10) k0_pay30 (k0_pay31 (iota .tc S128x128 32 [1] iota_S128x128_d1_w32) 64#32)
    (dtxV x0 x2 x3 x4 x5 x9 s0) (eacV x2 x5 x6 x9 x10) (xsV x0 x3 x4 s0) (tile g s1) (rowg g x7) (cols g x1) (rowg g x8)

/-- Group `g`'s state after the chunk. -/
def hV (g : Fin 8) : FVec Ideal S1x128x512 .f32 :=
  grpH g (xcV x0 x3 x4 s0) (eacV x2 x5 x6 x9 x10) (dxsV x0 x2 x3 x4 x5 x6 x9 x10 s0) (tile g s1)

/-- All groups' result rows. -/
def yAll : Vec Ideal S1x128x4096 .bf16 := fun y =>
  yV x0 x1 x2 x3 x4 x5 x6 x7 x8 x9 x10 s0 s1 ⟨(y 2).val / 512, by have h : (y 2).val < 4096 := (y 2).isLt; omega⟩
    (ix3 0 (y 1) ⟨(y 2).val % 512, Nat.mod_lt _ (by decide)⟩)

/-- The whole state after the chunk. -/
def hAll : Vec Ideal S8x128x512 .f32 := fun y =>
  hV x0 x2 x3 x4 x5 x6 x9 x10 s0 s1 (y 0) (ix3 0 (y 1) (y 2))

theorem hAll_at (g : Fin 8) (x : S1x128x512.Idx) (y : S8x128x512.Idx) (h0 : (y 0).val = g.val + (x 0).val)
    (h1 : (y 1).val = (x 1).val) (h2 : (y 2).val = (x 2).val) :
    hV x0 x2 x3 x4 x5 x6 x9 x10 s0 s1 g x = hAll x0 x2 x3 x4 x5 x6 x9 x10 s0 s1 y := by
  have e0 : (x 0).val = 0 := by have h : (x 0).val < 1 := (x 0).isLt; omega
  have eg : y 0 = g := Fin.ext (by omega)
  have ex : x = ix3 0 (y 1) (y 2) := by
    funext a
    match a with
    | ⟨0, _⟩ => exact Fin.ext e0
    | ⟨1, _⟩ => exact Fin.ext (by show (x 1).val = (y 1).val; omega)
    | ⟨2, _⟩ => exact Fin.ext (by show (x 2).val = (y 2).val; omega)
  subst eg
  exact congrArg _ ex

theorem yAll_at (g : Fin 8) (x : S1x128x512.Idx) (y : S1x128x4096.Idx)
    (h1 : (y 1).val = (x 1).val) (h2 : (y 2).val = 512 * g.val + (x 2).val) :
    yV x0 x1 x2 x3 x4 x5 x6 x7 x8 x9 x10 s0 s1 g x = yAll x0 x1 x2 x3 x4 x5 x6 x7 x8 x9 x10 s0 s1 y := by
  have e0 : (x 0).val = 0 := by have h : (x 0).val < 1 := (x 0).isLt; omega
  have l2 : (x 2).val < 512 := (x 2).isLt
  rw [yAll]
  congr 1
  · exact Fin.ext (by show g.val = (y 2).val / 512; omega)
  · funext a
    match a with
    | ⟨0, _⟩ => exact Fin.ext e0
    | ⟨1, _⟩ => exact Fin.ext (by show (x 1).val = (y 1).val; omega)
    | ⟨2, _⟩ => exact Fin.ext (by show (x 2).val = (y 2).val % 512; omega)

/-- A group's state with its two axes exchanged, as the last chunk stores it. -/
def trOf (h : FVec Ideal S1x128x512 .f32) : FVec Ideal S1x512x128 .f32 :=
  shapeCast S1x512x128 (transpose S512x128 [1, 0] (shapeCast S128x512 h shapeCasts_S1x128x512_S128x512)
    transposes_S128x512_p1_0_S512x128) shapeCasts_S512x128_S1x512x128

theorem trOf_apply (h : FVec Ideal S1x128x512 .f32) (j : Fin 512) (n : Fin 128) :
    trOf h (ix3 0 j n) = h (ix3 0 n j) := by
  pointwise [trOf]

/-- The whole state after the chunk, head columns first. -/
def fAll : Vec Ideal S1x4096x128 .f32 := fun y =>
  hV x0 x2 x3 x4 x5 x6 x9 x10 s0 s1 ⟨(y 1).val / 512, by have h : (y 1).val < 4096 := (y 1).isLt; omega⟩
    (ix3 0 (y 2) ⟨(y 1).val % 512, Nat.mod_lt _ (by decide)⟩)

theorem fAll_at (g : Fin 8) (x : S1x512x128.Idx) (y : S1x4096x128.Idx)
    (h1 : (y 1).val = 512 * g.val + (x 1).val) (h2 : (y 2).val = (x 2).val) :
    trOf (hV x0 x2 x3 x4 x5 x6 x9 x10 s0 s1 g) x = fAll x0 x2 x3 x4 x5 x6 x9 x10 s0 s1 y := by
  have e0 : (x 0).val = 0 := by have h : (x 0).val < 1 := (x 0).isLt; omega
  have l1 : (x 1).val < 512 := (x 1).isLt
  have ex : x = ix3 0 (x 1) (x 2) := by
    funext a
    match a with
    | ⟨0, _⟩ => exact Fin.ext e0
    | ⟨1, _⟩ => rfl
    | ⟨2, _⟩ => rfl
  rw [ex, fAll]
  refine (trOf_apply _ _ _).trans ?_
  congr 1
  · exact Fin.ext (by show g.val = (y 1).val / 512; omega)
  · funext a
    match a with
    | ⟨0, _⟩ => rfl
    | ⟨1, _⟩ => exact Fin.ext (by show (x 2).val = (y 2).val; omega)
    | ⟨2, _⟩ => exact Fin.ext (by show (x 1).val = (y 1).val % 512; omega)
end

end Cert.KernelIdeal.Chunk

end
-- ==== Proof.Chunk.lean ====
/-
  What one chunk computes, read at an index: the kernel's three-part and two-part products with the
  zero-one matrices are exact where the steps and the rates are real numbers, so that a chunk's rows
  and its next state are those of the recurrence.
-/
module

public import proofs.«01_k».proof.Proof.ChunkDefs

@[expose] public section

set_option maxRecDepth 16384

noncomputable section

namespace Cert.Ssd

open Idealize.ShloMosaic

/-- The value is a real number. -/
def IsR (x : EReal) : Prop := ∃ r : ℝ, x = r

theorem IsR.zero : IsR 0 := ⟨0, by simp⟩
theorem IsR.add {x y : EReal} : IsR x → IsR y → IsR (x + y) := by
  rintro ⟨a, rfl⟩ ⟨b, rfl⟩; exact ⟨a + b, by simp⟩
theorem IsR.sub {x y : EReal} : IsR x → IsR y → IsR (x - y) := by
  rintro ⟨a, rfl⟩ ⟨b, rfl⟩; exact ⟨a - b, by simp⟩
theorem IsR.mul {x y : EReal} : IsR x → IsR y → IsR (x * y) := by
  rintro ⟨a, rfl⟩ ⟨b, rfl⟩; exact ⟨a * b, by simp⟩
theorem IsR.neg {x : EReal} : IsR x → IsR (-x) := by
  rintro ⟨a, rfl⟩; exact ⟨-a, by simp⟩
theorem IsR.max {x y : EReal} : IsR x → IsR y → IsR (max x y) := by
  intro hx hy
  rcases max_choice x y with h | h <;> rw [h] <;> assumption
theorem IsR.exp {x : EReal} : IsR x → IsR (Ideal.exp x) := by
  rintro ⟨a, rfl⟩; exact ⟨Real.exp a, rfl⟩
theorem IsR.sum {ι : Type} (s : Finset ι) {f : ι → EReal} (h : ∀ i, IsR (f i)) : IsR (∑ i ∈ s, f i) := by
  classical
  induction s using Finset.induction_on with
  | empty => simpa using IsR.zero
  | insert a s ha ih => rw [Finset.sum_insert ha]; exact (h a).add ih
theorem IsR.sub_self {x : EReal} : IsR x → x - x = 0 := by
  rintro ⟨a, rfl⟩; rw [← EReal.coe_sub]; simp

theorem IsR.softplus {x : EReal} : IsR x → IsR (softplus x) := by
  rintro ⟨a, rfl⟩
  refine (IsR.max ⟨a, rfl⟩ IsR.zero).add ?_
  obtain ⟨b, hb⟩ : IsR (0 - Max.max (a : EReal) (-a)) := IsR.zero.sub (IsR.max ⟨a, rfl⟩ (IsR.neg ⟨a, rfl⟩))
  rw [hb, Ideal.exp_coe, Ideal.log1p]
  refine ⟨Real.log (1 + Real.exp b), ?_⟩
  rw [show (1 : EReal) + (Real.exp b : EReal) = ((1 + Real.exp b : ℝ) : EReal) by simp, Ideal.log_coe, if_neg]
  have := Real.exp_pos b
  linarith

theorem IsR.AC {DT : Fin 128 → Fin 64 → EReal} {A : Fin 64 → EReal} (hdt : ∀ l h, IsR (DT l h)) (hA : ∀ h, IsR (A h))
    (l : Fin 128) (h : Fin 64) : IsR (AC DT A l h) :=
  IsR.sum _ fun s => by split_ifs; exacts [(hdt s h).mul (hA h), IsR.zero]

/-- A sum against a row with a single one. -/
theorem sum_onehot {n : ℕ} (f : Fin n → EReal) (k : Fin n) (e : Fin n → EReal) (he : ∀ i, e i = if i = k then 1 else 0) :
    ∑ i, f i * e i = f k := by
  rw [Finset.sum_eq_single k]
  · rw [he, if_pos rfl, mul_one]
  · intro b _ hb; rw [he, if_neg hb, mul_zero]
  · intro h; exact absurd (Finset.mem_univ k) h

/-- The two-part product with a zero-one matrix that has one 1 per column. -/
theorem two_part {n : ℕ} (f : Fin n → EReal) (k : Fin n) (e : Fin n → EReal) (he : ∀ i, e i = if i = k then 1 else 0)
    (hf : IsR (f k)) : ∑ i, f i * e i + ∑ i, (f i - f i) * e i = f k := by
  rw [sum_onehot f k e he, sum_onehot (fun i => f i - f i) k e he, hf.sub_self, add_zero]

end Cert.Ssd

namespace Cert.KernelIdeal.Chunk

open Cert.KernelIdeal Cert.KernelIdeal.Gen Idealize.ShloMosaic Idealize.ShloMosaic.TcCoe Idealize.SL.Sem
open Cert.KernelIdeal.Group Cert.Ssd

/-- A chunk's blocks and the data they hold: what the recurrence needs of them. -/
structure Holds (x0 : FVec Ideal S1x128x6144 .f32) (x2 : FVec Ideal S1x128x128 .f32)
    (x3 : FVec Ideal S4x6144 .f32) (x4 : FVec Ideal S1x6144 .f32) (x5 x6 : FVec Ideal S1x128 .f32)
    (x9 : FVec Ideal S128x4096 .bf16) (x10 : FVec Ideal S128x128 .bf16) (s0 : FVec Ideal S128x6144 .f32)
    (X XP : Fin 128 → Fin 6144 → EReal) (W : Fin 4 → Fin 6144 → EReal) (B : Fin 6144 → EReal)
    (R : Fin 128 → Fin 128 → EReal) (bias A : Fin 64 → EReal) : Prop where
  hx : ∀ l j, x0 (ix3 0 l j) = X l j
  hs : ∀ l j, s0 (ix2 l j) = XP l j
  hw : ∀ k j, x3 (ix2 k j) = W k j
  hb : ∀ j, x4 (ix2 0 j) = B j
  hr : ∀ l k, x2 (ix3 0 l k) = R l k
  hbias : ∀ h : Fin 64, x5 (ix2 0 ⟨h.val, by omega⟩) = bias h
  hA : ∀ h : Fin 64, x6 (ix2 0 ⟨h.val, by omega⟩) = A h
  hE : ∀ (k : Fin 128) (j : Fin 4096), x9 (ix2 k j) = if k.val = j.val / 64 then 1 else 0
  hT : ∀ l s : Fin 128, x10 (ix2 l s) = if s ≤ l then 1 else 0
  fin : ∀ (l : Fin 128) (h : Fin 64), IsR (R l ⟨h.val, by omega⟩ + bias h)
  finA : ∀ h, IsR (A h)

variable {x0 : FVec Ideal S1x128x6144 .f32} {x2 : FVec Ideal S1x128x128 .f32}
  {x3 : FVec Ideal S4x6144 .f32} {x4 : FVec Ideal S1x6144 .f32} {x5 x6 : FVec Ideal S1x128 .f32}
  {x9 : FVec Ideal S128x4096 .bf16} {x10 : FVec Ideal S128x128 .bf16} {s0 : FVec Ideal S128x6144 .f32}
  {X XP : Fin 128 → Fin 6144 → EReal} {W : Fin 4 → Fin 6144 → EReal} {B : Fin 6144 → EReal}
  {R : Fin 128 → Fin 128 → EReal} {bias A : Fin 64 → EReal}

/-- The chunk's steps. -/
def stepOf (R : Fin 128 → Fin 128 → EReal) (bias : Fin 64 → EReal) (l : Fin 128) (h : Fin 64) : EReal :=
  softplus (R l ⟨h.val, by omega⟩ + bias h)

theorem wrow_apply (x3 : FVec Ideal S4x6144 .f32) (k : Fin 4) (j : Fin 6144) : wrow k x3 (ix2 0 j) = x3 (ix2 k j) := by
  pointwise [wrow]

theorem sge_iff (k : Fin 4) (l : Fin 128) :
    IntOp.cmpi .sge (BitVec.ofNat 32 l.val) (BitVec.ofNat 32 k.val) = 1#1 ↔ k.val ≤ l.val := by
  revert k l; decide

theorem back_eq (k : Fin 4) (l : Fin 128) (j : Fin 6144) (h : (l.val + 128 - k.val) % 128 < 128) :
    Scalar.select (IntOp.cmpi .sge (BitVec.ofNat 32 l.val) (BitVec.ofNat 32 k.val))
      (X ⟨(l.val + 128 - k.val) % 128, h⟩ j) (XP ⟨(l.val + 128 - k.val) % 128, h⟩ j) = conv.back X XP k l j := by
  rw [conv.back]
  by_cases c : k.val ≤ l.val
  · rw [if_pos c]
    refine (if_pos ((sge_iff k l).2 c)).trans ?_
    congr 1; exact Fin.ext (by show (l.val + 128 - k.val) % 128 = l.val - k.val; omega)
  · rw [if_neg c]
    refine (if_neg (fun e => c ((sge_iff k l).1 e))).trans ?_
    congr 1; exact Fin.ext (by show (l.val + 128 - k.val) % 128 = (128 + l.val - k.val) % 128; omega)

theorem xcV_apply (H : Holds x0 x2 x3 x4 x5 x6 x9 x10 s0 X XP W B R bias A) (l : Fin 128) (j : Fin 6144) :
    xcV x0 x3 x4 s0 (ix2 l j) = swish (conv X XP W B l j) := by
  pointwise [xcV, k0_pay17, k0_pay14, k0_pay15, k0_pay13]
  have e3 := back_eq (X := X) (XP := XP) 3 l j (Nat.mod_lt _ (by decide))
  have e2 := back_eq (X := X) (XP := XP) 2 l j (Nat.mod_lt _ (by decide))
  have e1 := back_eq (X := X) (XP := XP) 1 l j (Nat.mod_lt _ (by decide))
  simp only [wrow_apply, H.hx, H.hs, H.hw, H.hb]
  rw [swish, conv, ← e3, ← e2, ← e1]
  rfl

theorem xsV_apply (g : Fin 8) (l : Fin 128) (j : Fin 512) :
    xsV x0 x3 x4 s0 (ix2 l (colY g j)) = xcV x0 x3 x4 s0 (ix2 l (colX g j)) := by
  pointwise [xsV, xcV, k0_pay18, colX, colY]

theorem slt64 (h : Fin 64) : IntOp.cmpi .slt (BitVec.ofNat 32 h.val) 64#32 = 1#1 := by revert h; decide

theorem dtV_apply (H : Holds x0 x2 x3 x4 x5 x6 x9 x10 s0 X XP W B R bias A) (l : Fin 128) (h : Fin 64) :
    dtV x2 x5 (ix2 l ⟨h.val, by omega⟩) = stepOf R bias l h := by
  pointwise [dtV, k0_pay19]
  refine (if_pos (slt64 h)).trans ?_
  rw [H.hr, H.hbias]
  rfl

theorem stepOf_real (H : Holds x0 x2 x3 x4 x5 x6 x9 x10 s0 X XP W B R bias A) (l : Fin 128) (h : Fin 64) :
    IsR (stepOf R bias l h) := (H.fin l h).softplus

theorem AC_real (H : Holds x0 x2 x3 x4 x5 x6 x9 x10 s0 X XP W B R bias A) (l : Fin 128) (h : Fin 64) :
    IsR (AC (stepOf R bias) A l h) := IsR.AC (stepOf_real H) H.finA l h

theorem pay21_apply (H : Holds x0 x2 x3 x4 x5 x6 x9 x10 s0 X XP W B R bias A) (s : Fin 128) (h : Fin 64) :
    k0_pay21 (F := Ideal) x2 x5 x6 (ix2 s ⟨h.val, by omega⟩) = stepOf R bias s h * A h := by
  rw [← dtV_apply H s h, ← H.hA h]
  pointwise [k0_pay21, dtV, k0_pay19]

theorem acumV_apply (H : Holds x0 x2 x3 x4 x5 x6 x9 x10 s0 X XP W B R bias A) (l : Fin 128) (h : Fin 64) :
    acumV x2 x5 x6 x10 (ix2 l ⟨h.val, by omega⟩) = AC (stepOf R bias) A l h := by
  have e := fun s => pay21_apply H s h
  have f : ∀ s, stepOf R bias s h * A h - stepOf R bias s h * A h = 0 :=
    fun s => ((stepOf_real H s h).mul (H.finA h)).sub_self
  pointwise [acumV, k0_pay24, k0_pay22, k0_pay23, k0_pay20]
  simp only [e, f, H.hT, sub_self, mul_zero, Finset.sum_const_zero, add_zero, sub_zero, ite_self, ite_mul, one_mul, zero_mul]
  rfl

theorem acumTV_apply (H : Holds x0 x2 x3 x4 x5 x6 x9 x10 s0 X XP W B R bias A) (l : Fin 128) (h : Fin 64) :
    acumTV x2 x5 x6 x10 (ix2 ⟨h.val, by omega⟩ l) = AC (stepOf R bias) A l h := by
  rw [← acumV_apply H l h]
  pointwise [acumTV, acumV, k0_pay25]

/-- The lane of a column's head. -/
def lane (g : Fin 8) (j : Fin 512) : Fin 128 := ⟨(head g j).val, by omega⟩

theorem expand_apply (H : Holds x0 x2 x3 x4 x5 x6 x9 x10 s0 X XP W B R bias A) (g : Fin 8) (j : Fin 512) (k : Fin 128) :
    k0_pay26 (F := Ideal) x9 (ix2 k (colY g j)) = if k = lane g j then 1 else 0 := by
  have e : k0_pay26 (F := Ideal) x9 (ix2 k (colY g j)) = x9 (ix2 k (colY g j)) := by pointwise [k0_pay26]
  rw [e, H.hE]
  refine if_congr ?_ rfl rfl
  rw [Fin.ext_iff]
  show k.val = (512 * g.val + j.val) / 64 ↔ k.val = 8 * g.val + j.val / 64
  omega

theorem eacV_apply (H : Holds x0 x2 x3 x4 x5 x6 x9 x10 s0 X XP W B R bias A) (l : Fin 128) (g : Fin 8) (j : Fin 512) :
    eacV x2 x5 x6 x9 x10 (ix2 l (colY g j)) = Ideal.exp (AC (stepOf R bias) A l (head g j)) := by
  have e : acumV x2 x5 x6 x10 (ix2 l (lane g j)) = _ := acumV_apply H l (head g j)
  have E := expand_apply H g j
  pointwise [eacV, k0_pay27]
  refine (two_part (fun k => Ideal.exp (acumV x2 x5 x6 x10 (ix2 l k))) (lane g j) _ E ?_).trans ?_
  · show IsR (Ideal.exp (acumV x2 x5 x6 x10 (ix2 l (lane g j)))); rw [e]; exact (AC_real H _ _).exp
  · show Ideal.exp (acumV x2 x5 x6 x10 (ix2 l (lane g j))) = _; rw [e]

theorem dtxV_apply (H : Holds x0 x2 x3 x4 x5 x6 x9 x10 s0 X XP W B R bias A) (l : Fin 128) (g : Fin 8) (j : Fin 512) :
    dtxV x0 x2 x3 x4 x5 x9 s0 (ix2 l (colY g j)) = stepOf R bias l (head g j) * xcV x0 x3 x4 s0 (ix2 l (colX g j)) := by
  have e : dtV x2 x5 (ix2 l (lane g j)) = _ := dtV_apply H l (head g j)
  have E := expand_apply H g j
  rw [← xsV_apply]
  pointwise [dtxV, k0_pay28]
  congr 1
  refine (two_part (fun k => dtV x2 x5 (ix2 l k)) (lane g j) _ E ?_).trans e
  show IsR (dtV x2 x5 (ix2 l (lane g j))); rw [e]; exact stepOf_real H _ _

theorem dxsV_apply (H : Holds x0 x2 x3 x4 x5 x6 x9 x10 s0 X XP W B R bias A) (l : Fin 128) (g : Fin 8) (j : Fin 512) :
    dxsV x0 x2 x3 x4 x5 x6 x9 x10 s0 (ix2 l (colY g j)) =
      Ideal.exp (AC (stepOf R bias) A 127 (head g j) - AC (stepOf R bias) A l (head g j)) * stepOf R bias l (head g j)
        * xcV x0 x3 x4 s0 (ix2 l (colX g j)) := by
  have e : dtV x2 x5 (ix2 l (lane g j)) = _ := dtV_apply H l (head g j)
  have a : ∀ l, acumV x2 x5 x6 x10 (ix2 l (lane g j)) = _ := fun l => acumV_apply H l (head g j)
  have E := expand_apply H g j
  rw [← xsV_apply]
  pointwise [dxsV, k0_pay29]
  congr 1
  have t : Ideal.exp (acumV x2 x5 x6 x10 (ix2 127 (lane g j)) - acumV x2 x5 x6 x10 (ix2 l (lane g j)))
      * dtV x2 x5 (ix2 l (lane g j)) = Ideal.exp (AC (stepOf R bias) A 127 (head g j) - AC (stepOf R bias) A l (head g j))
        * stepOf R bias l (head g j) := by rw [e, a, a]
  refine (two_part (fun k => Ideal.exp (acumV x2 x5 x6 x10 (ix2 127 k) - acumV x2 x5 x6 x10 (ix2 l k))
      * dtV x2 x5 (ix2 l k)) (lane g j) _ E ?_).trans t
  show IsR (_ * _)
  rw [t]
  exact ((AC_real H _ _).sub (AC_real H _ _)).exp.mul (stepOf_real H _ _)

theorem causal_iff (l s : Fin 128) : k0_pay30 (ix2 l s) = 1#1 ↔ s ≤ l := by
  have e : k0_pay30 (ix2 l s) = IntOp.cmpi .sge (BitVec.ofNat 32 l.val) (BitVec.ofNat 32 s.val) := by
    pointwise [k0_pay30]
  rw [e]
  have cmp : IntOp.cmpi .sge (BitVec.ofNat 32 l.val) (BitVec.ofNat 32 s.val)
      = BitVec.ofBool ((BitVec.ofNat 32 s.val).sle (BitVec.ofNat 32 l.val)) := rfl
  rw [cmp, BitVec.sle_eq_decide]
  have t : ∀ k : Fin 128, (BitVec.ofNat 32 k.val).toInt = k.val := by decide
  rw [t, t]
  by_cases h : s ≤ l
  · have : (s.val : Int) ≤ l.val := by exact_mod_cast h
    simp [h, this]
  · have : ¬ (s.val : Int) ≤ l.val := by intro h'; exact h (by exact_mod_cast h')
    simp [h, this]

theorem half_iff (l c : Fin 128) :
    k0_pay31 (iota .tc S128x128 32 [1] iota_S128x128_d1_w32) 64#32 (ix2 l c) = 1#1 ↔ c.val < 64 := by
  have e : k0_pay31 (iota .tc S128x128 32 [1] iota_S128x128_d1_w32) 64#32 (ix2 l c)
      = IntOp.cmpi .slt (BitVec.ofNat 32 c.val) 64#32 := by
    pointwise [k0_pay31]
  rw [e]
  clear e
  revert c; decide

theorem tile_apply (g : Fin 8) (s1 : FVec Ideal S8x128x512 .f32) (n : Fin 128) (j : Fin 512) :
    tile g s1 (ix3 0 n j) = s1 (ix3 g n j) := by
  pointwise [tile]

theorem cols_apply (g : Fin 8) (x1 : FVec Ideal S1x128x4096 .f32) (l : Fin 128) (j : Fin 512) :
    cols g x1 (ix3 0 l j) = x1 (ix3 0 l (colY g j)) := by
  pointwise [cols, colY]

theorem rowg_apply (g : Fin 8) (x7 : FVec Ideal S1x4096 .f32) (j : Fin 512) :
    rowg g x7 (ix2 0 j) = x7 (ix2 0 (colY g j)) := by
  pointwise [rowg, colY]

/-- The chunk's state after, at an index. -/
theorem hAll_apply (H : Holds x0 x2 x3 x4 x5 x6 x9 x10 s0 X XP W B R bias A) (s1 : FVec Ideal S8x128x512 .f32)
    (g : Fin 8) (n : Fin 128) (j : Fin 512) :
    hAll x0 x2 x3 x4 x5 x6 x9 x10 s0 s1 (ix3 g n j)
      = hnext (fun l j => swish (conv X XP W B l j)) (stepOf R bias) A (fun g n j => s1 (ix3 g n j)) g n j := by
  refine grpH_apply (XC := fun l j => swish (conv X XP W B l j)) (DT := stepOf R bias) (A := A)
    (H := fun g n j => s1 (ix3 g n j)) (fun l j => xcV_apply H l j) (fun l g j => eacV_apply H l g j) (fun l g j => ?_) g
    (fun n j => tile_apply g s1 n j) n j
  exact (dxsV_apply H l g j).trans (by rw [xcV_apply H])

/-- The chunk's result rows, at an index. -/
theorem yV_apply (H : Holds x0 x2 x3 x4 x5 x6 x9 x10 s0 X XP W B R bias A) (x1 : FVec Ideal S1x128x4096 .f32)
    (x7 x8 : FVec Ideal S1x4096 .f32) (s1 : FVec Ideal S8x128x512 .f32) (D : Fin 64 → EReal)
    (hD : ∀ (g : Fin 8) (j : Fin 512), x7 (ix2 0 (colY g j)) = D (head g j)) (g : Fin 8) (l : Fin 128) (j : Fin 512) :
    yV x0 x1 x2 x3 x4 x5 x6 x7 x8 x9 x10 s0 s1 g (ix3 0 l j)
      = gnorm (fun j => yraw (fun l j => swish (conv X XP W B l j)) (stepOf R bias) A D (fun g n j => s1 (ix3 g n j)) l g j
          * swish (x1 (ix3 0 l (colY g j)))) (x8 (ix2 0 (colY g j))) j := by
  rw [← rowg_apply g x8 j]
  refine grpY_apply g _ _ _ _ _ _ _ _ _ _ (rowg g x8) l (fun j => ?_) (fun j => cols_apply g x1 l j) j
  exact grpRaw_apply (fun l j => xcV_apply H l j) (fun l h => acumV_apply H l h) (fun l h => acumTV_apply H l h)
    causal_iff half_iff (fun l g j => (dtxV_apply H l g j).trans (by rw [xcV_apply H]))
    (fun l g j => eacV_apply H l g j) (fun l g j => (xsV_apply g l j).trans (xcV_apply H l _)) g
    (fun n j => tile_apply g s1 n j) (fun j => (rowg_apply g x7 j).trans (hD g j)) l j

end Cert.KernelIdeal.Chunk

end
-- ==== Proof.Cases.lean ====
/-
  What each of the three kinds of grid point leaves, as the chunk's functions of the blocks of the
  point and of what the point before left: the first chunk of a sequence (A) starts from zeros, the
  last (C) writes the state out besides.
-/
module

public import proofs.«01_k».proof.Proof.ChunkDefs

@[expose] public section

set_option maxRecDepth 16384

noncomputable section

namespace Cert.KernelIdeal.Cases

open Cert.KernelIdeal.Chunk Cert.KernelIdeal.Group Cert.KernelIdeal Cert.KernelIdeal.Gen Idealize.ShloMosaic
open Idealize.ShloMosaic.TcCoe Idealize.SL.Sem

variable (m : (ℓ : Loc nD τ sig) → Buf (Elt Ideal) ℓ)

/-- The state after the chunk of point `t`, from the scratch it starts from. -/
abbrev hAt (c : Dev nD) (t : Fin cfg0.N) (s0 : Vec Ideal S128x6144 .f32) (s1 : Vec Ideal S8x128x512 .f32) :
    Vec Ideal S8x128x512 .f32 :=
  hAll (iblk m c 0 t) (iblk m c 2 t) (iblk m c 3 t) (iblk m c 4 t) (iblk m c 5 t) (iblk m c 6 t) (iblk m c 9 t)
    (iblk m c 10 t) s0 s1

/-- The result rows of the chunk of point `t`, from the scratch it starts from. -/
abbrev yAt (c : Dev nD) (t : Fin cfg0.N) (s0 : Vec Ideal S128x6144 .f32) (s1 : Vec Ideal S8x128x512 .f32) :
    Vec Ideal S1x128x4096 .bf16 :=
  yAll (iblk m c 0 t) (iblk m c 1 t) (iblk m c 2 t) (iblk m c 3 t) (iblk m c 4 t) (iblk m c 5 t) (iblk m c 6 t)
    (iblk m c 7 t) (iblk m c 8 t) (iblk m c 9 t) (iblk m c 10 t) s0 s1

/-- What the point before `t` left. -/
abbrev prev (c : Dev nD) (t : Fin cfg0.N) :=
  outsAt0 m c (t.val - 1) (Nat.lt_of_le_of_lt (Nat.sub_le _ _) t.isLt)

theorem hA (c : Dev nD) (t : Fin cfg0.N) (h0 : t.val % 16 = 0) (h1 : ¬t.val % 16 = 15) (y) :
    (outsAt0 m c t.val t.isLt).2.2.2 y = hAt m c t (k0_pay11 (F := Ideal)) (k0_pay12 (F := Ideal)) y := by
  rw [outsAt0_A m c t h0 h1]
  frame_open
  simp (disch := decide) only [↓ View.readCov_skip, ↓ View.readCov_cons_toLoadRect, ↓ View.readCov_fill]
  frame_out
  refine View.canon_append_of_piecesOf (hAt m c t (k0_pay11 (F := Ideal)) (k0_pay12 (F := Ideal))) [_] [_, _, _, _, _, _, _, _]
    ⟨?_, ?_, ?_, ?_, ?_, ?_, ?_, ?_, trivial⟩ y (View.cover_of_tiledL _ ![1, 128, 512] (by rfl) y)
  · exact fun x => hAll_at _ _ _ _ _ _ _ _ _ _ 7 x _ (by simp [ValueKit.rect_emb_unit_val]) (by simp [ValueKit.rect_emb_unit_val]) (by simp [ValueKit.rect_emb_unit_val])
  · exact fun x => hAll_at _ _ _ _ _ _ _ _ _ _ 6 x _ (by simp [ValueKit.rect_emb_unit_val]) (by simp [ValueKit.rect_emb_unit_val]) (by simp [ValueKit.rect_emb_unit_val])
  · exact fun x => hAll_at _ _ _ _ _ _ _ _ _ _ 5 x _ (by simp [ValueKit.rect_emb_unit_val]) (by simp [ValueKit.rect_emb_unit_val]) (by simp [ValueKit.rect_emb_unit_val])
  · exact fun x => hAll_at _ _ _ _ _ _ _ _ _ _ 4 x _ (by simp [ValueKit.rect_emb_unit_val]) (by simp [ValueKit.rect_emb_unit_val]) (by simp [ValueKit.rect_emb_unit_val])
  · exact fun x => hAll_at _ _ _ _ _ _ _ _ _ _ 3 x _ (by simp [ValueKit.rect_emb_unit_val]) (by simp [ValueKit.rect_emb_unit_val]) (by simp [ValueKit.rect_emb_unit_val])
  · exact fun x => hAll_at _ _ _ _ _ _ _ _ _ _ 2 x _ (by simp [ValueKit.rect_emb_unit_val]) (by simp [ValueKit.rect_emb_unit_val]) (by simp [ValueKit.rect_emb_unit_val])
  · exact fun x => hAll_at _ _ _ _ _ _ _ _ _ _ 1 x _ (by simp [ValueKit.rect_emb_unit_val]) (by simp [ValueKit.rect_emb_unit_val]) (by simp [ValueKit.rect_emb_unit_val])
  · exact fun x => hAll_at _ _ _ _ _ _ _ _ _ _ 0 x _ (by simp [ValueKit.rect_emb_unit_val]) (by simp [ValueKit.rect_emb_unit_val]) (by simp [ValueKit.rect_emb_unit_val])

set_option maxHeartbeats 2000000 in
theorem yA (c : Dev nD) (t : Fin cfg0.N) (h0 : t.val % 16 = 0) (h1 : ¬t.val % 16 = 15) (y) :
    (outsAt0 m c t.val t.isLt).1 y = yAt m c t (k0_pay11 (F := Ideal)) (k0_pay12 (F := Ideal)) y := by
  rw [outsAt0_A m c t h0 h1]
  frame_open
  simp (disch := decide) only [↓ View.readCov_skip, ↓ View.readCov_cons_toLoadRect, ↓ View.readCov_fill]
  frame_out
  canon_tiles x h
  · exact yAll_at _ _ _ _ _ _ _ _ _ _ _ _ _ 7 x y h1 (by first | exact h2 | simpa using h2)
  · exact yAll_at _ _ _ _ _ _ _ _ _ _ _ _ _ 6 x y h1 (by first | exact h2 | simpa using h2)
  · exact yAll_at _ _ _ _ _ _ _ _ _ _ _ _ _ 5 x y h1 (by first | exact h2 | simpa using h2)
  · exact yAll_at _ _ _ _ _ _ _ _ _ _ _ _ _ 4 x y h1 (by first | exact h2 | simpa using h2)
  · exact yAll_at _ _ _ _ _ _ _ _ _ _ _ _ _ 3 x y h1 (by first | exact h2 | simpa using h2)
  · exact yAll_at _ _ _ _ _ _ _ _ _ _ _ _ _ 2 x y h1 (by first | exact h2 | simpa using h2)
  · exact yAll_at _ _ _ _ _ _ _ _ _ _ _ _ _ 1 x y h1 (by first | exact h2 | simpa using h2)
  · exact yAll_at _ _ _ _ _ _ _ _ _ _ _ _ _ 0 x y h1 (by first | exact h2 | simpa using h2)

theorem xA (c : Dev nD) (t : Fin cfg0.N) (h0 : t.val % 16 = 0) (h1 : ¬t.val % 16 = 15) :
    (outsAt0 m c t.val t.isLt).2.2.1 = k0_pay16 (k0_pay13 (iblk m c 0 t)) := by
  rw [outsAt0_A m c t h0 h1]
  frame_open
  simp (disch := decide) only [↓ View.readCov_skip, ↓ View.readCov_cons_toLoadRect, ↓ View.readCov_fill]
  frame_out

theorem hB (c : Dev nD) (t : Fin cfg0.N) (h0 : ¬t.val % 16 = 0) (h1 : ¬t.val % 16 = 15) (y) :
    (outsAt0 m c t.val t.isLt).2.2.2 y = hAt m c t (prev m c t).2.2.1 (prev m c t).2.2.2 y := by
  rw [outsAt0_B m c t h0 h1]
  frame_open
  simp (disch := decide) only [↓ View.readCov_skip, ↓ View.readCov_cons_toLoadRect, ↓ View.readCov_fill]
  frame_out
  simp only [read_unread_whole]
  unfold prev
  generalize outsAt0 m c (t.val - 1) _ = st
  canon_tiles x h
  · exact hAll_at _ _ _ _ _ _ _ _ _ _ 7 x y (by first | exact h0 | simpa using h0) h1 h2
  · exact hAll_at _ _ _ _ _ _ _ _ _ _ 6 x y (by first | exact h0 | simpa using h0) h1 h2
  · exact hAll_at _ _ _ _ _ _ _ _ _ _ 5 x y (by first | exact h0 | simpa using h0) h1 h2
  · exact hAll_at _ _ _ _ _ _ _ _ _ _ 4 x y (by first | exact h0 | simpa using h0) h1 h2
  · exact hAll_at _ _ _ _ _ _ _ _ _ _ 3 x y (by first | exact h0 | simpa using h0) h1 h2
  · exact hAll_at _ _ _ _ _ _ _ _ _ _ 2 x y (by first | exact h0 | simpa using h0) h1 h2
  · exact hAll_at _ _ _ _ _ _ _ _ _ _ 1 x y (by first | exact h0 | simpa using h0) h1 h2
  · exact hAll_at _ _ _ _ _ _ _ _ _ _ 0 x y (by first | exact h0 | simpa using h0) h1 h2

set_option maxHeartbeats 2000000 in
theorem yB (c : Dev nD) (t : Fin cfg0.N) (h0 : ¬t.val % 16 = 0) (h1 : ¬t.val % 16 = 15) (y) :
    (outsAt0 m c t.val t.isLt).1 y = yAt m c t (prev m c t).2.2.1 (prev m c t).2.2.2 y := by
  rw [outsAt0_B m c t h0 h1]
  frame_open
  simp (disch := decide) only [↓ View.readCov_skip, ↓ View.readCov_cons_toLoadRect, ↓ View.readCov_fill]
  frame_out
  simp only [read_unread_whole]
  unfold prev
  generalize outsAt0 m c (t.val - 1) _ = st
  canon_tiles x h
  · exact yAll_at _ _ _ _ _ _ _ _ _ _ _ _ _ 7 x y h1 (by first | exact h2 | simpa using h2)
  · exact yAll_at _ _ _ _ _ _ _ _ _ _ _ _ _ 6 x y h1 (by first | exact h2 | simpa using h2)
  · exact yAll_at _ _ _ _ _ _ _ _ _ _ _ _ _ 5 x y h1 (by first | exact h2 | simpa using h2)
  · exact yAll_at _ _ _ _ _ _ _ _ _ _ _ _ _ 4 x y h1 (by first | exact h2 | simpa using h2)
  · exact yAll_at _ _ _ _ _ _ _ _ _ _ _ _ _ 3 x y h1 (by first | exact h2 | simpa using h2)
  · exact yAll_at _ _ _ _ _ _ _ _ _ _ _ _ _ 2 x y h1 (by first | exact h2 | simpa using h2)
  · exact yAll_at _ _ _ _ _ _ _ _ _ _ _ _ _ 1 x y h1 (by first | exact h2 | simpa using h2)
  · exact yAll_at _ _ _ _ _ _ _ _ _ _ _ _ _ 0 x y h1 (by first | exact h2 | simpa using h2)

theorem xB (c : Dev nD) (t : Fin cfg0.N) (h0 : ¬t.val % 16 = 0) (h1 : ¬t.val % 16 = 15) :
    (outsAt0 m c t.val t.isLt).2.2.1 = k0_pay16 (k0_pay13 (iblk m c 0 t)) := by
  rw [outsAt0_B m c t h0 h1]
  frame_open
  simp (disch := decide) only [↓ View.readCov_skip, ↓ View.readCov_cons_toLoadRect, ↓ View.readCov_fill]
  frame_out

theorem hC (c : Dev nD) (t : Fin cfg0.N) (h0 : ¬t.val % 16 = 0) (h1 : t.val % 16 = 15) (y) :
    (outsAt0 m c t.val t.isLt).2.2.2 y = hAt m c t (prev m c t).2.2.1 (prev m c t).2.2.2 y := by
  rw [outsAt0_C m c t h0 h1]
  frame_open
  simp (disch := decide) only [↓ View.readCov_skip, ↓ View.readCov_cons_toLoadRect, ↓ View.readCov_fill]
  frame_out
  simp only [read_unread_whole]
  unfold prev
  generalize outsAt0 m c (t.val - 1) _ = st
  canon_tiles x h
  · exact hAll_at _ _ _ _ _ _ _ _ _ _ 7 x y (by first | exact h0 | simpa using h0) h1 h2
  · exact hAll_at _ _ _ _ _ _ _ _ _ _ 6 x y (by first | exact h0 | simpa using h0) h1 h2
  · exact hAll_at _ _ _ _ _ _ _ _ _ _ 5 x y (by first | exact h0 | simpa using h0) h1 h2
  · exact hAll_at _ _ _ _ _ _ _ _ _ _ 4 x y (by first | exact h0 | simpa using h0) h1 h2
  · exact hAll_at _ _ _ _ _ _ _ _ _ _ 3 x y (by first | exact h0 | simpa using h0) h1 h2
  · exact hAll_at _ _ _ _ _ _ _ _ _ _ 2 x y (by first | exact h0 | simpa using h0) h1 h2
  · exact hAll_at _ _ _ _ _ _ _ _ _ _ 1 x y (by first | exact h0 | simpa using h0) h1 h2
  · exact hAll_at _ _ _ _ _ _ _ _ _ _ 0 x y (by first | exact h0 | simpa using h0) h1 h2

set_option maxHeartbeats 2000000 in
theorem yC (c : Dev nD) (t : Fin cfg0.N) (h0 : ¬t.val % 16 = 0) (h1 : t.val % 16 = 15) (y) :
    (outsAt0 m c t.val t.isLt).1 y = yAt m c t (prev m c t).2.2.1 (prev m c t).2.2.2 y := by
  rw [outsAt0_C m c t h0 h1]
  frame_open
  simp (disch := decide) only [↓ View.readCov_skip, ↓ View.readCov_cons_toLoadRect, ↓ View.readCov_fill]
  frame_out
  simp only [read_unread_whole]
  unfold prev
  generalize outsAt0 m c (t.val - 1) _ = st
  canon_tiles x h
  · exact yAll_at _ _ _ _ _ _ _ _ _ _ _ _ _ 7 x y h1 (by first | exact h2 | simpa using h2)
  · exact yAll_at _ _ _ _ _ _ _ _ _ _ _ _ _ 6 x y h1 (by first | exact h2 | simpa using h2)
  · exact yAll_at _ _ _ _ _ _ _ _ _ _ _ _ _ 5 x y h1 (by first | exact h2 | simpa using h2)
  · exact yAll_at _ _ _ _ _ _ _ _ _ _ _ _ _ 4 x y h1 (by first | exact h2 | simpa using h2)
  · exact yAll_at _ _ _ _ _ _ _ _ _ _ _ _ _ 3 x y h1 (by first | exact h2 | simpa using h2)
  · exact yAll_at _ _ _ _ _ _ _ _ _ _ _ _ _ 2 x y h1 (by first | exact h2 | simpa using h2)
  · exact yAll_at _ _ _ _ _ _ _ _ _ _ _ _ _ 1 x y h1 (by first | exact h2 | simpa using h2)
  · exact yAll_at _ _ _ _ _ _ _ _ _ _ _ _ _ 0 x y h1 (by first | exact h2 | simpa using h2)

theorem xC (c : Dev nD) (t : Fin cfg0.N) (h0 : ¬t.val % 16 = 0) (h1 : t.val % 16 = 15) :
    (outsAt0 m c t.val t.isLt).2.2.1 = k0_pay16 (k0_pay13 (iblk m c 0 t)) := by
  rw [outsAt0_C m c t h0 h1]
  frame_open
  simp (disch := decide) only [↓ View.readCov_skip, ↓ View.readCov_cons_toLoadRect, ↓ View.readCov_fill]
  frame_out

theorem fC (c : Dev nD) (t : Fin cfg0.N) (h0 : ¬t.val % 16 = 0) (h1 : t.val % 16 = 15) (y) :
    (outsAt0 m c t.val t.isLt).2.1 y = fAll (iblk m c 0 t) (iblk m c 2 t) (iblk m c 3 t) (iblk m c 4 t) (iblk m c 5 t)
      (iblk m c 6 t) (iblk m c 9 t) (iblk m c 10 t) (prev m c t).2.2.1 (prev m c t).2.2.2 y := by
  rw [outsAt0_C m c t h0 h1]
  frame_open
  simp (disch := decide) only [↓ View.readCov_skip, ↓ View.readCov_cons_toLoadRect, ↓ View.readCov_fill]
  frame_out
  simp only [read_unread_whole]
  unfold prev
  generalize outsAt0 m c (t.val - 1) _ = st
  canon_tiles x h
  · exact fAll_at _ _ _ _ _ _ _ _ _ _ 7 x y (by first | exact h1 | simpa using h1) h2
  · exact fAll_at _ _ _ _ _ _ _ _ _ _ 6 x y (by first | exact h1 | simpa using h1) h2
  · exact fAll_at _ _ _ _ _ _ _ _ _ _ 5 x y (by first | exact h1 | simpa using h1) h2
  · exact fAll_at _ _ _ _ _ _ _ _ _ _ 4 x y (by first | exact h1 | simpa using h1) h2
  · exact fAll_at _ _ _ _ _ _ _ _ _ _ 3 x y (by first | exact h1 | simpa using h1) h2
  · exact fAll_at _ _ _ _ _ _ _ _ _ _ 2 x y (by first | exact h1 | simpa using h1) h2
  · exact fAll_at _ _ _ _ _ _ _ _ _ _ 1 x y (by first | exact h1 | simpa using h1) h2
  · exact fAll_at _ _ _ _ _ _ _ _ _ _ 0 x y (by first | exact h1 | simpa using h1) h2

end Cert.KernelIdeal.Cases

end
-- ==== Proof.Entry.lean ====
/-
  What the kernel's blocks hold at each grid point, in terms of the arguments: point `t` is chunk
  `t mod 16` of sequence `t / 16`.
-/
module

public import proofs.«01_k».proof.Proof.Gen.KernelIdeal.Value
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Entry

open Cert.KernelIdeal Cert.KernelIdeal.Gen Idealize.ShloMosaic Idealize.ShloMosaic.TcCoe Idealize.SL.Sem
open Idealize.SL Idealize.SL.RA Idealize.SL.BI

variable (m : (ℓ : Loc nD τ sig) → Buf (Elt Ideal) ℓ)

theorem idx : ∀ t : Fin cfg0.N,
    win0_0.index t = ![t.val / 16, t.val % 16, 0] ∧ win0_1.index t = ![t.val / 16, t.val % 16, 0]
    ∧ win0_2.index t = ![t.val / 16, t.val % 16, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] := by
  decide

/-- The sequence of a grid point. -/
def seq (t : Fin cfg0.N) : Fin 8 := ⟨t.val / 16, by have := lt_of_lt_of_eq t.isLt (show cfg0.N = 128 from N_0); omega⟩
/-- A row of a grid point's chunk. -/
def row (t : Fin cfg0.N) (l : Fin 128) : Fin 2048 := ⟨128 * (t.val % 16) + l.val, by omega⟩

theorem V4 (c : Dev nD) (j : Fin 6144) : V m c main_v14 (ix2 0 j) = m ((c : Thread nD τ).loc main_arg4) (ix1 j) := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  entry_read
  pointwise []
theorem V5 (c : Dev nD) (h : Fin 64) :
    V m c main_v16 (ix2 0 ⟨h.val, by omega⟩) = m ((c : Thread nD τ).loc main_arg5) (ix1 h) := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  entry_read
  simp only [StableHlo.TRef.ofBuf_toBuf, StableHlo.TRef.toBuf, StableHlo.TRef.ofBuf, cast_eq]
  pointwise []
theorem V6 (c : Dev nD) (h : Fin 64) :
    V m c main_v20 (ix2 0 ⟨h.val, by omega⟩) = - Ideal.exp (m ((c : Thread nD τ).loc main_arg6) (ix1 h)) := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  entry_read
  simp only [StableHlo.TRef.ofBuf_toBuf, StableHlo.TRef.toBuf, StableHlo.TRef.ofBuf, cast_eq]
  pointwise []
theorem V7 (c : Dev nD) (j : Fin 4096) :
    V m c main_v13 (ix2 0 j) = m ((c : Thread nD τ).loc main_arg7) (ix1 ⟨j.val / 64, by omega⟩) := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  entry_read
  pointwise []
theorem V8 (c : Dev nD) (j : Fin 4096) : V m c main_v21 (ix2 0 j) = m ((c : Thread nD τ).loc main_arg8) (ix1 j) := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  entry_read
  pointwise []
/-- Rounding down a quotient by 64 through the truncated one. -/
theorem div64 : ∀ j : Fin 4096, Scalar.select
        (IntOp.andi
          (IntOp.cmpi CmpIPredicate.ne
            (if BitVec.ofNat 32 j.val = 0 then (0 : BitVec 32) else if (BitVec.ofNat 32 j.val).msb = true then -1 else 1)
            (if 64#32 = 0 then 0 else if (64#32).msb = true then -1 else 1))
          (IntOp.cmpi CmpIPredicate.ne (IntOp.remsi ArithUnit.host (BitVec.ofNat 32 j.val) 64#32) 0#32))
        (IntOp.subi (IntOp.divsi ArithUnit.host (BitVec.ofNat 32 j.val) 64#32) 1#32)
        (IntOp.divsi ArithUnit.host (BitVec.ofNat 32 j.val) 64#32) = BitVec.ofNat 32 (j.val / 64) := by
  decide +kernel

theorem sge_iff (l s : Fin 128) :
    IntOp.cmpi .sge (BitVec.ofNat 32 l.val) (BitVec.ofNat 32 s.val) = 1#1 ↔ s ≤ l := by
  have cmp : IntOp.cmpi .sge (BitVec.ofNat 32 l.val) (BitVec.ofNat 32 s.val)
      = BitVec.ofBool ((BitVec.ofNat 32 s.val).sle (BitVec.ofNat 32 l.val)) := rfl
  rw [cmp, BitVec.sle_eq_decide]
  have t : ∀ k : Fin 128, (BitVec.ofNat 32 k.val).toInt = k.val := by decide
  rw [t, t]
  by_cases h : s ≤ l
  · have : (s.val : Int) ≤ l.val := by exact_mod_cast h
    simp [h, this]
  · have : ¬ (s.val : Int) ≤ l.val := by intro h'; exact h (by exact_mod_cast h')
    simp [h, this]

theorem eq_iff (k : Fin 128) (j : Fin 4096) :
    IntOp.cmpi .eq (BitVec.ofNat 32 k.val) (BitVec.ofNat 32 (j.val / 64)) = 1#1 ↔ k.val = j.val / 64 := by
  have cmp : IntOp.cmpi .eq (BitVec.ofNat 32 k.val) (BitVec.ofNat 32 (j.val / 64))
      = BitVec.ofBool (BitVec.ofNat 32 k.val == BitVec.ofNat 32 (j.val / 64)) := rfl
  rw [cmp]
  by_cases h : k.val = j.val / 64
  · simp [h]
  · have : ¬ BitVec.ofNat 32 k.val = BitVec.ofNat 32 (j.val / 64) := by
      intro e
      have := congrArg BitVec.toNat e
      simp only [BitVec.toNat_ofNat] at this
      omega
    rw [beq_false_of_ne this]
    simp [h]

theorem V9 (c : Dev nD) (k : Fin 128) (j : Fin 4096) :
    V m c main_v5 (ix2 k j) = (if k.val = j.val / 64 then 1 else 0 : EReal) := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  entry_read
  simp only [StableHlo.TRef.ofBuf_toBuf, StableHlo.TRef.toBuf, StableHlo.TRef.ofBuf, cast_eq]
  pointwise []
  refine (congrArg (fun q => Scalar.select (IntOp.cmpi CmpIPredicate.eq (BitVec.ofNat 32 k.val) q) (1 : EReal) 0)
    (div64 j)).trans ?_
  exact if_congr (eq_iff k j) rfl rfl
theorem V10 (c : Dev nD) (l s : Fin 128) :
    V m c main_v10 (ix2 l s) = (if s ≤ l then 1 else 0 : EReal) := by
  simp only [V, hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  entry_read
  simp only [StableHlo.TRef.ofBuf_toBuf, StableHlo.TRef.toBuf, StableHlo.TRef.ofBuf, cast_eq]
  pointwise []
  exact if_congr (sge_iff l s) rfl rfl

theorem blk0 (c : Dev nD) (t : Fin cfg0.N) (l : Fin 128) (j : Fin 6144) :
    iblk m c 0 t (ix3 0 l j) = m ((c : Thread nD τ).loc main_arg0) (ix3 (seq t) (row t l) j) := by
  blk_ext [iblk, V, idx t, seq, row]
theorem blk1 (c : Dev nD) (t : Fin cfg0.N) (l : Fin 128) (j : Fin 4096) :
    iblk m c 1 t (ix3 0 l j) = m ((c : Thread nD τ).loc main_arg1) (ix3 (seq t) (row t l) j) := by
  blk_ext [iblk, V, idx t, seq, row]
theorem blk2 (c : Dev nD) (t : Fin cfg0.N) (l : Fin 128) (j : Fin 128) :
    iblk m c 2 t (ix3 0 l j) = m ((c : Thread nD τ).loc main_arg2) (ix3 (seq t) (row t l) j) := by
  blk_ext [iblk, V, idx t, seq, row]
theorem blk3 (c : Dev nD) (t : Fin cfg0.N) (k : Fin 4) (j : Fin 6144) :
    iblk m c 3 t (ix2 k j) = m ((c : Thread nD τ).loc main_arg3) (ix2 k j) := by
  blk_ext [iblk, V, idx t]

theorem blk4 (c : Dev nD) (t : Fin cfg0.N) (j : Fin 6144) :
    iblk m c 4 t (ix2 0 j) = m ((c : Thread nD τ).loc main_arg4) (ix1 j) := by
  rw [← V4 m c j]; blk_ext [iblk, idx t]
theorem blk5 (c : Dev nD) (t : Fin cfg0.N) (h : Fin 64) :
    iblk m c 5 t (ix2 0 ⟨h.val, by omega⟩) = m ((c : Thread nD τ).loc main_arg5) (ix1 h) := by
  rw [← V5 m c h]; blk_ext [iblk, idx t]
theorem blk6 (c : Dev nD) (t : Fin cfg0.N) (h : Fin 64) :
    iblk m c 6 t (ix2 0 ⟨h.val, by omega⟩) = - Ideal.exp (m ((c : Thread nD τ).loc main_arg6) (ix1 h)) := by
  rw [← V6 m c h]; blk_ext [iblk, idx t]
theorem blk7 (c : Dev nD) (t : Fin cfg0.N) (j : Fin 4096) :
    iblk m c 7 t (ix2 0 j) = m ((c : Thread nD τ).loc main_arg7) (ix1 ⟨j.val / 64, by omega⟩) := by
  rw [← V7 m c j]; blk_ext [iblk, idx t]
theorem blk8 (c : Dev nD) (t : Fin cfg0.N) (j : Fin 4096) :
    iblk m c 8 t (ix2 0 j) = m ((c : Thread nD τ).loc main_arg8) (ix1 j) := by
  rw [← V8 m c j]; blk_ext [iblk, idx t]
theorem blk9 (c : Dev nD) (t : Fin cfg0.N) (k : Fin 128) (j : Fin 4096) :
    iblk m c 9 t (ix2 k j) = (if k.val = j.val / 64 then 1 else 0 : EReal) := by
  rw [← V9 m c]; blk_ext [iblk, idx t]
theorem blk10 (c : Dev nD) (t : Fin cfg0.N) (l s : Fin 128) :
    iblk m c 10 t (ix2 l s) = (if s ≤ l then 1 else 0 : EReal) := by
  rw [← V10 m c]; blk_ext [iblk, idx t]

end Cert.KernelIdeal.Entry

end
-- ==== Proof.Fold.lean ====
/-
  The kernel's two results in closed form: by induction over a sequence's chunks, the scratch holds
  the rows of the chunk before and the state of the recurrence.
-/
module

public import proofs.«01_k».proof.Proof.Chunk
public import proofs.«01_k».proof.Proof.Cases
public import proofs.«01_k».proof.Proof.Entry

@[expose] public section

set_option maxRecDepth 16384

noncomputable section

namespace Cert.KernelIdeal.Fold

open Cert.KernelIdeal.Chunk Cert.KernelIdeal.Cases Cert.KernelIdeal.Entry Cert.KernelIdeal Cert.KernelIdeal.Gen
open Cert.KernelIdeal.Value Idealize.ShloMosaic Idealize.ShloMosaic.TcCoe Idealize.SL.Sem Cert.Ssd

variable (m : (ℓ : Loc nD τ sig) → Buf (Elt Ideal) ℓ) (c : Dev nD)

/-- The arguments, at their indices. -/
def aX (b : Fin 8) (l : Fin 2048) (j : Fin 6144) : EReal := m ((c : Thread nD τ).loc main_arg0) (ix3 b l j)
def aZ (b : Fin 8) (l : Fin 2048) (j : Fin 4096) : EReal := m ((c : Thread nD τ).loc main_arg1) (ix3 b l j)
def aDt (b : Fin 8) (l : Fin 2048) (k : Fin 128) : EReal := m ((c : Thread nD τ).loc main_arg2) (ix3 b l k)
def aW (k : Fin 4) (j : Fin 6144) : EReal := m ((c : Thread nD τ).loc main_arg3) (ix2 k j)
def aB (j : Fin 6144) : EReal := m ((c : Thread nD τ).loc main_arg4) (ix1 j)
def aBias (h : Fin 64) : EReal := m ((c : Thread nD τ).loc main_arg5) (ix1 h)
def aRate (h : Fin 64) : EReal := - Ideal.exp (m ((c : Thread nD τ).loc main_arg6) (ix1 h))
def aD (h : Fin 64) : EReal := m ((c : Thread nD τ).loc main_arg7) (ix1 h)
def aNw (j : Fin 4096) : EReal := m ((c : Thread nD τ).loc main_arg8) (ix1 j)

/-- The steps, their biases and the rates are real. -/
structure Fine : Prop where
  dt : ∀ (b : Fin 8) (l : Fin 2048) (h : Fin 64), IsR (aDt m c b l ⟨h.val, by omega⟩)
  bias : ∀ h, IsR (aBias m c h)
  rate : ∀ h, IsR (aRate m c h)

/-- The state of sequence `b` before chunk `k`. -/
abbrev st (b : Fin 8) (k : ℕ) : Fin 8 → Fin 128 → Fin 512 → EReal :=
  state (aX m c b) (aW m c) (aB m c) (aDt m c b) (aBias m c) (aRate m c) k

variable {m c}

theorem row_eq (t : Fin cfg0.N) (l : Fin 128) : row t l = rowOf (t.val % 16) l :=
  Fin.ext (by show 128 * (t.val % 16) + l.val = 128 * (t.val % 16 % 16) + l.val; omega)

theorem holds (F : Fine m c) (t : Fin cfg0.N) {s0 : Vec Ideal S128x6144 .f32} {XP : Fin 128 → Fin 6144 → EReal}
    (hs : ∀ l j, s0 (ix2 l j) = XP l j) :
    Holds (iblk m c 0 t) (iblk m c 2 t) (iblk m c 3 t) (iblk m c 4 t) (iblk m c 5 t) (iblk m c 6 t) (iblk m c 9 t)
      (iblk m c 10 t) s0 (fun l j => aX m c (seq t) (rowOf (t.val % 16) l) j) XP (aW m c) (aB m c)
      (fun l k => aDt m c (seq t) (rowOf (t.val % 16) l) k) (aBias m c) (aRate m c) where
  hx l j := (blk0 m c t l j).trans (by rw [row_eq]; rfl)
  hs := hs
  hw k j := blk3 m c t k j
  hb j := blk4 m c t j
  hr l k := (blk2 m c t l k).trans (by rw [row_eq]; rfl)
  hbias h := blk5 m c t h
  hA h := blk6 m c t h
  hE k j := blk9 m c t k j
  hT l s := blk10 m c t l s
  fin l h := (F.dt _ _ _).add (F.bias h)
  finA := F.rate

/-- What the scratch holds when point `t` starts: the rows before the chunk and the state. -/
structure Starts (m : (ℓ : Loc nD τ sig) → Buf (Elt Ideal) ℓ) (c : Dev nD) (t : Fin cfg0.N)
    (s0 : Vec Ideal S128x6144 .f32) (s1 : Vec Ideal S8x128x512 .f32) : Prop where
  rows : ∀ l j, s0 (ix2 l j) = if t.val % 16 = 0 then 0 else aX m c (seq t) (rowOf (t.val % 16 - 1) l) j
  state : ∀ g n j, s1 (ix3 g n j) = st m c (seq t) (t.val % 16) g n j

theorem starts_h (F : Fine m c) (t : Fin cfg0.N) {s0 s1} (S : Starts m c t s0 s1) (g : Fin 8) (n : Fin 128) (j : Fin 512) :
    hAt m c t s0 s1 (ix3 g n j) = st m c (seq t) (t.val % 16 + 1) g n j := by
  refine (hAll_apply (holds F t S.rows) s1 g n j).trans ?_
  have e : (fun g n j => s1 (ix3 g n j)) = st m c (seq t) (t.val % 16) := by
    funext g n j; exact S.state g n j
  rw [e]
  rfl

theorem starts_y (F : Fine m c) (t : Fin cfg0.N) {s0 s1} (S : Starts m c t s0 s1) (l : Fin 128) (g : Fin 8) (j : Fin 512) :
    yAt m c t s0 s1 (ix3 0 l (colY g j)) = yOf (aX m c (seq t)) (aZ m c (seq t)) (aW m c) (aB m c) (aDt m c (seq t))
      (aBias m c) (aRate m c) (aD m c) (aNw m c) (t.val % 16) l g j := by
  have e0 : yAt m c t s0 s1 (ix3 0 l (colY g j)) = yV (iblk m c 0 t) (iblk m c 1 t) (iblk m c 2 t) (iblk m c 3 t)
      (iblk m c 4 t) (iblk m c 5 t) (iblk m c 6 t) (iblk m c 7 t) (iblk m c 8 t) (iblk m c 9 t) (iblk m c 10 t) s0 s1 g
      (ix3 0 l j) :=
    (yAll_at _ _ _ _ _ _ _ _ _ _ _ _ _ g (ix3 0 l j) (ix3 0 l (colY g j)) rfl rfl).symm
  have hD : ∀ (g : Fin 8) (j : Fin 512), iblk m c 7 t (ix2 0 (colY g j)) = aD m c (head g j) := by
    intro g j
    refine (blk7 m c t (colY g j)).trans ?_
    show m _ _ = m _ _
    congr 2
    exact Fin.ext (by show (512 * g.val + j.val) / 64 = 8 * g.val + j.val / 64; omega)
  rw [e0]
  refine (yV_apply (holds F t S.rows) (iblk m c 1 t) (iblk m c 7 t) (iblk m c 8 t) s1 (aD m c) hD g l j).trans ?_
  have e : (fun g n j => s1 (ix3 g n j)) = st m c (seq t) (t.val % 16) := by
    funext g n j; exact S.state g n j
  have ez : ∀ j, iblk m c 1 t (ix3 0 l (colY g j)) = aZ m c (seq t) (rowOf (t.val % 16) l) (colY g j) :=
    fun j => (blk1 m c t l (colY g j)).trans (by rw [row_eq]; rfl)
  have en : iblk m c 8 t (ix2 0 (colY g j)) = aNw m c (colY g j) := blk8 m c t _
  rw [e, en]
  simp only [ez]
  rfl

theorem starts_zero (t : Fin cfg0.N) (h : t.val % 16 = 0) :
    Starts m c t (k0_pay11 (F := Ideal)) (k0_pay12 (F := Ideal)) where
  rows l j := by rw [if_pos h]; pointwise [k0_pay11]
  state g n j := by
    rw [h]
    show _ = (0 : EReal)
    pointwise [k0_pay12]

theorem pay16_apply (x0 : FVec Ideal S1x128x6144 .f32) (l : Fin 128) (j : Fin 6144) :
    k0_pay16 (k0_pay13 x0) (ix2 l j) = x0 (ix3 0 l j) := by
  pointwise [k0_pay16, k0_pay13]

/-- What every point's scratch holds, and what it leaves. -/
theorem step (F : Fine m c) : ∀ (n : ℕ) (hn : n < cfg0.N),
    (∀ l j, (outsAt0 m c n hn).2.2.1 (ix2 l j) = aX m c (seq ⟨n, hn⟩) (rowOf (n % 16) l) j)
    ∧ (∀ g k j, (outsAt0 m c n hn).2.2.2 (ix3 g k j) = st m c (seq ⟨n, hn⟩) (n % 16 + 1) g k j)
    ∧ (∀ l g j, (outsAt0 m c n hn).1 (ix3 0 l (colY g j)) = yOf (aX m c (seq ⟨n, hn⟩)) (aZ m c (seq ⟨n, hn⟩)) (aW m c)
        (aB m c) (aDt m c (seq ⟨n, hn⟩)) (aBias m c) (aRate m c) (aD m c) (aNw m c) (n % 16) l g j)
    ∧ (n % 16 = 15 → ∀ g k j, (outsAt0 m c n hn).2.1 (ix3 0 (colY g j) k) = st m c (seq ⟨n, hn⟩) 16 g k j) := by
  intro n
  induction n using Nat.strong_induction_on with
  | _ n ih =>
  intro hn
  have rows : ∀ l j, k0_pay16 (k0_pay13 (iblk m c 0 ⟨n, hn⟩)) (ix2 l j) = aX m c (seq ⟨n, hn⟩) (rowOf (n % 16) l) j :=
    fun l j => (pay16_apply _ l j).trans ((blk0 m c ⟨n, hn⟩ l j).trans (by rw [row_eq]; rfl))
  by_cases h0 : n % 16 = 0
  · have h1 : ¬ n % 16 = 15 := by omega
    have S := starts_zero (m := m) (c := c) ⟨n, hn⟩ h0
    refine ⟨fun l j => ?_, fun g k j => ?_, fun l g j => ?_, fun h => absurd h h1⟩
    · exact (congrFun (xA m c ⟨n, hn⟩ h0 h1) _).trans (rows l j)
    · exact (hA m c ⟨n, hn⟩ h0 h1 _).trans (starts_h F ⟨n, hn⟩ S g k j)
    · exact (yA m c ⟨n, hn⟩ h0 h1 _).trans (starts_y F ⟨n, hn⟩ S l g j)
  · have hp : n - 1 < cfg0.N := Nat.lt_of_le_of_lt (Nat.sub_le _ _) hn
    obtain ⟨pr, ps, -, -⟩ := ih (n - 1) (by omega) hp
    have es : seq ⟨n - 1, hp⟩ = seq ⟨n, hn⟩ := Fin.ext (by show (n - 1) / 16 = n / 16; omega)
    have em : (n - 1) % 16 = n % 16 - 1 := by omega
    have S : Starts m c ⟨n, hn⟩ (prev m c ⟨n, hn⟩).2.2.1 (prev m c ⟨n, hn⟩).2.2.2 := by
      refine ⟨fun l j => ?_, fun g k j => ?_⟩
      · rw [if_neg h0]
        refine (pr l j).trans ?_
        rw [es, em]
      · refine (ps g k j).trans ?_
        rw [es, em, Nat.sub_add_cancel (by omega)]
    by_cases h1 : n % 16 = 15
    · refine ⟨fun l j => ?_, fun g k j => ?_, fun l g j => ?_, fun _ g k j => ?_⟩
      · exact (congrFun (xC m c ⟨n, hn⟩ h0 h1) _).trans (rows l j)
      · exact (hC m c ⟨n, hn⟩ h0 h1 _).trans (starts_h F ⟨n, hn⟩ S g k j)
      · exact (yC m c ⟨n, hn⟩ h0 h1 _).trans (starts_y F ⟨n, hn⟩ S l g j)
      · refine (fC m c ⟨n, hn⟩ h0 h1 _).trans ?_
        refine (fAll_at _ _ _ _ _ _ _ _ _ _ g (ix3 0 j k) (ix3 0 (colY g j) k) rfl rfl).symm.trans ?_
        refine (trOf_apply _ j k).trans ?_
        refine Eq.trans ?_ ((starts_h F ⟨n, hn⟩ S g k j).trans (by rw [show (⟨n, hn⟩ : Fin cfg0.N).val % 16 = 15 from h1]))
        rfl
    · refine ⟨fun l j => ?_, fun g k j => ?_, fun l g j => ?_, fun h => absurd h h1⟩
      · exact (congrFun (xB m c ⟨n, hn⟩ h0 h1) _).trans (rows l j)
      · exact (hB m c ⟨n, hn⟩ h0 h1 _).trans (starts_h F ⟨n, hn⟩ S g k j)
      · exact (yB m c ⟨n, hn⟩ h0 h1 _).trans (starts_y F ⟨n, hn⟩ S l g j)

/-- The first result. -/
theorem G11_apply (F : Fine m c) (b : Fin 8) (k : Fin 16) (l : Fin 128) (g : Fin 8) (j : Fin 512) :
    G11 m c (ix3 b (rowOf k.val l) (colY g j)) = yOf (aX m c b) (aZ m c b) (aW m c) (aB m c) (aDt m c b) (aBias m c)
      (aRate m c) (aD m c) (aNw m c) k.val l g j := by
  have hp : pt11Of (ix3 b (rowOf k.val l) (colY g j)) = 16 * b.val + k.val := by
    show 16 * (b.val / 1 - 0) + 1 * ((128 * (k.val % 16) + l.val) / 128 - 0) + 1 * ((512 * g.val + j.val) / 4096 - 0) = _
    omega
  have hN : cfg0.N = 128 := N_0
  have hl : loc11Of (ix3 b (rowOf k.val l) (colY g j)) = ix3 0 l (colY g j) := by
    funext a
    match a with
    | ⟨0, _⟩ => exact Fin.ext (by show b.val % 1 = 0; omega)
    | ⟨1, _⟩ => exact Fin.ext (by show (128 * (k.val % 16) + l.val) % 128 = l.val; omega)
    | ⟨2, _⟩ => exact Fin.ext (by show (512 * g.val + j.val) % 4096 = 512 * g.val + j.val; omega)
  have hn : pt11Of (ix3 b (rowOf k.val l) (colY g j)) < cfg0.N := by rw [hp, hN]; omega
  rw [G11, dif_pos hn, hl, ← outsAt0_sweep m c _ hn]
  refine ((step F _ hn).2.2.1 l g j).trans ?_
  have e1 : seq ⟨_, hn⟩ = b := Fin.ext (by show pt11Of (ix3 b (rowOf k.val l) (colY g j)) / 16 = b.val; rw [hp]; omega)
  rw [e1]
  congr 1
  rw [hp]; omega

/-- The second result. -/
theorem G12_apply (F : Fine m c) (b : Fin 8) (g : Fin 8) (j : Fin 512) (n : Fin 128) :
    G12 m c (ix3 b (colY g j) n) = st m c b 16 g n j := by
  have hp : pt12Of (ix3 b (colY g j) n) = 16 * b.val + 15 := by
    show 16 * (1 * (b.val / 1 - 0) + 1 * ((512 * g.val + j.val) / 4096 - 0) + 1 * (n.val / 128 - 0)) + 15 = _
    omega
  have hN : cfg0.N = 128 := N_0
  have hl : loc12Of (ix3 b (colY g j) n) = ix3 0 (colY g j) n := by
    funext a
    match a with
    | ⟨0, _⟩ => exact Fin.ext (by show b.val % 1 = 0; omega)
    | ⟨1, _⟩ => exact Fin.ext (by show (512 * g.val + j.val) % 4096 = 512 * g.val + j.val; omega)
    | ⟨2, _⟩ => exact Fin.ext (by show n.val % 128 = n.val; omega)
  have hn : pt12Of (ix3 b (colY g j) n) < cfg0.N := by rw [hp, hN]; omega
  rw [G12, dif_pos hn, hl, ← outsAt0_sweep m c _ hn]
  refine ((step F _ hn).2.2.2 (by rw [hp]; omega) g n j).trans ?_
  have e1 : seq ⟨_, hn⟩ = b := Fin.ext (by show pt12Of (ix3 b (colY g j) n) / 16 = b.val; rw [hp]; omega)
  rw [e1]

end Cert.KernelIdeal.Fold

end
-- ==== Proof.RefEntry.lean ====
/-
  What the reference's loop starts from, at its indices: the convolved columns cut into chunks, the
  steps, the rates, the skip weights.
-/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Entry

open Cert.ReferenceIdeal Cert.ReferenceIdeal.Value Idealize.ShloMosaic Idealize.ShloMosaic.TcCoe Idealize.SL.Sem Cert.Ssd
open Idealize.ShloMosaic.StableHlo

/-- The arguments, at their indices. -/
def aX (m : (ℓ : Loc nD τ sig) → Buf (Elt Ideal) ℓ) (c : Dev nD) (b : Fin 8) (l : Fin 2048) (j : Fin 6144) : EReal :=
  m ((c : Thread nD τ).loc main_arg0) (ix3 b l j)
def aZ (m : (ℓ : Loc nD τ sig) → Buf (Elt Ideal) ℓ) (c : Dev nD) (b : Fin 8) (l : Fin 2048) (j : Fin 4096) : EReal :=
  m ((c : Thread nD τ).loc main_arg1) (ix3 b l j)
def aDt (m : (ℓ : Loc nD τ sig) → Buf (Elt Ideal) ℓ) (c : Dev nD) (b : Fin 8) (l : Fin 2048) (k : Fin 128) : EReal :=
  m ((c : Thread nD τ).loc main_arg2) (ix3 b l k)
def aW (m : (ℓ : Loc nD τ sig) → Buf (Elt Ideal) ℓ) (c : Dev nD) (k : Fin 4) (j : Fin 6144) : EReal :=
  m ((c : Thread nD τ).loc main_arg3) (ix2 k j)
def aB (m : (ℓ : Loc nD τ sig) → Buf (Elt Ideal) ℓ) (c : Dev nD) (j : Fin 6144) : EReal :=
  m ((c : Thread nD τ).loc main_arg4) (ix1 j)
def aBias (m : (ℓ : Loc nD τ sig) → Buf (Elt Ideal) ℓ) (c : Dev nD) (h : Fin 64) : EReal :=
  m ((c : Thread nD τ).loc main_arg5) (ix1 h)
def aRate (m : (ℓ : Loc nD τ sig) → Buf (Elt Ideal) ℓ) (c : Dev nD) (h : Fin 64) : EReal :=
  - Ideal.exp (m ((c : Thread nD τ).loc main_arg6) (ix1 h))
def aD (m : (ℓ : Loc nD τ sig) → Buf (Elt Ideal) ℓ) (c : Dev nD) (h : Fin 64) : EReal :=
  m ((c : Thread nD τ).loc main_arg7) (ix1 h)
def aNw (m : (ℓ : Loc nD τ sig) → Buf (Elt Ideal) ℓ) (c : Dev nD) (j : Fin 4096) : EReal :=
  m ((c : Thread nD τ).loc main_arg8) (ix1 j)

variable (m : (ℓ : Loc nD τ sig) → Buf (Elt Ideal) ℓ) (c : Dev nD)

theorem rX (b : Fin 8) (l : Fin 2048) (j : Fin 6144) : launchContents m c (Proc.tc.devRef main_arg0) (ix3 b l j) = aX m c b l j := rfl
theorem rZ (b : Fin 8) (l : Fin 2048) (j : Fin 4096) : launchContents m c (Proc.tc.devRef main_arg1) (ix3 b l j) = aZ m c b l j := rfl
theorem rDt (b : Fin 8) (l : Fin 2048) (j : Fin 128) : launchContents m c (Proc.tc.devRef main_arg2) (ix3 b l j) = aDt m c b l j := rfl
theorem rW (k : Fin 4) (j : Fin 6144) : launchContents m c (Proc.tc.devRef main_arg3) (ix2 k j) = aW m c k j := rfl
theorem rB (j : Fin 6144) : launchContents m c (Proc.tc.devRef main_arg4) (ix1 j) = aB m c j := rfl
theorem rBias (j : Fin 64) : launchContents m c (Proc.tc.devRef main_arg5) (ix1 j) = aBias m c j := rfl
theorem rRate (j : Fin 64) : -Ideal.exp (launchContents m c (Proc.tc.devRef main_arg6) (ix1 j)) = aRate m c j := rfl
theorem rD (j : Fin 64) : launchContents m c (Proc.tc.devRef main_arg7) (ix1 j) = aD m c j := rfl
theorem rNw (j : Fin 4096) : launchContents m c (Proc.tc.devRef main_arg8) (ix1 j) = aNw m c j := rfl

/-- Head `r` of group `g`. -/
def hd (g r : Fin 8) : Fin 64 := ⟨g.val * 8 + r.val, by omega⟩
/-- Column `p` of head `r` of a group. -/
def hp (r : Fin 8) (p : Fin 64) : Fin 512 := ⟨r.val * 64 + p.val, by omega⟩

theorem head_hp (g r : Fin 8) (p : Fin 64) : head g (hp r p) = hd g r := Fin.ext (by simp only [head, hp, hd]; omega)

theorem row_eq (k : Fin 16) (l : Fin 128) (h : k.val * 128 + l.val < 2048) : (⟨k.val * 128 + l.val, h⟩ : Fin 2048) = rowOf k.val l :=
  Fin.ext (by simp only [rowOf]; omega)

theorem e4 (g r : Fin 8) : entryContents preI m c (Proc.devRef .tc main_v62_4) (ix2 g r) = aRate m c (hd g r) := by
  simp only [entryContents, afterL_cons, afterL_nil]
  after_reads_simp
  simp only [StableHlo.TRef.ofBuf_toBuf, StableHlo.TRef.toBuf, StableHlo.TRef.ofBuf, cast_eq, id_eq]
  pointwise []
  rfl

theorem e6 (g r : Fin 8) : entryContents preI m c (Proc.devRef .tc main_v62_6) (ix2 g r) = aD m c (hd g r) := by
  simp only [entryContents, afterL_cons, afterL_nil]
  after_reads_simp
  simp only [StableHlo.TRef.ofBuf_toBuf, StableHlo.TRef.toBuf, StableHlo.TRef.ofBuf, cast_eq, id_eq]
  pointwise []
  rfl

theorem e8 (b g r : Fin 8) (p : Fin 64) (n : Fin 128) :
    entryContents preI m c (Proc.devRef .tc main_v62_8) (ix5 b g r p n) = (0 : EReal) := by
  simp only [entryContents, afterL_cons, afterL_nil]
  after_reads_simp
  simp only [StableHlo.TRef.ofBuf_toBuf, StableHlo.TRef.toBuf, StableHlo.TRef.ofBuf, cast_eq, id_eq]
  pointwise []

theorem sge_iff (l s : Fin 128) :
    IntOp.cmpi CmpIPredicate.sge (IntOp.addi (BitVec.ofNat 32 l.val) 0#32) (BitVec.ofNat 32 s.val) = 1#1 ↔ s ≤ l := by
  revert l s; decide +kernel

theorem e5 (l s : Fin 128) : entryContents preI m c (Proc.devRef .tc main_v62_5) (ix5 0 l s 0 0) = 1#1 ↔ s ≤ l := by
  simp only [entryContents, afterL_cons, afterL_nil]
  after_reads_simp
  simp only [StableHlo.TRef.ofBuf_toBuf, StableHlo.TRef.toBuf, StableHlo.TRef.ofBuf, cast_eq, id_eq]
  pointwise []
  rw [← sge_iff l s]
  unfold Scalar.select
  split
  · simp_all
  · simp_all
    exact show ¬ ((0#1 : BitVec 1) = 1#1) by decide

theorem e1 (k : Fin 16) (b : Fin 8) (l : Fin 128) (g r : Fin 8) :
    entryContents preI m c (Proc.devRef .tc main_v62_1) (ix5 k b l g r)
      = dtOf (aDt m c b) (aBias m c) k.val l (hd g r) := by
  simp only [entryContents, afterL_cons, afterL_nil]
  after_reads_simp
  simp only [StableHlo.TRef.ofBuf_toBuf, StableHlo.TRef.toBuf, StableHlo.TRef.ofBuf, cast_eq, id_eq]
  pointwise []
  refine (if_neg (fun h => h rfl)).trans ?_
  rw [row_eq]
  simp only [dtOf, softplus, zero_sub]
  rfl

theorem u0 (b : Fin 8) (l : Fin 3) (j : Fin 6144) :
    upto Gen.hostOps0 (launchContents m c) 2 (Proc.tc.devRef main_v0) (ix3 b l j) = (0 : EReal) := by
  rw [show upto Gen.hostOps0 (launchContents m c) 2 (Proc.tc.devRef main_v0)
    = (broadcastInDim S8x3x6144 ![] Gen.bcast_S_S8x3x6144 (constant (F := Ideal) S_ FTy.f32 0#32) : Vec Ideal S8x3x6144 .f32) from by
      simp only [upto, List.take_succ_cons, List.take_zero]; after_reads_simp]
  pointwise []

theorem uX (b : Fin 8) (l : Fin 2048) (j : Fin 6144) :
    upto Gen.hostOps0 (launchContents m c) 2 (Proc.tc.devRef main_arg0) (ix3 b l j) = aX m c b l j := by
  rw [show upto Gen.hostOps0 (launchContents m c) 2 (Proc.tc.devRef main_arg0)
    = launchContents m c (Proc.tc.devRef main_arg0) from by
      simp only [upto, List.take_succ_cons, List.take_zero]; after_reads_simp]
  rfl

/-- A row of the sequence with three rows of zeros before it, as a row of the chunk or of the one
    before. -/
theorem pad_eq (x : Fin 2048 → Fin 6144 → EReal) (j : Fin 6144) (k : Fin 16) (l : Fin 128) (d : Fin 4) (q : ℕ)
    (hq : q + d.val = k.val * 128 + l.val + 3) (hd : 1 ≤ d.val) (hp : ¬ q < 3 → q - 3 < 2048) :
    (if h : q < 3 then 0 else x ⟨q - 3, hp h⟩ j)
      = conv.back (fun l j => x (rowOf k.val l) j) (fun l j => if k.val = 0 then 0 else x (rowOf (k.val - 1) l) j) d l j := by
  unfold conv.back
  have hk := k.isLt
  have hl := l.isLt
  have hd3 := d.isLt
  by_cases hdl : d.val ≤ l.val
  · rw [dif_neg (by omega), if_pos hdl]
    exact congrArg (fun i => x i j) (Fin.ext (by simp only [rowOf]; omega))
  · rw [if_neg hdl]
    by_cases h0 : k.val = 0
    · rw [dif_pos (by omega)]; exact (if_pos h0).symm
    · rw [dif_neg (by omega)]; refine Eq.trans ?_ (if_neg h0).symm
      exact congrArg (fun i => x i j) (Fin.ext (by simp only [rowOf]; omega))

theorem xc_eq (x : Fin 2048 → Fin 6144 → EReal) (w : Fin 4 → Fin 6144 → EReal) (bb : Fin 6144 → EReal)
    (k : Fin 16) (l : Fin 128) (j : Fin 6144) (y : EReal)
    (hy : y = bb j
      + (if h : k.val * 128 + l.val < 3 then 0 else x ⟨k.val * 128 + l.val - 3, by omega⟩ j) * w 0 j
      + (if h : 1 + (k.val * 128 + l.val) < 3 then 0 else x ⟨1 + (k.val * 128 + l.val) - 3, by omega⟩ j) * w 1 j
      + (if h : 2 + (k.val * 128 + l.val) < 3 then 0 else x ⟨2 + (k.val * 128 + l.val) - 3, by omega⟩ j) * w 2 j
      + x ⟨k.val * 128 + l.val, by omega⟩ j * w 3 j) :
    y * Ideal.div 1 (1 + Ideal.exp (-y)) = xcOf x w bb k.val l j := by
  rw [pad_eq x j k l 3 _ (by simp) (by decide), pad_eq x j k l 2 _ (by simp; omega) (by decide),
    pad_eq x j k l 1 _ (by simp; omega) (by decide), row_eq] at hy
  subst hy
  rfl

/-- A convolved row from the arrays it is read out of: the zero rows, the sequence, the weights. -/
theorem xc_read (Z : Vec Ideal S8x3x6144 .f32) (X : Vec Ideal S8x2048x6144 .f32) (W : Vec Ideal S4x6144 .f32)
    (B : Vec Ideal S6144 .f32) (hZ : ∀ b l j, Z (ix3 b l j) = (0 : EReal)) (x : Fin 2048 → Fin 6144 → EReal) (b : Fin 8)
    (hX : ∀ l j, X (ix3 b l j) = x l j)
    (k : Fin 16) (l : Fin 128) (j : Fin 6144) (y : EReal)
    (hy : y = (B (ix1 j)
      + (if h : k.val * 128 + l.val < 3 then Z (ix3 b ⟨k.val * 128 + l.val, h⟩ j) else X (ix3 b ⟨k.val * 128 + l.val - 3, by omega⟩ j)) * W (ix2 0 j)
      + (if h : 1 + (k.val * 128 + l.val) < 3 then Z (ix3 b ⟨1 + (k.val * 128 + l.val), h⟩ j) else X (ix3 b ⟨1 + (k.val * 128 + l.val) - 3, by omega⟩ j)) * W (ix2 1 j)
      + (if h : 2 + (k.val * 128 + l.val) < 3 then Z (ix3 b ⟨2 + (k.val * 128 + l.val), h⟩ j) else X (ix3 b ⟨2 + (k.val * 128 + l.val) - 3, by omega⟩ j)) * W (ix2 2 j)
      + X (ix3 b ⟨k.val * 128 + l.val, by omega⟩ j) * W (ix2 3 j))) :
    y * Ideal.div 1 (1 + Ideal.exp (-y)) = xcOf x (fun k j => W (ix2 k j)) (fun j => B (ix1 j)) k.val l j := by
  refine xc_eq _ _ _ _ _ _ _ ?_
  simp only [hZ, hX] at hy
  exact hy

theorem colB_eq (g : Fin 8) (n : Fin 128) (h : 4096 + (g.val * 128 + n.val) < 6144) :
    (⟨4096 + (g.val * 128 + n.val), h⟩ : Fin 6144) = colB g n := Fin.ext (by simp only [colB]; omega)
theorem colC_eq (g : Fin 8) (n : Fin 128) (h : 5120 + (g.val * 128 + n.val) < 6144) :
    (⟨5120 + (g.val * 128 + n.val), h⟩ : Fin 6144) = colC g n := Fin.ext (by simp only [colC]; omega)

theorem e0 (k : Fin 16) (b : Fin 8) (l : Fin 128) (g r : Fin 8) (p : Fin 64) :
    entryContents preI m c (Proc.devRef .tc main_v62_0) (ix6 k b l g r p)
      = xcOf (aX m c b) (aW m c) (aB m c) k.val l (colX g (hp r p)) := by
  simp only [entryContents, afterL_cons, afterL_nil]
  after_reads_simp
  simp only [StableHlo.TRef.ofBuf_toBuf, StableHlo.TRef.toBuf, StableHlo.TRef.ofBuf, cast_eq, id_eq]
  pointwise []
  refine (xc_read _ _ _ _ (u0 m c) (aX m c b) b (uX m c b) k l _ _ rfl).trans ?_
  exact congrArg (xcOf (aX m c b) (aW m c) (aB m c) k.val l) (Fin.ext (by simp only [colX, hp]; omega))

theorem e2 (k : Fin 16) (b : Fin 8) (l : Fin 128) (g : Fin 8) (n : Fin 128) :
    entryContents preI m c (Proc.devRef .tc main_v62_2) (ix5 k b l g n)
      = xcOf (aX m c b) (aW m c) (aB m c) k.val l (colB g n) := by
  simp only [entryContents, afterL_cons, afterL_nil]
  after_reads_simp
  simp only [StableHlo.TRef.ofBuf_toBuf, StableHlo.TRef.toBuf, StableHlo.TRef.ofBuf, cast_eq, id_eq]
  pointwise []
  simp only [colB_eq]
  exact xc_read _ _ _ _ (u0 m c) (aX m c b) b (uX m c b) k l _ _ rfl

theorem e3 (k : Fin 16) (b : Fin 8) (l : Fin 128) (g : Fin 8) (n : Fin 128) :
    entryContents preI m c (Proc.devRef .tc main_v62_3) (ix5 k b l g n)
      = xcOf (aX m c b) (aW m c) (aB m c) k.val l (colC g n) := by
  simp only [entryContents, afterL_cons, afterL_nil]
  after_reads_simp
  simp only [StableHlo.TRef.ofBuf_toBuf, StableHlo.TRef.toBuf, StableHlo.TRef.ofBuf, cast_eq, id_eq]
  pointwise []
  simp only [colC_eq]
  exact xc_read _ _ _ _ (u0 m c) (aX m c b) b (uX m c b) k l _ _ rfl

end Cert.ReferenceIdeal.Entry

end
-- ==== Proof.RefCumsum.lean ====
/-
  The reference's running sum down a chunk's rows, at an index.
-/
module

public import proofs.«01_k».proof.Proof.RefEntry

@[expose] public section

set_option maxRecDepth 16384

noncomputable section

namespace Cert.ReferenceIdeal.Cumsum

open Cert.ReferenceIdeal Cert.ReferenceIdeal.Value Cert.ReferenceIdeal.Entry
open Idealize.ShloMosaic Idealize.ShloMosaic.TcCoe Idealize.SL.Sem Cert.Ssd
open Idealize.ShloMosaic.StableHlo

/-! ## The running sum -/

theorem foldl_sum {ι : Type} (f : ι → EReal) (L : List ι) (a : EReal) :
    L.foldl (fun r k => r + f k) a = a + (L.map f).sum := by
  induction L generalizing a with
  | nil => simp
  | cons x L ih => rw [List.foldl_cons, ih, List.map_cons, List.sum_cons, add_assoc]

/-- A window's sum, over the window's positions. -/
theorem window_sum {s t u : Shape} (window strides lo hi : Fin s.rank → Nat) (x : s.Idx → EReal) (init : u.Idx → EReal)
    (hinit : ∀ i, init i = 0) (h : s.ReduceWindows window strides lo hi t) (hu : 0 < u.numel) (j : t.Idx) :
    (Host.reduceWindowAdd (F := Ideal) (φ := .f32) window strides lo hi x init h hu) j
      = ∑ i : (⟨s.rank, window⟩ : Shape).Idx,
          if hin : ∀ a, lo a ≤ (j (a.cast h.1.symm)).val * strides a + (i a).val
              ∧ (j (a.cast h.1.symm)).val * strides a + (i a).val - lo a < s.size a
          then x (fun a => ⟨(j (a.cast h.1.symm)).val * strides a + (i a).val - lo a, (hin a).2⟩) else 0 := by
  show Host.reduceWindow (fun a b : EReal => a + b) window strides lo hi x
    (fun _ : (⟨0, ![]⟩ : Shape).Idx => init (Shape.Idx.first hu)) h (by decide) j = _
  unfold Host.reduceWindow
  dsimp only
  rw [hinit, foldl_sum, zero_add, ← Fin.sum_univ_def]
  refine Fintype.sum_equiv (⟨s.rank, window⟩ : Shape).rowMajor.symm _ _ (fun n => ?_)
  split <;> rfl

/-- The positions of a window of 128 rows. -/
def rows : (⟨4, ![1, 128, 1, 1]⟩ : Shape).Idx ≃ Fin 128 where
  toFun i := i 1
  invFun s := ix4 0 s 0 0
  left_inv i := by
    funext a
    fin_cases a
    · exact Subsingleton.elim (α := Fin 1) _ _
    · rfl
    · exact Subsingleton.elim (α := Fin 1) _ _
    · exact Subsingleton.elim (α := Fin 1) _ _
  right_inv s := rfl

/-- A window of 128 rows that ends at row `l`, the rows before the first being zero. -/
theorem cumsum_apply (x : FVec Ideal S8x128x8x8 .f32) (init : FVec Ideal S_ .f32) (hinit : ∀ i, init i = (0 : EReal))
    (h : S8x128x8x8.ReduceWindows ![1, 128, 1, 1] ![1, 1, 1, 1] ![0, 127, 0, 0] ![0, 0, 0, 0] S8x128x8x8) (hu : 0 < S_.numel)
    (b : Fin 8) (l : Fin 128) (g r : Fin 8) :
    (Host.reduceWindowAdd ![1, 128, 1, 1] ![1, 1, 1, 1] ![0, 127, 0, 0] ![0, 0, 0, 0] x init h hu : FVec Ideal S8x128x8x8 .f32) (ix4 b l g r)
      = ∑ s : Fin 128, if s ≤ l then x (ix4 b s g r) else (0 : EReal) := by
  refine (window_sum _ _ _ _ x init hinit h hu (ix4 b l g r)).trans ?_
  refine Eq.trans (Finset.sum_congr rfl fun i _ => (?_ : _ = (fun n : Fin 128 =>
    if hin : 127 ≤ l.val + n.val ∧ l.val + n.val - 127 < 128 then x (ix4 b ⟨l.val + n.val - 127, hin.2⟩ g r) else (0 : EReal))
      (rows i))) ?_
  · show _ = (if hin : 127 ≤ l.val + (i 1).val ∧ l.val + (i 1).val - 127 < 128 then
      x (ix4 b ⟨l.val + (i 1).val - 127, hin.2⟩ g r) else (0 : EReal))
    have i0 : (i 0).val < 1 := (i 0).isLt
    have i1 : (i 1).val < 128 := (i 1).isLt
    have i2 : (i 2).val < 1 := (i 2).isLt
    have i3 : (i 3).val < 1 := (i 3).isLt
    have hl := l.isLt
    have hb := b.isLt
    have hg := g.isLt
    have hr := r.isLt
    have hiff : (∀ a : Fin 4, (![0, 127, 0, 0] : Fin 4 → ℕ) a ≤ ((ix4 b l g r : S8x128x8x8.Idx) a).val * (![1, 1, 1, 1] : Fin 4 → ℕ) a + (i a).val
        ∧ ((ix4 b l g r : S8x128x8x8.Idx) a).val * (![1, 1, 1, 1] : Fin 4 → ℕ) a + (i a).val - (![0, 127, 0, 0] : Fin 4 → ℕ) a < S8x128x8x8.size a)
        ↔ (127 ≤ l.val + (i 1).val ∧ l.val + (i 1).val - 127 < 128) := by
      constructor
      · intro h
        have := h 1
        change 127 ≤ l.val * 1 + (i 1).val ∧ l.val * 1 + (i 1).val - 127 < 128 at this
        omega
      · intro h a
        fin_cases a
        · show 0 ≤ b.val * 1 + (i 0).val ∧ b.val * 1 + (i 0).val - 0 < 8; omega
        · show 127 ≤ l.val * 1 + (i 1).val ∧ l.val * 1 + (i 1).val - 127 < 128; omega
        · show 0 ≤ g.val * 1 + (i 2).val ∧ g.val * 1 + (i 2).val - 0 < 8; omega
        · show 0 ≤ r.val * 1 + (i 3).val ∧ r.val * 1 + (i 3).val - 0 < 8; omega
    by_cases hin : 127 ≤ l.val + (i 1).val ∧ l.val + (i 1).val - 127 < 128
    · refine (dif_pos (hiff.mpr hin)).trans (Eq.trans ?_ (dif_pos hin).symm)
      refine congrArg x (funext fun a => Fin.ext ?_)
      fin_cases a
      · show b.val * 1 + (i 0).val - 0 = b.val; omega
      · show l.val * 1 + (i 1).val - 127 = l.val + (i 1).val - 127; omega
      · show g.val * 1 + (i 2).val - 0 = g.val; omega
      · show r.val * 1 + (i 3).val - 0 = r.val; omega
    · rw [dif_neg hin]
      exact dif_neg (fun h => hin (hiff.mp h))
  rw [Equiv.sum_comp rows (fun n : Fin 128 =>
    if hin : 127 ≤ l.val + n.val ∧ l.val + n.val - 127 < 128 then x (ix4 b ⟨l.val + n.val - 127, hin.2⟩ g r) else (0 : EReal))]
  show ∑ n : Fin 128, (if hin : 127 ≤ l.val + n.val ∧ l.val + n.val - 127 < 128 then x (ix4 b ⟨l.val + n.val - 127, hin.2⟩ g r) else (0 : EReal)) = _
  have hl := l.isLt
  rw [← Finset.sum_filter, ← Finset.sum_filter_of_ne (p := fun n : Fin 128 => 127 ≤ l.val + n.val)
    (fun n _ hne => by by_contra hlt; exact hne (dif_neg (fun h => hlt h.1)))]
  refine Finset.sum_bij' (fun n _ => ⟨(l.val + n.val - 127) % 128, Nat.mod_lt _ (by decide)⟩)
    (fun s _ => ⟨(s.val + 127 - l.val) % 128, Nat.mod_lt _ (by decide)⟩) ?_ ?_ ?_ ?_ ?_
  · intro n hn
    have := n.isLt
    simp only [Finset.mem_filter, Finset.mem_univ, true_and, Fin.le_def] at hn ⊢
    omega
  · intro n hn
    have := n.isLt
    simp only [Finset.mem_filter, Finset.mem_univ, true_and, Fin.le_def] at hn ⊢
    omega
  · intro n hn
    have := n.isLt
    simp only [Finset.mem_filter, Finset.mem_univ, true_and, Fin.ext_iff] at hn ⊢
    omega
  · intro n hn
    have := n.isLt
    simp only [Finset.mem_filter, Finset.mem_univ, true_and, Fin.le_def, Fin.ext_iff] at hn ⊢
    omega
  · intro n hn
    have := n.isLt
    simp only [Finset.mem_filter, Finset.mem_univ, true_and] at hn
    have hin : 127 ≤ l.val + n.val ∧ l.val + n.val - 127 < 128 := by omega
    refine (dif_pos hin).trans (congrArg (fun s => x (ix4 b s g r)) (Fin.ext ?_))
    show l.val + n.val - 127 = (l.val + n.val - 127) % 128
    omega

end Cert.ReferenceIdeal.Cumsum

end
-- ==== Proof.RefLoop.lean ====
/-
  One trip of the reference's loop over a sequence's chunks, at its indices, and the sixteen trips.
-/
module

public import proofs.«01_k».proof.Proof.RefCumsum
public import Idealize.ShloMosaic.Lib.DynamicIndex
public import Idealize.ShloMosaic.Lib.WordCmp

@[expose] public section

set_option maxRecDepth 16384

noncomputable section

namespace Cert.ReferenceIdeal.Loop

open Cert.ReferenceIdeal Cert.ReferenceIdeal.Value Cert.ReferenceIdeal.Entry Cert.ReferenceIdeal.Cumsum
open Idealize.ShloMosaic Idealize.ShloMosaic.TcCoe Idealize.SL.Sem Cert.Ssd
open Idealize.ShloMosaic.StableHlo

/-- The carried arrays before trip `k`. -/
structure At (m : (ℓ : Loc nD τ sig) → Buf (Elt Ideal) ℓ) (c : Dev nD) (k : ℕ) (V : Valuation τ sig (Elt Ideal)) : Prop where
  h0 : ∀ (k : Fin 16) b l g r p, V (Proc.devRef .tc main_v62_0) (ix6 k b l g r p)
    = xcOf (aX m c b) (aW m c) (aB m c) k.val l (colX g (hp r p))
  h1 : ∀ (k : Fin 16) b l g r, V (Proc.devRef .tc main_v62_1) (ix5 k b l g r)
    = dtOf (aDt m c b) (aBias m c) k.val l (hd g r)
  h2 : ∀ (k : Fin 16) b l g n, V (Proc.devRef .tc main_v62_2) (ix5 k b l g n)
    = xcOf (aX m c b) (aW m c) (aB m c) k.val l (colB g n)
  h3 : ∀ (k : Fin 16) b l g n, V (Proc.devRef .tc main_v62_3) (ix5 k b l g n)
    = xcOf (aX m c b) (aW m c) (aB m c) k.val l (colC g n)
  h4 : ∀ g r, V (Proc.devRef .tc main_v62_4) (ix2 g r) = aRate m c (hd g r)
  h5 : ∀ l s, V (Proc.devRef .tc main_v62_5) (ix5 0 l s 0 0) = 1#1 ↔ s ≤ l
  h6 : ∀ g r, V (Proc.devRef .tc main_v62_6) (ix2 g r) = aD m c (hd g r)
  ctr : V (Proc.devRef .tc main_v62_7) = fun _ => BitVec.ofNat 32 k
  h8 : ∀ b g r p n, V (Proc.devRef .tc main_v62_8) (ix5 b g r p n)
    = state (aX m c b) (aW m c) (aB m c) (aDt m c b) (aBias m c) (aRate m c) k g n (hp r p)
  h9 : ∀ (k' : Fin 16) b l g r p, k'.val < k → V (Proc.devRef .tc main_v62_9) (ix6 k' b l g r p)
    = yraw (xcOf (aX m c b) (aW m c) (aB m c) k'.val) (dtOf (aDt m c b) (aBias m c) k'.val) (aRate m c) (aD m c)
        (state (aX m c b) (aW m c) (aB m c) (aDt m c b) (aBias m c) (aRate m c) k'.val) l g (hp r p)

variable {m : (ℓ : Loc nD τ sig) → Buf (Elt Ideal) ℓ} {c : Dev nD} {K : Fin 16} {V : Valuation τ sig (Elt Ideal)}

theorem toInt_k (K : Fin 16) : (BitVec.ofNat 32 K.val).toInt = (K.val : Int) := by revert K; decide

theorem fit6 (K : Fin 16) : Shape.Slices S16x8x128x8x8x64 ![K.val, 0, 0, 0, 0, 0] S1x8x128x8x8x64 :=
  ⟨rfl, fun a => by
    have hK := K.isLt
    fin_cases a
    · show K.val + 1 ≤ 16; omega
    · exact Nat.le_of_eq (Nat.zero_add _)
    · exact Nat.le_of_eq (Nat.zero_add _)
    · exact Nat.le_of_eq (Nat.zero_add _)
    · exact Nat.le_of_eq (Nat.zero_add _)
    · exact Nat.le_of_eq (Nat.zero_add _)⟩

theorem fit5 (K : Fin 16) : Shape.Slices S16x8x128x8x8 ![K.val, 0, 0, 0, 0] S1x8x128x8x8 :=
  ⟨rfl, fun a => by
    have hK := K.isLt
    fin_cases a
    · show K.val + 1 ≤ 16; omega
    · exact Nat.le_of_eq (Nat.zero_add _)
    · exact Nat.le_of_eq (Nat.zero_add _)
    · exact Nat.le_of_eq (Nat.zero_add _)
    · exact Nat.le_of_eq (Nat.zero_add _)⟩

theorem fit5' (K : Fin 16) : Shape.Slices S16x8x128x8x128 ![K.val, 0, 0, 0, 0] S1x8x128x8x128 :=
  ⟨rfl, fun a => by
    have hK := K.isLt
    fin_cases a
    · show K.val + 1 ≤ 16; omega
    · exact Nat.le_of_eq (Nat.zero_add _)
    · exact Nat.le_of_eq (Nat.zero_add _)
    · exact Nat.le_of_eq (Nat.zero_add _)
    · exact Nat.le_of_eq (Nat.zero_add _)⟩

theorem x85 (A : At m c K.val V) (b : Fin 8) (l : Fin 128) (g r : Fin 8) (p : Fin 64) :
    res_main_while0b_v85 V (ix5 b l g r p) = xcOf (aX m c b) (aW m c) (aB m c) K.val l (colX g (hp r p)) := by
  unfold res_main_while0b_v85
  refine (congrArg (fun y : Vec Ideal S1x8x128x8x8x64 .f32 => shapeCast S8x128x8x8x64 y Gen.shapeCasts_S1x8x128x8x8x64_S8x128x8x8x64 (ix5 b l g r p))
    (Host.dynamicSlice_eq_extractStridedSlice _ _ _ ![K.val, 0, 0, 0, 0, 0] _ (fit6 K) ?_)).trans ?_
  · intro a
    fin_cases a
    · exact (congrArg (fun v : IVec S_ 32 => (v (Shape.Idx.first Gen.h_S_)).toInt) A.ctr).trans (toInt_k K)
    · rfl
    · rfl
    · rfl
    · rfl
    · rfl
  · pointwise []
    exact A.h0 K b l g r p

theorem x86 (A : At m c K.val V) (b : Fin 8) (l : Fin 128) (g r : Fin 8) :
    res_main_while0b_v86 V (ix4 b l g r) = dtOf (aDt m c b) (aBias m c) K.val l (hd g r) := by
  unfold res_main_while0b_v86
  refine (congrArg (fun y : Vec Ideal S1x8x128x8x8 .f32 => shapeCast S8x128x8x8 y Gen.shapeCasts_S1x8x128x8x8_S8x128x8x8 (ix4 b l g r))
    (Host.dynamicSlice_eq_extractStridedSlice _ _ _ ![K.val, 0, 0, 0, 0] _ (fit5 K) ?_)).trans ?_
  · intro a
    fin_cases a
    · exact (congrArg (fun v : IVec S_ 32 => (v (Shape.Idx.first Gen.h_S_)).toInt) A.ctr).trans (toInt_k K)
    · rfl
    · rfl
    · rfl
    · rfl
  · pointwise []
    exact A.h1 K b l g r

theorem x87 (A : At m c K.val V) (b : Fin 8) (l : Fin 128) (g : Fin 8) (n : Fin 128) :
    res_main_while0b_v87 V (ix4 b l g n) = xcOf (aX m c b) (aW m c) (aB m c) K.val l (colB g n) := by
  unfold res_main_while0b_v87
  refine (congrArg (fun y : Vec Ideal S1x8x128x8x128 .f32 => shapeCast S8x128x8x128 y Gen.shapeCasts_S1x8x128x8x128_S8x128x8x128 (ix4 b l g n))
    (Host.dynamicSlice_eq_extractStridedSlice _ _ _ ![K.val, 0, 0, 0, 0] _ (fit5' K) ?_)).trans ?_
  · intro a
    fin_cases a
    · exact (congrArg (fun v : IVec S_ 32 => (v (Shape.Idx.first Gen.h_S_)).toInt) A.ctr).trans (toInt_k K)
    · rfl
    · rfl
    · rfl
    · rfl
  · pointwise []
    exact A.h2 K b l g n

theorem x88 (A : At m c K.val V) (b : Fin 8) (l : Fin 128) (g : Fin 8) (n : Fin 128) :
    res_main_while0b_v88 V (ix4 b l g n) = xcOf (aX m c b) (aW m c) (aB m c) K.val l (colC g n) := by
  unfold res_main_while0b_v88
  refine (congrArg (fun y : Vec Ideal S1x8x128x8x128 .f32 => shapeCast S8x128x8x128 y Gen.shapeCasts_S1x8x128x8x128_S8x128x8x128 (ix4 b l g n))
    (Host.dynamicSlice_eq_extractStridedSlice _ _ _ ![K.val, 0, 0, 0, 0] _ (fit5' K) ?_)).trans ?_
  · intro a
    fin_cases a
    · exact (congrArg (fun v : IVec S_ 32 => (v (Shape.Idx.first Gen.h_S_)).toInt) A.ctr).trans (toInt_k K)
    · rfl
    · rfl
    · rfl
    · rfl
  · pointwise []
    exact A.h3 K b l g n

theorem x92 (A : At m c K.val V) (b : Fin 8) (l : Fin 128) (g r : Fin 8) :
    res_main_while0b_v92 V (ix4 b l g r) = AC (dtOf (aDt m c b) (aBias m c) K.val) (aRate m c) l (hd g r) := by
  unfold res_main_while0b_v92
  refine (cumsum_apply _ _ (fun i => ?_) _ _ b l g r).trans ?_
  · pointwise []
  · refine Finset.sum_congr rfl fun s _ => if_congr Iff.rfl ?_ rfl
    pointwise []
    rw [x86 A, A.h4]

theorem s8 (A : At m c K.val V) (b g r : Fin 8) (p : Fin 64) (n : Fin 128) :
    step_main_v62_8 V (ix5 b g r p n)
      = state (aX m c b) (aW m c) (aB m c) (aDt m c b) (aBias m c) (aRate m c) (K.val + 1) g n (hp r p) := by
  unfold step_main_v62_8
  simp only [id_eq]
  pointwise []
  refine congrArg₂ (· + ·) ?_ (Finset.sum_congr rfl fun s _ => ?_)
  · rw [x92 A, A.h8, ← head_hp g r p]
  · rw [x92 A, x92 A, x86 A, x85 A, x87 A, ← head_hp g r p]
    exact mul_comm _ _

theorem neg_inf : (id (constant (F := Ideal) S_ FTy.f32 4286578688#32) ix0 : EReal) = ⊥ := by
  rw [id_eq]
  show Ideal.ofBits .f32 0xFF800000#32 = ⊥
  simp [Ideal.ofBits, Ideal.ieee]

/-- Chunk `k`'s rows before the gate. -/
abbrev yc (m : (ℓ : Loc nD τ sig) → Buf (Elt Ideal) ℓ) (c : Dev nD) (b : Fin 8) (k : ℕ) : Fin 128 → Fin 8 → Fin 512 → EReal :=
  yraw (xcOf (aX m c b) (aW m c) (aB m c) k) (dtOf (aDt m c b) (aBias m c) k) (aRate m c) (aD m c)
    (state (aX m c b) (aW m c) (aB m c) (aDt m c b) (aBias m c) (aRate m c) k)

theorem s9 (A : At m c K.val V) (k' : Fin 16) (b : Fin 8) (l : Fin 128) (g r : Fin 8) (p : Fin 64) :
    step_main_v62_9 V (ix6 k' b l g r p)
      = if k' = K then yc m c b K.val l g (hp r p) else V (Proc.devRef .tc main_v62_9) (ix6 k' b l g r p) := by
  unfold step_main_v62_9
  rw [id_eq]
  refine (congrFun (WordCmp.dynamicUpdateSlice_eq_update _ _ _ _ ![K.val, 0, 0, 0, 0, 0] (fit6 K) ?_) _).trans ?_
  · intro a
    fin_cases a
    · exact (congrArg (fun v : IVec S_ 32 => (v (Shape.Idx.first Gen.h_S_)).toInt) A.ctr).trans (toInt_k K)
    · rfl
    · rfl
    · rfl
    · rfl
    · rfl
  · pointwise []
    by_cases hk : k' = K
    · subst hk
      rw [if_pos rfl]
      refine (dif_pos ?_).trans ?_
      · intro a
        have := b.isLt
        have := l.isLt
        have := g.isLt
        have := r.isLt
        have := p.isLt
        fin_cases a
        · show k'.val ≤ k'.val ∧ k'.val < k'.val + 1; omega
        · show 0 ≤ b.val ∧ b.val < 0 + 8; omega
        · show 0 ≤ l.val ∧ l.val < 0 + 128; omega
        · show 0 ≤ g.val ∧ g.val < 0 + 8; omega
        · show 0 ≤ r.val ∧ r.val < 0 + 8; omega
        · show 0 ≤ p.val ∧ p.val < 0 + 64; omega
      · unfold yc yraw
        refine congrArg₂ (· + ·) (congrArg₂ (· + ·) (Finset.sum_congr rfl fun s _ => ?_) (congrArg₂ (· * ·)
          (Finset.sum_congr rfl fun n _ => ?_) ?_)) ?_
        · refine (mul_comm _ _).trans (congrArg₂ (· * ·) (congrArg₂ (· * ·) (Finset.sum_congr rfl fun n _ => ?_)
            (congrArg Ideal.exp ?_)) ?_)
          · rw [x87 A, x88 A]; exact mul_comm _ _
          · rw [neg_inf, x92 A, x92 A, head_hp]
            exact if_congr (A.h5 l s) rfl rfl
          · rw [x86 A, x85 A, head_hp]
        · rw [A.h8, x88 A]; exact mul_comm _ _
        · rw [x92 A, head_hp]
        · rw [A.h6, x85 A, head_hp]
    · rw [if_neg hk]
      refine dif_neg (fun h => hk (Fin.ext ?_))
      have h0 := h ⟨0, by decide⟩
      change K.val ≤ k'.val ∧ k'.val < K.val + 1 at h0
      omega

theorem ctr_next (K : Fin 16) : (BitVec.ofNat 32 K.val + 1#32) = BitVec.ofNat 32 (K.val + 1) := by revert K; decide

theorem step (A : At m c K.val V) : At m c (K.val + 1) (STEP V) where
  h0 k b l g r p := by rw [STEP_main_v62_0]; exact A.h0 k b l g r p
  h1 k b l g r := by rw [STEP_main_v62_1]; exact A.h1 k b l g r
  h2 k b l g n := by rw [STEP_main_v62_2]; exact A.h2 k b l g n
  h3 k b l g n := by rw [STEP_main_v62_3]; exact A.h3 k b l g n
  h4 g r := by rw [STEP_main_v62_4]; exact A.h4 g r
  h5 l s := by rw [STEP_main_v62_5]; exact A.h5 l s
  h6 g r := by rw [STEP_main_v62_6]; exact A.h6 g r
  ctr := by
    rw [STEP_main_v62_7]
    unfold step_main_v62_7
    rw [id_eq, A.ctr]
    funext i
    exact ctr_next K
  h8 b g r p n := by rw [STEP_main_v62_8]; exact s8 A b g r p n
  h9 k' b l g r p h := by
    rw [STEP_main_v62_9]
    refine (s9 A k' b l g r p).trans ?_
    by_cases hk : k' = K
    · rw [if_pos hk, hk]
    · rw [if_neg hk]
      exact A.h9 k' b l g r p (by have : k'.val ≠ K.val := fun e => hk (Fin.ext e); omega)

theorem entry (m : (ℓ : Loc nD τ sig) → Buf (Elt Ideal) ℓ) (c : Dev nD) : At m c 0 (entryContents preI m c) where
  h0 := e0 m c
  h1 := e1 m c
  h2 := e2 m c
  h3 := e3 m c
  h4 := e4 m c
  h5 := e5 m c
  h6 := e6 m c
  ctr := ctr_entry m c
  h8 := e8 m c
  h9 _ _ _ _ _ _ h := absurd h (Nat.not_lt_zero _)

/-- Before trip `k`. -/
theorem trips (m : (ℓ : Loc nD τ sig) → Buf (Elt Ideal) ℓ) (c : Dev nD) : ∀ k, k ≤ 16 →
    At m c k (STEP^[k] (entryContents preI m c))
  | 0, _ => entry m c
  | k + 1, h => by
    rw [Function.iterate_succ_apply']
    exact step (K := ⟨k, by omega⟩) (trips m c k (by omega))

end Cert.ReferenceIdeal.Loop

end
-- ==== Proof.RefOut.lean ====
/-
  The reference's two results at their indices: the rows gated and normalised, and the last state.
-/
module

public import proofs.«01_k».proof.Proof.RefLoop

@[expose] public section

set_option maxRecDepth 16384

noncomputable section

namespace Cert.ReferenceIdeal.Out

open Cert.ReferenceIdeal Cert.ReferenceIdeal.Value Cert.ReferenceIdeal.Entry Cert.ReferenceIdeal.Loop
open Idealize.ShloMosaic Idealize.ShloMosaic.TcCoe Idealize.SL.Sem Cert.Ssd
open Idealize.ShloMosaic.StableHlo

variable (m : (ℓ : Loc nD τ sig) → Buf (Elt Ideal) ℓ) (c : Dev nD)

/-- The gated rows, a group's columns apart. -/
def gated (ys : FVec Ideal S16x8x128x8x8x64 .f32) (z : FVec Ideal S8x2048x4096 .f32) : FVec Ideal S8x2048x8x512 .f32 :=
  shapeCast _ (mulf (shapeCast _ (shapeCast _ (transpose S8x16x128x8x8x64 [1, 0, 2, 3, 4, 5] ys
      Gen.transposes_S16x8x128x8x8x64_S8x16x128x8x8x64_1_0_2_3_4_5) Gen.shapeCasts_S8x16x128x8x8x64_S8x2048x8x8x64)
      Gen.shapeCasts_S8x2048x8x8x64_S8x2048x4096)
    (mulf z (Host.divf (broadcastInDim S8x2048x4096 ![] Gen.bcast_S_S8x2048x4096 (constant S_ .f32 0x3F800000#32))
      (addf (broadcastInDim S8x2048x4096 ![] Gen.bcast_S_S8x2048x4096 (constant S_ .f32 0x3F800000#32))
        (Host.exp (Host.negf z)))))) Gen.shapeCasts_S8x2048x4096_S8x2048x8x512

/-- The normalisation. -/
def normed (G : FVec Ideal S8x2048x8x512 .f32) (w : FVec Ideal S4096 .f32) : FVec Ideal S8x2048x4096 .bf16 :=
  truncf .bf16 (mulf (shapeCast _ (mulf G (broadcastInDim S8x2048x8x512 ![0, 1, 2, 3] Gen.bcast_S8x2048x8x1_S8x2048x8x512_0_1_2_3
      (Host.rsqrt (addf (Host.divf (broadcastInDim S8x2048x8x1 ![0, 1, 2] Gen.bcast_S8x2048x8_S8x2048x8x1_0_1_2
          (Host.reduceAdd (mulf G G) (constant S_ .f32 0x00000000#32) Gen.reducesTo_S8x2048x8x512_S8x2048x8_d3 Gen.h_S_))
          (broadcastInDim S8x2048x8x1 ![] Gen.bcast_S_S8x2048x8x1 (constant S_ .f32 0x44000000#32)))
        (broadcastInDim S8x2048x8x1 ![] Gen.bcast_S_S8x2048x8x1 (constant S_ .f32 0x358637BD#32))))))
      Gen.shapeCasts_S8x2048x8x512_S8x2048x4096)
    (broadcastInDim S8x2048x4096 ![0, 1, 2] Gen.bcast_S1x1x4096_S8x2048x4096_0_1_2
      (broadcastInDim S1x1x4096 ![2] Gen.bcast_S4096_S1x1x4096_2 w))) Gen.bitsLt_bf16_f32

theorem out83_eq (V : Valuation τ sig (Elt Ideal)) : out_main_v83 V
    = normed (gated (V (Proc.devRef .tc main_v62_9)) (V (Proc.devRef .tc main_arg1))) (V (Proc.devRef .tc main_arg8)) := rfl

theorem gated_apply (ys : FVec Ideal S16x8x128x8x8x64 .f32) (z : FVec Ideal S8x2048x4096 .f32) (b : Fin 8) (t : Fin 2048)
    (g : Fin 8) (j : Fin 512) : gated ys z (ix4 b t g j)
      = ys (ix6 ⟨t.val / 128, by omega⟩ b ⟨t.val % 128, by omega⟩ g ⟨j.val / 64, by omega⟩ ⟨j.val % 64, by omega⟩)
          * swish (z (ix3 b t (colY g j))) := by
  have e1 : (⟨g.val * 512 + j.val, by omega⟩ : Fin 4096) = colY g j := Fin.ext (by simp only [colY]; omega)
  rw [← e1]
  pointwise [gated, swish, Ideal.logistic]
  have e2 : (⟨(g.val * 512 + j.val) / 64 % 8, by omega⟩ : Fin 8) = ⟨j.val / 64, by omega⟩ := Fin.ext (by simp only []; omega)
  have e3 : (⟨(g.val * 512 + j.val) % 64, by omega⟩ : Fin 64) = ⟨j.val % 64, by omega⟩ := Fin.ext (by simp only []; omega)
  rw [e2, e3]

theorem normed_apply (G : FVec Ideal S8x2048x8x512 .f32) (w : FVec Ideal S4096 .f32) (b : Fin 8) (t : Fin 2048) (q : Fin 4096) :
    normed G w (ix3 b t q) = gnorm (fun j => G (ix4 b t ⟨q.val / 512, by omega⟩ j)) (w (ix1 q)) ⟨q.val % 512, by omega⟩ := by
  pointwise [normed, gnorm]

theorem hp_eq (j : Fin 512) : hp ⟨j.val / 64, by omega⟩ ⟨j.val % 64, by omega⟩ = j :=
  Fin.ext (by simp only [hp]; omega)

theorem rowOf_div (k : Fin 16) (l : Fin 128) : (⟨(rowOf k.val l).val / 128, by omega⟩ : Fin 16) = k :=
  Fin.ext (by simp only [rowOf]; omega)
theorem rowOf_mod (k : Fin 16) (l : Fin 128) : (⟨(rowOf k.val l).val % 128, by omega⟩ : Fin 128) = l :=
  Fin.ext (by simp only [rowOf]; omega)
theorem colY_div (g : Fin 8) (j : Fin 512) : (⟨(colY g j).val / 512, by omega⟩ : Fin 8) = g :=
  Fin.ext (by simp only [colY]; omega)
theorem colY_mod (g : Fin 8) (j : Fin 512) : (⟨(colY g j).val % 512, by omega⟩ : Fin 512) = j :=
  Fin.ext (by simp only [colY]; omega)

theorem out83 (b : Fin 8) (k : Fin 16) (l : Fin 128) (g : Fin 8) (j : Fin 512) :
    out_main_v83 (STEP^[16] (entryContents preI m c)) (ix3 b (rowOf k.val l) (colY g j))
      = yOf (aX m c b) (aZ m c b) (aW m c) (aB m c) (aDt m c b) (aBias m c) (aRate m c) (aD m c) (aNw m c) k.val l g j := by
  have A := trips m c 16 le_rfl
  have h1 := iter_main_arg1 (F := Ideal) m c 16
  have h8 := iter_main_arg8 (F := Ideal) m c 16
  generalize STEP^[16] (entryContents preI m c) = V at A h1 h8 ⊢
  rw [out83_eq, h1, h8]
  refine (normed_apply _ _ _ _ _).trans ?_
  rw [colY_div, colY_mod]
  refine congrArg (fun y => gnorm y (aNw m c (colY g j)) j) (funext fun j => ?_)
  refine (gated_apply _ _ _ _ _ _).trans ?_
  rw [rowOf_div, rowOf_mod]
  refine congrArg₂ (· * ·) ((A.h9 k b l g _ _ k.isLt).trans ?_) rfl
  rw [hp_eq]

theorem state_apply (h : FVec Ideal S8x8x8x64x128 .f32) (b g : Fin 8) (j : Fin 512) (n : Fin 128) :
    (shapeCast S8x4096x128 h Gen.shapeCasts_S8x8x8x64x128_S8x4096x128) (ix3 b (colY g j) n)
      = h (ix5 b g ⟨j.val / 64, by omega⟩ ⟨j.val % 64, by omega⟩ n) := by
  have e1 : (⟨g.val * 512 + j.val, by omega⟩ : Fin 4096) = colY g j := Fin.ext (by simp only [colY]; omega)
  rw [← e1]
  pointwise []
  have e0 : (⟨(g.val * 512 + j.val) / 512, by omega⟩ : Fin 8) = g := Fin.ext (by simp only []; omega)
  have e2 : (⟨(g.val * 512 + j.val) / 64 % 8, by omega⟩ : Fin 8) = ⟨j.val / 64, by omega⟩ := Fin.ext (by simp only []; omega)
  have e3 : (⟨(g.val * 512 + j.val) % 64, by omega⟩ : Fin 64) = ⟨j.val % 64, by omega⟩ := Fin.ext (by simp only []; omega)
  rw [e2, e3]

theorem out84 (b g : Fin 8) (j : Fin 512) (n : Fin 128) :
    out_main_v84 (STEP^[16] (entryContents preI m c)) (ix3 b (colY g j) n)
      = state (aX m c b) (aW m c) (aB m c) (aDt m c b) (aBias m c) (aRate m c) 16 g n j := by
  have A := trips m c 16 le_rfl
  generalize STEP^[16] (entryContents preI m c) = V at A ⊢
  refine (state_apply _ _ _ _ _).trans ((A.h8 b g _ _ n).trans ?_)
  rw [hp_eq]

end Cert.ReferenceIdeal.Out

end
-- ==== Proof.Final.lean ====
/-
  The precondition read at an index, the two programs' arguments side by side, and the claims.
-/
module

public import proofs.«01_k».proof.Defs
public import proofs.«01_k».proof.Proof.Fold
public import proofs.«01_k».proof.Proof.RefOut

@[expose] public section

set_option maxRecDepth 16384

noncomputable section

namespace Cert.Final

open Idealize.ShloMosaic Idealize.ShloMosaic.TcCoe Idealize.SL.Sem Cert.Ssd

theorem preFacts : Cert.Pre_dt_finite.Facts where
  slices_S8x2048x128_S8x2048x64_0_0_0 := by decide
  bcast_S_S8x2048x64 := by decide
  bcast_S_S64 := by decide

/-- A value whose magnitude is less than infinity is a real. -/
theorem isR_of_lt {x : EReal} (h : Ideal.cmp .olt (max x (-x)) (Ideal.ofBits .f32 0x7F800000#32) = 1#1) : IsR x := by
  have e : Ideal.ofBits .f32 0x7F800000#32 = (⊤ : EReal) := by simp [Ideal.ofBits, Ideal.ieee]
  rw [e] at h
  have h' : max x (-x) < ⊤ := by
    by_contra hn
    simp [Ideal.cmp, hn] at h
  induction x with
  | bot => simp at h'
  | top => simp at h'
  | coe r => exact ⟨r, rfl⟩

section

variable (m : (ℓ : Loc Cert.KernelIdeal.nD Cert.KernelIdeal.τ Cert.KernelIdeal.sig) → Buf (Elt Ideal) ℓ) (c : Dev Cert.KernelIdeal.nD)

/-- The steps' columns, read out of the array they stand in. -/
theorem step_read (x : FVec Ideal Cert.Pre_dt_finite.S8x2048x128 .f32) (hs) (b : Fin 8) (l : Fin 2048) (h : Fin 64) :
    (extractStridedSlice Cert.Pre_dt_finite.S8x2048x64 ![0, 0, 0] x hs) (ix3 b l h) = x (ix3 b l ⟨h.val, by omega⟩) := by
  pointwise []

theorem fine (h : @Cert.Pre_KernelIdeal_dt_finite preFacts m) : Cert.KernelIdeal.Fold.Fine m c where
  dt b l h' := by
    have e := congrFun (h c).1 (ix3 b l h')
    refine isR_of_lt (Eq.trans ?_ e)
    exact congrArg (fun x : EReal => Ideal.cmp .olt (max x (-x)) (Ideal.ofBits .f32 0x7F800000#32)) (step_read _ _ b l h').symm
  bias h' := isR_of_lt (congrFun (h c).2.1 (ix1 h'))
  rate h' := (IsR.exp (isR_of_lt (congrFun (h c).2.2 (ix1 h')))).neg

end

/-- Every row of a sequence is a row of one of its chunks. -/
theorem row_of (t : Fin 2048) : t = rowOf (t.val / 128) ⟨t.val % 128, by omega⟩ :=
  Fin.ext (by simp only [rowOf]; omega)

/-- Every column is a column of one of the groups. -/
theorem col_of (q : Fin 4096) : q = colY ⟨q.val / 512, by omega⟩ ⟨q.val % 512, by omega⟩ :=
  Fin.ext (by simp only [colY]; omega)

theorem ext_rows {f g : FVec Ideal Cert.KernelIdeal.S8x2048x4096 .f32}
    (h : ∀ (b : Fin 8) (k : Fin 16) (l : Fin 128) (g' : Fin 8) (j : Fin 512), f (ix3 b (rowOf k.val l) (colY g' j)) = g (ix3 b (rowOf k.val l) (colY g' j))) : f = g := by
  funext i
  obtain ⟨b, t, q, rfl⟩ : ∃ (b : Fin 8) (t : Fin 2048) (q : Fin 4096), i = ix3 b t q := ⟨_, _, _, (ix3_eta i).symm⟩
  rw [row_of t, col_of q]
  exact h b ⟨t.val / 128, by omega⟩ _ _ _

theorem ext_state {f g : FVec Ideal Cert.KernelIdeal.S8x4096x128 .f32}
    (h : ∀ (b g' : Fin 8) (j : Fin 512) (n : Fin 128), f (ix3 b (colY g' j) n) = g (ix3 b (colY g' j) n)) : f = g := by
  funext i
  obtain ⟨b, q, n, rfl⟩ : ∃ (b : Fin 8) (q : Fin 4096) (n : Fin 128), i = ix3 b q n := ⟨_, _, _, (ix3_eta i).symm⟩
  rw [col_of q]
  exact h b _ _ n

end Cert.Final

end
-- ==== Proof.UpValue.lean ====
module

public import proofs.«01_k».proof.Proof.Gen.UpIdeal.Value
public import proofs.«01_k».proof.Proof.Gen.UpReferenceIdeal.Run
public import proofs.«01_k».proof.Proof.Gen.Up.Frame
public import proofs.«01_k».proof.Defs
public import Idealize.ShloMosaic.Lib.Pipeline.ValueKit
public import Idealize.ShloMosaic.Lib.Pointwise

/-! The gated up projection `silu (u g) (u h)`. A grid point computes one 1024 × 512 block of it from a block of rows, rounded
on the way in, and a block of columns of each weight matrix. -/

@[expose] public section

set_option maxRecDepth 16384

noncomputable section

namespace Cert.UpProof

open Cert.UpIdeal Cert.UpIdeal.Gen Idealize.ShloMosaic Idealize.ShloMosaic.TcCoe
open Idealize.ShloMosaic.Pipeline (Dat)

variable (m : (ℓ : Loc nD τ sig) → Buf (Elt Ideal) ℓ)

/-- Which block each window reads or writes at a grid point. -/
theorem idx : ∀ t : Fin grid0.N,
    win0_0.index t = ![(grid0.coords t 0).val, 0] ∧ win0_1.index t = ![0, (grid0.coords t 1).val]
      ∧ win0_2.index t = ![0, (grid0.coords t 1).val]
      ∧ win0_3.index t = ![(grid0.coords t 0).val, (grid0.coords t 1).val] := by decide +kernel

/-- One entry of the block's result: the gated product of the two sums over the row. -/
def entry (x : Fin 16384 → Fin 2048 → EReal) (g h : Fin 2048 → Fin 5632 → EReal) (i : Fin 16384) (j : Fin 5632) : EReal :=
  (∑ k, x i k * g k j) * Ideal.logistic (∑ k, x i k * g k j) * ∑ k, x i k * h k j

/-- The result array as a function of the argument arrays. -/
def result (x : Vec Ideal S16384x2048 .f32) (g h : Vec Ideal S2048x5632 .f32) : Vec Ideal S16384x5632 .bf16 := fun i =>
  entry (fun a k => x (ix2 a k)) (fun k b => g (ix2 k b)) (fun k b => h (ix2 k b)) (i 0) (i 1)

theorem pay (x : Vec Ideal S1024x2048 .bf16) (g h : Vec Ideal S2048x512 .f32) (r : Fin 1024) (q : Fin 512) :
    k0_pay1 (F := Ideal) x g h (ix2 r q) = (∑ k : Fin 2048, x (ix2 r k) * g (ix2 k q) : EReal)
      * Ideal.logistic (∑ k : Fin 2048, x (ix2 r k) * g (ix2 k q) : EReal) * (∑ k : Fin 2048, x (ix2 r k) * h (ix2 k q) : EReal) := by
  unfold k0_pay1
  pointwise

theorem blk0 (c : Dev nD) (t : Fin cfg0.N) (r : Fin 1024) (k : Fin 2048) (R : Fin 16384) (hR : R.val = (grid0.coords t 0).val * 1024 + r.val) :
    iblk m c 0 t (ix2 r k) = m ((c : Thread nD τ).loc main_arg0) (ix2 R k) := by
  blk_ext [iblk, V, idx t]

theorem blk1 (c : Dev nD) (t : Fin cfg0.N) (k : Fin 2048) (q : Fin 512) (Q : Fin 5632) (hQ : Q.val = (grid0.coords t 1).val * 512 + q.val) :
    iblk m c 1 t (ix2 k q) = m ((c : Thread nD τ).loc main_arg1) (ix2 k Q) := by
  blk_ext [iblk, V_main_arg1, idx t]

theorem blk2 (c : Dev nD) (t : Fin cfg0.N) (k : Fin 2048) (q : Fin 512) (Q : Fin 5632) (hQ : Q.val = (grid0.coords t 1).val * 512 + q.val) :
    iblk m c 2 t (ix2 k q) = m ((c : Thread nD τ).loc main_arg2) (ix2 k Q) := by
  blk_ext [iblk, V_main_arg2, idx t]

theorem final (c : Dev nD) : (dats m 0 c).arrAt 3 cfg0.N = result (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  frame_out
  have e : ∀ (r : Fin 1024) (q : Fin 512), k0_pay1 (iblk m c 0 t) (iblk m c 1 t) (iblk m c 2 t) (ix2 r q)
      = result (m ((c : Thread nD τ).loc main_arg0)) (m ((c : Thread nD τ).loc main_arg1)) (m ((c : Thread nD τ).loc main_arg2))
        (((View.whole main_v1).slice (win0_3.rect t)).emb (ix2 r q)) := by
    intro r q
    rw [pay]
    unfold result entry
    have h0 : ((((View.whole main_v1).slice (win0_3.rect t)).emb (ix2 r q)) 0).val = (grid0.coords t 0).val * 1024 + r.val := by
      blk_simp [idx t]
    have h1 : ((((View.whole main_v1).slice (win0_3.rect t)).emb (ix2 r q)) 1).val = (grid0.coords t 1).val * 512 + q.val := by
      blk_simp [idx t]
    simp only [fun k => blk0 m c t r k _ h0, fun k => blk1 m c t k q _ h1, fun k => blk2 m c t k q _ h1]
  exact (congrArg _ (ix2_eta y).symm).trans ((e _ _).trans (congrArg
    (fun y => result _ _ _ (((View.whole main_v1).slice (win0_3.rect t)).emb y)) (ix2_eta y)))

/-- The reference ends with the same function of its arguments. -/
theorem ref (m : (ℓ : Loc Cert.UpReferenceIdeal.nD Cert.UpReferenceIdeal.τ Cert.UpReferenceIdeal.sig) → Buf (Elt Ideal) ℓ)
    (ρ : Dev Cert.UpReferenceIdeal.nD → PrngReg) :
    θ_run Cert.UpReferenceIdeal.defs (onTc (τ := Cert.UpReferenceIdeal.τ) (Cert.UpReferenceIdeal.main (F := Ideal))) ⟨m, fun _ => 0, ρ⟩
      fun r => ∀ c : Dev Cert.UpReferenceIdeal.nD,
        r.2.mem ((c.tc : Thread Cert.UpReferenceIdeal.nD Cert.UpReferenceIdeal.τ).loc Cert.UpReferenceIdeal.main_v4)
          = result (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2))
        ∧ r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
        ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
        ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2) := by
  refine (θ_run _ _ _).mono (fun r h c => ⟨(h c).1.trans (funext fun i => ?_), (h c).2⟩) (Cert.UpReferenceIdeal.Value.run (F := Ideal) m ρ)
  rw [← ix2_eta i]
  pointwise [result, entry]
  rfl

/-- `Up` runs and leaves its arguments as they were. -/
theorem frame_p : Cert.quiescent_Up (hUp := Cert.Up.Gen.facts) := fun m ρ _ => Cert.Up.Gen.frame m ρ

/-- The idealized program runs and leaves its arguments as they were. -/
theorem frame_i : Cert.quiescent_UpIdeal (hUpIdeal := Cert.UpIdeal.Gen.facts) := fun m ρ _ => Cert.UpIdeal.Gen.frame m ρ

/-- The reference runs and leaves its arguments as they were. -/
theorem frame_r : Cert.quiescent_UpReferenceIdeal (hUpReferenceIdeal := Cert.UpReferenceIdeal.Gen.facts) := fun m ρ _ =>
  (θ_run Cert.UpReferenceIdeal.defs _ _).mono (fun r h => ⟨fun c => (h c).2, sem_eq_zero_of_no_sems (by decide) r.2⟩)
    (Cert.UpReferenceIdeal.Value.run (F := Ideal) m ρ)

/-- The program and the reference, started from the same arguments, end with the same result. -/
theorem algebraic : Cert.algebraic_UpIdeal_UpReferenceIdeal (hUpIdeal := Cert.UpIdeal.Gen.facts)
    (hUpReferenceIdeal := Cert.UpReferenceIdeal.Gen.facts) := fun m ρ m' ρ' _ hag =>
  ⟨fun c => result (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)), (θ_run Cert.UpIdeal.defs _ _).mono (fun r h c => ⟨(h c).1.trans (final m c), (h c).2⟩) (Cert.UpIdeal.Value.run_blocks (F := Ideal) m ρ),
    (θ_run Cert.UpReferenceIdeal.defs _ _).mono (fun r h c => by
      obtain ⟨e0, e1, e2⟩ := hag c
      refine ⟨(h c).1.trans ?_, (h c).2⟩
      rw [e0, e1, e2]) (ref m' ρ')⟩

end Cert.UpProof

end
-- ==== Proof.DownValue.lean ====
module

public import proofs.«01_k».proof.Proof.Gen.DownIdeal.Value
public import proofs.«01_k».proof.Proof.Gen.DownReferenceIdeal.Run
public import proofs.«01_k».proof.Proof.Gen.Down.Frame
public import proofs.«01_k».proof.Defs
public import Idealize.ShloMosaic.Lib.Pipeline.ValueKit
public import Idealize.ShloMosaic.Lib.Pointwise
public import Idealize.ShloMosaic.Lib.Pipeline.ReadBack

/-! The row-block product of a 16384 × 5632 matrix with a 5632 × 2048 one. Four grid points share a block of the result: each
adds the product of one quarter of the inner axis to an accumulator that the first of them clears, and the last one writes the sum. -/

@[expose] public section

set_option maxRecDepth 16384

noncomputable section

namespace Cert.DownProof

open Cert.DownIdeal Cert.DownIdeal.Gen Idealize.ShloMosaic Idealize.ShloMosaic.TcCoe
open Idealize.ShloMosaic.Pipeline (Dat)

variable (m : (ℓ : Loc nD τ sig) → Buf (Elt Ideal) ℓ)

/-- Which block each window reads or writes at a grid point. -/
theorem idx : ∀ t : Fin grid0.N,
    win0_0.index t = ![(grid0.coords t 0).val, t.val % 4] ∧ win0_1.index t = ![t.val % 4, (grid0.coords t 1).val]
      ∧ win0_2.index t = ![(grid0.coords t 0).val, (grid0.coords t 1).val] := by decide +kernel

/-- The four points of a run agree in their first two coordinates. -/
theorem same : ∀ (t : Fin grid0.N) (s : Fin 4) (h : 4 * (t.val / 4) + s.val < grid0.N),
    (grid0.coords ⟨4 * (t.val / 4) + s.val, h⟩ 0).val = (grid0.coords t 0).val
      ∧ (grid0.coords ⟨4 * (t.val / 4) + s.val, h⟩ 1).val = (grid0.coords t 1).val := by decide +kernel

/-- The matrix product of the argument arrays. -/
def result (x : Vec Ideal S16384x5632 .bf16) (w : Vec Ideal S5632x2048 .f32) : Vec Ideal S16384x2048 .f32 := fun i =>
  (∑ k : Fin 5632, x (ix2 (i 0) k) * w (ix2 k (i 1)) : EReal)

/-- The accumulator starts at zero. -/
theorem pay1 (r : Fin 1024) (q : Fin 512) : k0_pay1 (F := Ideal) (ix2 r q) = (0 : EReal) := by
  unfold k0_pay1
  pointwise

/-- A point adds its block's product to the accumulator. -/
theorem pay2 (a : Vec Ideal S1024x512 .f32) (x : Vec Ideal S1024x1408 .bf16) (w : Vec Ideal S1408x512 .f32) (r : Fin 1024) (q : Fin 512) :
    k0_pay2 (F := Ideal) a x w (ix2 r q) = (a (ix2 r q) + ∑ k : Fin 1408, x (ix2 r k) * w (ix2 k q) : EReal) := by
  unfold k0_pay2
  pointwise

theorem blk0 (c : Dev nD) (t : Fin cfg0.N) (r : Fin 1024) (k : Fin 1408) (R : Fin 16384) (K : Fin 5632)
    (hR : R.val = (grid0.coords t 0).val * 1024 + r.val) (hK : K.val = t.val % 4 * 1408 + k.val) :
    iblk m c 0 t (ix2 r k) = m ((c : Thread nD τ).loc main_arg0) (ix2 R K) := by
  blk_ext [iblk, V_main_arg0, idx t]

theorem blk1 (c : Dev nD) (t : Fin cfg0.N) (k : Fin 1408) (q : Fin 512) (K : Fin 5632) (Q : Fin 2048)
    (hK : K.val = t.val % 4 * 1408 + k.val) (hQ : Q.val = (grid0.coords t 1).val * 512 + q.val) :
    iblk m c 1 t (ix2 k q) = m ((c : Thread nD τ).loc main_arg1) (ix2 K Q) := by
  blk_ext [iblk, V_main_arg1, idx t]

/-- An entry of the product of two blocks. -/
def dot (x : Vec Ideal S1024x1408 .bf16) (w : Vec Ideal S1408x512 .f32) (r : Fin 1024) (q : Fin 512) : EReal :=
  (∑ k : Fin 1408, x (ix2 r k) * w (ix2 k q) : EReal)

/-- `pay1` at any index. -/
theorem start (y : S1024x512.Idx) : k0_pay1 (F := Ideal) y = (0 : EReal) :=
  (congrArg (k0_pay1 (F := Ideal)) (ix2_eta y).symm).trans (pay1 (y 0) (y 1))

/-- `pay2` at any index. -/
theorem step (a : Vec Ideal S1024x512 .f32) (x : Vec Ideal S1024x1408 .bf16) (w : Vec Ideal S1408x512 .f32) (y : S1024x512.Idx) :
    k0_pay2 (F := Ideal) a x w y = (a y + dot x w (y 0) (y 1) : EReal) :=
  (congrArg (k0_pay2 (F := Ideal) a x w) (ix2_eta y).symm).trans ((pay2 a x w (y 0) (y 1)).trans
    (congrArg (fun z => (a z + dot x w (y 0) (y 1) : EReal)) (ix2_eta y)))

/-- The product that point `t` adds to entry `(r, q)` of the accumulator. -/
def term (c : Dev nD) (t : Fin cfg0.N) (y : S1024x512.Idx) : EReal :=
  dot (iblk m c 0 t) (iblk m c 1 t) (y 0) (y 1)

theorem first (c : Dev nD) (t : Fin cfg0.N) (h : t.val % 4 = 0) (y : S1024x512.Idx) :
    (outsAt0 m c t.val t.isLt).2 y = (0 : EReal) + term m c t y := by
  rw [outsAt0_A m c t h (by omega)]
  frame_out
  rw [step, start]
  rfl

theorem later (c : Dev nD) (t : Fin cfg0.N) (h : ¬t.val % 4 = 0) (y : S1024x512.Idx) :
    (outsAt0 m c t.val t.isLt).2 y
      = (outsAt0 m c (t.val - 1) (Nat.lt_of_le_of_lt (Nat.sub_le _ _) t.isLt)).2 y + term m c t y := by
  by_cases h3 : t.val % 4 = 3
  · rw [outsAt0_C m c t h h3]
    frame_out
    simp only [read_unread_whole]
    rw [step]
    rfl
  · rw [outsAt0_B m c t h h3]
    frame_out
    simp only [read_unread_whole]
    rw [step]
    rfl

/-- The last point of a run writes the accumulator out. -/
theorem written (c : Dev nD) (t : Fin cfg0.N) (h : t.val % 4 = 3) :
    (outsAt0 m c t.val t.isLt).1 = (outsAt0 m c t.val t.isLt).2 := by
  rw [outsAt0_C m c t (by omega) h]
  funext y
  frame_out

theorem total (c : Dev nD) (t : Fin cfg0.N) (h : t.val % 4 = 3) (y : S1024x512.Idx) :
    (outsAt0 m c t.val t.isLt).1 y = (0 : EReal) + ∑ s : Fin 4, term m c ⟨4 * (t.val / 4) + s.val, Pipeline.run_point_lt_of_flush t h s⟩ y := by
  rw [written m c t h]
  exact Pipeline.eq_sum_fin_of_reset_step_apply_of_flush (fun n hn => (outsAt0 m c n hn).2) 4 (fun _ => (0 : EReal)) (term m c)
    (first m c) (later m c) t h y

/-- The result array after the run. -/
theorem final (c : Dev nD) : (dats m 0 c).arrAt 2 cfg0.N = result (m ((c : Thread nD τ).loc main_arg0))
    (m ((c : Thread nD τ).loc main_arg1)) := by
  refine (dats m 0 c).arrAt_eq_of_covers 2 _ (by decide +kernel) fun t hf y => ?_
  blk_simp
  rw [after0_2]
  have h3 : t.val % 4 = 3 := (flush0_2 t).mp hf
  have e : ∀ (r : Fin 1024) (q : Fin 512), (outsAt0 m c t.val t.isLt).1 (ix2 r q)
      = result (m ((c : Thread nD τ).loc main_arg0)) (m ((c : Thread nD τ).loc main_arg1))
        (((View.whole main_v0).slice (win0_2.rect t)).emb (ix2 r q)) := by
    intro r q
    rw [total m c t h3, zero_add]
    unfold result term dot
    have h0 : ((((View.whole main_v0).slice (win0_2.rect t)).emb (ix2 r q)) 0).val = (grid0.coords t 0).val * 1024 + r.val := by
      blk_simp [idx t]
    have h1 : ((((View.whole main_v0).slice (win0_2.rect t)).emb (ix2 r q)) 1).val = (grid0.coords t 1).val * 512 + q.val := by
      blk_simp [idx t]
    refine Fin.sum_mul_add_congr fun s k hl => ?_
    have hs := same t s (Pipeline.run_point_lt_of_flush t h3 s)
    have hm : (4 * (t.val / 4) + s.val) % 4 = s.val := by omega
    refine congrArg₂ (fun a b : EReal => a * b) (blk0 m c _ r k _ ⟨s.val * 1408 + k.val, hl⟩ (by rw [h0, hs.1]) (by simp only [hm]))
      (blk1 m c _ k q ⟨s.val * 1408 + k.val, hl⟩ _ (by simp only [hm]) (by rw [h1, hs.2]))
  exact (congrArg _ (ix2_eta y).symm).trans ((e _ _).trans (congrArg
    (fun y => result _ _ (((View.whole main_v0).slice (win0_2.rect t)).emb y)) (ix2_eta y)))

/-- The reference ends with the same function of its arguments. -/
theorem ref (m : (ℓ : Loc Cert.DownReferenceIdeal.nD Cert.DownReferenceIdeal.τ Cert.DownReferenceIdeal.sig) → Buf (Elt Ideal) ℓ)
    (ρ : Dev Cert.DownReferenceIdeal.nD → PrngReg) :
    θ_run Cert.DownReferenceIdeal.defs (onTc (τ := Cert.DownReferenceIdeal.τ) (Cert.DownReferenceIdeal.main (F := Ideal))) ⟨m, fun _ => 0, ρ⟩
      fun r => ∀ c : Dev Cert.DownReferenceIdeal.nD,
        r.2.mem ((c.tc : Thread Cert.DownReferenceIdeal.nD Cert.DownReferenceIdeal.τ).loc Cert.DownReferenceIdeal.main_v1)
          = result (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1))
        ∧ r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
        ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1) := by
  refine (θ_run _ _ _).mono (fun r h c => ⟨(h c).1.trans (funext fun i => ?_), (h c).2⟩) (Cert.DownReferenceIdeal.Value.run (F := Ideal) m ρ)
  rw [← ix2_eta i]
  pointwise [result]

/-- `Down` runs and leaves its arguments as they were. -/
theorem frame_p : Cert.quiescent_Down (hDown := Cert.Down.Gen.facts) := fun m ρ _ => Cert.Down.Gen.frame m ρ

/-- The idealized program runs and leaves its arguments as they were. -/
theorem frame_i : Cert.quiescent_DownIdeal (hDownIdeal := Cert.DownIdeal.Gen.facts) := fun m ρ _ => Cert.DownIdeal.Gen.frame m ρ

/-- The reference runs and leaves its arguments as they were. -/
theorem frame_r : Cert.quiescent_DownReferenceIdeal (hDownReferenceIdeal := Cert.DownReferenceIdeal.Gen.facts) := fun m ρ _ =>
  (θ_run Cert.DownReferenceIdeal.defs _ _).mono (fun r h => ⟨fun c => (h c).2, sem_eq_zero_of_no_sems (by decide) r.2⟩)
    (Cert.DownReferenceIdeal.Value.run (F := Ideal) m ρ)

/-- The program and the reference, started from the same arguments, end with the same result. -/
theorem algebraic : Cert.algebraic_DownIdeal_DownReferenceIdeal (hDownIdeal := Cert.DownIdeal.Gen.facts)
    (hDownReferenceIdeal := Cert.DownReferenceIdeal.Gen.facts) := fun m ρ m' ρ' _ hag =>
  ⟨fun c => result (m ((c.tc : Thread Cert.DownIdeal.nD Cert.DownIdeal.τ).loc Cert.DownIdeal.main_arg0)) (m ((c.tc : Thread Cert.DownIdeal.nD Cert.DownIdeal.τ).loc Cert.DownIdeal.main_arg1)), (θ_run Cert.DownIdeal.defs _ _).mono (fun r h c => ⟨(h c).1.trans ((Value.final2 m c).symm.trans (final m c)), (h c).2⟩) (Cert.DownIdeal.Value.run (F := Ideal) m ρ),
    (θ_run Cert.DownReferenceIdeal.defs _ _).mono (fun r h c => by
      obtain ⟨e0, e1⟩ := hag c
      refine ⟨(h c).1.trans ?_, (h c).2⟩
      rw [e0, e1]) (ref m' ρ')⟩

end Cert.DownProof

end
-- ==== Proof.MergeValue.lean ====
module

public import proofs.«01_k».proof.Proof.Gen.MergeIdeal.Value
public import proofs.«01_k».proof.Proof.Gen.MergeReferenceIdeal.Run
public import proofs.«01_k».proof.Proof.Gen.Merge.Frame
public import proofs.«01_k».proof.Defs
public import Idealize.ShloMosaic.Lib.Pipeline.ValueKit
public import Idealize.ShloMosaic.Lib.Pointwise

/-! The gated sum of two matrix products. A grid point computes one 1024 × 256 block of it, whose gates are two blocks of one
array: the first half of the columns gates the first product, the second half the second. -/

@[expose] public section

set_option maxRecDepth 16384

noncomputable section

namespace Cert.MergeProof

open Cert.MergeIdeal Cert.MergeIdeal.Gen Idealize.ShloMosaic Idealize.ShloMosaic.TcCoe
open Idealize.ShloMosaic.Pipeline (Dat)

variable (m : (ℓ : Loc nD τ sig) → Buf (Elt Ideal) ℓ)

/-- Which block each window reads or writes at a grid point. -/
theorem idx : ∀ t : Fin grid0.N,
    win0_0.index t = ![(grid0.coords t 0).val, 0] ∧ win0_1.index t = ![0, (grid0.coords t 1).val]
      ∧ win0_2.index t = ![(grid0.coords t 0).val, 0] ∧ win0_3.index t = ![0, (grid0.coords t 1).val]
      ∧ win0_4.index t = ![(grid0.coords t 0).val, (grid0.coords t 1).val]
      ∧ win0_5.index t = ![(grid0.coords t 0).val, (grid0.coords t 1).val + 8]
      ∧ win0_6.index t = ![(grid0.coords t 0).val, (grid0.coords t 1).val] := by decide +kernel

/-- Column `j` of the first half of the gates. -/
def lo (j : Fin 2048) : Fin 4096 := ⟨j.val, by omega⟩

/-- Column `j` of the second half of the gates. -/
def hi (j : Fin 2048) : Fin 4096 := ⟨2048 + j.val, by omega⟩

/-- The gated sum of the two products of the argument arrays. -/
def result (y : Vec Ideal S16384x4096 .bf16) (v : Vec Ideal S4096x2048 .f32) (o : Vec Ideal S16384x2048 .bf16) (w : Vec Ideal S2048x2048 .f32)
    (g : Vec Ideal S16384x4096 .f32) : Vec Ideal S16384x2048 .bf16 := fun i =>
  (Ideal.logistic (g (ix2 (i 0) (lo (i 1)))) * (∑ k : Fin 4096, y (ix2 (i 0) k) * v (ix2 k (i 1)))
    + Ideal.logistic (g (ix2 (i 0) (hi (i 1)))) * (∑ k : Fin 2048, o (ix2 (i 0) k) * w (ix2 k (i 1))) : EReal)

/-- What the body computes of its blocks, entry by entry. -/
theorem pay (y : Vec Ideal S1024x4096 .bf16) (v : Vec Ideal S4096x256 .f32) (o : Vec Ideal S1024x2048 .bf16) (w : Vec Ideal S2048x256 .f32)
    (g h : Vec Ideal S1024x256 .f32) (r : Fin 1024) (q : Fin 256) :
    k0_pay1 (F := Ideal) y v o w g h (ix2 r q) = (Ideal.logistic (g (ix2 r q)) * (∑ k : Fin 4096, y (ix2 r k) * v (ix2 k q))
      + Ideal.logistic (h (ix2 r q)) * (∑ k : Fin 2048, o (ix2 r k) * w (ix2 k q)) : EReal) := by
  unfold k0_pay1
  pointwise

theorem blk0 (c : Dev nD) (t : Fin cfg0.N) (r : Fin 1024) (k : Fin 4096) (R : Fin 16384) (hR : R.val = (grid0.coords t 0).val * 1024 + r.val) :
    iblk m c 0 t (ix2 r k) = m ((c : Thread nD τ).loc main_arg0) (ix2 R k) := by
  blk_ext [iblk, V_main_arg0, idx t]

theorem blk2 (c : Dev nD) (t : Fin cfg0.N) (r : Fin 1024) (k : Fin 2048) (R : Fin 16384) (hR : R.val = (grid0.coords t 0).val * 1024 + r.val) :
    iblk m c 2 t (ix2 r k) = m ((c : Thread nD τ).loc main_arg2) (ix2 R k) := by
  blk_ext [iblk, V_main_arg2, idx t]

theorem blk1 (c : Dev nD) (t : Fin cfg0.N) (k : Fin 4096) (q : Fin 256) (Q : Fin 2048) (hQ : Q.val = (grid0.coords t 1).val * 256 + q.val) :
    iblk m c 1 t (ix2 k q) = m ((c : Thread nD τ).loc main_arg1) (ix2 k Q) := by
  blk_ext [iblk, V_main_arg1, idx t]

theorem blk3 (c : Dev nD) (t : Fin cfg0.N) (k : Fin 2048) (q : Fin 256) (Q : Fin 2048) (hQ : Q.val = (grid0.coords t 1).val * 256 + q.val) :
    iblk m c 3 t (ix2 k q) = m ((c : Thread nD τ).loc main_arg3) (ix2 k Q) := by
  blk_ext [iblk, V_main_arg3, idx t]

theorem blk4 (c : Dev nD) (t : Fin cfg0.N) (r : Fin 1024) (q : Fin 256) (R : Fin 16384) (Q : Fin 2048)
    (hR : R.val = (grid0.coords t 0).val * 1024 + r.val) (hQ : Q.val = (grid0.coords t 1).val * 256 + q.val) :
    iblk m c 4 t (ix2 r q) = m ((c : Thread nD τ).loc main_arg4) (ix2 R (lo Q)) := by
  have e : (lo Q).val = Q.val := rfl
  blk_ext [iblk, V_main_arg4, idx t]

theorem blk5 (c : Dev nD) (t : Fin cfg0.N) (r : Fin 1024) (q : Fin 256) (R : Fin 16384) (Q : Fin 2048)
    (hR : R.val = (grid0.coords t 0).val * 1024 + r.val) (hQ : Q.val = (grid0.coords t 1).val * 256 + q.val) :
    iblk m c 5 t (ix2 r q) = m ((c : Thread nD τ).loc main_arg4) (ix2 R (hi Q)) := by
  have e : (hi Q).val = 2048 + Q.val := rfl
  blk_ext [iblk, V_main_arg4, idx t]

/-- The result array after the run. -/
theorem final (c : Dev nD) : (dats m 0 c).arrAt 6 cfg0.N = result (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  have e : ∀ (r : Fin 1024) (q : Fin 256), k0_pay1 (iblk m c 0 t) (iblk m c 1 t) (iblk m c 2 t) (iblk m c 3 t) (iblk m c 4 t) (iblk m c 5 t) (ix2 r q)
      = result (m ((c : Thread nD τ).loc main_arg0)) (m ((c : Thread nD τ).loc main_arg1)) (m ((c : Thread nD τ).loc main_arg2)) (m ((c : Thread nD τ).loc main_arg3)) (m ((c : Thread nD τ).loc main_arg4))
        (((View.whole main_v0).slice (win0_6.rect t)).emb (ix2 r q)) := by
    intro r q
    rw [pay]
    unfold result
    have h0 : ((((View.whole main_v0).slice (win0_6.rect t)).emb (ix2 r q)) 0).val = (grid0.coords t 0).val * 1024 + r.val := by
      blk_simp [idx t]
    have h1 : ((((View.whole main_v0).slice (win0_6.rect t)).emb (ix2 r q)) 1).val = (grid0.coords t 1).val * 256 + q.val := by
      blk_simp [idx t]
    simp only [fun k => blk0 m c t r k _ h0, fun k => blk1 m c t k q _ h1, fun k => blk2 m c t r k _ h0, fun k => blk3 m c t k q _ h1,
      blk4 m c t r q _ _ h0 h1, blk5 m c t r q _ _ h0 h1]
  exact (congrArg _ (ix2_eta y).symm).trans ((e _ _).trans (congrArg
    (fun y => result _ _ _ _ _ (((View.whole main_v0).slice (win0_6.rect t)).emb y)) (ix2_eta y)))

/-- The reference ends with the same function of its arguments. -/
theorem ref (m : (ℓ : Loc Cert.MergeReferenceIdeal.nD Cert.MergeReferenceIdeal.τ Cert.MergeReferenceIdeal.sig) → Buf (Elt Ideal) ℓ)
    (ρ : Dev Cert.MergeReferenceIdeal.nD → PrngReg) :
    θ_run Cert.MergeReferenceIdeal.defs (onTc (τ := Cert.MergeReferenceIdeal.τ) (Cert.MergeReferenceIdeal.main (F := Ideal))) ⟨m, fun _ => 0, ρ⟩
      fun r => ∀ c : Dev Cert.MergeReferenceIdeal.nD,
        r.2.mem ((c.tc : Thread Cert.MergeReferenceIdeal.nD Cert.MergeReferenceIdeal.τ).loc Cert.MergeReferenceIdeal.main_v18)
          = result (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4))
        ∧ r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
        ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
        ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
        ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
        ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4) := by
  refine (θ_run _ _ _).mono (fun r h c => ⟨(h c).1.trans (funext fun i => ?_), (h c).2⟩) (Cert.MergeReferenceIdeal.Value.run (F := Ideal) m ρ)
  rw [← ix2_eta i]
  pointwise [result]
  rfl

/-- `Merge` runs and leaves its arguments as they were. -/
theorem frame_p : Cert.quiescent_Merge (hMerge := Cert.Merge.Gen.facts) := fun m ρ _ => Cert.Merge.Gen.frame m ρ

/-- The idealized program runs and leaves its arguments as they were. -/
theorem frame_i : Cert.quiescent_MergeIdeal (hMergeIdeal := Cert.MergeIdeal.Gen.facts) := fun m ρ _ => Cert.MergeIdeal.Gen.frame m ρ

/-- The reference runs and leaves its arguments as they were. -/
theorem frame_r : Cert.quiescent_MergeReferenceIdeal (hMergeReferenceIdeal := Cert.MergeReferenceIdeal.Gen.facts) := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

/-- The program and the reference, started from the same arguments, end with the same result. -/
theorem algebraic : Cert.algebraic_MergeIdeal_MergeReferenceIdeal (hMergeIdeal := Cert.MergeIdeal.Gen.facts)
    (hMergeReferenceIdeal := Cert.MergeReferenceIdeal.Gen.facts) := fun m ρ m' ρ' _ hag =>
  ⟨fun c => result (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)), (θ_run Cert.MergeIdeal.defs _ _).mono (fun r h c => ⟨(h c).1.trans (final m c), (h c).2⟩) (Cert.MergeIdeal.Value.run_blocks (F := Ideal) m ρ),
    (θ_run Cert.MergeReferenceIdeal.defs _ _).mono (fun r h c => by
      obtain ⟨e0, e1, e2, e3, e4⟩ := hag c
      refine ⟨(h c).1.trans ?_, (h c).2⟩
      rw [e0, e1, e2, e3, e4]) (ref m' ρ')⟩

end Cert.MergeProof

end
-- ==== Proof.ProjAValue.lean ====
module

public import proofs.«01_k».proof.Proof.Gen.ProjAIdeal.Value
public import proofs.«01_k».proof.Proof.Gen.ProjAReferenceIdeal.Run
public import proofs.«01_k».proof.Proof.Gen.ProjA.Frame
public import proofs.«01_k».proof.Defs
public import Idealize.ShloMosaic.Lib.Pipeline.ValueKit
public import Idealize.ShloMosaic.Lib.Pointwise

/-! The row-block product of a 16384 × 2048 matrix with a 2048 × 4096 one: the block that a grid point leaves is the block of
the whole product, because every point sums over the whole inner axis. The reference is that product. -/

@[expose] public section

set_option maxRecDepth 16384

noncomputable section

namespace Cert.ProjAProof

open Cert.ProjAIdeal Cert.ProjAIdeal.Gen Idealize.ShloMosaic Idealize.ShloMosaic.TcCoe
open Idealize.ShloMosaic.Pipeline (Dat)

variable (m : (ℓ : Loc nD τ sig) → Buf (Elt Ideal) ℓ)

/-- Which block each window reads or writes at a grid point. -/
theorem idx : ∀ t : Fin grid0.N,
    win0_0.index t = ![(grid0.coords t 0).val, 0] ∧ win0_1.index t = ![0, (grid0.coords t 1).val]
      ∧ win0_2.index t = ![(grid0.coords t 0).val, (grid0.coords t 1).val] := by decide +kernel

/-- The matrix product of the argument arrays. -/
def result (x : Vec Ideal S16384x2048 .bf16) (w : Vec Ideal S2048x4096 .f32) : Vec Ideal S16384x4096 .f32 := fun i =>
  (∑ k : Fin 2048, x (ix2 (i 0) k) * w (ix2 k (i 1)) : EReal)

/-- The accumulator starts at zero. -/
theorem pay1 (r : Fin 1024) (q : Fin 512) : k0_pay1 (F := Ideal) (ix2 r q) = (0 : EReal) := by
  unfold k0_pay1
  pointwise

/-- A point adds its block's product to the accumulator. -/
theorem pay2 (a : Vec Ideal S1024x512 .f32) (x : Vec Ideal S1024x2048 .bf16) (w : Vec Ideal S2048x512 .f32) (r : Fin 1024) (q : Fin 512) :
    k0_pay2 (F := Ideal) a x w (ix2 r q) = (a (ix2 r q) + ∑ k : Fin 2048, x (ix2 r k) * w (ix2 k q) : EReal) := by
  unfold k0_pay2
  pointwise

theorem blk0 (c : Dev nD) (t : Fin cfg0.N) (r : Fin 1024) (k : Fin 2048) (R : Fin 16384) (hR : R.val = (grid0.coords t 0).val * 1024 + r.val) :
    iblk m c 0 t (ix2 r k) = m ((c : Thread nD τ).loc main_arg0) (ix2 R k) := by
  blk_ext [iblk, V_main_arg0, idx t]

theorem blk1 (c : Dev nD) (t : Fin cfg0.N) (k : Fin 2048) (q : Fin 512) (Q : Fin 4096) (hQ : Q.val = (grid0.coords t 1).val * 512 + q.val) :
    iblk m c 1 t (ix2 k q) = m ((c : Thread nD τ).loc main_arg1) (ix2 k Q) := by
  blk_ext [iblk, V_main_arg1, idx t]

/-- The result array after the run. -/
theorem final (c : Dev nD) : (dats m 0 c).arrAt 2 cfg0.N = result (m ((c : Thread nD τ).loc main_arg0))
    (m ((c : Thread nD τ).loc main_arg1)) := by
  refine (dats m 0 c).arrAt_eq_of_covers 2 _ (by decide +kernel) fun t hf y => ?_
  blk_simp
  rw [after0_2]
  unfold outsAt0
  frame_out
  have e : ∀ (r : Fin 1024) (q : Fin 512), k0_pay2 k0_pay1 (iblk m c 0 t) (iblk m c 1 t) (ix2 r q)
      = result (m ((c : Thread nD τ).loc main_arg0)) (m ((c : Thread nD τ).loc main_arg1))
        (((View.whole main_v0).slice (win0_2.rect t)).emb (ix2 r q)) := by
    intro r q
    rw [pay2, pay1, zero_add]
    unfold result
    have h0 : ((((View.whole main_v0).slice (win0_2.rect t)).emb (ix2 r q)) 0).val = (grid0.coords t 0).val * 1024 + r.val := by
      blk_simp [idx t]
    have h1 : ((((View.whole main_v0).slice (win0_2.rect t)).emb (ix2 r q)) 1).val = (grid0.coords t 1).val * 512 + q.val := by
      blk_simp [idx t]
    simp only [fun k => blk0 m c t r k _ h0, fun k => blk1 m c t k q _ h1]
  exact (congrArg _ (ix2_eta y).symm).trans ((e _ _).trans (congrArg
    (fun y => result _ _ (((View.whole main_v0).slice (win0_2.rect t)).emb y)) (ix2_eta y)))

/-- The reference ends with the same function of its arguments. -/
theorem ref (m : (ℓ : Loc Cert.ProjAReferenceIdeal.nD Cert.ProjAReferenceIdeal.τ Cert.ProjAReferenceIdeal.sig) → Buf (Elt Ideal) ℓ)
    (ρ : Dev Cert.ProjAReferenceIdeal.nD → PrngReg) :
    θ_run Cert.ProjAReferenceIdeal.defs (onTc (τ := Cert.ProjAReferenceIdeal.τ) (Cert.ProjAReferenceIdeal.main (F := Ideal))) ⟨m, fun _ => 0, ρ⟩
      fun r => ∀ c : Dev Cert.ProjAReferenceIdeal.nD,
        r.2.mem ((c.tc : Thread Cert.ProjAReferenceIdeal.nD Cert.ProjAReferenceIdeal.τ).loc Cert.ProjAReferenceIdeal.main_v1)
          = result (m ((c.tc : Thread Cert.ProjAReferenceIdeal.nD Cert.ProjAReferenceIdeal.τ).loc Cert.ProjAReferenceIdeal.main_arg0)) (m ((c.tc : Thread Cert.ProjAReferenceIdeal.nD Cert.ProjAReferenceIdeal.τ).loc Cert.ProjAReferenceIdeal.main_arg1))
        ∧ r.2.mem ((c.tc : Thread Cert.ProjAReferenceIdeal.nD Cert.ProjAReferenceIdeal.τ).loc Cert.ProjAReferenceIdeal.main_arg0) = m ((c.tc : Thread Cert.ProjAReferenceIdeal.nD Cert.ProjAReferenceIdeal.τ).loc Cert.ProjAReferenceIdeal.main_arg0)
        ∧ r.2.mem ((c.tc : Thread Cert.ProjAReferenceIdeal.nD Cert.ProjAReferenceIdeal.τ).loc Cert.ProjAReferenceIdeal.main_arg1) = m ((c.tc : Thread Cert.ProjAReferenceIdeal.nD Cert.ProjAReferenceIdeal.τ).loc Cert.ProjAReferenceIdeal.main_arg1) := by
  refine (θ_run _ _ _).mono (fun r h c => ⟨(h c).1.trans (funext fun i => ?_), (h c).2⟩) (Cert.ProjAReferenceIdeal.Value.run (F := Ideal) m ρ)
  rw [← ix2_eta i]
  pointwise [result]

/-- `ProjA` runs and leaves its arguments as they were. -/
theorem frame_p : Cert.quiescent_ProjA (hProjA := Cert.ProjA.Gen.facts) := fun m ρ _ => Cert.ProjA.Gen.frame m ρ

/-- The idealized program runs and leaves its arguments as they were. -/
theorem frame_i : Cert.quiescent_ProjAIdeal (hProjAIdeal := Cert.ProjAIdeal.Gen.facts) := fun m ρ _ => Cert.ProjAIdeal.Gen.frame m ρ

/-- The reference runs and leaves its arguments as they were. -/
theorem frame_r : Cert.quiescent_ProjAReferenceIdeal (hProjAReferenceIdeal := Cert.ProjAReferenceIdeal.Gen.facts) := fun m ρ _ =>
  (θ_run Cert.ProjAReferenceIdeal.defs _ _).mono (fun r h => ⟨fun c => (h c).2, sem_eq_zero_of_no_sems (by decide) r.2⟩)
    (Cert.ProjAReferenceIdeal.Value.run (F := Ideal) m ρ)

/-- The program and the reference, started from the same arguments, end with the same result. -/
theorem algebraic : Cert.algebraic_ProjAIdeal_ProjAReferenceIdeal (hProjAIdeal := Cert.ProjAIdeal.Gen.facts)
    (hProjAReferenceIdeal := Cert.ProjAReferenceIdeal.Gen.facts) := fun m ρ m' ρ' _ hag =>
  ⟨fun c => result (m ((c.tc : Thread Cert.ProjAIdeal.nD Cert.ProjAIdeal.τ).loc Cert.ProjAIdeal.main_arg0)) (m ((c.tc : Thread Cert.ProjAIdeal.nD Cert.ProjAIdeal.τ).loc Cert.ProjAIdeal.main_arg1)), (θ_run Cert.ProjAIdeal.defs _ _).mono (fun r h c => ⟨(h c).1.trans (final m c), (h c).2⟩) (Cert.ProjAIdeal.Value.run_blocks (F := Ideal) m ρ),
    (θ_run Cert.ProjAReferenceIdeal.defs _ _).mono (fun r h c => by
      obtain ⟨e0, e1⟩ := hag c
      refine ⟨(h c).1.trans ?_, (h c).2⟩
      rw [e0, e1]) (ref m' ρ')⟩

end Cert.ProjAProof

end
-- ==== Proof.ProjBValue.lean ====
module

public import proofs.«01_k».proof.Proof.Gen.ProjBIdeal.Value
public import proofs.«01_k».proof.Proof.Gen.ProjBReferenceIdeal.Run
public import proofs.«01_k».proof.Proof.Gen.ProjB.Frame
public import proofs.«01_k».proof.Defs
public import Idealize.ShloMosaic.Lib.Pipeline.ValueKit
public import Idealize.ShloMosaic.Lib.Pointwise

/-! The row-block product of a 16384 × 2048 matrix with a 2048 × 6144 one: the block that a grid point leaves is the block of
the whole product, because every point sums over the whole inner axis. The reference is that product. -/

@[expose] public section

set_option maxRecDepth 16384

noncomputable section

namespace Cert.ProjBProof

open Cert.ProjBIdeal Cert.ProjBIdeal.Gen Idealize.ShloMosaic Idealize.ShloMosaic.TcCoe
open Idealize.ShloMosaic.Pipeline (Dat)

variable (m : (ℓ : Loc nD τ sig) → Buf (Elt Ideal) ℓ)

/-- Which block each window reads or writes at a grid point. -/
theorem idx : ∀ t : Fin grid0.N,
    win0_0.index t = ![(grid0.coords t 0).val, 0] ∧ win0_1.index t = ![0, (grid0.coords t 1).val]
      ∧ win0_2.index t = ![(grid0.coords t 0).val, (grid0.coords t 1).val] := by decide +kernel

/-- The matrix product of the argument arrays. -/
def result (x : Vec Ideal S16384x2048 .bf16) (w : Vec Ideal S2048x6144 .f32) : Vec Ideal S16384x6144 .f32 := fun i =>
  (∑ k : Fin 2048, x (ix2 (i 0) k) * w (ix2 k (i 1)) : EReal)

/-- The accumulator starts at zero. -/
theorem pay1 (r : Fin 1024) (q : Fin 512) : k0_pay1 (F := Ideal) (ix2 r q) = (0 : EReal) := by
  unfold k0_pay1
  pointwise

/-- A point adds its block's product to the accumulator. -/
theorem pay2 (a : Vec Ideal S1024x512 .f32) (x : Vec Ideal S1024x2048 .bf16) (w : Vec Ideal S2048x512 .f32) (r : Fin 1024) (q : Fin 512) :
    k0_pay2 (F := Ideal) a x w (ix2 r q) = (a (ix2 r q) + ∑ k : Fin 2048, x (ix2 r k) * w (ix2 k q) : EReal) := by
  unfold k0_pay2
  pointwise

theorem blk0 (c : Dev nD) (t : Fin cfg0.N) (r : Fin 1024) (k : Fin 2048) (R : Fin 16384) (hR : R.val = (grid0.coords t 0).val * 1024 + r.val) :
    iblk m c 0 t (ix2 r k) = m ((c : Thread nD τ).loc main_arg0) (ix2 R k) := by
  blk_ext [iblk, V_main_arg0, idx t]

theorem blk1 (c : Dev nD) (t : Fin cfg0.N) (k : Fin 2048) (q : Fin 512) (Q : Fin 6144) (hQ : Q.val = (grid0.coords t 1).val * 512 + q.val) :
    iblk m c 1 t (ix2 k q) = m ((c : Thread nD τ).loc main_arg1) (ix2 k Q) := by
  blk_ext [iblk, V_main_arg1, idx t]

/-- The result array after the run. -/
theorem final (c : Dev nD) : (dats m 0 c).arrAt 2 cfg0.N = result (m ((c : Thread nD τ).loc main_arg0))
    (m ((c : Thread nD τ).loc main_arg1)) := by
  refine (dats m 0 c).arrAt_eq_of_covers 2 _ (by decide +kernel) fun t hf y => ?_
  blk_simp
  rw [after0_2]
  unfold outsAt0
  frame_out
  have e : ∀ (r : Fin 1024) (q : Fin 512), k0_pay2 k0_pay1 (iblk m c 0 t) (iblk m c 1 t) (ix2 r q)
      = result (m ((c : Thread nD τ).loc main_arg0)) (m ((c : Thread nD τ).loc main_arg1))
        (((View.whole main_v0).slice (win0_2.rect t)).emb (ix2 r q)) := by
    intro r q
    rw [pay2, pay1, zero_add]
    unfold result
    have h0 : ((((View.whole main_v0).slice (win0_2.rect t)).emb (ix2 r q)) 0).val = (grid0.coords t 0).val * 1024 + r.val := by
      blk_simp [idx t]
    have h1 : ((((View.whole main_v0).slice (win0_2.rect t)).emb (ix2 r q)) 1).val = (grid0.coords t 1).val * 512 + q.val := by
      blk_simp [idx t]
    simp only [fun k => blk0 m c t r k _ h0, fun k => blk1 m c t k q _ h1]
  exact (congrArg _ (ix2_eta y).symm).trans ((e _ _).trans (congrArg
    (fun y => result _ _ (((View.whole main_v0).slice (win0_2.rect t)).emb y)) (ix2_eta y)))

/-- The reference ends with the same function of its arguments. -/
theorem ref (m : (ℓ : Loc Cert.ProjBReferenceIdeal.nD Cert.ProjBReferenceIdeal.τ Cert.ProjBReferenceIdeal.sig) → Buf (Elt Ideal) ℓ)
    (ρ : Dev Cert.ProjBReferenceIdeal.nD → PrngReg) :
    θ_run Cert.ProjBReferenceIdeal.defs (onTc (τ := Cert.ProjBReferenceIdeal.τ) (Cert.ProjBReferenceIdeal.main (F := Ideal))) ⟨m, fun _ => 0, ρ⟩
      fun r => ∀ c : Dev Cert.ProjBReferenceIdeal.nD,
        r.2.mem ((c.tc : Thread Cert.ProjBReferenceIdeal.nD Cert.ProjBReferenceIdeal.τ).loc Cert.ProjBReferenceIdeal.main_v1)
          = result (m ((c.tc : Thread Cert.ProjBReferenceIdeal.nD Cert.ProjBReferenceIdeal.τ).loc Cert.ProjBReferenceIdeal.main_arg0)) (m ((c.tc : Thread Cert.ProjBReferenceIdeal.nD Cert.ProjBReferenceIdeal.τ).loc Cert.ProjBReferenceIdeal.main_arg1))
        ∧ r.2.mem ((c.tc : Thread Cert.ProjBReferenceIdeal.nD Cert.ProjBReferenceIdeal.τ).loc Cert.ProjBReferenceIdeal.main_arg0) = m ((c.tc : Thread Cert.ProjBReferenceIdeal.nD Cert.ProjBReferenceIdeal.τ).loc Cert.ProjBReferenceIdeal.main_arg0)
        ∧ r.2.mem ((c.tc : Thread Cert.ProjBReferenceIdeal.nD Cert.ProjBReferenceIdeal.τ).loc Cert.ProjBReferenceIdeal.main_arg1) = m ((c.tc : Thread Cert.ProjBReferenceIdeal.nD Cert.ProjBReferenceIdeal.τ).loc Cert.ProjBReferenceIdeal.main_arg1) := by
  refine (θ_run _ _ _).mono (fun r h c => ⟨(h c).1.trans (funext fun i => ?_), (h c).2⟩) (Cert.ProjBReferenceIdeal.Value.run (F := Ideal) m ρ)
  rw [← ix2_eta i]
  pointwise [result]

/-- `ProjB` runs and leaves its arguments as they were. -/
theorem frame_p : Cert.quiescent_ProjB (hProjB := Cert.ProjB.Gen.facts) := fun m ρ _ => Cert.ProjB.Gen.frame m ρ

/-- The idealized program runs and leaves its arguments as they were. -/
theorem frame_i : Cert.quiescent_ProjBIdeal (hProjBIdeal := Cert.ProjBIdeal.Gen.facts) := fun m ρ _ => Cert.ProjBIdeal.Gen.frame m ρ

/-- The reference runs and leaves its arguments as they were. -/
theorem frame_r : Cert.quiescent_ProjBReferenceIdeal (hProjBReferenceIdeal := Cert.ProjBReferenceIdeal.Gen.facts) := fun m ρ _ =>
  (θ_run Cert.ProjBReferenceIdeal.defs _ _).mono (fun r h => ⟨fun c => (h c).2, sem_eq_zero_of_no_sems (by decide) r.2⟩)
    (Cert.ProjBReferenceIdeal.Value.run (F := Ideal) m ρ)

/-- The program and the reference, started from the same arguments, end with the same result. -/
theorem algebraic : Cert.algebraic_ProjBIdeal_ProjBReferenceIdeal (hProjBIdeal := Cert.ProjBIdeal.Gen.facts)
    (hProjBReferenceIdeal := Cert.ProjBReferenceIdeal.Gen.facts) := fun m ρ m' ρ' _ hag =>
  ⟨fun c => result (m ((c.tc : Thread Cert.ProjBIdeal.nD Cert.ProjBIdeal.τ).loc Cert.ProjBIdeal.main_arg0)) (m ((c.tc : Thread Cert.ProjBIdeal.nD Cert.ProjBIdeal.τ).loc Cert.ProjBIdeal.main_arg1)), (θ_run Cert.ProjBIdeal.defs _ _).mono (fun r h c => ⟨(h c).1.trans (final m c), (h c).2⟩) (Cert.ProjBIdeal.Value.run_blocks (F := Ideal) m ρ),
    (θ_run Cert.ProjBReferenceIdeal.defs _ _).mono (fun r h c => by
      obtain ⟨e0, e1⟩ := hag c
      refine ⟨(h c).1.trans ?_, (h c).2⟩
      rw [e0, e1]) (ref m' ρ')⟩

end Cert.ProjBProof

end
-- ==== Proof.ProjCValue.lean ====
module

public import proofs.«01_k».proof.Proof.Gen.ProjCIdeal.Value
public import proofs.«01_k».proof.Proof.Gen.ProjCReferenceIdeal.Run
public import proofs.«01_k».proof.Proof.Gen.ProjC.Frame
public import proofs.«01_k».proof.Defs
public import Idealize.ShloMosaic.Lib.Pipeline.ValueKit
public import Idealize.ShloMosaic.Lib.Pointwise

/-! The row-block product of a 16384 × 2048 matrix with a 2048 × 2048 one: the block that a grid point leaves is the block of
the whole product, because every point sums over the whole inner axis. The reference is that product. -/

@[expose] public section

set_option maxRecDepth 16384

noncomputable section

namespace Cert.ProjCProof

open Cert.ProjCIdeal Cert.ProjCIdeal.Gen Idealize.ShloMosaic Idealize.ShloMosaic.TcCoe
open Idealize.ShloMosaic.Pipeline (Dat)

variable (m : (ℓ : Loc nD τ sig) → Buf (Elt Ideal) ℓ)

/-- Which block each window reads or writes at a grid point. -/
theorem idx : ∀ t : Fin grid0.N,
    win0_0.index t = ![(grid0.coords t 0).val, 0] ∧ win0_1.index t = ![0, (grid0.coords t 1).val]
      ∧ win0_2.index t = ![(grid0.coords t 0).val, (grid0.coords t 1).val] := by decide +kernel

/-- The matrix product of the argument arrays. -/
def result (x : Vec Ideal S16384x2048 .bf16) (w : Vec Ideal S2048x2048 .f32) : Vec Ideal S16384x2048 .f32 := fun i =>
  (∑ k : Fin 2048, x (ix2 (i 0) k) * w (ix2 k (i 1)) : EReal)

/-- The accumulator starts at zero. -/
theorem pay1 (r : Fin 1024) (q : Fin 512) : k0_pay1 (F := Ideal) (ix2 r q) = (0 : EReal) := by
  unfold k0_pay1
  pointwise

/-- A point adds its block's product to the accumulator. -/
theorem pay2 (a : Vec Ideal S1024x512 .f32) (x : Vec Ideal S1024x2048 .bf16) (w : Vec Ideal S2048x512 .f32) (r : Fin 1024) (q : Fin 512) :
    k0_pay2 (F := Ideal) a x w (ix2 r q) = (a (ix2 r q) + ∑ k : Fin 2048, x (ix2 r k) * w (ix2 k q) : EReal) := by
  unfold k0_pay2
  pointwise

theorem blk0 (c : Dev nD) (t : Fin cfg0.N) (r : Fin 1024) (k : Fin 2048) (R : Fin 16384) (hR : R.val = (grid0.coords t 0).val * 1024 + r.val) :
    iblk m c 0 t (ix2 r k) = m ((c : Thread nD τ).loc main_arg0) (ix2 R k) := by
  blk_ext [iblk, V_main_arg0, idx t]

theorem blk1 (c : Dev nD) (t : Fin cfg0.N) (k : Fin 2048) (q : Fin 512) (Q : Fin 2048) (hQ : Q.val = (grid0.coords t 1).val * 512 + q.val) :
    iblk m c 1 t (ix2 k q) = m ((c : Thread nD τ).loc main_arg1) (ix2 k Q) := by
  blk_ext [iblk, V_main_arg1, idx t]

/-- The result array after the run. -/
theorem final (c : Dev nD) : (dats m 0 c).arrAt 2 cfg0.N = result (m ((c : Thread nD τ).loc main_arg0))
    (m ((c : Thread nD τ).loc main_arg1)) := by
  refine (dats m 0 c).arrAt_eq_of_covers 2 _ (by decide +kernel) fun t hf y => ?_
  blk_simp
  rw [after0_2]
  unfold outsAt0
  frame_out
  have e : ∀ (r : Fin 1024) (q : Fin 512), k0_pay2 k0_pay1 (iblk m c 0 t) (iblk m c 1 t) (ix2 r q)
      = result (m ((c : Thread nD τ).loc main_arg0)) (m ((c : Thread nD τ).loc main_arg1))
        (((View.whole main_v0).slice (win0_2.rect t)).emb (ix2 r q)) := by
    intro r q
    rw [pay2, pay1, zero_add]
    unfold result
    have h0 : ((((View.whole main_v0).slice (win0_2.rect t)).emb (ix2 r q)) 0).val = (grid0.coords t 0).val * 1024 + r.val := by
      blk_simp [idx t]
    have h1 : ((((View.whole main_v0).slice (win0_2.rect t)).emb (ix2 r q)) 1).val = (grid0.coords t 1).val * 512 + q.val := by
      blk_simp [idx t]
    simp only [fun k => blk0 m c t r k _ h0, fun k => blk1 m c t k q _ h1]
  exact (congrArg _ (ix2_eta y).symm).trans ((e _ _).trans (congrArg
    (fun y => result _ _ (((View.whole main_v0).slice (win0_2.rect t)).emb y)) (ix2_eta y)))

/-- The reference ends with the same function of its arguments. -/
theorem ref (m : (ℓ : Loc Cert.ProjCReferenceIdeal.nD Cert.ProjCReferenceIdeal.τ Cert.ProjCReferenceIdeal.sig) → Buf (Elt Ideal) ℓ)
    (ρ : Dev Cert.ProjCReferenceIdeal.nD → PrngReg) :
    θ_run Cert.ProjCReferenceIdeal.defs (onTc (τ := Cert.ProjCReferenceIdeal.τ) (Cert.ProjCReferenceIdeal.main (F := Ideal))) ⟨m, fun _ => 0, ρ⟩
      fun r => ∀ c : Dev Cert.ProjCReferenceIdeal.nD,
        r.2.mem ((c.tc : Thread Cert.ProjCReferenceIdeal.nD Cert.ProjCReferenceIdeal.τ).loc Cert.ProjCReferenceIdeal.main_v1)
          = result (m ((c.tc : Thread Cert.ProjCReferenceIdeal.nD Cert.ProjCReferenceIdeal.τ).loc Cert.ProjCReferenceIdeal.main_arg0)) (m ((c.tc : Thread Cert.ProjCReferenceIdeal.nD Cert.ProjCReferenceIdeal.τ).loc Cert.ProjCReferenceIdeal.main_arg1))
        ∧ r.2.mem ((c.tc : Thread Cert.ProjCReferenceIdeal.nD Cert.ProjCReferenceIdeal.τ).loc Cert.ProjCReferenceIdeal.main_arg0) = m ((c.tc : Thread Cert.ProjCReferenceIdeal.nD Cert.ProjCReferenceIdeal.τ).loc Cert.ProjCReferenceIdeal.main_arg0)
        ∧ r.2.mem ((c.tc : Thread Cert.ProjCReferenceIdeal.nD Cert.ProjCReferenceIdeal.τ).loc Cert.ProjCReferenceIdeal.main_arg1) = m ((c.tc : Thread Cert.ProjCReferenceIdeal.nD Cert.ProjCReferenceIdeal.τ).loc Cert.ProjCReferenceIdeal.main_arg1) := by
  refine (θ_run _ _ _).mono (fun r h c => ⟨(h c).1.trans (funext fun i => ?_), (h c).2⟩) (Cert.ProjCReferenceIdeal.Value.run (F := Ideal) m ρ)
  rw [← ix2_eta i]
  pointwise [result]

/-- `ProjC` runs and leaves its arguments as they were. -/
theorem frame_p : Cert.quiescent_ProjC (hProjC := Cert.ProjC.Gen.facts) := fun m ρ _ => Cert.ProjC.Gen.frame m ρ

/-- The idealized program runs and leaves its arguments as they were. -/
theorem frame_i : Cert.quiescent_ProjCIdeal (hProjCIdeal := Cert.ProjCIdeal.Gen.facts) := fun m ρ _ => Cert.ProjCIdeal.Gen.frame m ρ

/-- The reference runs and leaves its arguments as they were. -/
theorem frame_r : Cert.quiescent_ProjCReferenceIdeal (hProjCReferenceIdeal := Cert.ProjCReferenceIdeal.Gen.facts) := fun m ρ _ =>
  (θ_run Cert.ProjCReferenceIdeal.defs _ _).mono (fun r h => ⟨fun c => (h c).2, sem_eq_zero_of_no_sems (by decide) r.2⟩)
    (Cert.ProjCReferenceIdeal.Value.run (F := Ideal) m ρ)

/-- The program and the reference, started from the same arguments, end with the same result. -/
theorem algebraic : Cert.algebraic_ProjCIdeal_ProjCReferenceIdeal (hProjCIdeal := Cert.ProjCIdeal.Gen.facts)
    (hProjCReferenceIdeal := Cert.ProjCReferenceIdeal.Gen.facts) := fun m ρ m' ρ' _ hag =>
  ⟨fun c => result (m ((c.tc : Thread Cert.ProjCIdeal.nD Cert.ProjCIdeal.τ).loc Cert.ProjCIdeal.main_arg0)) (m ((c.tc : Thread Cert.ProjCIdeal.nD Cert.ProjCIdeal.τ).loc Cert.ProjCIdeal.main_arg1)), (θ_run Cert.ProjCIdeal.defs _ _).mono (fun r h c => ⟨(h c).1.trans (final m c), (h c).2⟩) (Cert.ProjCIdeal.Value.run_blocks (F := Ideal) m ρ),
    (θ_run Cert.ProjCReferenceIdeal.defs _ _).mono (fun r h c => by
      obtain ⟨e0, e1⟩ := hag c
      refine ⟨(h c).1.trans ?_, (h c).2⟩
      rw [e0, e1]) (ref m' ρ')⟩

end Cert.ProjCProof

end
-- ==== Proof.ProjEValue.lean ====
module

public import proofs.«01_k».proof.Proof.Gen.ProjEIdeal.Value
public import proofs.«01_k».proof.Proof.Gen.ProjEReferenceIdeal.Run
public import proofs.«01_k».proof.Proof.Gen.ProjE.Frame
public import proofs.«01_k».proof.Defs
public import Idealize.ShloMosaic.Lib.Pipeline.ValueKit
public import Idealize.ShloMosaic.Lib.Pointwise

/-! The row-block product of a 16384 × 2048 matrix with a 2048 × 512 one: the block that a grid point leaves is the block of
the whole product, because every point sums over the whole inner axis. The reference is that product. -/

@[expose] public section

set_option maxRecDepth 16384

noncomputable section

namespace Cert.ProjEProof

open Cert.ProjEIdeal Cert.ProjEIdeal.Gen Idealize.ShloMosaic Idealize.ShloMosaic.TcCoe
open Idealize.ShloMosaic.Pipeline (Dat)

variable (m : (ℓ : Loc nD τ sig) → Buf (Elt Ideal) ℓ)

/-- Which block each window reads or writes at a grid point. -/
theorem idx : ∀ t : Fin grid0.N,
    win0_0.index t = ![(grid0.coords t 0).val, 0] ∧ win0_1.index t = ![0, (grid0.coords t 1).val]
      ∧ win0_2.index t = ![(grid0.coords t 0).val, (grid0.coords t 1).val] := by decide +kernel

/-- The matrix product of the argument arrays. -/
def result (x : Vec Ideal S16384x2048 .bf16) (w : Vec Ideal S2048x512 .f32) : Vec Ideal S16384x512 .f32 := fun i =>
  (∑ k : Fin 2048, x (ix2 (i 0) k) * w (ix2 k (i 1)) : EReal)

/-- The accumulator starts at zero. -/
theorem pay1 (r : Fin 1024) (q : Fin 512) : k0_pay1 (F := Ideal) (ix2 r q) = (0 : EReal) := by
  unfold k0_pay1
  pointwise

/-- A point adds its block's product to the accumulator. -/
theorem pay2 (a : Vec Ideal S1024x512 .f32) (x : Vec Ideal S1024x2048 .bf16) (w : Vec Ideal S2048x512 .f32) (r : Fin 1024) (q : Fin 512) :
    k0_pay2 (F := Ideal) a x w (ix2 r q) = (a (ix2 r q) + ∑ k : Fin 2048, x (ix2 r k) * w (ix2 k q) : EReal) := by
  unfold k0_pay2
  pointwise

theorem blk0 (c : Dev nD) (t : Fin cfg0.N) (r : Fin 1024) (k : Fin 2048) (R : Fin 16384) (hR : R.val = (grid0.coords t 0).val * 1024 + r.val) :
    iblk m c 0 t (ix2 r k) = m ((c : Thread nD τ).loc main_arg0) (ix2 R k) := by
  blk_ext [iblk, V_main_arg0, idx t]

theorem blk1 (c : Dev nD) (t : Fin cfg0.N) (k : Fin 2048) (q : Fin 512) (Q : Fin 512) (hQ : Q.val = (grid0.coords t 1).val * 512 + q.val) :
    iblk m c 1 t (ix2 k q) = m ((c : Thread nD τ).loc main_arg1) (ix2 k Q) := by
  blk_ext [iblk, V_main_arg1, idx t]

/-- The result array after the run. -/
theorem final (c : Dev nD) : (dats m 0 c).arrAt 2 cfg0.N = result (m ((c : Thread nD τ).loc main_arg0))
    (m ((c : Thread nD τ).loc main_arg1)) := by
  refine (dats m 0 c).arrAt_eq_of_covers 2 _ (by decide +kernel) fun t hf y => ?_
  blk_simp
  rw [after0_2]
  unfold outsAt0
  frame_out
  have e : ∀ (r : Fin 1024) (q : Fin 512), k0_pay2 k0_pay1 (iblk m c 0 t) (iblk m c 1 t) (ix2 r q)
      = result (m ((c : Thread nD τ).loc main_arg0)) (m ((c : Thread nD τ).loc main_arg1))
        (((View.whole main_v0).slice (win0_2.rect t)).emb (ix2 r q)) := by
    intro r q
    rw [pay2, pay1, zero_add]
    unfold result
    have h0 : ((((View.whole main_v0).slice (win0_2.rect t)).emb (ix2 r q)) 0).val = (grid0.coords t 0).val * 1024 + r.val := by
      blk_simp [idx t]
    have h1 : ((((View.whole main_v0).slice (win0_2.rect t)).emb (ix2 r q)) 1).val = (grid0.coords t 1).val * 512 + q.val := by
      blk_simp [idx t]
    simp only [fun k => blk0 m c t r k _ h0, fun k => blk1 m c t k q _ h1]
  exact (congrArg _ (ix2_eta y).symm).trans ((e _ _).trans (congrArg
    (fun y => result _ _ (((View.whole main_v0).slice (win0_2.rect t)).emb y)) (ix2_eta y)))

/-- The reference ends with the same function of its arguments. -/
theorem ref (m : (ℓ : Loc Cert.ProjEReferenceIdeal.nD Cert.ProjEReferenceIdeal.τ Cert.ProjEReferenceIdeal.sig) → Buf (Elt Ideal) ℓ)
    (ρ : Dev Cert.ProjEReferenceIdeal.nD → PrngReg) :
    θ_run Cert.ProjEReferenceIdeal.defs (onTc (τ := Cert.ProjEReferenceIdeal.τ) (Cert.ProjEReferenceIdeal.main (F := Ideal))) ⟨m, fun _ => 0, ρ⟩
      fun r => ∀ c : Dev Cert.ProjEReferenceIdeal.nD,
        r.2.mem ((c.tc : Thread Cert.ProjEReferenceIdeal.nD Cert.ProjEReferenceIdeal.τ).loc Cert.ProjEReferenceIdeal.main_v1)
          = result (m ((c.tc : Thread Cert.ProjEReferenceIdeal.nD Cert.ProjEReferenceIdeal.τ).loc Cert.ProjEReferenceIdeal.main_arg0)) (m ((c.tc : Thread Cert.ProjEReferenceIdeal.nD Cert.ProjEReferenceIdeal.τ).loc Cert.ProjEReferenceIdeal.main_arg1))
        ∧ r.2.mem ((c.tc : Thread Cert.ProjEReferenceIdeal.nD Cert.ProjEReferenceIdeal.τ).loc Cert.ProjEReferenceIdeal.main_arg0) = m ((c.tc : Thread Cert.ProjEReferenceIdeal.nD Cert.ProjEReferenceIdeal.τ).loc Cert.ProjEReferenceIdeal.main_arg0)
        ∧ r.2.mem ((c.tc : Thread Cert.ProjEReferenceIdeal.nD Cert.ProjEReferenceIdeal.τ).loc Cert.ProjEReferenceIdeal.main_arg1) = m ((c.tc : Thread Cert.ProjEReferenceIdeal.nD Cert.ProjEReferenceIdeal.τ).loc Cert.ProjEReferenceIdeal.main_arg1) := by
  refine (θ_run _ _ _).mono (fun r h c => ⟨(h c).1.trans (funext fun i => ?_), (h c).2⟩) (Cert.ProjEReferenceIdeal.Value.run (F := Ideal) m ρ)
  rw [← ix2_eta i]
  pointwise [result]

/-- `ProjE` runs and leaves its arguments as they were. -/
theorem frame_p : Cert.quiescent_ProjE (hProjE := Cert.ProjE.Gen.facts) := fun m ρ _ => Cert.ProjE.Gen.frame m ρ

/-- The idealized program runs and leaves its arguments as they were. -/
theorem frame_i : Cert.quiescent_ProjEIdeal (hProjEIdeal := Cert.ProjEIdeal.Gen.facts) := fun m ρ _ => Cert.ProjEIdeal.Gen.frame m ρ

/-- The reference runs and leaves its arguments as they were. -/
theorem frame_r : Cert.quiescent_ProjEReferenceIdeal (hProjEReferenceIdeal := Cert.ProjEReferenceIdeal.Gen.facts) := fun m ρ _ =>
  (θ_run Cert.ProjEReferenceIdeal.defs _ _).mono (fun r h => ⟨fun c => (h c).2, sem_eq_zero_of_no_sems (by decide) r.2⟩)
    (Cert.ProjEReferenceIdeal.Value.run (F := Ideal) m ρ)

/-- The program and the reference, started from the same arguments, end with the same result. -/
theorem algebraic : Cert.algebraic_ProjEIdeal_ProjEReferenceIdeal (hProjEIdeal := Cert.ProjEIdeal.Gen.facts)
    (hProjEReferenceIdeal := Cert.ProjEReferenceIdeal.Gen.facts) := fun m ρ m' ρ' _ hag =>
  ⟨fun c => result (m ((c.tc : Thread Cert.ProjEIdeal.nD Cert.ProjEIdeal.τ).loc Cert.ProjEIdeal.main_arg0)) (m ((c.tc : Thread Cert.ProjEIdeal.nD Cert.ProjEIdeal.τ).loc Cert.ProjEIdeal.main_arg1)), (θ_run Cert.ProjEIdeal.defs _ _).mono (fun r h c => ⟨(h c).1.trans (final m c), (h c).2⟩) (Cert.ProjEIdeal.Value.run_blocks (F := Ideal) m ρ),
    (θ_run Cert.ProjEReferenceIdeal.defs _ _).mono (fun r h c => by
      obtain ⟨e0, e1⟩ := hag c
      refine ⟨(h c).1.trans ?_, (h c).2⟩
      rw [e0, e1]) (ref m' ρ')⟩

end Cert.ProjEProof

end
-- ==== Proof.SampleConvValue.lean ====
module

public import proofs.«01_k».proof.Proof.Gen.SampleConvIdeal.Frame
public import proofs.«01_k».proof.Proof.Gen.SampleConvReferenceIdeal.Run
public import proofs.«01_k».proof.Proof.Gen.SampleConv.Frame
public import proofs.«01_k».proof.Defs
public import Idealize.ShloMosaic.Lib.Pipeline.ValueKit
public import Idealize.ShloMosaic.Lib.Pointwise
public import Idealize.ShloMosaic.Lib.StableHlo.RunClose

/-! The sample batch's convolution columns: the product of 32 rows of 2048 with a 2048 × 6144 matrix, and its rows after the old ones. The block
that a grid point leaves is the block of the whole product, and the lines after the kernel are the reference's. -/

@[expose] public section

set_option maxRecDepth 16384

noncomputable section

namespace Cert.SampleConvProof

open Cert.SampleConvIdeal Cert.SampleConvIdeal.Gen Idealize.ShloMosaic Idealize.ShloMosaic.TcCoe
open Idealize.ShloMosaic.Pipeline (Dat)

variable (m : (ℓ : Loc nD τ sig) → Buf (Elt Ideal) ℓ)

/-- Which block each window reads or writes at a grid point. -/
theorem idx : ∀ t : Fin grid0.N,
    win0_0.index t = ![0, 0] ∧ win0_1.index t = ![0, (grid0.coords t 1).val]
      ∧ win0_2.index t = ![0, (grid0.coords t 1).val] := by decide +kernel

/-- The matrix product of the rows and the weights. -/
def product (x : Vec Ideal S32x1x2048 .f32) (w : Vec Ideal S2048x6144 .f32) : Vec Ideal S32x6144 .f32 := fun i =>
  (∑ k : Fin 2048, x (ix3 (i 0) 0 k) * w (ix2 k (i 1)) : EReal)

/-- The accumulator starts at zero. -/
theorem pay1 (r : Fin 32) (q : Fin 512) : k0_pay1 (F := Ideal) (ix2 r q) = (0 : EReal) := by
  unfold k0_pay1
  pointwise

/-- A point adds its block's product to the accumulator. -/
theorem pay2 (a : Vec Ideal S32x512 .f32) (x : Vec Ideal S32x2048 .f32) (w : Vec Ideal S2048x512 .f32) (r : Fin 32) (q : Fin 512) :
    k0_pay2 (F := Ideal) a x w (ix2 r q) = (a (ix2 r q) + ∑ k : Fin 2048, x (ix2 r k) * w (ix2 k q) : EReal) := by
  unfold k0_pay2
  pointwise

/-- The rows that the host hands to the kernel. -/
theorem rows (c : Dev nD) : V m c main_v0 = shapeCast S32x2048 (m ((c : Thread nD τ).loc main_arg0)) shapeCasts_S32x1x2048_S32x2048 := by
  unfold V V0 hostOps0
  simp only [List.flatten_cons, List.flatten_nil, List.append_nil]
  after_results
  rfl

theorem blk0 (c : Dev nD) (t : Fin cfg0.N) (r : Fin 32) (k : Fin 2048) :
    iblk m c 0 t (ix2 r k) = m ((c : Thread nD τ).loc main_arg0) (ix3 r 0 k) := by
  have e : iblk m c 0 t (ix2 r k) = V m c main_v0 (ix2 r k) := by
    blk_ext [iblk, idx t]
  rw [e, rows]
  pointwise

theorem blk1 (c : Dev nD) (t : Fin cfg0.N) (k : Fin 2048) (q : Fin 512) (Q : Fin 6144) (hQ : Q.val = (grid0.coords t 1).val * 512 + q.val) :
    iblk m c 1 t (ix2 k q) = m ((c : Thread nD τ).loc main_arg1) (ix2 k Q) := by
  blk_ext [iblk, V_main_arg1, idx t]

/-- The kernel's array after the run. -/
theorem final (c : Dev nD) : (dats m 0 c).arrAt 2 cfg0.N = product (m ((c : Thread nD τ).loc main_arg0))
    (m ((c : Thread nD τ).loc main_arg1)) := by
  refine (dats m 0 c).arrAt_eq_of_covers 2 _ (by decide +kernel) fun t hf y => ?_
  blk_simp
  rw [after0_2]
  unfold outsAt0
  frame_out
  have e : ∀ (r : Fin 32) (q : Fin 512), k0_pay2 k0_pay1 (iblk m c 0 t) (iblk m c 1 t) (ix2 r q)
      = product (m ((c : Thread nD τ).loc main_arg0)) (m ((c : Thread nD τ).loc main_arg1))
        (((View.whole main_v1).slice (win0_2.rect t)).emb (ix2 r q)) := by
    intro r q
    rw [pay2, pay1, zero_add]
    unfold product
    have h0 : (((View.whole main_v1).slice (win0_2.rect t)).emb (ix2 r q)) 0 = r := by
      refine Fin.ext ?_
      blk_simp [idx t]
    have h1 : ((((View.whole main_v1).slice (win0_2.rect t)).emb (ix2 r q)) 1).val = (grid0.coords t 1).val * 512 + q.val := by
      blk_simp [idx t]
    rw [h0]
    simp only [fun k => blk0 m c t r k, fun k => blk1 m c t k q _ h1]
  exact (congrArg _ (ix2_eta y).symm).trans ((e _ _).trans (congrArg
    (fun y => product _ _ (((View.whole main_v1).slice (win0_2.rect t)).emb y)) (ix2_eta y)))

/-- The product with its rows shaped as sequences of one step is the reference's. -/
theorem product_eq (x : Vec Ideal S32x1x2048 .f32) (w : Vec Ideal S2048x6144 .f32) :
    shapeCast S32x1x6144 (product x w) shapeCasts_S32x6144_S32x1x6144
      = Host.dotGeneral (F := Ideal) (φ₁ := .f32) (φ₂ := .f32) Cert.SampleConvReferenceIdeal.dot_S32x1x2048_S2048x6144_S32x1x6144_2_0_01_1_n_n none x w := by
  have e : ∀ (r : Fin 32) (u : Fin 1) (q : Fin 6144), shapeCast S32x1x6144 (product x w) shapeCasts_S32x6144_S32x1x6144 (ix3 r u q)
      = Host.dotGeneral (F := Ideal) (φ₁ := .f32) (φ₂ := .f32) Cert.SampleConvReferenceIdeal.dot_S32x1x2048_S2048x6144_S32x1x6144_2_0_01_1_n_n none x w (ix3 r u q) := by
    intro r u q
    obtain rfl : u = 0 := Subsingleton.elim _ _
    pointwise [product]
  funext i
  exact (congrArg _ (ix3_eta i).symm).trans ((e _ _ _).trans (congrArg _ (ix3_eta i)))

/-- The last three rows of the old ones and the new one. -/
def result (x : Vec Ideal S32x1x2048 .f32) (w : Vec Ideal S2048x6144 .f32) (old : Vec Ideal S32x3x6144 .f32) : Vec Ideal S32x3x6144 .f32 :=
  extractStridedSlice S32x3x6144 ![0, 1, 0] (concatenate S32x4x6144 1 [⟨S32x3x6144, old⟩, ⟨S32x1x6144,
    (Host.dotGeneral (F := Ideal) (φ₁ := .f32) (φ₂ := .f32) Cert.SampleConvReferenceIdeal.dot_S32x1x2048_S2048x6144_S32x1x6144_2_0_01_1_n_n none x w)⟩]
    concatenates_S32x3x6144_S32x1x6144_S32x4x6144_d1) slices_S32x4x6144_S32x3x6144_0_1_0

/-- What the lines after the kernel leave. -/
theorem tail (c : Dev nD) : Pipeline.afterTail₀ cfgs (dats m) 0 (V0 m) [hostOps1] c main_v4
    = result (m ((c : Thread nD τ).loc main_arg0)) (m ((c : Thread nD τ).loc main_arg1)) (m ((c : Thread nD τ).loc main_arg2)) := by
  have hp : Pipeline.withArrays (cfgs 0).spec c (V0 m c) (fun w => (dats m 0 c).arrAt w (cfgs 0).N) (Proc.devRef .tc main_v1)
      = product (m ((c : Thread nD τ).loc main_arg0)) (m ((c : Thread nD τ).loc main_arg1)) :=
    (Pipeline.withArrays_arr (cfgs 0).spec launch0.win.arr_inj c _ _ 2).trans (final m c)
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne (cfgs 0).spec c _ _ main_arg2 (by decide)).trans (V_main_arg2 m c)
  unfold Pipeline.afterTail₀ result hostOps1
  rw [← product_eq, ← hp, ← h2]
  generalize Pipeline.withArrays (cfgs 0).spec c (V0 m c) (fun w => (dats m 0 c).arrAt w (cfgs 0).N) = W
  simp only [List.flatten_cons, List.flatten_nil, List.append_nil]
  after_results
  rfl

/-- `SampleConv` runs and leaves its arguments as they were. -/
theorem frame_p : Cert.quiescent_SampleConv (hSampleConv := Cert.SampleConv.Gen.facts) := fun m ρ _ => Cert.SampleConv.Gen.frame m ρ

/-- The idealized program runs and leaves its arguments as they were. -/
theorem frame_i : Cert.quiescent_SampleConvIdeal (hSampleConvIdeal := Cert.SampleConvIdeal.Gen.facts) := fun m ρ _ => Cert.SampleConvIdeal.Gen.frame m ρ

/-- The reference runs and leaves its arguments as they were. -/
theorem frame_r : Cert.quiescent_SampleConvReferenceIdeal (hSampleConvReferenceIdeal := Cert.SampleConvReferenceIdeal.Gen.facts) := fun m ρ _ =>
  (θ_run Cert.SampleConvReferenceIdeal.defs _ _).mono (fun r h => ⟨fun c => (h c).2, sem_eq_zero_of_no_sems (by decide) r.2⟩)
    (Cert.SampleConvReferenceIdeal.Value.run (F := Ideal) m ρ)

/-- The program and the reference, started from the same arguments, end with the same result. -/
theorem algebraic : Cert.algebraic_SampleConvIdeal_SampleConvReferenceIdeal (hSampleConvIdeal := Cert.SampleConvIdeal.Gen.facts)
    (hSampleConvReferenceIdeal := Cert.SampleConvReferenceIdeal.Gen.facts) := fun m ρ m' ρ' _ hag =>
  ⟨fun c => result (m ((c.tc : Thread nD τ).loc main_arg0)) (m ((c.tc : Thread nD τ).loc main_arg1)) (m ((c.tc : Thread nD τ).loc main_arg2)),
    (θ_run Cert.SampleConvIdeal.defs _ _).mono (fun r h c => ⟨((h.1 c).2 main_v4 (Pipeline.mem_restRefs_of main_v4 (by decide) (by decide))).trans (tail m c), h.2 c⟩)
      (θ_run_and (run_main m ρ) (unchanged m ρ)),
    (θ_run Cert.SampleConvReferenceIdeal.defs _ _).mono (fun r h c => by
      obtain ⟨e0, e1, e2⟩ := hag c
      refine ⟨(h c).1.trans ?_, (h c).2⟩
      rw [e0, e1, e2]
      rfl) (Cert.SampleConvReferenceIdeal.Value.run (F := Ideal) m' ρ')⟩

end Cert.SampleConvProof

end
-- ==== Proof.ExpertsTables.lean ====
module

public import proofs.«01_k».proof.Proof.Gen.ExpertsIdeal.Skeleton
public import proofs.«01_k».proof.Proof.Gen.ExpertsIdeal.Launch
public import Idealize.ShloMosaic.Lib.Pipeline.TableIdle
public import Idealize.ShloMosaic.Lib.Affine
public import Idealize.ShloMosaic.Lib.Pipeline.ValueKit

/-! The tables of the grouped up projection: one expert per row tile and the number of tiles in use. Which block each window
reads or writes at a grid point, for every admissible pair of tables, and where the result is written back. -/

@[expose] public section

set_option maxRecDepth 16384

noncomputable section

namespace Cert.ExpertsProof

open Cert.ExpertsIdeal Cert.ExpertsIdeal.Gen Idealize.ShloMosaic Idealize.ShloMosaic.TcCoe

/-- The tables are admissible: each tile's expert is one of the eight, and between one and forty-one tiles are in use. -/
structure Tab (T0 : S41.Idx → BitVec 32) (T1 : S1.Idx → BitVec 32) : Prop where
  expert : ∀ x, (T0 x).toNat < 8
  pos : 1 ≤ (T1 (ix1 (0 : Fin 1))).toNat
  le : (T1 (ix1 (0 : Fin 1))).toNat ≤ 41

/-- The only index of the one-word table. -/
noncomputable abbrev o1 : S1.Idx := ix1 (0 : Fin 1)

theorem idx1 (x : S1.Idx) : x = o1 := by
  funext a
  have ha : a = 0 := Subsingleton.elim _ _
  subst ha
  exact Subsingleton.elim (α := Fin 1) _ _

theorem min_word : ∀ (a : Fin 41) (n : Fin 42), 1 ≤ n.val →
    (Scalar.minsi (BitVec.ofNat 32 a.val) (Scalar.subi (BitVec.ofNat 32 n.val) 1#32)).toNat = min a.val (n.val - 1) := by
  decide +kernel

theorem lt_word : ∀ (a : Fin 41) (n : Fin 42),
    (Scalar.cmpi .slt (BitVec.ofNat 32 a.val) (BitVec.ofNat 32 n.val) : BitVec 1) = if a.val < n.val then 1#1 else 0#1 := by
  decide +kernel

theorem ne_word : ∀ b : BitVec 1, (Scalar.cmpi .ne (Scalar.extui b : BitVec 32) 0#32 : BitVec 1) = b := by
  decide +kernel

theorem col_word : ∀ (b : Fin 14), (BitVec.ofNat 32 b.val).toNat = b.val := by decide +kernel

theorem row_word : ∀ (a : Fin 41), (Scalar.indexCast (BitVec.ofNat 32 a.val)).toNat = a.val := by decide +kernel

variable {F : FTy → Type} [FloatOps F]
variable {T0 : S41.Idx → BitVec 32} {T1 : S1.Idx → BitVec 32}

theorem Tab.word (h : Tab T0 T1) (x : S1.Idx) : ∃ n : Fin 42, T1 x = BitVec.ofNat 32 n.val ∧ 1 ≤ n.val ∧ n.val = (T1 o1).toNat :=
  ⟨⟨(T1 o1).toNat, Nat.lt_succ_of_le h.le⟩, by rw [idx1 x]; simp, h.pos, rfl⟩

/-- How many tiles are in use. -/
noncomputable def used (T1 : S1.Idx → BitVec 32) : ℕ := (T1 o1).toNat

/-- The two tables as the contents that the pipeline reads. -/
noncomputable def tabs (T0 : S41.Idx → BitVec 32) (T1 : S1.Idx → BitVec 32) : pre0.Contents (Elt F) :=
  fun | ⟨0, _⟩ => T0 | ⟨1, _⟩ => T1 | ⟨_ + 2, h⟩ => absurd h (by simp)

theorem index0 (h : Tab T0 T1) (i : grid0.Coords) :
    cc0_transform_0 inb_S1_S1_0 numel1_S1 (tabs (F := F) T0 T1) i = ![min (i 0).val (used T1 - 1), 0] := by
  obtain ⟨n, hn, h1, h2⟩ := h.word ((Rect.unit (s := S1) ![0] S1.size inb_S1_S1_0).emb (Shape.Idx.first (numel1_S1.symm ▸ Nat.one_pos)))
  have e := min_word (i 0) n h1
  rw [← hn, h2] at e
  exact congrArg (fun x => ![x, 0]) e

theorem cond_iff (h : Tab T0 T1) (i : grid0.Coords) (x : S1.Idx) : k0_cond1 i (T1 x) = if (i 0).val < used T1 then 1#1 else 0#1 := by
  obtain ⟨n, hn, h1, h2⟩ := h.word x
  unfold k0_cond1
  rw [show (used T1) = n.val from h2.symm, hn]
  exact (ne_word _).trans (lt_word (i 0) n)

theorem col_eq (h : Tab T0 T1) (i : grid0.Coords) (x : S1.Idx) :
    (Scalar.select (Scalar.cmpi .slt (BitVec.ofNat 32 (i 0).val) (T1 x)) (BitVec.ofNat 32 (i 1).val) 13#32).toNat
      = if (i 0).val < used T1 then (i 1).val else 13 := by
  obtain ⟨n, hn, h1, h2⟩ := h.word x
  rw [show (used T1) = n.val from h2.symm, hn, lt_word (i 0) n]
  by_cases hc : (i 0).val < n.val
  · rw [if_pos hc, if_pos hc]; exact col_word (i 1)
  · rw [if_neg hc, if_neg hc]; rfl

theorem index1 (h : Tab T0 T1) (i : grid0.Coords) :
    cc0_transform_1 k0_off1_inb numel1_S1 inb_S1_S1_0 (tabs (F := F) T0 T1) i
      = ![(T0 (ix1 (i 0 : Fin 41))).toNat, 0, if (i 0).val < used T1 then (i 1).val else 13] := by
  have e1 := col_eq h i ((Rect.unit (s := S1) ![0] S1.size inb_S1_S1_0).emb (Shape.Idx.first (numel1_S1.symm ▸ Nat.one_pos)))
  have e0 : (Rect.unit (s := S41) ![(Scalar.indexCast (BitVec.ofNat 32 (i 0).val)).toNat] S1.size (k0_off1_inb i)).emb
      (Shape.Idx.first (numel1_S1.symm ▸ Nat.one_pos)) = ix1 (i 0 : Fin 41) := by
    funext a
    have ha : a = 0 := Subsingleton.elim _ _
    subst ha
    apply Fin.ext
    have hr := row_word (i 0)
    simp [Rect.emb, Rect.unit, hr]
  unfold cc0_transform_1
  dsimp only
  rw [← e1]
  refine congrArg₂ (fun x y => ![x, 0, y]) ?_ rfl
  exact congrArg (fun x => (T0 x).toNat) e0

theorem index3 (h : Tab T0 T1) (i : grid0.Coords) :
    cc0_transform_3 inb_S1_S1_0 numel1_S1 (tabs (F := F) T0 T1) i
      = ![min (i 0).val (used T1 - 1), if (i 0).val < used T1 then (i 1).val else 13] := by
  have e1 := col_eq h i ((Rect.unit (s := S1) ![0] S1.size inb_S1_S1_0).emb (Shape.Idx.first (numel1_S1.symm ▸ Nat.one_pos)))
  obtain ⟨n, hn, h1, h2⟩ := h.word ((Rect.unit (s := S1) ![0] S1.size inb_S1_S1_0).emb (Shape.Idx.first (numel1_S1.symm ▸ Nat.one_pos)))
  have e := min_word (i 0) n h1
  rw [← hn, h2] at e
  exact congrArg₂ (fun x y => ![x, y]) e e1

end Cert.ExpertsProof

end
-- ==== Proof.ExpertsRun.lean ====
module

public import proofs.«01_k».proof.Proof.ExpertsTables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! What one grid point of the grouped up projection does: it stores the block of its tile when the tile is in use, and touches
nothing otherwise. -/

@[expose] public section

set_option maxRecDepth 16384
set_option Elab.async false

noncomputable section

namespace Cert.ExpertsProof

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The type of the machine's resources. -/
local notation "𝕄" => MT nD τ sig Unit (Elt F) ℕ (UR sig nD τ) ℕ

/-- The two tables as the kernel is handed them, whole. -/
abbrev tbM0_0 : Memref sig .tc .smem S41 .i32 := Memref.whole main_arg0
abbrev tbM0_1 : Memref sig .tc .smem S1 .i32 := Memref.whole main_arg1

/-- One staging buffer of the output window, through which its contents are stated. -/
abbrev VO0_3 : View sig .tc .vmem S1024x512 .bf16 := (Memref.whole cc0_stg3_0 : Memref sig .tc .vmem S1024x512 .bf16).view

set_option backward.proofsInPublic true in
set_option maxHeartbeats 8000000 in
/-- A point of a tile in use: what the body stores, with the proof that it runs and leaves the rest as it was. -/
noncomputable def kernelRun0_A (c : Dev nD) (i : grid0.Coords) (arg4 : Memref sig .tc .vmem S1024x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1024x512 .bf16) (harg7 : arg7.IsWhole)
    (T0 : S41.Idx → Elt F .i32) (T1 : S1.Idx → Elt F .i32)
     (x0 : S1024x2048.Idx → Elt F .bf16) (x1 : S1x2048x512.Idx → Elt F .f32) (x2 : S1x2048x512.Idx → Elt F .f32) (k0_h1 : k0_cond1 i (View.readAt (Elt F) (tbM0_1).view (Rect.unit (s := S1) ![0] S1.size inb_S1_S1_0).toLoadRect T1 (Shape.Idx.first (numel1_S1.symm ▸ Nat.one_pos))) = 1#1) :
    { out0 : List (View.Piece (Elt F) S1024x512 .bf16) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
              ∗ (∃ f, arg7.view.loc (c : Thread nD τ) ↦[arg7.view.set]{fullShare} arg7.view.writes (Elt F) f out0)) -∗ K ⟨⟩))
          ⊢ wp frame (wpE (defs₀ (F := F)) Variants.none c none) Set.univ (cc0_moe_up i tbM0_0 (Memref.isWhole_whole _) tbM0_1 (Memref.isWhole_whole _) arg4 harg4 arg5 harg5 arg6 harg6 arg7 harg7) K } :=
  ⟨_, fun K => by
    unfold owns
    rw [cc0_moe_up_eq_skeleton]; unfold cc0_moe_up_skel
    iintro ⟨H0, H1, H2, HT0, HT1, ⟨%d3, %f3, -, HO3⟩, Hk⟩
    have hT0 : tbM0_0.IsWhole := Memref.isWhole_whole _
    have hT1 : tbM0_1.IsWhole := Memref.isWhole_whole _
    sl_exec! (disch := first | (guard_target = k0_cond1 _ _ = _; exact k0_h1))
    sl_step
    iapply Hk
    isplitl [H0]; · iexact H0
    isplitl [H1]; · iexact H1
    isplitl [H2]; · iexact H2
    isplitl [HT0]; · iexact HT0
    isplitl [HT1]; · iexact HT1
    iexists _; iexact HO3⟩

/-- The one store covers the block. -/
theorem cover0_A_3 (c : Dev nD) (i : grid0.Coords) (arg4 : Memref sig .tc .vmem S1024x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1024x512 .bf16) (harg7 : arg7.IsWhole)
    (T0 : S41.Idx → Elt F .i32) (T1 : S1.Idx → Elt F .i32)
     (x0 : S1024x2048.Idx → Elt F .bf16) (x1 : S1x2048x512.Idx → Elt F .f32) (x2 : S1x2048x512.Idx → Elt F .f32) (k0_h1 : k0_cond1 i (View.readAt (Elt F) (tbM0_1).view (Rect.unit (s := S1) ![0] S1.size inb_S1_S1_0).toLoadRect T1 (Shape.Idx.first (numel1_S1.symm ▸ Nat.one_pos))) = 1#1) (y : S1024x512.Idx) :
    ∃ pc ∈ (kernelRun0_A c i arg4 harg4 arg5 harg5 arg6 harg6 arg7 harg7 T0 T1 x0 x1 x2 k0_h1).1, y ∈ pc.1.set :=
  View.cover_of_tiledL (kernelRun0_A c i arg4 harg4 arg5 harg5 arg6 harg6 arg7 harg7 T0 T1 x0 x1 x2 k0_h1).1 S1024x512.size (by sl_kernel_rfl) y

/-- What the store leaves is the body's value of the blocks read. -/
theorem out0_A_3 (c : Dev nD) (i : grid0.Coords) (arg4 : Memref sig .tc .vmem S1024x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1024x512 .bf16) (harg7 : arg7.IsWhole)
    (T0 : S41.Idx → Elt F .i32) (T1 : S1.Idx → Elt F .i32)
     (x0 : S1024x2048.Idx → Elt F .bf16) (x1 : S1x2048x512.Idx → Elt F .f32) (x2 : S1x2048x512.Idx → Elt F .f32) (k0_h1 : k0_cond1 i (View.readAt (Elt F) (tbM0_1).view (Rect.unit (s := S1) ![0] S1.size inb_S1_S1_0).toLoadRect T1 (Shape.Idx.first (numel1_S1.symm ▸ Nat.one_pos))) = 1#1) :
    VO0_3.read (Elt F) (VO0_3.writes (Elt F) VO0_3.junk (kernelRun0_A c i arg4 harg4 arg5 harg5 arg6 harg6 arg7 harg7 T0 T1 x0 x1 x2 k0_h1).1) = k0_pay1 x0 x1 x2 := by
  frame_out
  simp only [View.read_rep]

set_option maxHeartbeats 8000000 in
/-- A point of a tile not in use: the body touches nothing. -/
theorem kernelRun0_B (c : Dev nD) (i : grid0.Coords) (arg4 : Memref sig .tc .vmem S1024x2048 .bf16) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S1024x512 .bf16) (harg7 : arg7.IsWhole)
    (T0 : S41.Idx → Elt F .i32) (T1 : S1.Idx → Elt F .i32)
    (k0_h1 : ¬ k0_cond1 i (View.readAt (Elt F) (tbM0_1).view (Rect.unit (s := S1) ![0] S1.size inb_S1_S1_0).toLoadRect T1 (Shape.Idx.first (numel1_S1.symm ▸ Nat.one_pos))) = 1#1) (K : PUnit → sProp 𝕄) :
        iprop((tbM0_0.view.loc (c : Thread nD τ) ↦{fullShare.right} T0)
          ∗ (tbM0_1.view.loc (c : Thread nD τ) ↦{fullShare.right} T1)
          ∗ (iprop((tbM0_0.view.loc (c : Thread nD τ) ↦{fullShare.right} T0)
              ∗ (tbM0_1.view.loc (c : Thread nD τ) ↦{fullShare.right} T1)) -∗ K ⟨⟩))
          ⊢ wp frame (wpE (defs₀ (F := F)) Variants.none c none) Set.univ (cc0_moe_up i tbM0_0 (Memref.isWhole_whole _) tbM0_1 (Memref.isWhole_whole _) arg4 harg4 arg5 harg5 arg6 harg6 arg7 harg7) K := by
    rw [cc0_moe_up_eq_skeleton]; unfold cc0_moe_up_skel
    iintro ⟨HT0, HT1, Hk⟩
    have hT0 : tbM0_0.IsWhole := Memref.isWhole_whole _
    have hT1 : tbM0_1.IsWhole := Memref.isWhole_whole _
    sl_exec! (disch := first | (guard_target = ¬ (k0_cond1 _ _ = _); exact k0_h1))
    sl_step
    iapply Hk
    isplitl [HT0]; · iexact HT0
    iexact HT1

end Cert.ExpertsProof

end
-- ==== Proof.ExpertsPoints.lean ====
module

public import proofs.«01_k».proof.Proof.ExpertsRun

/-! The schedule of the grouped up projection for admissible tables: the block each window holds at a point, and where the
result's block is written back. -/

@[expose] public section

set_option maxRecDepth 16384
set_option Elab.async false

noncomputable section

namespace Cert.ExpertsProof

open Cert.ExpertsIdeal Cert.ExpertsIdeal.Gen
open Idealize.ShloMosaic Idealize.ShloMosaic.TcCoe
open Idealize.ShloMosaic.Pipeline (Dat Cfg Window)

variable (F : FTy → Type) [FloatOps F]
variable {T0 : S41.Idx → BitVec 32} {T1 : S1.Idx → BitVec 32} (h : Tab T0 T1)

theorem bound0 (i : grid0.Coords) : (i 0).val < 41 := (i 0).isLt
theorem bound1 (i : grid0.Coords) : (i 1).val < 14 := (i 1).isLt

include h in
theorem ok : ok0 (F := F) (tabs T0 T1) := by
  have hp : 1 ≤ used T1 := h.pos
  have hl : used T1 ≤ 41 := h.le
  refine ⟨fun i => ?_, fun i => ?_, fun i => ?_, fun i => ?_⟩
  · refine ⟨fun a => ?_, .inr (Affine.block_words_dvd (s := S41984x2048) (p := EltTy.packing .bf16) (by decide) (by decide))⟩
    rw [index0 h]
    have := bound0 i
    fin_cases a
    · show (min (i 0).val (used T1 - 1) + 1) * 1024 ≤ 41984
      omega
    · show (0 + 1) * 2048 ≤ 2048
      omega
  · refine ⟨fun a => ?_, .inl rfl⟩
    rw [index1 h]
    have := bound1 i
    have he := h.expert (ix1 (i 0 : Fin 41))
    fin_cases a
    · show ((T0 (ix1 (i 0 : Fin 41))).toNat + 1) * 1 ≤ 8
      omega
    · show (0 + 1) * 2048 ≤ 2048
      omega
    · show ((if (i 0).val < used T1 then (i 1).val else 13) + 1) * 512 ≤ 7168
      split <;> omega
  · refine ⟨fun a => ?_, .inl rfl⟩
    rw [show cc0_transform_2 k0_off1_inb numel1_S1 inb_S1_S1_0 (tabs (F := F) T0 T1) i
      = cc0_transform_1 k0_off1_inb numel1_S1 inb_S1_S1_0 (tabs (F := F) T0 T1) i from rfl, index1 h]
    have := bound1 i
    have he := h.expert (ix1 (i 0 : Fin 41))
    fin_cases a
    · show ((T0 (ix1 (i 0 : Fin 41))).toNat + 1) * 1 ≤ 8
      omega
    · show (0 + 1) * 2048 ≤ 2048
      omega
    · show ((if (i 0).val < used T1 then (i 1).val else 13) + 1) * 512 ≤ 7168
      split <;> omega
  · refine ⟨fun a => ?_, .inr (Affine.block_words_dvd (s := S41984x7168) (p := EltTy.packing .bf16) (by decide) (by decide))⟩
    rw [index3 h]
    have := bound0 i
    have := bound1 i
    fin_cases a
    · show (min (i 0).val (used T1 - 1) + 1) * 1024 ≤ 41984
      omega
    · show ((if (i 0).val < used T1 then (i 1).val else 13) + 1) * 512 ≤ 7168
      split <;> omega

/-- The tables as contents that the region admits, the pipeline at them, and it as @main's one. -/
noncomputable def adm : (pcfg0 (F := F)).Adm := ⟨tabs T0 T1, ok F h⟩
noncomputable abbrev cfgA : Pipeline.Cfg sig Λ₀ := cfg0 (F := F) (adm F h)
noncomputable abbrev pcs : Fin 1 → Pipeline.Cfg sig Λ₀ := Pipeline.pin (pcfgs (F := F)) fun _ => adm F h

/-- A point's coordinates. -/
noncomputable abbrev crd (t : Fin (cfgA F h).N) : (cfgA F h).grid.Coords := (cfgA F h).grid.coords t

theorem coord' : ∀ t : Fin grid0.N, (grid0.coords t 0).val = t.val / 14 ∧ (grid0.coords t 1).val = t.val % 14 := by decide +kernel
theorem coord (t : Fin (cfgA F h).N) : (crd F h t 0).val = t.val / 14 ∧ (crd F h t 1).val = t.val % 14 := coord' t
theorem N_eq : (cfgA F h).N = 574 := N_0
theorem t_lt (t : Fin (cfgA F h).N) : t.val < 574 := Nat.lt_of_lt_of_eq t.isLt (N_eq F h)

/-- The last point not after `n` whose tile is in use. -/
def live (T1 : S1.Idx → BitVec 32) (n : ℕ) : ℕ := min n (14 * used T1 - 1)

theorem res3 (t : Fin (cfgA F h).N) : ((cfgA F h).win (3 : Fin 4)).index t = ![live T1 t.val / 14, live T1 t.val % 14] := by
  have hp : 1 ≤ used T1 := h.pos
  obtain ⟨c0, c1⟩ := coord F h t
  refine (index3 (F := F) h (crd F h t)).trans ?_
  rw [c0, c1]
  unfold live
  congr 1
  · omega
  · congr 1
    split <;> omega

theorem idle3 (t : Fin (cfgA F h).N) : (cfgA F h).idle (3 : Fin 4) ((cfgA F h).grid.coords t) = !decide (t.val / 14 < used T1) := by
  have e : (cfgA F h).idle (3 : Fin 4) ((cfgA F h).grid.coords t) = !(k0_cond1 (crd F h t) ((tabs (F := F) T0 T1).atD 1 ![0]) == 1#1) := rfl
  have e2 : (tabs (F := F) T0 T1).atD 1 ![0] = T1 o1 := by
    unfold Pipeline.Prefetch.Contents.atD
    rw [dif_pos (by decide)]
    exact congrArg T1 (idx1 _)
  rw [e, e2, cond_iff h]
  show (!((if (crd F h t 0).val < used T1 then 1#1 else 0#1) == 1#1)) = _
  rw [(coord F h t).1]
  by_cases hc : t.val / 14 < used T1
  · simp [hc]
  · simp [hc]

theorem flush3 (t : Fin (cfgA F h).N) : ((cfgA F h).win (3 : Fin 4)).flush t = decide (t.val = 573 ∨ t.val + 1 < 14 * used T1) := by
  have hp : 1 ≤ used T1 := h.pos
  have hl : used T1 ≤ 41 := h.le
  have hN := N_eq F h
  have ht := t_lt F h t
  have e : ((cfgA F h).win (3 : Fin 4)).flush t
      = (t.val + 1 = (cfgA F h).N || decide (∃ hh : t.val + 1 < (cfgA F h).N, ((cfgA F h).win (3 : Fin 4)).index ⟨t.val + 1, hh⟩ ≠ ((cfgA F h).win (3 : Fin 4)).index t) : Bool) := rfl
  rw [e, Bool.eq_iff_iff]
  simp only [Bool.or_eq_true, decide_eq_true_eq]
  constructor
  · rintro (h1 | ⟨h1, h2⟩)
    · left; omega
    · by_contra hc
      apply h2
      rw [res3, res3]
      have : live T1 (t.val + 1) = live T1 t.val := by unfold live; omega
      simp only [this]
  · rintro (h1 | h1)
    · left; omega
    · by_cases h9 : t.val + 1 = (cfgA F h).N
      · left; exact h9
      · right
        refine ⟨by omega, fun he => ?_⟩
        rw [res3, res3] at he
        have e0 := congrFun he 0
        have e1 := congrFun he 1
        have e0' : live T1 (t.val + 1) / 14 = live T1 t.val / 14 := e0
        have e1' : live T1 (t.val + 1) % 14 = live T1 t.val % 14 := e1
        unfold live at e0' e1'
        omega

theorem fresh3 : ∀ n, 14 * used T1 ≤ n → n < 574 → (cfgA F h).fresh (3 : Fin 4) n = false := by
  have hp : 1 ≤ used T1 := h.pos
  have hl : used T1 ≤ 41 := h.le
  have hN := N_eq F h
  intro n
  induction n with
  | zero => intro h1; omega
  | succ n ih =>
    intro h1 h2
    have hn : n < (cfgA F h).N := by omega
    rw [Pipeline.Cfg.fresh_succ (cfgA F h) (3 : Fin 4) n hn, flush3, idle3]
    have hf : ¬ (n = 573 ∨ n + 1 < 14 * used T1) := by omega
    by_cases hc : n / 14 < used T1
    · simp [hf, hc]
    · rw [ih (by omega) (by omega)]; simp [hf]

end Cert.ExpertsProof

end
-- ==== Proof.ExpertsLaunch.lean ====
module

public import proofs.«01_k».proof.Proof.ExpertsPoints
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! The grouped up projection runs for all admissible tables and leaves its arguments as they were. -/

@[expose] public section

set_option maxRecDepth 16384
set_option Elab.async false

noncomputable section

namespace Cert.ExpertsProof

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (F : FTy → Type) [FloatOps F]

/-- The type of the machine's resources. -/
local notation "𝕄" => MT nD τ sig Unit (Elt F) ℕ (UR sig nD τ) ℕ

/-- The proof's resource algebra: the rounds library's, for the pipeline's staging cells, embedded whole. -/
abbrev EP : Emb (UR sig nD τ) 𝕄 := emb₁

variable {T0 : S41.Idx → BitVec 32} {T1 : S1.Idx → BitVec 32} (h : Tab T0 T1)
variable (m : (ℓ : Loc nD τ sig) → Buf (Elt F) ℓ) (ρ : Dev nD → PrngReg)

/-- The launch memory holds the two tables. -/
def Held (T0 : S41.Idx → BitVec 32) (T1 : S1.Idx → BitVec 32) : Prop :=
  (∀ c : Dev nD, m ((c : Thread nD τ).loc main_arg0) = T0) ∧ (∀ c : Dev nD, m ((c : Thread nD τ).loc main_arg1) = T1)

/-! ## A point's staging memrefs and blocks -/

abbrev ms0_0 (t : Fin (cfgA F h).N) : Memref sig .tc .vmem S1024x2048 .bf16 := spec0_0.stage ((cfgA F h).slots t (0 : Fin 4))
abbrev hs0_0 (t : Fin (cfgA F h).N) : (ms0_0 F h t).IsWhole := hstage0_0 (((cfgA F h).slots t (0 : Fin 4)).cast nbuf0_0)
abbrev ms0_1 (t : Fin (cfgA F h).N) : Memref sig .tc .vmem S1x2048x512 .f32 := spec0_1.stage ((cfgA F h).slots t (1 : Fin 4))
abbrev hs0_1 (t : Fin (cfgA F h).N) : (ms0_1 F h t).IsWhole := hstage0_1 (((cfgA F h).slots t (1 : Fin 4)).cast nbuf0_1)
abbrev ms0_2 (t : Fin (cfgA F h).N) : Memref sig .tc .vmem S1x2048x512 .f32 := spec0_2.stage ((cfgA F h).slots t (2 : Fin 4))
abbrev hs0_2 (t : Fin (cfgA F h).N) : (ms0_2 F h t).IsWhole := hstage0_2 (((cfgA F h).slots t (2 : Fin 4)).cast nbuf0_2)
abbrev ms0_3 (t : Fin (cfgA F h).N) : Memref sig .tc .vmem S1024x512 .bf16 := spec0_3.stage ((cfgA F h).slots t (3 : Fin 4))
abbrev hs0_3 (t : Fin (cfgA F h).N) : (ms0_3 F h t).IsWhole := hstage0_3 (((cfgA F h).slots t (3 : Fin 4)).cast nbuf0_3)

/-- Window `w`'s block at point `t`, read off its array at launch. -/
def iblk (c : Dev nD) (w : Fin (cfgA F h).W) (t : Fin (cfgA F h).N) : (((cfgA F h).win w).xblock (crd F h t)).Idx → Elt F ((cfgA F h).win w).elt :=
  (((cfgA F h).win w).blk t).view.read (Elt F) ((s₀ m ρ).mem (((cfgA F h).win w).arr.view.loc (c : Thread nD τ)))

/-- The last point not after `t` whose tile is in use, as a point. -/
def lv (t : Fin (cfgA F h).N) : Fin (cfgA F h).N := ⟨live T1 t.val, Nat.lt_of_le_of_lt (Nat.min_le_left _ _) t.isLt⟩

/-- What the result's buffer holds after point `t`: the body's value at the last point that stored. -/
def left (c : Dev nD) (t : Fin (cfgA F h).N) : S1024x512.Idx → Elt F .bf16 :=
  k0_pay1 (F := F) (iblk F h m ρ c (0 : Fin 4) (lv F h t)) (iblk F h m ρ c (1 : Fin 4) (lv F h t)) (iblk F h m ρ c (2 : Fin 4) (lv F h t))

theorem lv_live (t : Fin (cfgA F h).N) (ht : t.val / 14 < used T1) : lv F h t = t :=
  Fin.ext (show min t.val (14 * used T1 - 1) = t.val by omega)

theorem left_idle (c : Dev nD) (t : Fin (cfgA F h).N) (ht : ¬ t.val / 14 < used T1) (h0 : t.val ≠ 0) :
    left F h m ρ c t = left F h m ρ c ⟨t.val - 1, by omega⟩ := by
  have e : lv F h t = lv F h ⟨t.val - 1, by omega⟩ :=
    Fin.ext (show min t.val (14 * used T1 - 1) = min (t.val - 1) (14 * used T1 - 1) by omega)
  unfold left
  rw [e]

/-! ## The pipeline's proof data -/

/-- The invariant: the body's halves of the tables. -/
def Phi (T0 : S41.Idx → BitVec 32) (T1 : S1.Idx → BitVec 32) (c : Dev nD) : sProp 𝕄 :=
  iprop((tbM0_0.view.loc (c : Thread nD τ) ↦{fullShare.right} (T0 : S41.Idx → Elt F .i32)) ∗ (tbM0_1.view.loc (c : Thread nD τ) ↦{fullShare.right} (T1 : S1.Idx → Elt F .i32)))

/-- The proof data of the one pipeline on core `c`. -/
def dats (_ : Fin 1) (c : Dev nD) : Dat τ (Elt F) Unit ℕ (UR sig nD τ) ℕ (cfgA F h) c where
  A w := (s₀ m ρ).mem (((cfgA F h).win w).arr.view.loc (c : Thread nD τ))
  after w t := match w with
    | ⟨0, _⟩ => iblk F h m ρ c (0 : Fin 4) t
    | ⟨1, _⟩ => iblk F h m ρ c (1 : Fin 4) t
    | ⟨2, _⟩ => iblk F h m ρ c (2 : Fin 4) t
    | ⟨3, _⟩ => left F h m ρ c t
  Φ t := Phi F T0 T1 c
  q _ := fullShare
  owed _ := 0

theorem after0_0 (c : Dev nD) (t : Fin (cfgA F h).N) : (dats F h m ρ 0 c).after (0 : Fin 4) t = iblk F h m ρ c (0 : Fin 4) t := rfl
theorem after0_1 (c : Dev nD) (t : Fin (cfgA F h).N) : (dats F h m ρ 0 c).after (1 : Fin 4) t = iblk F h m ρ c (1 : Fin 4) t := rfl
theorem after0_2 (c : Dev nD) (t : Fin (cfgA F h).N) : (dats F h m ρ 0 c).after (2 : Fin 4) t = iblk F h m ρ c (2 : Fin 4) t := rfl
theorem after0_3 (c : Dev nD) (t : Fin (cfgA F h).N) : (dats F h m ρ 0 c).after (3 : Fin 4) t = left F h m ρ c t := rfl

theorem before0_0 (c : Dev nD) (t : Fin (cfgA F h).N) (d) : (dats F h m ρ 0 c).before (0 : Fin 4) t d = iblk F h m ρ c (0 : Fin 4) t :=
  ((dats F h m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA F h).N) (d) : (dats F h m ρ 0 c).before (1 : Fin 4) t d = iblk F h m ρ c (1 : Fin 4) t :=
  ((dats F h m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA F h).N) (d) : (dats F h m ρ 0 c).before (2 : Fin 4) t d = iblk F h m ρ c (2 : Fin 4) t :=
  ((dats F h m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- At a point that stores nothing the result's buffer holds what it will be written back with. -/
theorem before0_3 (c : Dev nD) (t : Fin (cfgA F h).N) (ht : ¬ t.val / 14 < used T1) (d) :
    (dats F h m ρ 0 c).before (3 : Fin 4) t d = left F h m ρ c t := by
  have hp : 1 ≤ used T1 := h.pos
  have h5 := t_lt F h t
  rw [(dats F h m ρ 0 c).before_out_traj (3 : Fin 4) rfl (fun _ _ => rfl) (fun t ht hi hf => by
    rw [after0_3, after0_3]
    rw [idle3] at hi
    exact left_idle F h m ρ c t (by simpa using hi) ht) t.val t rfl d,
    fresh3 F h t.val (by omega) h5, if_neg (by decide), after0_3]
  exact (left_idle F h m ρ c t ht (by omega)).symm

/-! ## The body obligation, at a generic point, by path -/

/-- The body at point `t` on its staging memrefs, as the pipeline calls it. -/
abbrev bodyAt0 (t : Fin (cfgA F h).N) : Prog (TpuEff nD τ sig (Elt F) Λ₀ .tc) PUnit :=
  cc0_moe_up (crd F h t) (Memref.whole main_arg0) (Memref.isWhole_whole _) (Memref.whole main_arg1) (Memref.isWhole_whole _) (ms0_0 F h t) (hs0_0 F h t) (ms0_1 F h t) (hs0_1 F h t) (ms0_2 F h t) (hs0_2 F h t) (ms0_3 F h t) (hs0_3 F h t)

/-- The body's guard at point `t`: the tile is in use. -/
theorem guard (t : Fin (cfgA F h).N) : k0_cond1 (crd F h t) (View.readAt (Elt F) (tbM0_1).view (Rect.unit (s := S1) ![0] S1.size inb_S1_S1_0).toLoadRect (T1 : S1.Idx → Elt F .i32) (Shape.Idx.first (numel1_S1.symm ▸ Nat.one_pos)))
    = if t.val / 14 < used T1 then 1#1 else 0#1 := by
  rw [← (coord F h t).1]
  exact cond_iff h (crd F h t) _

set_option maxHeartbeats 4000000 in
/-- The body obligation at point `t`. -/
theorem sound_body (c : Dev nD) (t : Fin (cfgA F h).N) :
    iprop((dats F h m ρ 0 c).Φ t.castSucc ∗ (dats F h m ρ 0 c).owesAt () t.castSucc
        ∗ (∃ d, owns (c : Thread nD τ) (ms0_0 F h t) fullShare ((dats F h m ρ 0 c).before (0 : Fin 4) t d))
        ∗ (∃ d, owns (c : Thread nD τ) (ms0_1 F h t) fullShare ((dats F h m ρ 0 c).before (1 : Fin 4) t d))
        ∗ (∃ d, owns (c : Thread nD τ) (ms0_2 F h t) fullShare ((dats F h m ρ 0 c).before (2 : Fin 4) t d))
        ∗ (∃ d, owns (c : Thread nD τ) (ms0_3 F h t) fullShare ((dats F h m ρ 0 c).before (3 : Fin 4) t d)))
      ⊢ wp frame (wpE (defs₀ (F := F)) Variants.none c none) Set.univ (bodyAt0 F h t) fun _ =>
          iprop((dats F h m ρ 0 c).Φ t.succ ∗ (dats F h m ρ 0 c).owesAt () t.succ
            ∗ bigSep Finset.univ fun w : Fin (cfgA F h).W =>
                match (cfgA F h).idle w ((cfgA F h).grid.coords t) with
                | true =>
                  match ((cfgA F h).win w).flush t with
                  | false => iprop(∃ d, owns (c : Thread nD τ) (((cfgA F h).win w).stage ((cfgA F h).slots t w)) fullShare ((dats F h m ρ 0 c).before w t d))
                  | true => owns (c : Thread nD τ) (((cfgA F h).win w).stage ((cfgA F h).slots t w)) fullShare ((dats F h m ρ 0 c).after w t)
                | false => owns (c : Thread nD τ) (((cfgA F h).win w).stage ((cfgA F h).slots t w)) fullShare ((dats F h m ρ 0 c).after w t)) := by
  rw [bigSep_W0]
  by_cases hc : t.val / 14 < used T1
  · have i3 : (cfgA F h).idle (3 : Fin 4) ((cfgA F h).grid.coords t) = false := by rw [idle3]; simp [hc]
    have k0_h1 := guard F h t
    rw [if_pos hc] at k0_h1
    rewrite [i3]
    simp only [before0_0, before0_1, before0_2, after0_0, after0_1, after0_2, after0_3]
    rewrite [show (dats F h m ρ 0 c).Φ t.succ = Phi F T0 T1 c from rfl, show (dats F h m ρ 0 c).Φ t.castSucc = Phi F T0 T1 c from rfl,
      show (dats F h m ρ 0 c).owesAt () t.succ = (dats F h m ρ 0 c).owesAt () t.castSucc from rfl]
    unfold Phi left
    rw [lv_live F h t hc]
    iintro ⟨⟨HT0, HT1⟩, Ho, ⟨%d0, H0⟩, ⟨%d1, H1⟩, ⟨%d2, H2⟩, ⟨%d3, H3⟩⟩
    iapply ((kernelRun0_A c (crd F h t) (ms0_0 F h t) (hs0_0 F h t) (ms0_1 F h t) (hs0_1 F h t) (ms0_2 F h t) (hs0_2 F h t) (ms0_3 F h t) (hs0_3 F h t) T0 T1 (iblk F h m ρ c (0 : Fin 4) t) (iblk F h m ρ c (1 : Fin 4) t) (iblk F h m ρ c (2 : Fin 4) t) k0_h1).2 _)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, ⟨%e3, H3⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    unfold owns; iexists _; isplitr; swap
    · iexact H3
    · ipureintro
      exact (View.read_writes_of_cover _ _ _ _ _ (cover0_A_3 c _ _ _ _ _ _ _ _ _ _ _ _ _ _ _)).trans (out0_A_3 c _ _ _ _ _ _ _ _ _ _ _ _ _ _ _)
  · have i3 : (cfgA F h).idle (3 : Fin 4) ((cfgA F h).grid.coords t) = true := by rw [idle3]; simp [hc]
    have k0_h1 := guard F h t
    rw [if_neg hc] at k0_h1
    have k0_h2 : ¬ k0_cond1 (crd F h t) (View.readAt (Elt F) (tbM0_1).view (Rect.unit (s := S1) ![0] S1.size inb_S1_S1_0).toLoadRect (T1 : S1.Idx → Elt F .i32) (Shape.Idx.first (numel1_S1.symm ▸ Nat.one_pos))) = 1#1 := by
      rw [k0_h1]; decide
    rewrite [i3]
    simp only [before0_0, before0_1, before0_2, before0_3 F h m ρ c t hc, after0_0, after0_1, after0_2, after0_3]
    rewrite [show (dats F h m ρ 0 c).Φ t.succ = Phi F T0 T1 c from rfl, show (dats F h m ρ 0 c).Φ t.castSucc = Phi F T0 T1 c from rfl,
      show (dats F h m ρ 0 c).owesAt () t.succ = (dats F h m ρ 0 c).owesAt () t.castSucc from rfl]
    unfold Phi
    iintro ⟨⟨HT0, HT1⟩, Ho, ⟨%d0, H0⟩, ⟨%d1, H1⟩, ⟨%d2, H2⟩, ⟨%d3, H3⟩⟩
    iapply (kernelRun0_B c (crd F h t) (ms0_0 F h t) (hs0_0 F h t) (ms0_1 F h t) (hs0_1 F h t) (ms0_2 F h t) (hs0_2 F h t) (ms0_3 F h t) (hs0_3 F h t) T0 T1 k0_h2 _)
    isplitl [HT0]; · iexact HT0
    isplitl [HT1]; · iexact HT1
    iintro ⟨HT0, HT1⟩
    isplitl [HT0 HT1]
    · isplitl [HT0]
      · iexact HT0
      iexact HT1
    isplitl [Ho]; · iexact Ho
    isplitl [H0]; · iexact H0
    isplitl [H1]; · iexact H1
    isplitl [H2]; · iexact H2
    cases hf : ((cfgA F h).win (3 : Fin 4)).flush t
    · iexists d3; iexact H3
    · iexact H3

/-- The library's body obligation, at every point. -/
theorem body_obligation (c : Dev nD) : BodyObligation (dats F h m ρ 0 c) (defs₀ (F := F)) Variants.none () Set.univ := fun t => by
  rw [bigSep_W0]
  exact sound_body F h m ρ c t

/-! ## The launch -/

/-- The rounds library's launch element. -/
def u₀ : UR sig nD τ :=
  initOf (Pipeline.cells (pcs F h) ((launch0 (F := F)).cellOf_inj fun _ => adm F h))
    (Pipeline.launchToks (pcs F h) ((launch0 (F := F)).cellOf_inj fun _ => adm F h))

theorem share_eq (c : Dev nD) (w : Fin (cfgA F h).W) : (dats F h m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm F h).1 ∗ Pipeline.scopedRest spec0 c) ⊢ (dats F h m ρ 0 c).Φ 0 := by
  rw [prefHeld_eq, scopedRest0_eq, show (dats F h m ρ 0 c).Φ 0 = Phi F T0 T1 c from rfl]
  unfold Phi
  iintro ⟨-, ⟨HT0, HT1⟩, -⟩
  isplitl [HT0]
  · iexact HT0
  iexact HT1

theorem phiN_exit (c : Dev nD) : (dats F h m ρ 0 c).Φ (Fin.last (cfgA F h).N) ⊢ iprop(BI.emp ∗ Pipeline.scopedRest spec0 c) := by
  rw [scopedRest0_eq, show (dats F h m ρ 0 c).Φ (Fin.last (cfgA F h).N) = Phi F T0 T1 c from rfl]
  unfold Phi
  iintro ⟨-, -⟩
  isplitr; · iempintro
  iempintro

/-- The physical post: every array at what the library computes, every table at what the pipeline ran at. -/
def QC : PUnit × MemSt nD τ sig (Elt F) → Prop := fun r =>
  ∀ c : Dev nD, (∀ w : Fin (cfgA F h).W, r.2.mem (((cfgA F h).win w).arr.view.loc (c : Thread nD τ)) = (dats F h m ρ 0 c).arrAt w (cfgA F h).N)
    ∧ ∀ j, r.2.mem ((c : Thread nD τ).loc (pre0.ref j)) = (adm F h).1 j

theorem V_pre (hp : Held F m T0 T1) (c : Dev nD) (j : Fin 2) : m ((c : Thread nD τ).loc (pre0.ref j)) = (adm F h).1 j := by
  fin_cases j
  · exact hp.1 c
  · exact hp.2 c

set_option backward.isDefEq.respectTransparency.types false in
set_option maxHeartbeats 4000000 in
/-- From any memory with zero counters that holds the tables, every weakly fair execution of @main terminates, each array ends at
    the computed contents, and every semaphore counter at zero. -/
theorem run_main_quiescent (hp : Held F m T0 T1) : θ_run (defs (F := F)) (onTc (τ := τ) (main (F := F))) (s₀ m ρ) (fun r => QC F h m ρ r ∧ r.2.sem = fun _ => 0) :=
  Pipeline.θ_run_region_noSem_pf_quiescent pcfgs (fun _ => adm F h) (dats F h m ρ) () ((launch0 (F := F)).cellOf_inj fun _ => adm F h) (0 : Fin 1)
    (launch0 (F := F)).win.to₀ (launch0 (F := F)).pre (EP F) defs₀ Variants.none m ρ main
    (hbody := fun c => (body_obligation F h m ρ c).loose) (hne := (launch0 (F := F)).block_pos)
    (harr := (launch0 (F := F)).arr_whole) (hstage := (launch0 (F := F)).stage_whole) (howed := fun _ _ => rfl)
    (u₀ := u₀ F h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs F h) (dats F h m ρ) 0 (launch0 (F := F)).win.arr_inj c (launch0 (F := F)).arr_whole
      (share_eq F h m ρ c) _ _ fun _ => rfl)
    (hpf := V_pre F h m hp)
    (X := fun _ => iprop(emp)) (Y := fun _ => iprop(emp)) (Z := fun _ => iprop(emp))
    (hX := fun c => by rw [unscopedRestP0_eq]; iintro -; isplitr <;> iempintro)
    (hin := phi0_intro F h m ρ)
    (hout := phiN_exit F h m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include h in
/-- The arguments end as they were, and every counter at zero. -/
theorem frame_all (hp : Held F m T0 T1) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hr => ⟨fun c => ⟨((hr.1 c).2 0).trans (hp.1 c).symm, ((hr.1 c).2 1).trans (hp.2 c).symm,
    ((hr.1 c).1 (0 : Fin 4)).trans ((dats F h m ρ 0 c).arrAt_in (0 : Fin 4) rfl _), ((hr.1 c).1 (1 : Fin 4)).trans ((dats F h m ρ 0 c).arrAt_in (1 : Fin 4) rfl _),
    ((hr.1 c).1 (2 : Fin 4)).trans ((dats F h m ρ 0 c).arrAt_in (2 : Fin 4) rfl _)⟩, hr.2⟩) (run_main_quiescent F h m ρ hp)

end Cert.ExpertsProof

end
-- ==== Proof.ExpertsReference.lean ====
module

public import proofs.«01_k».proof.Proof.Gen.ExpertsReferenceIdeal.Run
public import proofs.«01_k».proof.Defs
public import Idealize.ShloMosaic.Lib.Pointwise
public import Idealize.ShloMosaic.Lib.IdealHost
public import Idealize.ShloMosaic.Lib.WordCmp

/-! The reference of the grouped up projection, which takes every expert's product and keeps the row's own. -/

@[expose] public section

set_option maxRecDepth 16384

noncomputable section

namespace Cert.ExpertsProof

open Idealize.ShloMosaic Idealize.ShloMosaic.TcCoe Idealize.ShloMosaic.WordCmp

/-- One entry of the result: the gated product of a row's sums over expert `e`'s two weight matrices. -/
def gated (x : Fin 41984 → Fin 2048 → EReal) (g u : Fin 8 → Fin 2048 → Fin 7168 → EReal) (i : Fin 41984) (e : Fin 8) (j : Fin 7168) : EReal :=
  (∑ k, x i k * g e k j) * Ideal.logistic (∑ k, x i k * g e k j) * ∑ k, x i k * u e k j

/-- The expert of a row: that of the tile of 1024 rows it lies in. -/
def expertOf (T0 : Cert.ExpertsReferenceIdeal.S41.Idx → BitVec 32) (i : Fin 41984) : Fin 8 :=
  ⟨(T0 (ix1 (⟨i.val / 1024, by omega⟩ : Fin 41))).toNat % 8, Nat.mod_lt _ (by omega)⟩

/-- The result array as a function of the argument arrays. -/
def result (T0 : Cert.ExpertsReferenceIdeal.S41.Idx → BitVec 32) (x : Vec Ideal Cert.ExpertsReferenceIdeal.S41984x2048 .bf16)
    (g u : Vec Ideal Cert.ExpertsReferenceIdeal.S8x2048x7168 .f32) : Vec Ideal Cert.ExpertsReferenceIdeal.S41984x7168 .bf16 := fun i =>
  gated (fun a k => x (ix2 a k)) (fun e k b => g (ix3 e k b)) (fun e k b => u (ix3 e k b)) (i 0) (expertOf T0 (i 0)) (i 1)

/-- The side conditions of the precondition and of the mask. -/
theorem preFacts : Cert.Pre_tables.Facts where
  bcast_S_S41 := by decide
  bcast_S_S1 := by decide

theorem onFacts : Cert.On_rows_used.Facts where
  bcast_S_S1 := by decide
  bcast_S1_S41984x7168_1 := by decide

theorem eq_word (w : BitVec 32) (e : Fin 8) : IntOp.cmpi .eq w (BitVec.ofNat 32 e.val) = BitVec.ofBool (decide (w.toNat = e.val)) := by
  rw [cmpi_eq_eq_toNat, BitVec.toNat_ofNat, Nat.mod_eq_of_lt (by omega)]

theorem of_ofBool {p : Prop} [Decidable p] (h : BitVec.ofBool (decide p) = 1#1) : p := by
  by_contra hp
  rw [decide_eq_false hp] at h
  exact absurd h (by decide)

theorem lt_of_words (w : BitVec 32) (a b : ℕ) (ha : a < 2 ^ 31) (hb : b < 2 ^ 31) (h1 : IntOp.cmpi .sge w (BitVec.ofNat 32 a) = 1#1)
    (h2 : IntOp.cmpi .slt w (BitVec.ofNat 32 b) = 1#1) : a ≤ w.toNat ∧ w.toNat < b := by
  rw [cmpi_sge_eq] at h1
  rw [cmpi_slt_eq] at h2
  have h1 := of_ofBool h1
  have h2 := of_ofBool h2
  rw [BitVec.toInt_eq_toNat_cond, BitVec.toInt_eq_toNat_cond, BitVec.toNat_ofNat, Nat.mod_eq_of_lt (by omega)] at h1 h2
  have := w.isLt
  split at h1 <;> split at h1 <;> split at h2 <;> split at h2 <;> omega

theorem row_of_word (w : BitVec 32) (hw : w.toNat ≤ 41) (a : Fin 41984)
    (h : IntOp.cmpi .slt (BitVec.ofNat 32 a.val) (IntOp.muli w 1024#32) = 1#1) : a.val < 1024 * w.toNat := by
  have e : IntOp.muli w 1024#32 = BitVec.ofNat 32 (1024 * w.toNat) := by
    apply BitVec.eq_of_toNat_eq
    show (w * 1024#32).toNat = _
    rw [BitVec.toNat_mul, BitVec.toNat_ofNat, BitVec.toNat_ofNat]
    omega
  rw [e, cmpi_slt_eq] at h
  have h := of_ofBool h
  have ha := a.isLt
  rw [BitVec.toInt_eq_toNat_cond, BitVec.toInt_eq_toNat_cond, BitVec.toNat_ofNat, BitVec.toNat_ofNat] at h
  split at h <;> split at h <;> omega

/-- The reference ends with the gated products of each row's own expert. -/
theorem ref (m : (ℓ : Loc Cert.ExpertsReferenceIdeal.nD Cert.ExpertsReferenceIdeal.τ Cert.ExpertsReferenceIdeal.sig) → Buf (Elt Ideal) ℓ)
    (ρ : Dev Cert.ExpertsReferenceIdeal.nD → PrngReg)
    (hT : ∀ (c : Dev Cert.ExpertsReferenceIdeal.nD) (x : Cert.ExpertsReferenceIdeal.S41.Idx), ((m ((c.tc : Thread Cert.ExpertsReferenceIdeal.nD Cert.ExpertsReferenceIdeal.τ).loc Cert.ExpertsReferenceIdeal.main_arg0) : Cert.ExpertsReferenceIdeal.S41.Idx → BitVec 32) x).toNat < 8) :
    θ_run Cert.ExpertsReferenceIdeal.defs (onTc (τ := Cert.ExpertsReferenceIdeal.τ) (Cert.ExpertsReferenceIdeal.main (F := Ideal))) ⟨m, fun _ => 0, ρ⟩
      fun r => ∀ c : Dev Cert.ExpertsReferenceIdeal.nD,
        r.2.mem ((c.tc : Thread Cert.ExpertsReferenceIdeal.nD Cert.ExpertsReferenceIdeal.τ).loc Cert.ExpertsReferenceIdeal.main_v19)
          = result (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))
        ∧ r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
        ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
        ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
        ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
        ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4) := by
  refine (θ_run _ _ _).mono (fun r h c => ⟨(h c).1.trans (funext fun i => ?_), (h c).2⟩) (Cert.ExpertsReferenceIdeal.Value.run (F := Ideal) m ρ)
  have hTc := hT c
  clear h hT
  generalize m ((c.tc : Thread Cert.ExpertsReferenceIdeal.nD Cert.ExpertsReferenceIdeal.τ).loc Cert.ExpertsReferenceIdeal.main_arg0) = T0 at hTc ⊢
  generalize m ((c.tc : Thread Cert.ExpertsReferenceIdeal.nD Cert.ExpertsReferenceIdeal.τ).loc Cert.ExpertsReferenceIdeal.main_arg2) = x
  generalize m ((c.tc : Thread Cert.ExpertsReferenceIdeal.nD Cert.ExpertsReferenceIdeal.τ).loc Cert.ExpertsReferenceIdeal.main_arg3) = g
  generalize m ((c.tc : Thread Cert.ExpertsReferenceIdeal.nD Cert.ExpertsReferenceIdeal.τ).loc Cert.ExpertsReferenceIdeal.main_arg4) = u
  rw [← ix2_eta i]
  generalize i 0 = a
  generalize i 1 = b
  pointwise [result, gated]
  have ha : a.val < 41984 := a.isLt
  have hw := hTc (ix1 (⟨a.val / 1024, by omega⟩ : Fin 41))
  refine (Finset.sum_eq_single (expertOf T0 a) (fun e _ he => ?_) (fun h => absurd (Finset.mem_univ _) h)).trans ?_
  · have z : IntOp.cmpi .eq (T0 (ix1 (⟨a.val / 1024, by omega⟩ : Fin 41)) : BitVec 32) (BitVec.ofNat 32 e.val) = 0#1 := by
      rw [eq_word, decide_eq_false fun h => he (Fin.ext (h.symm.trans (Nat.mod_eq_of_lt hw).symm))]
      rfl
    exact congrArg (fun b : BitVec 1 => Scalar.select b _ (0 : EReal)) z
  · have z : IntOp.cmpi .eq (T0 (ix1 (⟨a.val / 1024, by omega⟩ : Fin 41)) : BitVec 32) (BitVec.ofNat 32 (expertOf T0 a).val) = 1#1 := by
      rw [eq_word, decide_eq_true (show _ = (expertOf T0 a).val from (Nat.mod_eq_of_lt hw).symm)]
      rfl
    exact congrArg (fun b : BitVec 1 => Scalar.select b _ (0 : EReal)) z

/-- The reference runs and leaves its arguments as they were. -/
theorem frame_r : Cert.quiescent_ExpertsReferenceIdeal (hExpertsReferenceIdeal := Cert.ExpertsReferenceIdeal.Gen.facts) (hPre_tables := preFacts) := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

end Cert.ExpertsProof

end
-- ==== Proof.ExpertsValue.lean ====
module

public import proofs.«01_k».proof.Proof.ExpertsLaunch
public import proofs.«01_k».proof.Proof.ExpertsReference
public import Idealize.ShloMosaic.Lib.Pointwise
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! The grouped up projection computes, on the rows of the tiles in use, each row's gated product with its tile's expert. -/

@[expose] public section

set_option maxRecDepth 16384
set_option Elab.async false

noncomputable section

namespace Cert.ExpertsProof

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {T0 : S41.Idx → BitVec 32} {T1 : S1.Idx → BitVec 32} (h : Tab T0 T1)
variable (m : (ℓ : Loc nD τ sig) → Buf (Elt Ideal) ℓ) (ρ : Dev nD → PrngReg)

theorem pay (x : Vec Ideal S1024x2048 .bf16) (g u : Vec Ideal S1x2048x512 .f32) (r : Fin 1024) (q : Fin 512) :
    k0_pay1 (F := Ideal) x g u (ix2 r q) = (∑ k : Fin 2048, x (ix2 r k) * g (ix3 (0 : Fin 1) k q) : EReal)
      * Ideal.logistic (∑ k : Fin 2048, x (ix2 r k) * g (ix3 (0 : Fin 1) k q) : EReal) * (∑ k : Fin 2048, x (ix2 r k) * u (ix3 (0 : Fin 1) k q) : EReal) := by
  unfold k0_pay1
  pointwise

/-- Which block each input window holds at a point of a tile in use. -/
theorem ix0 (t : Fin (cfgA Ideal h).N) (ht : t.val / 14 < used T1) : ((cfgA Ideal h).win (0 : Fin 4)).index t = ![t.val / 14, 0] := by
  refine (index0 (F := Ideal) h (crd Ideal h t)).trans ?_
  rw [(coord Ideal h t).1, show min (t.val / 14) (used T1 - 1) = t.val / 14 by omega]

theorem ix1w (t : Fin (cfgA Ideal h).N) (ht : t.val / 14 < used T1) :
    ((cfgA Ideal h).win (1 : Fin 4)).index t = ![(T0 (ix1 (crd Ideal h t 0 : Fin 41))).toNat, 0, t.val % 14] := by
  refine (index1 (F := Ideal) h (crd Ideal h t)).trans ?_
  rw [(coord Ideal h t).1, (coord Ideal h t).2, if_pos ht]

theorem ix2w (t : Fin (cfgA Ideal h).N) (ht : t.val / 14 < used T1) :
    ((cfgA Ideal h).win (2 : Fin 4)).index t = ![(T0 (ix1 (crd Ideal h t 0 : Fin 41))).toNat, 0, t.val % 14] := ix1w h t ht

theorem blk0 (c : Dev nD) (t : Fin (cfgA Ideal h).N) (ht : t.val / 14 < used T1) (r : Fin 1024) (k : Fin 2048) (R : Fin 41984)
    (hR : R.val = t.val / 14 * 1024 + r.val) :
    (iblk Ideal h m ρ c (0 : Fin 4) t : S1024x2048.Idx → EReal) (ix2 r k) = m ((c : Thread nD τ).loc main_arg2) (ix2 R k) := by
  refine congrArg (m ((c : Thread nD τ).loc main_arg2)) ?_
  funext a
  apply Fin.ext
  have e := Pipeline.Window.rect_emb_val ((cfgA Ideal h).win (0 : Fin 4)) t (ix2 r k) a rfl
  refine e.trans ?_
  rw [ix0 h t ht]
  fin_cases a
  · exact hR.symm
  · show 0 * 2048 + k.val = k.val
    omega

theorem blk1 (c : Dev nD) (t : Fin (cfgA Ideal h).N) (ht : t.val / 14 < used T1) (k : Fin 2048) (q : Fin 512) (E : Fin 8) (Q : Fin 7168)
    (hE : E.val = (T0 (ix1 (crd Ideal h t 0 : Fin 41))).toNat) (hQ : Q.val = t.val % 14 * 512 + q.val) :
    (iblk Ideal h m ρ c (1 : Fin 4) t : S1x2048x512.Idx → EReal) (ix3 (0 : Fin 1) k q) = m ((c : Thread nD τ).loc main_arg3) (ix3 E k Q) := by
  refine congrArg (m ((c : Thread nD τ).loc main_arg3)) ?_
  funext a
  apply Fin.ext
  have e := Pipeline.Window.rect_emb_val ((cfgA Ideal h).win (1 : Fin 4)) t (ix3 (0 : Fin 1) k q) a rfl
  refine e.trans ?_
  rw [ix1w h t ht]
  fin_cases a
  · show (T0 (ix1 (crd Ideal h t 0 : Fin 41))).toNat * 1 + 0 = E.val
    omega
  · show 0 * 2048 + k.val = k.val
    omega
  · exact hQ.symm

theorem blk2 (c : Dev nD) (t : Fin (cfgA Ideal h).N) (ht : t.val / 14 < used T1) (k : Fin 2048) (q : Fin 512) (E : Fin 8) (Q : Fin 7168)
    (hE : E.val = (T0 (ix1 (crd Ideal h t 0 : Fin 41))).toNat) (hQ : Q.val = t.val % 14 * 512 + q.val) :
    (iblk Ideal h m ρ c (2 : Fin 4) t : S1x2048x512.Idx → EReal) (ix3 (0 : Fin 1) k q) = m ((c : Thread nD τ).loc main_arg4) (ix3 E k Q) := by
  refine congrArg (m ((c : Thread nD τ).loc main_arg4)) ?_
  funext a
  apply Fin.ext
  have e := Pipeline.Window.rect_emb_val ((cfgA Ideal h).win (2 : Fin 4)) t (ix3 (0 : Fin 1) k q) a rfl
  refine e.trans ?_
  rw [ix2w h t ht]
  fin_cases a
  · show (T0 (ix1 (crd Ideal h t 0 : Fin 41))).toNat * 1 + 0 = E.val
    omega
  · show 0 * 2048 + k.val = k.val
    omega
  · exact hQ.symm

/-- The values of the result's buffer at the point that wrote it. -/
theorem left_apply (c : Dev nD) (t : Fin (cfgA Ideal h).N) (r : Fin 1024) (q : Fin 512) (R : Fin 41984) (Q : Fin 7168)
    (hR : R.val = live T1 t.val / 14 * 1024 + r.val) (hQ : Q.val = live T1 t.val % 14 * 512 + q.val) :
    left Ideal h m ρ c t (ix2 r q) = result T0 (m ((c : Thread nD τ).loc main_arg2)) (m ((c : Thread nD τ).loc main_arg3))
      (m ((c : Thread nD τ).loc main_arg4)) (ix2 R Q) := by
  have hp : 1 ≤ used T1 := h.pos
  have hl : (lv Ideal h t).val = live T1 t.val := rfl
  have ht : (lv Ideal h t).val / 14 < used T1 := by rw [hl]; unfold live; omega
  have hE : (expertOf T0 R).val = (T0 (ix1 (crd Ideal h (lv Ideal h t) 0 : Fin 41))).toNat := by
    have e : (crd Ideal h (lv Ideal h t) 0 : Fin 41) = (⟨R.val / 1024, by omega⟩ : Fin 41) :=
      Fin.ext ((coord Ideal h (lv Ideal h t)).1.trans (show (lv Ideal h t).val / 14 = R.val / 1024 by rw [hl]; omega))
    rw [e]
    exact Nat.mod_eq_of_lt (h.expert _)
  unfold left
  refine (pay _ _ _ r q).trans ?_
  show _ = gated _ _ _ R (expertOf T0 R) Q
  unfold gated
  simp only [fun k => blk0 h m ρ c (lv Ideal h t) ht r k R hR, fun k => blk1 h m ρ c (lv Ideal h t) ht k q (expertOf T0 R) Q hE hQ,
    fun k => blk2 h m ρ c (lv Ideal h t) ht k q (expertOf T0 R) Q hE hQ]

/-- What a point writes back is the result on the block it writes. -/
theorem written (c : Dev nD) (t : Fin (cfgA Ideal h).N) (y : S1024x512.Idx) :
    left Ideal h m ρ c t y = result T0 (m ((c : Thread nD τ).loc main_arg2)) (m ((c : Thread nD τ).loc main_arg3))
      (m ((c : Thread nD τ).loc main_arg4)) ((((cfgA Ideal h).win (3 : Fin 4)).rect t).emb y : S41984x7168.Idx) := by
  have e0 := Pipeline.Window.rect_emb_val ((cfgA Ideal h).win (3 : Fin 4)) t y (0 : Fin 2) rfl
  have e1 := Pipeline.Window.rect_emb_val ((cfgA Ideal h).win (3 : Fin 4)) t y (1 : Fin 2) rfl
  rw [res3] at e0 e1
  generalize hz : ((((cfgA Ideal h).win (3 : Fin 4)).rect t).emb y : S41984x7168.Idx) = z at e0 e1 ⊢
  have e := left_apply h m ρ c t (y 0 : Fin 1024) (y 1 : Fin 512) (z 0 : Fin 41984) (z 1 : Fin 7168) e0 e1
  rw [ix2_eta (n0 := 1024) (n1 := 512) y, ix2_eta (n0 := 41984) (n1 := 7168) z] at e
  exact e

set_option maxHeartbeats 1000000 in
/-- On the rows of the tiles in use the result array ends with the gated products. -/
theorem final (c : Dev nD) (i : Fin 41984) (j : Fin 7168) (hi : i.val < 1024 * used T1) :
    (dats Ideal h m ρ 0 c).arrAt (3 : Fin 4) (cfgA Ideal h).N (ix2 i j)
      = result T0 (m ((c : Thread nD τ).loc main_arg2)) (m ((c : Thread nD τ).loc main_arg3)) (m ((c : Thread nD τ).loc main_arg4)) (ix2 i j) := by
  have hp : 1 ≤ used T1 := h.pos
  have hl : used T1 ≤ 41 := h.le
  have hN := N_eq Ideal h
  have hj := j.isLt
  have hb : i.val / 1024 * 14 + j.val / 512 < 14 * used T1 := by omega
  have key : ∀ n, n < 574 → (n = 573 ∨ n + 1 < 14 * used T1) → live T1 n = i.val / 1024 * 14 + j.val / 512 →
      (dats Ideal h m ρ 0 c).arrAt (3 : Fin 4) (cfgA Ideal h).N (ix2 i j)
        = result T0 (m ((c : Thread nD τ).loc main_arg2)) (m ((c : Thread nD τ).loc main_arg3)) (m ((c : Thread nD τ).loc main_arg4)) (ix2 i j) := by
    intro n hn hf hv
    have hn' : n < (cfgA Ideal h).N := by omega
    refine (dats Ideal h m ρ 0 c).arrAt_forall_of_flushed (3 : Fin 4)
      (fun i v => v = result T0 (m ((c : Thread nD τ).loc main_arg2)) (m ((c : Thread nD τ).loc main_arg3)) (m ((c : Thread nD τ).loc main_arg4)) i)
      (fun t _ y => written h m ρ c t y) (cfgA Ideal h).N ⟨n, hn'⟩ (ix2 i j) hn' (by rw [flush3]; exact decide_eq_true hf) ?_
    refine (Pipeline.Window.emb_mem_blk_iff ((cfgA Ideal h).win (3 : Fin 4)) ⟨n, hn'⟩ (ix2 i j) rfl).mpr fun a => ?_
    rw [res3]
    show (![live T1 n / 14, live T1 n % 14] : Fin 2 → ℕ) a * (![1024, 512] : Fin 2 → ℕ) a ≤ _ ∧ _ < (![live T1 n / 14, live T1 n % 14] : Fin 2 → ℕ) a * (![1024, 512] : Fin 2 → ℕ) a + (![1024, 512] : Fin 2 → ℕ) a
    rw [hv]
    fin_cases a
    · show (i.val / 1024 * 14 + j.val / 512) / 14 * 1024 ≤ i.val ∧ i.val < (i.val / 1024 * 14 + j.val / 512) / 14 * 1024 + 1024
      omega
    · show (i.val / 1024 * 14 + j.val / 512) % 14 * 512 ≤ j.val ∧ j.val < (i.val / 1024 * 14 + j.val / 512) % 14 * 512 + 512
      omega
  by_cases hlast : i.val / 1024 * 14 + j.val / 512 + 1 = 14 * used T1
  · exact key 573 (by omega) (Or.inl rfl) (by unfold live; omega)
  · exact key (i.val / 1024 * 14 + j.val / 512) (by omega) (Or.inr (by omega)) (by unfold live; omega)

/-! ## The claims -/

theorem tab_of (T0 : S41.Idx → BitVec 32) (T1 : S1.Idx → BitVec 32)
    (p0 : ∀ x, IntOp.cmpi .sge (T0 x) (BitVec.ofNat 32 0) = 1#1) (p1 : ∀ x, IntOp.cmpi .slt (T0 x) (BitVec.ofNat 32 8) = 1#1)
    (p2 : ∀ x, IntOp.cmpi .sge (T1 x) (BitVec.ofNat 32 1) = 1#1) (p3 : ∀ x, IntOp.cmpi .slt (T1 x) (BitVec.ofNat 32 42) = 1#1) : Tab T0 T1 where
  expert x := (lt_of_words (T0 x) 0 8 (by decide) (by decide) (p0 x) (p1 x)).2
  pos := (lt_of_words (T1 o1) 1 42 (by decide) (by decide) (p2 o1) (p3 o1)).1
  le := Nat.le_of_lt_succ (lt_of_words (T1 o1) 1 42 (by decide) (by decide) (p2 o1) (p3 o1)).2

/-- The launch memory's tables, read at the only device. -/
abbrev M0 {F : FTy → Type} (m : (ℓ : Loc nD τ sig) → Buf (Elt F) ℓ) : S41.Idx → BitVec 32 := m (((0 : Fin 1) : Thread nD τ).loc main_arg0)
abbrev M1 {F : FTy → Type} (m : (ℓ : Loc nD τ sig) → Buf (Elt F) ℓ) : S1.Idx → BitVec 32 := m (((0 : Fin 1) : Thread nD τ).loc main_arg1)

theorem held {F : FTy → Type} [FloatOps F] (m : (ℓ : Loc nD τ sig) → Buf (Elt F) ℓ) : Held F m (M0 m) (M1 m) :=
  ⟨fun c => by rw [show c = (0 : Fin 1) from Subsingleton.elim _ _], fun c => by rw [show c = (0 : Fin 1) from Subsingleton.elim _ _]⟩

theorem tab_i (hpre : Cert.Pre_ExpertsIdeal (hPre_tables := preFacts) m) : Tab (M0 m) (M1 m) :=
  tab_of _ _ (fun x => congrFun (hpre (0 : Fin 1)).1 x) (fun x => congrFun (hpre (0 : Fin 1)).2.1 x)
    (fun x => congrFun (hpre (0 : Fin 1)).2.2.1 x) (fun x => congrFun (hpre (0 : Fin 1)).2.2.2 x)

/-- The idealized program runs and leaves its arguments as they were. -/
theorem frame_i : Cert.quiescent_ExpertsIdeal (hExpertsIdeal := Cert.ExpertsIdeal.Gen.facts) (hPre_tables := preFacts) := fun m ρ hpre =>
  frame_all Ideal (tab_i m hpre) m ρ (held m)

/-- The program and the reference, started from the same arguments, end with the same values on the rows of the tiles in use. -/
theorem algebraic : Cert.algebraic_ExpertsIdeal_ExpertsReferenceIdeal_on_rows_used (hExpertsIdeal := Cert.ExpertsIdeal.Gen.facts)
    (hExpertsReferenceIdeal := Cert.ExpertsReferenceIdeal.Gen.facts) (hPre_tables := preFacts) (hOn_rows_used := onFacts) := fun m ρ m' ρ' hpre hag =>
  ⟨fun c => result (m ((c : Thread nD τ).loc main_arg0)) (m ((c : Thread nD τ).loc main_arg2)) (m ((c : Thread nD τ).loc main_arg3)) (m ((c : Thread nD τ).loc main_arg4)),
    (θ_run (defs (F := Ideal)) _ _).mono (fun r hr c => ⟨fun i hi => by
      have h1 := (hr.1 c).1 (3 : Fin 4)
      have hrow : (i 0 : Fin 41984).val < 1024 * used (M1 m) := by
        have hc : c = (0 : Fin 1) := Subsingleton.elim _ _
        subst hc
        exact row_of_word (M1 m o1) (tab_i m hpre).le (i 0) ((congrArg (fun x => IntOp.cmpi .slt _ (IntOp.muli (M1 m x) 1024#32)) (idx1 _)).symm.trans hi)
      have h2 := final (tab_i m hpre) m ρ c (i 0) (i 1) hrow
      have h3 : M0 m = m ((c : Thread nD τ).loc main_arg0) := ((held m).1 c).symm
      rw [ix2_eta (n0 := 41984) (n1 := 7168) i] at h2
      exact (congrFun h1 i).trans (h2.trans (congrArg (fun T => result T (m ((c : Thread nD τ).loc main_arg2)) (m ((c : Thread nD τ).loc main_arg3)) (m ((c : Thread nD τ).loc main_arg4)) i) h3)),
      ((hr.1 c).2 0).trans ((held m).1 c).symm, ((hr.1 c).2 1).trans ((held m).2 c).symm,
      ((hr.1 c).1 (0 : Fin 4)).trans ((dats Ideal (tab_i m hpre) m ρ 0 c).arrAt_in (0 : Fin 4) rfl _),
      ((hr.1 c).1 (1 : Fin 4)).trans ((dats Ideal (tab_i m hpre) m ρ 0 c).arrAt_in (1 : Fin 4) rfl _),
      ((hr.1 c).1 (2 : Fin 4)).trans ((dats Ideal (tab_i m hpre) m ρ 0 c).arrAt_in (2 : Fin 4) rfl _)⟩)
      (run_main_quiescent Ideal (tab_i m hpre) m ρ (held m)),
    (θ_run Cert.ExpertsReferenceIdeal.defs _ _).mono (fun r hr c => by
      obtain ⟨e0, e1, e2, e3, e4⟩ := hag c
      refine ⟨fun i _ => ?_, (hr c).2⟩
      refine (congrFun (hr c).1 i).trans ?_
      rw [e0, e2, e3, e4])
      (ref m' ρ' fun c x => by
        rw [(hag c).1]
        have h3 : m ((c : Thread nD τ).loc main_arg0) = M0 m := (held m).1 c
        exact (congrArg (fun f : S41.Idx → BitVec 32 => (f x).toNat < 8) h3).mpr ((tab_i m hpre).expert x))⟩

end Cert.ExpertsProof

end
-- ==== Proof.ExpertsBitsFrame.lean ====
module

public import proofs.«01_k».proof.Proof.ExpertsBitsLaunch
public import proofs.«01_k».proof.Proof.ExpertsReference
public import Idealize.ShloMosaic.Lib.Pointwise
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! The grouped up projection as it is printed before idealization runs and leaves its arguments as they were. -/

@[expose] public section

set_option maxRecDepth 16384
set_option Elab.async false

noncomputable section

namespace Cert.ExpertsBits

open Cert.Experts Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

theorem tab_of (T0 : S41.Idx → BitVec 32) (T1 : S1.Idx → BitVec 32)
    (p0 : ∀ x, IntOp.cmpi .sge (T0 x) (BitVec.ofNat 32 0) = 1#1) (p1 : ∀ x, IntOp.cmpi .slt (T0 x) (BitVec.ofNat 32 8) = 1#1)
    (p2 : ∀ x, IntOp.cmpi .sge (T1 x) (BitVec.ofNat 32 1) = 1#1) (p3 : ∀ x, IntOp.cmpi .slt (T1 x) (BitVec.ofNat 32 42) = 1#1) : Tab T0 T1 where
  expert x := (Cert.ExpertsProof.lt_of_words (T0 x) 0 8 (by decide) (by decide) (p0 x) (p1 x)).2
  pos := (Cert.ExpertsProof.lt_of_words (T1 o1) 1 42 (by decide) (by decide) (p2 o1) (p3 o1)).1
  le := Nat.le_of_lt_succ (Cert.ExpertsProof.lt_of_words (T1 o1) 1 42 (by decide) (by decide) (p2 o1) (p3 o1)).2

/-- The launch memory's tables, read at the only device. -/
abbrev M0 {F : FTy → Type} (m : (ℓ : Loc nD τ sig) → Buf (Elt F) ℓ) : S41.Idx → BitVec 32 := m (((0 : Fin 1) : Thread nD τ).loc main_arg0)
abbrev M1 {F : FTy → Type} (m : (ℓ : Loc nD τ sig) → Buf (Elt F) ℓ) : S1.Idx → BitVec 32 := m (((0 : Fin 1) : Thread nD τ).loc main_arg1)

theorem held {F : FTy → Type} [FloatOps F] (m : (ℓ : Loc nD τ sig) → Buf (Elt F) ℓ) : Held F m (M0 m) (M1 m) :=
  ⟨fun c => by rw [show c = (0 : Fin 1) from Subsingleton.elim _ _], fun c => by rw [show c = (0 : Fin 1) from Subsingleton.elim _ _]⟩

theorem tab_p (m : (ℓ : Loc nD τ sig) → Buf (Elt Bits) ℓ) (hpre : Cert.Pre_Experts (hPre_tables := Cert.ExpertsProof.preFacts) m) : Tab (M0 m) (M1 m) :=
  tab_of _ _ (fun x => congrFun (hpre (0 : Fin 1)).1 x) (fun x => congrFun (hpre (0 : Fin 1)).2.1 x)
    (fun x => congrFun (hpre (0 : Fin 1)).2.2.1 x) (fun x => congrFun (hpre (0 : Fin 1)).2.2.2 x)

/-- The program runs and leaves its arguments as they were. -/
theorem frame_p : Cert.quiescent_Experts (hExperts := Cert.Experts.Gen.facts) (hPre_tables := Cert.ExpertsProof.preFacts) := fun m ρ hpre =>
  frame_all Bits (tab_p m hpre) m ρ (held m)

end Cert.ExpertsBits

end
-- ==== Proof.ExpertsDownTables.lean ====
module

public import proofs.«01_k».proof.Proof.Gen.ExpertsDownIdeal.Skeleton
public import proofs.«01_k».proof.Proof.Gen.ExpertsDownIdeal.Launch
public import Idealize.ShloMosaic.Lib.Pipeline.TableIdle
public import Idealize.ShloMosaic.Lib.Affine
public import Idealize.ShloMosaic.Lib.Pipeline.ValueKit

/-! The tables of the grouped down projection: one expert per row tile and the number of tiles in use. Which block each window
reads or writes at a grid point, for every admissible pair of tables, and where the result is written back. -/

@[expose] public section

set_option maxRecDepth 16384

noncomputable section

namespace Cert.ExpertsDownProof

open Cert.ExpertsDownIdeal Cert.ExpertsDownIdeal.Gen Idealize.ShloMosaic Idealize.ShloMosaic.TcCoe

/-- The tables are admissible: each tile's expert is one of the eight, and between one and forty-one tiles are in use. -/
structure Tab (T0 : S41.Idx → BitVec 32) (T1 : S1.Idx → BitVec 32) : Prop where
  expert : ∀ x, (T0 x).toNat < 8
  pos : 1 ≤ (T1 (ix1 (0 : Fin 1))).toNat
  le : (T1 (ix1 (0 : Fin 1))).toNat ≤ 41

/-- The only index of the one-word table. -/
noncomputable abbrev o1 : S1.Idx := ix1 (0 : Fin 1)

theorem idx1 (x : S1.Idx) : x = o1 := by
  funext a
  have ha : a = 0 := Subsingleton.elim _ _
  subst ha
  exact Subsingleton.elim (α := Fin 1) _ _

theorem min_word : ∀ (a : Fin 41) (n : Fin 42), 1 ≤ n.val →
    (Scalar.minsi (BitVec.ofNat 32 a.val) (Scalar.subi (BitVec.ofNat 32 n.val) 1#32)).toNat = min a.val (n.val - 1) := by
  decide +kernel

theorem lt_word : ∀ (a : Fin 41) (n : Fin 42),
    (Scalar.cmpi .slt (BitVec.ofNat 32 a.val) (BitVec.ofNat 32 n.val) : BitVec 1) = if a.val < n.val then 1#1 else 0#1 := by
  decide +kernel

theorem ne_word : ∀ b : BitVec 1, (Scalar.cmpi .ne (Scalar.extui b : BitVec 32) 0#32 : BitVec 1) = b := by
  decide +kernel

theorem col_word : ∀ (b : Fin 7), (BitVec.ofNat 32 b.val).toNat = b.val := by decide +kernel

theorem row_word : ∀ (a : Fin 41), (Scalar.indexCast (BitVec.ofNat 32 a.val)).toNat = a.val := by decide +kernel

variable {F : FTy → Type} [FloatOps F]
variable {T0 : S41.Idx → BitVec 32} {T1 : S1.Idx → BitVec 32}

theorem Tab.word (h : Tab T0 T1) (x : S1.Idx) : ∃ n : Fin 42, T1 x = BitVec.ofNat 32 n.val ∧ 1 ≤ n.val ∧ n.val = (T1 o1).toNat :=
  ⟨⟨(T1 o1).toNat, Nat.lt_succ_of_le h.le⟩, by rw [idx1 x]; simp, h.pos, rfl⟩

/-- How many tiles are in use. -/
noncomputable def used (T1 : S1.Idx → BitVec 32) : ℕ := (T1 o1).toNat

/-- The two tables as the contents that the pipeline reads. -/
noncomputable def tabs (T0 : S41.Idx → BitVec 32) (T1 : S1.Idx → BitVec 32) : pre0.Contents (Elt F) :=
  fun | ⟨0, _⟩ => T0 | ⟨1, _⟩ => T1 | ⟨_ + 2, h⟩ => absurd h (by simp)

theorem index3 (h : Tab T0 T1) (i : grid0.Coords) :
    cc0_transform_3 inb_S1_S1_0 numel1_S1 (tabs (F := F) T0 T1) i = ![min (i 0).val (used T1 - 1), 0] := by
  obtain ⟨n, hn, h1, h2⟩ := h.word ((Rect.unit (s := S1) ![0] S1.size inb_S1_S1_0).emb (Shape.Idx.first (numel1_S1.symm ▸ Nat.one_pos)))
  have e := min_word (i 0) n h1
  rw [← hn, h2] at e
  exact congrArg (fun x => ![x, 0]) e

theorem zero_word : ∀ b : Fin 7, (Scalar.cmpi .eq (BitVec.ofNat 32 b.val) 0#32 : BitVec 1) = if b.val = 0 then 1#1 else 0#1 := by
  decide +kernel

theorem pos_word : ∀ b : Fin 7, (Scalar.cmpi .sgt (BitVec.ofNat 32 b.val) 0#32 : BitVec 1) = if b.val = 0 then 0#1 else 1#1 := by
  decide +kernel

theorem last_word : ∀ b : Fin 7, (Scalar.cmpi .eq (BitVec.ofNat 32 b.val) 6#32 : BitVec 1) = if b.val = 6 then 1#1 else 0#1 := by
  decide +kernel

theorem cond2_iff (i : grid0.Coords) : k0_cond2 i = if (i 1).val = 0 then 1#1 else 0#1 := (ne_word _).trans (zero_word (i 1))
theorem cond3_iff (i : grid0.Coords) : k0_cond3 i = if (i 1).val = 0 then 0#1 else 1#1 := (ne_word _).trans (pos_word (i 1))
theorem cond4_iff (i : grid0.Coords) : k0_cond4 i = if (i 1).val = 6 then 1#1 else 0#1 := (ne_word _).trans (last_word (i 1))

theorem cond_iff (h : Tab T0 T1) (i : grid0.Coords) (x : S1.Idx) : k0_cond1 i (T1 x) = if (i 0).val < used T1 then 1#1 else 0#1 := by
  obtain ⟨n, hn, h1, h2⟩ := h.word x
  unfold k0_cond1
  rw [show (used T1) = n.val from h2.symm, hn]
  exact (ne_word _).trans (lt_word (i 0) n)

theorem col_eq (h : Tab T0 T1) (i : grid0.Coords) (x : S1.Idx) :
    (Scalar.select (Scalar.cmpi .slt (BitVec.ofNat 32 (i 0).val) (T1 x)) (BitVec.ofNat 32 (i 1).val) 6#32).toNat
      = if (i 0).val < used T1 then (i 1).val else 6 := by
  obtain ⟨n, hn, h1, h2⟩ := h.word x
  rw [show (used T1) = n.val from h2.symm, hn, lt_word (i 0) n]
  by_cases hc : (i 0).val < n.val
  · rw [if_pos hc, if_pos hc]; exact col_word (i 1)
  · rw [if_neg hc, if_neg hc]; rfl

theorem index1 (h : Tab T0 T1) (i : grid0.Coords) :
    cc0_transform_1 k0_off1_inb numel1_S1 inb_S1_S1_0 (tabs (F := F) T0 T1) i
      = ![(T0 (ix1 (i 0 : Fin 41))).toNat, if (i 0).val < used T1 then (i 1).val else 6, 0] := by
  have e1 := col_eq h i ((Rect.unit (s := S1) ![0] S1.size inb_S1_S1_0).emb (Shape.Idx.first (numel1_S1.symm ▸ Nat.one_pos)))
  have e0 : (Rect.unit (s := S41) ![(Scalar.indexCast (BitVec.ofNat 32 (i 0).val)).toNat] S1.size (k0_off1_inb i)).emb
      (Shape.Idx.first (numel1_S1.symm ▸ Nat.one_pos)) = ix1 (i 0 : Fin 41) := by
    funext a
    have ha : a = 0 := Subsingleton.elim _ _
    subst ha
    apply Fin.ext
    have hr := row_word (i 0)
    simp [Rect.emb, Rect.unit, hr]
  unfold cc0_transform_1
  dsimp only
  rw [← e1]
  refine congrArg₂ (fun x y => ![x, y, 0]) ?_ rfl
  exact congrArg (fun x => (T0 x).toNat) e0

theorem index0 (h : Tab T0 T1) (i : grid0.Coords) :
    cc0_transform_0 inb_S1_S1_0 numel1_S1 (tabs (F := F) T0 T1) i
      = ![min (i 0).val (used T1 - 1), if (i 0).val < used T1 then (i 1).val else 6] := by
  have e1 := col_eq h i ((Rect.unit (s := S1) ![0] S1.size inb_S1_S1_0).emb (Shape.Idx.first (numel1_S1.symm ▸ Nat.one_pos)))
  obtain ⟨n, hn, h1, h2⟩ := h.word ((Rect.unit (s := S1) ![0] S1.size inb_S1_S1_0).emb (Shape.Idx.first (numel1_S1.symm ▸ Nat.one_pos)))
  have e := min_word (i 0) n h1
  rw [← hn, h2] at e
  exact congrArg₂ (fun x y => ![x, y]) e e1

end Cert.ExpertsDownProof

end
-- ==== Proof.ExpertsDownRun.lean ====
module

public import proofs.«01_k».proof.Proof.ExpertsDownTables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! What one grid point of the grouped down projection does: on a tile in use it adds the product of its blocks to the sum so far,
which the last point of the tile scales; on a tile not in use it touches nothing. -/

@[expose] public section

set_option maxRecDepth 16384
set_option Elab.async false

noncomputable section

namespace Cert.ExpertsDownProof

open Cert.ExpertsDownIdeal Cert.ExpertsDownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The type of the machine's resources. -/
local notation "𝕄" => MT nD τ sig Unit (Elt F) ℕ (UR sig nD τ) ℕ

/-- The two tables as the kernel is handed them, whole. -/
abbrev tbM0_0 : Memref sig .tc .smem S41 .i32 := Memref.whole main_arg0
abbrev tbM0_1 : Memref sig .tc .smem S1 .i32 := Memref.whole main_arg1

/-- One staging buffer of the output window, through which its contents are stated. -/
abbrev VO0_3 : View sig .tc .vmem S1024x2048 .f32 := (Memref.whole cc0_stg3_0 : Memref sig .tc .vmem S1024x2048 .f32).view

set_option backward.proofsInPublic true in
set_option maxHeartbeats 8000000 in
/-- The first point of a tile in use: what the body stores, with the proof that it runs and leaves the rest as it was. -/
noncomputable def kernelRun0_A (c : Dev nD) (i : grid0.Coords) (arg4 : Memref sig .tc .vmem S1024x1024 .bf16) (harg4 : arg4.IsWhole) (arg5 : Memref sig .tc .vmem S1x1024x2048 .f32) (harg5 : arg5.IsWhole) (arg6 : Memref sig .tc .vmem S1024x1 .f32) (harg6 : arg6.IsWhole) (arg7 : Memref sig .tc .vmem S1024x2048 .f32) (harg7 : arg7.IsWhole)
    (T0 : S41.Idx → Elt F .i32) (T1 : S1.Idx → Elt F .i32)
    (x0 : S1024x1024.Idx → Elt F .bf16) (x1 : S1x1024x2048.Idx → Elt F .f32) (x2 : S1024x1.Idx → Elt F .f32) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : k0_cond2 i = 1#1) (k0_h3 : ¬ k0_cond3 i = 1#1) (k0_h4 : ¬ k0_cond4 i = 1#1) :
    { out0 : List (View.Piece (Elt F) S1024x2048 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
              ∗ (∃ f, arg7.view.loc (c : Thread nD τ) ↦[arg7.view.set]{fullShare} arg7.view.writes (Elt F) f out0)) -∗ K ⟨⟩))
          ⊢ wp frame (wpE (defs₀ (F := F)) Variants.none c none) Set.univ (cc0_moe_down i tbM0_0 (Memref.isWhole_whole _) tbM0_1 (Memref.isWhole_whole _) arg4 harg4 arg5 harg5 arg6 harg6 arg7 harg7) K } :=
  ⟨_, fun K => by
    try unfold owns
    rw [cc0_moe_down_eq_skeleton]; unfold cc0_moe_down_skel
    iintro ⟨H0, H1, H2, HT0, HT1, ⟨%d3, %f3, -, HO3⟩, Hk⟩
    have hT0 : tbM0_0.IsWhole := Memref.isWhole_whole _
    have hT1 : tbM0_1.IsWhole := Memref.isWhole_whole _
    sl_exec! (disch := first | (guard_target = k0_cond1 _ _ = _; exact k0_h1) | (guard_target = k0_cond2 _ = _; exact k0_h2) | (guard_target = ¬ (k0_cond3 _ = _); exact k0_h3) | (guard_target = ¬ (k0_cond4 _ = _); exact k0_h4))
    sl_step
    iapply Hk
    isplitl [H0]; · iexact H0
    isplitl [H1]; · iexact H1
    isplitl [H2]; · iexact H2
    isplitl [HT0]; · iexact HT0
    isplitl [HT1]; · iexact HT1
    iexists _; iexact HO3⟩

/-- The stores cover the block. -/
theorem cover0_A_3 (c : Dev nD) (i : grid0.Coords) (arg4 : Memref sig .tc .vmem S1024x1024 .bf16) (harg4 : arg4.IsWhole) (arg5 : Memref sig .tc .vmem S1x1024x2048 .f32) (harg5 : arg5.IsWhole) (arg6 : Memref sig .tc .vmem S1024x1 .f32) (harg6 : arg6.IsWhole) (arg7 : Memref sig .tc .vmem S1024x2048 .f32) (harg7 : arg7.IsWhole)
    (T0 : S41.Idx → Elt F .i32) (T1 : S1.Idx → Elt F .i32)
    (x0 : S1024x1024.Idx → Elt F .bf16) (x1 : S1x1024x2048.Idx → Elt F .f32) (x2 : S1024x1.Idx → Elt F .f32) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : k0_cond2 i = 1#1) (k0_h3 : ¬ k0_cond3 i = 1#1) (k0_h4 : ¬ k0_cond4 i = 1#1) (y : S1024x2048.Idx) :
    ∃ pc ∈ (kernelRun0_A c i arg4 harg4 arg5 harg5 arg6 harg6 arg7 harg7 T0 T1 x0 x1 x2 k0_h1 k0_h2 k0_h3 k0_h4).1, y ∈ pc.1.set :=
  View.cover_of_tiledL (kernelRun0_A c i arg4 harg4 arg5 harg5 arg6 harg6 arg7 harg7 T0 T1 x0 x1 x2 k0_h1 k0_h2 k0_h3 k0_h4).1 S1024x2048.size (by sl_kernel_rfl) y

/-- What the stores leave is the body's value of the blocks read. -/
theorem out0_A_3 (c : Dev nD) (i : grid0.Coords) (arg4 : Memref sig .tc .vmem S1024x1024 .bf16) (harg4 : arg4.IsWhole) (arg5 : Memref sig .tc .vmem S1x1024x2048 .f32) (harg5 : arg5.IsWhole) (arg6 : Memref sig .tc .vmem S1024x1 .f32) (harg6 : arg6.IsWhole) (arg7 : Memref sig .tc .vmem S1024x2048 .f32) (harg7 : arg7.IsWhole)
    (T0 : S41.Idx → Elt F .i32) (T1 : S1.Idx → Elt F .i32)
    (x0 : S1024x1024.Idx → Elt F .bf16) (x1 : S1x1024x2048.Idx → Elt F .f32) (x2 : S1024x1.Idx → Elt F .f32) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : k0_cond2 i = 1#1) (k0_h3 : ¬ k0_cond3 i = 1#1) (k0_h4 : ¬ k0_cond4 i = 1#1) :
    VO0_3.read (Elt F) (VO0_3.writes (Elt F) VO0_3.junk (kernelRun0_A c i arg4 harg4 arg5 harg5 arg6 harg6 arg7 harg7 T0 T1 x0 x1 x2 k0_h1 k0_h2 k0_h3 k0_h4).1) = k0_pay1 x0 x1 := by
  frame_out
  simp only [View.read_rep]

set_option backward.proofsInPublic true in
set_option maxHeartbeats 8000000 in
/-- A point between the first and the last of a tile in use: what the body stores, with the proof that it runs and leaves the rest as it was. -/
noncomputable def kernelRun0_B (c : Dev nD) (i : grid0.Coords) (arg4 : Memref sig .tc .vmem S1024x1024 .bf16) (harg4 : arg4.IsWhole) (arg5 : Memref sig .tc .vmem S1x1024x2048 .f32) (harg5 : arg5.IsWhole) (arg6 : Memref sig .tc .vmem S1024x1 .f32) (harg6 : arg6.IsWhole) (arg7 : Memref sig .tc .vmem S1024x2048 .f32) (harg7 : arg7.IsWhole)
    (T0 : S41.Idx → Elt F .i32) (T1 : S1.Idx → Elt F .i32)
    (x0 : S1024x1024.Idx → Elt F .bf16) (x1 : S1x1024x2048.Idx → Elt F .f32) (x2 : S1024x1.Idx → Elt F .f32) (x3 : S1024x2048.Idx → Elt F .f32) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬ k0_cond2 i = 1#1) (k0_h3 : k0_cond3 i = 1#1) (k0_h4 : ¬ k0_cond4 i = 1#1) :
    { out0 : List (View.Piece (Elt F) S1024x2048 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ (arg7.view.loc (c : Thread nD τ) ↦[arg7.view.set]{fullShare} arg7.view.rep x3)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
              ∗ (∃ f, arg7.view.loc (c : Thread nD τ) ↦[arg7.view.set]{fullShare} arg7.view.writes (Elt F) f out0)) -∗ K ⟨⟩))
          ⊢ wp frame (wpE (defs₀ (F := F)) Variants.none c none) Set.univ (cc0_moe_down i tbM0_0 (Memref.isWhole_whole _) tbM0_1 (Memref.isWhole_whole _) arg4 harg4 arg5 harg5 arg6 harg6 arg7 harg7) K } :=
  ⟨_, fun K => by
    try unfold owns
    rw [cc0_moe_down_eq_skeleton]; unfold cc0_moe_down_skel
    iintro ⟨H0, H1, H2, HT0, HT1, HO3, Hk⟩
    have hT0 : tbM0_0.IsWhole := Memref.isWhole_whole _
    have hT1 : tbM0_1.IsWhole := Memref.isWhole_whole _
    sl_exec! (disch := first | (guard_target = k0_cond1 _ _ = _; exact k0_h1) | (guard_target = ¬ (k0_cond2 _ = _); exact k0_h2) | (guard_target = k0_cond3 _ = _; exact k0_h3) | (guard_target = ¬ (k0_cond4 _ = _); exact k0_h4))
    sl_step
    iapply Hk
    isplitl [H0]; · iexact H0
    isplitl [H1]; · iexact H1
    isplitl [H2]; · iexact H2
    isplitl [HT0]; · iexact HT0
    isplitl [HT1]; · iexact HT1
    iexists _; iexact HO3⟩

/-- The stores cover the block. -/
theorem cover0_B_3 (c : Dev nD) (i : grid0.Coords) (arg4 : Memref sig .tc .vmem S1024x1024 .bf16) (harg4 : arg4.IsWhole) (arg5 : Memref sig .tc .vmem S1x1024x2048 .f32) (harg5 : arg5.IsWhole) (arg6 : Memref sig .tc .vmem S1024x1 .f32) (harg6 : arg6.IsWhole) (arg7 : Memref sig .tc .vmem S1024x2048 .f32) (harg7 : arg7.IsWhole)
    (T0 : S41.Idx → Elt F .i32) (T1 : S1.Idx → Elt F .i32)
    (x0 : S1024x1024.Idx → Elt F .bf16) (x1 : S1x1024x2048.Idx → Elt F .f32) (x2 : S1024x1.Idx → Elt F .f32) (x3 : S1024x2048.Idx → Elt F .f32) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬ k0_cond2 i = 1#1) (k0_h3 : k0_cond3 i = 1#1) (k0_h4 : ¬ k0_cond4 i = 1#1) (y : S1024x2048.Idx) :
    ∃ pc ∈ (kernelRun0_B c i arg4 harg4 arg5 harg5 arg6 harg6 arg7 harg7 T0 T1 x0 x1 x2 x3 k0_h1 k0_h2 k0_h3 k0_h4).1, y ∈ pc.1.set :=
  View.cover_of_tiledL (kernelRun0_B c i arg4 harg4 arg5 harg5 arg6 harg6 arg7 harg7 T0 T1 x0 x1 x2 x3 k0_h1 k0_h2 k0_h3 k0_h4).1 S1024x2048.size (by sl_kernel_rfl) y

/-- What the stores leave is the body's value of the blocks read. -/
theorem out0_B_3 (c : Dev nD) (i : grid0.Coords) (arg4 : Memref sig .tc .vmem S1024x1024 .bf16) (harg4 : arg4.IsWhole) (arg5 : Memref sig .tc .vmem S1x1024x2048 .f32) (harg5 : arg5.IsWhole) (arg6 : Memref sig .tc .vmem S1024x1 .f32) (harg6 : arg6.IsWhole) (arg7 : Memref sig .tc .vmem S1024x2048 .f32) (harg7 : arg7.IsWhole)
    (T0 : S41.Idx → Elt F .i32) (T1 : S1.Idx → Elt F .i32)
    (x0 : S1024x1024.Idx → Elt F .bf16) (x1 : S1x1024x2048.Idx → Elt F .f32) (x2 : S1024x1.Idx → Elt F .f32) (x3 : S1024x2048.Idx → Elt F .f32) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬ k0_cond2 i = 1#1) (k0_h3 : k0_cond3 i = 1#1) (k0_h4 : ¬ k0_cond4 i = 1#1) :
    VO0_3.read (Elt F) (VO0_3.writes (Elt F) VO0_3.junk (kernelRun0_B c i arg4 harg4 arg5 harg5 arg6 harg6 arg7 harg7 T0 T1 x0 x1 x2 x3 k0_h1 k0_h2 k0_h3 k0_h4).1) = k0_pay2 x0 x1 x3 := by
  frame_out
  simp only [View.read_rep]

set_option backward.proofsInPublic true in
set_option maxHeartbeats 8000000 in
/-- The last point of a tile in use: what the body stores, with the proof that it runs and leaves the rest as it was. -/
noncomputable def kernelRun0_C (c : Dev nD) (i : grid0.Coords) (arg4 : Memref sig .tc .vmem S1024x1024 .bf16) (harg4 : arg4.IsWhole) (arg5 : Memref sig .tc .vmem S1x1024x2048 .f32) (harg5 : arg5.IsWhole) (arg6 : Memref sig .tc .vmem S1024x1 .f32) (harg6 : arg6.IsWhole) (arg7 : Memref sig .tc .vmem S1024x2048 .f32) (harg7 : arg7.IsWhole)
    (T0 : S41.Idx → Elt F .i32) (T1 : S1.Idx → Elt F .i32)
    (x0 : S1024x1024.Idx → Elt F .bf16) (x1 : S1x1024x2048.Idx → Elt F .f32) (x2 : S1024x1.Idx → Elt F .f32) (x3 : S1024x2048.Idx → Elt F .f32) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬ k0_cond2 i = 1#1) (k0_h3 : k0_cond3 i = 1#1) (k0_h4 : k0_cond4 i = 1#1) :
    { out0 : List (View.Piece (Elt F) S1024x2048 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
          ∗ (arg7.view.loc (c : Thread nD τ) ↦[arg7.view.set]{fullShare} arg7.view.rep x3)
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM0_0.view.loc (c : Thread nD τ) ↦{fullShare.right} T0)
          ∗ (tbM0_1.view.loc (c : Thread nD τ) ↦{fullShare.right} T1)
              ∗ (∃ f, arg7.view.loc (c : Thread nD τ) ↦[arg7.view.set]{fullShare} arg7.view.writes (Elt F) f out0)) -∗ K ⟨⟩))
          ⊢ wp frame (wpE (defs₀ (F := F)) Variants.none c none) Set.univ (cc0_moe_down i tbM0_0 (Memref.isWhole_whole _) tbM0_1 (Memref.isWhole_whole _) arg4 harg4 arg5 harg5 arg6 harg6 arg7 harg7) K } :=
  ⟨_, fun K => by
    try unfold owns
    rw [cc0_moe_down_eq_skeleton]; unfold cc0_moe_down_skel
    iintro ⟨H0, H1, H2, HT0, HT1, HO3, Hk⟩
    have hT0 : tbM0_0.IsWhole := Memref.isWhole_whole _
    have hT1 : tbM0_1.IsWhole := Memref.isWhole_whole _
    sl_exec! (disch := first | (guard_target = k0_cond1 _ _ = _; exact k0_h1) | (guard_target = ¬ (k0_cond2 _ = _); exact k0_h2) | (guard_target = k0_cond3 _ = _; exact k0_h3) | (guard_target = k0_cond4 _ = _; exact k0_h4))
    sl_step
    iapply Hk
    isplitl [H0]; · iexact H0
    isplitl [H1]; · iexact H1
    isplitl [H2]; · iexact H2
    isplitl [HT0]; · iexact HT0
    isplitl [HT1]; · iexact HT1
    iexists _; iexact HO3⟩

/-- The stores cover the block. -/
theorem cover0_C_3 (c : Dev nD) (i : grid0.Coords) (arg4 : Memref sig .tc .vmem S1024x1024 .bf16) (harg4 : arg4.IsWhole) (arg5 : Memref sig .tc .vmem S1x1024x2048 .f32) (harg5 : arg5.IsWhole) (arg6 : Memref sig .tc .vmem S1024x1 .f32) (harg6 : arg6.IsWhole) (arg7 : Memref sig .tc .vmem S1024x2048 .f32) (harg7 : arg7.IsWhole)
    (T0 : S41.Idx → Elt F .i32) (T1 : S1.Idx → Elt F .i32)
    (x0 : S1024x1024.Idx → Elt F .bf16) (x1 : S1x1024x2048.Idx → Elt F .f32) (x2 : S1024x1.Idx → Elt F .f32) (x3 : S1024x2048.Idx → Elt F .f32) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬ k0_cond2 i = 1#1) (k0_h3 : k0_cond3 i = 1#1) (k0_h4 : k0_cond4 i = 1#1) (y : S1024x2048.Idx) :
    ∃ pc ∈ (kernelRun0_C c i arg4 harg4 arg5 harg5 arg6 harg6 arg7 harg7 T0 T1 x0 x1 x2 x3 k0_h1 k0_h2 k0_h3 k0_h4).1, y ∈ pc.1.set :=
  View.cover_of_tiledL (kernelRun0_C c i arg4 harg4 arg5 harg5 arg6 harg6 arg7 harg7 T0 T1 x0 x1 x2 x3 k0_h1 k0_h2 k0_h3 k0_h4).1 S1024x2048.size (by sl_kernel_rfl) y

/-- What the stores leave is the body's value of the blocks read. -/
theorem out0_C_3 (c : Dev nD) (i : grid0.Coords) (arg4 : Memref sig .tc .vmem S1024x1024 .bf16) (harg4 : arg4.IsWhole) (arg5 : Memref sig .tc .vmem S1x1024x2048 .f32) (harg5 : arg5.IsWhole) (arg6 : Memref sig .tc .vmem S1024x1 .f32) (harg6 : arg6.IsWhole) (arg7 : Memref sig .tc .vmem S1024x2048 .f32) (harg7 : arg7.IsWhole)
    (T0 : S41.Idx → Elt F .i32) (T1 : S1.Idx → Elt F .i32)
    (x0 : S1024x1024.Idx → Elt F .bf16) (x1 : S1x1024x2048.Idx → Elt F .f32) (x2 : S1024x1.Idx → Elt F .f32) (x3 : S1024x2048.Idx → Elt F .f32) (k0_h1 : k0_cond1 i (View.readAt (Elt F) (tbM0_1).view (Rect.unit (s := S1) ![0] S1.size inb_S1_S1_0).toLoadRect T1 (Shape.Idx.first (numel1_S1.symm ▸ Nat.one_pos))) = 1#1) (k0_h2 : ¬ k0_cond2 i = 1#1) (k0_h3 : k0_cond3 i = 1#1) (k0_h4 : k0_cond4 i = 1#1) :
    VO0_3.read (Elt F) (VO0_3.writes (Elt F) VO0_3.junk (kernelRun0_C c i arg4 harg4 arg5 harg5 arg6 harg6 arg7 harg7 T0 T1 x0 x1 x2 x3 k0_h1 k0_h2 k0_h3 k0_h4).1) = k0_pay3 (k0_pay2 x0 x1 x3) x2 := by
  frame_out
  simp only [View.read_rep]

set_option maxHeartbeats 8000000 in
/-- A point of a tile not in use: the body touches nothing. -/
theorem kernelRun0_D (c : Dev nD) (i : grid0.Coords) (arg4 : Memref sig .tc .vmem S1024x1024 .bf16) (harg4 : arg4.IsWhole) (arg5 : Memref sig .tc .vmem S1x1024x2048 .f32) (harg5 : arg5.IsWhole) (arg6 : Memref sig .tc .vmem S1024x1 .f32) (harg6 : arg6.IsWhole) (arg7 : Memref sig .tc .vmem S1024x2048 .f32) (harg7 : arg7.IsWhole)
    (T0 : S41.Idx → Elt F .i32) (T1 : S1.Idx → Elt F .i32)
    (k0_h1 : ¬ k0_cond1 i (View.readAt (Elt F) (tbM0_1).view (Rect.unit (s := S1) ![0] S1.size inb_S1_S1_0).toLoadRect T1 (Shape.Idx.first (numel1_S1.symm ▸ Nat.one_pos))) = 1#1) (K : PUnit → sProp 𝕄) :
        iprop((tbM0_0.view.loc (c : Thread nD τ) ↦{fullShare.right} T0)
          ∗ (tbM0_1.view.loc (c : Thread nD τ) ↦{fullShare.right} T1)
          ∗ (iprop((tbM0_0.view.loc (c : Thread nD τ) ↦{fullShare.right} T0)
              ∗ (tbM0_1.view.loc (c : Thread nD τ) ↦{fullShare.right} T1)) -∗ K ⟨⟩))
          ⊢ wp frame (wpE (defs₀ (F := F)) Variants.none c none) Set.univ (cc0_moe_down i tbM0_0 (Memref.isWhole_whole _) tbM0_1 (Memref.isWhole_whole _) arg4 harg4 arg5 harg5 arg6 harg6 arg7 harg7) K := by
    rw [cc0_moe_down_eq_skeleton]; unfold cc0_moe_down_skel
    iintro ⟨HT0, HT1, Hk⟩
    have hT0 : tbM0_0.IsWhole := Memref.isWhole_whole _
    have hT1 : tbM0_1.IsWhole := Memref.isWhole_whole _
    sl_exec! (disch := first | (guard_target = ¬ (k0_cond1 _ _ = _); exact k0_h1))
    sl_step
    iapply Hk
    isplitl [HT0]; · iexact HT0
    iexact HT1

end Cert.ExpertsDownProof

end
-- ==== Proof.ExpertsDownPoints.lean ====
module

public import proofs.«01_k».proof.Proof.ExpertsDownRun

/-! The schedule of the grouped down projection for admissible tables: the block each window holds at a point, and where the
result's block is written back. -/

@[expose] public section

set_option maxRecDepth 16384
set_option Elab.async false

noncomputable section

namespace Cert.ExpertsDownProof

open Cert.ExpertsDownIdeal Cert.ExpertsDownIdeal.Gen
open Idealize.ShloMosaic Idealize.ShloMosaic.TcCoe
open Idealize.ShloMosaic.Pipeline (Dat Cfg Window)

variable (F : FTy → Type) [FloatOps F]
variable {T0 : S41.Idx → BitVec 32} {T1 : S1.Idx → BitVec 32} (h : Tab T0 T1)

theorem bound0 (i : grid0.Coords) : (i 0).val < 41 := (i 0).isLt
theorem bound1 (i : grid0.Coords) : (i 1).val < 7 := (i 1).isLt

include h in
theorem ok : ok0 (F := F) (tabs T0 T1) := by
  have hp : 1 ≤ used T1 := h.pos
  have hl : used T1 ≤ 41 := h.le
  refine ⟨fun i => ?_, fun i => ?_, fun i => ?_, fun i => ?_⟩
  · refine ⟨fun a => ?_, .inr (Affine.block_words_dvd (s := S41984x7168) (p := EltTy.packing .bf16) (by decide) (by decide))⟩
    rw [index0 h]
    have := bound0 i
    have := bound1 i
    fin_cases a
    · show (min (i 0).val (used T1 - 1) + 1) * 1024 ≤ 41984
      omega
    · show ((if (i 0).val < used T1 then (i 1).val else 6) + 1) * 1024 ≤ 7168
      split <;> omega
  · refine ⟨fun a => ?_, .inl rfl⟩
    rw [index1 h]
    have := bound1 i
    have he := h.expert (ix1 (i 0 : Fin 41))
    fin_cases a
    · show ((T0 (ix1 (i 0 : Fin 41))).toNat + 1) * 1 ≤ 8
      omega
    · show ((if (i 0).val < used T1 then (i 1).val else 6) + 1) * 1024 ≤ 7168
      split <;> omega
    · show (0 + 1) * 2048 ≤ 2048
      omega
  · refine ⟨fun a => ?_, .inl rfl⟩
    rw [show cc0_transform_2 inb_S1_S1_0 numel1_S1 (tabs (F := F) T0 T1) i
      = cc0_transform_3 inb_S1_S1_0 numel1_S1 (tabs (F := F) T0 T1) i from rfl, index3 h]
    have := bound0 i
    fin_cases a
    · show (min (i 0).val (used T1 - 1) + 1) * 1024 ≤ 41984
      omega
    · show (0 + 1) * 1 ≤ 1
      omega
  · refine ⟨fun a => ?_, .inl rfl⟩
    rw [index3 h]
    have := bound0 i
    fin_cases a
    · show (min (i 0).val (used T1 - 1) + 1) * 1024 ≤ 41984
      omega
    · show (0 + 1) * 2048 ≤ 2048
      omega

/-- The tables as contents that the region admits, the pipeline at them, and it as @main's one. -/
noncomputable def adm : (pcfg0 (F := F)).Adm := ⟨tabs T0 T1, ok F h⟩
noncomputable abbrev cfgA : Pipeline.Cfg sig Λ₀ := cfg0 (F := F) (adm F h)
noncomputable abbrev pcs : Fin 1 → Pipeline.Cfg sig Λ₀ := Pipeline.pin (pcfgs (F := F)) fun _ => adm F h

/-- A point's coordinates. -/
noncomputable abbrev crd (t : Fin (cfgA F h).N) : (cfgA F h).grid.Coords := (cfgA F h).grid.coords t

theorem coord' : ∀ t : Fin grid0.N, (grid0.coords t 0).val = t.val / 7 ∧ (grid0.coords t 1).val = t.val % 7 := by decide +kernel
theorem coord (t : Fin (cfgA F h).N) : (crd F h t 0).val = t.val / 7 ∧ (crd F h t 1).val = t.val % 7 := coord' t
theorem N_eq : (cfgA F h).N = 287 := N_0
theorem t_lt (t : Fin (cfgA F h).N) : t.val < 287 := Nat.lt_of_lt_of_eq t.isLt (N_eq F h)

/-- The last point not after `n` whose tile is in use. -/
def live (T1 : S1.Idx → BitVec 32) (n : ℕ) : ℕ := min n (7 * used T1 - 1)

theorem res3 (t : Fin (cfgA F h).N) : ((cfgA F h).win (3 : Fin 4)).index t = ![live T1 t.val / 7, 0] := by
  have hp : 1 ≤ used T1 := h.pos
  obtain ⟨c0, c1⟩ := coord F h t
  refine (index3 (F := F) h (crd F h t)).trans ?_
  rw [c0]
  unfold live
  congr 1
  omega

theorem idle3 (t : Fin (cfgA F h).N) : (cfgA F h).idle (3 : Fin 4) ((cfgA F h).grid.coords t) = !decide (t.val / 7 < used T1) := by
  have e : (cfgA F h).idle (3 : Fin 4) ((cfgA F h).grid.coords t)
    = (!(k0_cond1 (crd F h t) ((tabs (F := F) T0 T1).atD 1 ![0]) == 1#1 && k0_cond2 (crd F h t) == 1#1)
      && !(k0_cond1 (crd F h t) ((tabs (F := F) T0 T1).atD 1 ![0]) == 1#1 && k0_cond3 (crd F h t) == 1#1)
      && !(k0_cond1 (crd F h t) ((tabs (F := F) T0 T1).atD 1 ![0]) == 1#1 && k0_cond4 (crd F h t) == 1#1)) := rfl
  have e2 : (tabs (F := F) T0 T1).atD 1 ![0] = T1 o1 := by
    unfold Pipeline.Prefetch.Contents.atD
    rw [dif_pos (by decide)]
    exact congrArg T1 (idx1 _)
  have e3 : k0_cond1 (crd F h t) (T1 o1) = if (crd F h t 0).val < used T1 then 1#1 else 0#1 := cond_iff h (crd F h t) o1
  have e4 : k0_cond2 (crd F h t) = if (crd F h t 1).val = 0 then 1#1 else 0#1 := cond2_iff (crd F h t)
  have e5 : k0_cond3 (crd F h t) = if (crd F h t 1).val = 0 then 0#1 else 1#1 := cond3_iff (crd F h t)
  rw [e, e2, e3, e4, e5]
  rw [(coord F h t).1]
  by_cases hc : t.val / 7 < used T1 <;> by_cases hd : (crd F h t 1).val = 0 <;> simp [hc, hd]

theorem flush3 (t : Fin (cfgA F h).N) : ((cfgA F h).win (3 : Fin 4)).flush t = decide (t.val = 286 ∨ (t.val % 7 = 6 ∧ t.val + 1 < 7 * used T1)) := by
  have hp : 1 ≤ used T1 := h.pos
  have hl : used T1 ≤ 41 := h.le
  have hN := N_eq F h
  have ht := t_lt F h t
  have e : ((cfgA F h).win (3 : Fin 4)).flush t
      = (t.val + 1 = (cfgA F h).N || decide (∃ hh : t.val + 1 < (cfgA F h).N, ((cfgA F h).win (3 : Fin 4)).index ⟨t.val + 1, hh⟩ ≠ ((cfgA F h).win (3 : Fin 4)).index t) : Bool) := rfl
  rw [e, Bool.eq_iff_iff]
  simp only [Bool.or_eq_true, decide_eq_true_eq]
  constructor
  · rintro (h1 | ⟨h1, h2⟩)
    · left; omega
    · by_contra hc
      apply h2
      rw [res3, res3]
      have : live T1 (t.val + 1) / 7 = live T1 t.val / 7 := by unfold live; omega
      simp only [this]
  · rintro (h1 | h1)
    · left; omega
    · by_cases h9 : t.val + 1 = (cfgA F h).N
      · left; exact h9
      · right
        refine ⟨by omega, fun he => ?_⟩
        rw [res3, res3] at he
        have e0 := congrFun he 0
        have e0' : live T1 (t.val + 1) / 7 = live T1 t.val / 7 := e0
        unfold live at e0'
        omega

/-- Off the first point of a live tile the result's buffer holds what the point before left. -/
theorem fresh3 : ∀ n, (n % 7 ≠ 0 ∨ 7 * used T1 ≤ n) → n < 287 → (cfgA F h).fresh (3 : Fin 4) n = false := by
  have hp : 1 ≤ used T1 := h.pos
  have hl : used T1 ≤ 41 := h.le
  have hN := N_eq F h
  intro n
  induction n with
  | zero => intro h1; omega
  | succ n ih =>
    intro h1 h2
    have hn : n < (cfgA F h).N := by omega
    rw [Pipeline.Cfg.fresh_succ (cfgA F h) (3 : Fin 4) n hn, flush3, idle3]
    have hf : ¬ (n = 286 ∨ (n % 7 = 6 ∧ n + 1 < 7 * used T1)) := by omega
    by_cases hc : n / 7 < used T1
    · simp [hf, hc]
    · rw [ih (by omega) (by omega)]; simp [hf]

end Cert.ExpertsDownProof

end
-- ==== Proof.ExpertsDownLaunch.lean ====
module

public import proofs.«01_k».proof.Proof.ExpertsDownPoints
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! The grouped down projection runs for all admissible tables and leaves its arguments as they were. -/

@[expose] public section

set_option maxRecDepth 16384
set_option Elab.async false

noncomputable section

namespace Cert.ExpertsDownProof

open Cert.ExpertsDownIdeal Cert.ExpertsDownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (F : FTy → Type) [FloatOps F]

/-- The type of the machine's resources. -/
local notation "𝕄" => MT nD τ sig Unit (Elt F) ℕ (UR sig nD τ) ℕ

/-- The proof's resource algebra: the rounds library's, for the pipeline's staging cells, embedded whole. -/
abbrev EP : Emb (UR sig nD τ) 𝕄 := emb₁

variable {T0 : S41.Idx → BitVec 32} {T1 : S1.Idx → BitVec 32} (h : Tab T0 T1)
variable (m : (ℓ : Loc nD τ sig) → Buf (Elt F) ℓ) (ρ : Dev nD → PrngReg)

/-- The launch memory holds the two tables. -/
def Held (T0 : S41.Idx → BitVec 32) (T1 : S1.Idx → BitVec 32) : Prop :=
  (∀ c : Dev nD, m ((c : Thread nD τ).loc main_arg0) = T0) ∧ (∀ c : Dev nD, m ((c : Thread nD τ).loc main_arg1) = T1)

/-! ## A point's staging memrefs and blocks -/

abbrev ms0_0 (t : Fin (cfgA F h).N) : Memref sig .tc .vmem S1024x1024 .bf16 := spec0_0.stage ((cfgA F h).slots t (0 : Fin 4))
abbrev hs0_0 (t : Fin (cfgA F h).N) : (ms0_0 F h t).IsWhole := hstage0_0 (((cfgA F h).slots t (0 : Fin 4)).cast nbuf0_0)
abbrev ms0_1 (t : Fin (cfgA F h).N) : Memref sig .tc .vmem S1x1024x2048 .f32 := spec0_1.stage ((cfgA F h).slots t (1 : Fin 4))
abbrev hs0_1 (t : Fin (cfgA F h).N) : (ms0_1 F h t).IsWhole := hstage0_1 (((cfgA F h).slots t (1 : Fin 4)).cast nbuf0_1)
abbrev ms0_2 (t : Fin (cfgA F h).N) : Memref sig .tc .vmem S1024x1 .f32 := spec0_2.stage ((cfgA F h).slots t (2 : Fin 4))
abbrev hs0_2 (t : Fin (cfgA F h).N) : (ms0_2 F h t).IsWhole := hstage0_2 (((cfgA F h).slots t (2 : Fin 4)).cast nbuf0_2)
abbrev ms0_3 (t : Fin (cfgA F h).N) : Memref sig .tc .vmem S1024x2048 .f32 := spec0_3.stage ((cfgA F h).slots t (3 : Fin 4))
abbrev hs0_3 (t : Fin (cfgA F h).N) : (ms0_3 F h t).IsWhole := hstage0_3 (((cfgA F h).slots t (3 : Fin 4)).cast nbuf0_3)

/-- Window `w`'s block at point `t`, read off its array at launch. -/
def iblk (c : Dev nD) (w : Fin (cfgA F h).W) (t : Fin (cfgA F h).N) : (((cfgA F h).win w).xblock (crd F h t)).Idx → Elt F ((cfgA F h).win w).elt :=
  (((cfgA F h).win w).blk t).view.read (Elt F) ((s₀ m ρ).mem (((cfgA F h).win w).arr.view.loc (c : Thread nD τ)))

/-- What the result's buffer holds after the body at point `t`, having held `a` before. -/
def stepAt (c : Dev nD) (t : Fin (cfgA F h).N) (a : S1024x2048.Idx → Elt F .f32) : S1024x2048.Idx → Elt F .f32 :=
  if t.val / 7 < used T1 then
    if t.val % 7 = 0 then k0_pay1 (F := F) (iblk F h m ρ c (0 : Fin 4) t) (iblk F h m ρ c (1 : Fin 4) t)
    else if t.val % 7 = 6 then k0_pay3 (F := F) (k0_pay2 (F := F) (iblk F h m ρ c (0 : Fin 4) t) (iblk F h m ρ c (1 : Fin 4) t) a) (iblk F h m ρ c (2 : Fin 4) t)
    else k0_pay2 (F := F) (iblk F h m ρ c (0 : Fin 4) t) (iblk F h m ρ c (1 : Fin 4) t) a
  else a

/-- What the result's buffer holds after point `n`. -/
def acc (c : Dev nD) : (n : ℕ) → n < (cfgA F h).N → S1024x2048.Idx → Elt F .f32
  | 0, hn => stepAt F h m ρ c ⟨0, hn⟩ (k0_pay1 (F := F) (iblk F h m ρ c (0 : Fin 4) ⟨0, hn⟩) (iblk F h m ρ c (1 : Fin 4) ⟨0, hn⟩))
  | n + 1, hn => stepAt F h m ρ c ⟨n + 1, hn⟩ (acc c n (by omega))

/-- What the result's buffer holds after point `t`. -/
def left (c : Dev nD) (t : Fin (cfgA F h).N) : S1024x2048.Idx → Elt F .f32 := acc F h m ρ c t.val t.isLt

theorem left_step (c : Dev nD) (t : Fin (cfgA F h).N) (h0 : t.val ≠ 0) :
    left F h m ρ c t = stepAt F h m ρ c t (left F h m ρ c ⟨t.val - 1, by omega⟩) := by
  obtain ⟨n, hn⟩ := t
  cases n with
  | zero => exact absurd rfl h0
  | succ n => rfl

theorem left_first (c : Dev nD) (t : Fin (cfgA F h).N) (ht : t.val / 7 < used T1) (h0 : t.val % 7 = 0) :
    left F h m ρ c t = k0_pay1 (F := F) (iblk F h m ρ c (0 : Fin 4) t) (iblk F h m ρ c (1 : Fin 4) t) := by
  by_cases hz : t.val = 0
  · obtain ⟨n, hn⟩ := t
    have hz : n = 0 := hz
    subst hz
    show stepAt F h m ρ c ⟨0, hn⟩ _ = _
    unfold stepAt
    rw [if_pos ht, if_pos h0]
  · rw [left_step F h m ρ c t hz]
    unfold stepAt
    rw [if_pos ht, if_pos h0]

theorem left_mid (c : Dev nD) (t : Fin (cfgA F h).N) (ht : t.val / 7 < used T1) (h0 : ¬ t.val % 7 = 0) (h6 : ¬ t.val % 7 = 6) :
    left F h m ρ c t = k0_pay2 (F := F) (iblk F h m ρ c (0 : Fin 4) t) (iblk F h m ρ c (1 : Fin 4) t) (left F h m ρ c ⟨t.val - 1, by omega⟩) := by
  rw [left_step F h m ρ c t (by omega)]
  unfold stepAt
  rw [if_pos ht, if_neg h0, if_neg h6]

theorem left_last (c : Dev nD) (t : Fin (cfgA F h).N) (ht : t.val / 7 < used T1) (h6 : t.val % 7 = 6) :
    left F h m ρ c t = k0_pay3 (F := F) (k0_pay2 (F := F) (iblk F h m ρ c (0 : Fin 4) t) (iblk F h m ρ c (1 : Fin 4) t) (left F h m ρ c ⟨t.val - 1, by omega⟩)) (iblk F h m ρ c (2 : Fin 4) t) := by
  rw [left_step F h m ρ c t (by omega)]
  unfold stepAt
  rw [if_pos ht, if_neg (by omega), if_pos h6]

theorem left_idle (c : Dev nD) (t : Fin (cfgA F h).N) (ht : ¬ t.val / 7 < used T1) (h0 : t.val ≠ 0) :
    left F h m ρ c t = left F h m ρ c ⟨t.val - 1, by omega⟩ := by
  rw [left_step F h m ρ c t h0]
  unfold stepAt
  rw [if_neg ht]

/-! ## The pipeline's proof data -/

/-- The invariant: the body's halves of the tables. -/
def Phi (T0 : S41.Idx → BitVec 32) (T1 : S1.Idx → BitVec 32) (c : Dev nD) : sProp 𝕄 :=
  iprop((tbM0_0.view.loc (c : Thread nD τ) ↦{fullShare.right} (T0 : S41.Idx → Elt F .i32)) ∗ (tbM0_1.view.loc (c : Thread nD τ) ↦{fullShare.right} (T1 : S1.Idx → Elt F .i32)))

/-- The proof data of the one pipeline on core `c`. -/
def dats (_ : Fin 1) (c : Dev nD) : Dat τ (Elt F) Unit ℕ (UR sig nD τ) ℕ (cfgA F h) c where
  A w := (s₀ m ρ).mem (((cfgA F h).win w).arr.view.loc (c : Thread nD τ))
  after w t := match w with
    | ⟨0, _⟩ => iblk F h m ρ c (0 : Fin 4) t
    | ⟨1, _⟩ => iblk F h m ρ c (1 : Fin 4) t
    | ⟨2, _⟩ => iblk F h m ρ c (2 : Fin 4) t
    | ⟨3, _⟩ => left F h m ρ c t
  Φ t := Phi F T0 T1 c
  q _ := fullShare
  owed _ := 0

theorem after0_0 (c : Dev nD) (t : Fin (cfgA F h).N) : (dats F h m ρ 0 c).after (0 : Fin 4) t = iblk F h m ρ c (0 : Fin 4) t := rfl
theorem after0_1 (c : Dev nD) (t : Fin (cfgA F h).N) : (dats F h m ρ 0 c).after (1 : Fin 4) t = iblk F h m ρ c (1 : Fin 4) t := rfl
theorem after0_2 (c : Dev nD) (t : Fin (cfgA F h).N) : (dats F h m ρ 0 c).after (2 : Fin 4) t = iblk F h m ρ c (2 : Fin 4) t := rfl
theorem after0_3 (c : Dev nD) (t : Fin (cfgA F h).N) : (dats F h m ρ 0 c).after (3 : Fin 4) t = left F h m ρ c t := rfl

theorem before0_0 (c : Dev nD) (t : Fin (cfgA F h).N) (d) : (dats F h m ρ 0 c).before (0 : Fin 4) t d = iblk F h m ρ c (0 : Fin 4) t :=
  ((dats F h m ρ 0 c).before_in_eq_fetched (0 : Fin 4) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA F h).N) (d) : (dats F h m ρ 0 c).before (1 : Fin 4) t d = iblk F h m ρ c (1 : Fin 4) t :=
  ((dats F h m ρ 0 c).before_in_eq_fetched (1 : Fin 4) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA F h).N) (d) : (dats F h m ρ 0 c).before (2 : Fin 4) t d = iblk F h m ρ c (2 : Fin 4) t :=
  ((dats F h m ρ 0 c).before_in_eq_fetched (2 : Fin 4) rfl (fun _ => rfl) (fun _ _ _ => rfl) (fun t => by rw [after0_2]; unfold Dat.blockOf iblk; rfl) t d).trans
    (by unfold Dat.fetched Dat.blockOf iblk; rfl)

/-- Off the first point of a tile in use the result's buffer holds what the point before left. -/
theorem before0_3 (c : Dev nD) (t : Fin (cfgA F h).N) (ht : t.val % 7 ≠ 0 ∨ 7 * used T1 ≤ t.val) (d) :
    (dats F h m ρ 0 c).before (3 : Fin 4) t d = left F h m ρ c ⟨t.val - 1, by omega⟩ := by
  have hp : 1 ≤ used T1 := h.pos
  have h5 := t_lt F h t
  rw [(dats F h m ρ 0 c).before_out_traj (3 : Fin 4) rfl (fun _ _ => rfl) (fun t ht hi hf => by
    rw [after0_3, after0_3]
    rw [idle3] at hi
    exact left_idle F h m ρ c t (by simpa using hi) ht) t.val t rfl d,
    fresh3 F h t.val ht h5, if_neg (by decide), after0_3]

theorem before0_3_idle (c : Dev nD) (t : Fin (cfgA F h).N) (ht : ¬ t.val / 7 < used T1) (d) :
    (dats F h m ρ 0 c).before (3 : Fin 4) t d = left F h m ρ c t := by
  have hp : 1 ≤ used T1 := h.pos
  rw [before0_3 F h m ρ c t (by omega)]
  exact (left_idle F h m ρ c t ht (by omega)).symm

/-! ## The body obligation, at a generic point, by path -/

/-- The body at point `t` on its staging memrefs, as the pipeline calls it. -/
abbrev bodyAt0 (t : Fin (cfgA F h).N) : Prog (TpuEff nD τ sig (Elt F) Λ₀ .tc) PUnit :=
  cc0_moe_down (crd F h t) (Memref.whole main_arg0) (Memref.isWhole_whole _) (Memref.whole main_arg1) (Memref.isWhole_whole _) (ms0_0 F h t) (hs0_0 F h t) (ms0_1 F h t) (hs0_1 F h t) (ms0_2 F h t) (hs0_2 F h t) (ms0_3 F h t) (hs0_3 F h t)

/-- The body's guard at point `t`: the tile is in use. -/
theorem guard (t : Fin (cfgA F h).N) : k0_cond1 (crd F h t) (View.readAt (Elt F) (tbM0_1).view (Rect.unit (s := S1) ![0] S1.size inb_S1_S1_0).toLoadRect (T1 : S1.Idx → Elt F .i32) (Shape.Idx.first (numel1_S1.symm ▸ Nat.one_pos)))
    = if t.val / 7 < used T1 then 1#1 else 0#1 := by
  rw [← (coord F h t).1]
  exact cond_iff h (crd F h t) _

theorem guard2 (t : Fin (cfgA F h).N) : k0_cond2 (crd F h t) = if t.val % 7 = 0 then 1#1 else 0#1 := by
  rw [← (coord F h t).2]; exact cond2_iff (crd F h t)
theorem guard3 (t : Fin (cfgA F h).N) : k0_cond3 (crd F h t) = if t.val % 7 = 0 then 0#1 else 1#1 := by
  rw [← (coord F h t).2]; exact cond3_iff (crd F h t)
theorem guard4 (t : Fin (cfgA F h).N) : k0_cond4 (crd F h t) = if t.val % 7 = 6 then 1#1 else 0#1 := by
  rw [← (coord F h t).2]; exact cond4_iff (crd F h t)

set_option maxHeartbeats 4000000 in
/-- The body obligation at point `t`. -/
theorem sound_body (c : Dev nD) (t : Fin (cfgA F h).N) :
    iprop((dats F h m ρ 0 c).Φ t.castSucc ∗ (dats F h m ρ 0 c).owesAt () t.castSucc
        ∗ (∃ d, owns (c : Thread nD τ) (ms0_0 F h t) fullShare ((dats F h m ρ 0 c).before (0 : Fin 4) t d))
        ∗ (∃ d, owns (c : Thread nD τ) (ms0_1 F h t) fullShare ((dats F h m ρ 0 c).before (1 : Fin 4) t d))
        ∗ (∃ d, owns (c : Thread nD τ) (ms0_2 F h t) fullShare ((dats F h m ρ 0 c).before (2 : Fin 4) t d))
        ∗ (∃ d, owns (c : Thread nD τ) (ms0_3 F h t) fullShare ((dats F h m ρ 0 c).before (3 : Fin 4) t d)))
      ⊢ wp frame (wpE (defs₀ (F := F)) Variants.none c none) Set.univ (bodyAt0 F h t) fun _ =>
          iprop((dats F h m ρ 0 c).Φ t.succ ∗ (dats F h m ρ 0 c).owesAt () t.succ
            ∗ bigSep Finset.univ fun w : Fin (cfgA F h).W =>
                match (cfgA F h).idle w ((cfgA F h).grid.coords t) with
                | true =>
                  match ((cfgA F h).win w).flush t with
                  | false => iprop(∃ d, owns (c : Thread nD τ) (((cfgA F h).win w).stage ((cfgA F h).slots t w)) fullShare ((dats F h m ρ 0 c).before w t d))
                  | true => owns (c : Thread nD τ) (((cfgA F h).win w).stage ((cfgA F h).slots t w)) fullShare ((dats F h m ρ 0 c).after w t)
                | false => owns (c : Thread nD τ) (((cfgA F h).win w).stage ((cfgA F h).slots t w)) fullShare ((dats F h m ρ 0 c).after w t)) := by
  rw [bigSep_W0]
  by_cases hc : t.val / 7 < used T1
  · have i3 : (cfgA F h).idle (3 : Fin 4) ((cfgA F h).grid.coords t) = false := by rw [idle3]; simp [hc]
    have k0_h1 := guard F h t
    rw [if_pos hc] at k0_h1
    by_cases h0 : t.val % 7 = 0
    · have k0_h2 : k0_cond2 (crd F h t) = 1#1 := by rw [guard2, if_pos h0]
      have k0_h3 : ¬ k0_cond3 (crd F h t) = 1#1 := by rw [guard3, if_pos h0]; decide
      have k0_h4 : ¬ k0_cond4 (crd F h t) = 1#1 := by rw [guard4, if_neg (by omega)]; decide
      rewrite [i3]
      simp only [before0_0, before0_1, before0_2, after0_0, after0_1, after0_2, after0_3]
      rewrite [show (dats F h m ρ 0 c).Φ t.succ = Phi F T0 T1 c from rfl, show (dats F h m ρ 0 c).Φ t.castSucc = Phi F T0 T1 c from rfl,
        show (dats F h m ρ 0 c).owesAt () t.succ = (dats F h m ρ 0 c).owesAt () t.castSucc from rfl]
      unfold Phi
      rw [left_first F h m ρ c t hc h0]
      iintro ⟨⟨HT0, HT1⟩, Ho, ⟨%d0, H0⟩, ⟨%d1, H1⟩, ⟨%d2, H2⟩, ⟨%d3, H3⟩⟩
      iapply ((kernelRun0_A c (crd F h t) (ms0_0 F h t) (hs0_0 F h t) (ms0_1 F h t) (hs0_1 F h t) (ms0_2 F h t) (hs0_2 F h t) (ms0_3 F h t) (hs0_3 F h t) T0 T1 (iblk F h m ρ c (0 : Fin 4) t) (iblk F h m ρ c (1 : Fin 4) t) (iblk F h m ρ c (2 : Fin 4) t) k0_h1 k0_h2 k0_h3 k0_h4).2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iexists _; iexact H3
      iintro ⟨H0, H1, H2, HT0, HT1, ⟨%e3, H3⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        exact (View.read_writes_of_cover _ _ _ _ _ (cover0_A_3 c _ _ _ _ _ _ _ _ _ _ _ _ _ _ _ _ _ _)).trans (out0_A_3 c _ _ _ _ _ _ _ _ _ _ _ _ _ _ _ _ _ _)
    by_cases h6 : t.val % 7 = 6
    · have k0_h2 : ¬ k0_cond2 (crd F h t) = 1#1 := by rw [guard2, if_neg h0]; decide
      have k0_h3 : k0_cond3 (crd F h t) = 1#1 := by rw [guard3, if_neg h0]
      have k0_h4 : k0_cond4 (crd F h t) = 1#1 := by rw [guard4, if_pos h6]
      rewrite [i3]
      simp only [before0_0, before0_1, before0_2, before0_3 F h m ρ c t (Or.inl (by omega)), after0_0, after0_1, after0_2, after0_3]
      rewrite [show (dats F h m ρ 0 c).Φ t.succ = Phi F T0 T1 c from rfl, show (dats F h m ρ 0 c).Φ t.castSucc = Phi F T0 T1 c from rfl,
        show (dats F h m ρ 0 c).owesAt () t.succ = (dats F h m ρ 0 c).owesAt () t.castSucc from rfl]
      unfold Phi
      rw [left_last F h m ρ c t hc h6]
      iintro ⟨⟨HT0, HT1⟩, Ho, ⟨%d0, H0⟩, ⟨%d1, H1⟩, ⟨%d2, H2⟩, ⟨%d3, H3⟩⟩
      iapply ((kernelRun0_C c (crd F h t) (ms0_0 F h t) (hs0_0 F h t) (ms0_1 F h t) (hs0_1 F h t) (ms0_2 F h t) (hs0_2 F h t) (ms0_3 F h t) (hs0_3 F h t) T0 T1 (iblk F h m ρ c (0 : Fin 4) t) (iblk F h m ρ c (1 : Fin 4) t) (iblk F h m ρ c (2 : Fin 4) t) (left F h m ρ c ⟨t.val - 1, by omega⟩) k0_h1 k0_h2 k0_h3 k0_h4).2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iapply rep_of_owns; iexact H3
      iintro ⟨H0, H1, H2, HT0, HT1, ⟨%e3, H3⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        exact (View.read_writes_of_cover _ _ _ _ _ (cover0_C_3 c _ _ _ _ _ _ _ _ _ _ _ _ _ _ _ _ _ _ _)).trans (out0_C_3 c _ _ _ _ _ _ _ _ _ _ _ _ _ _ _ _ _ _ _)
    · have k0_h2 : ¬ k0_cond2 (crd F h t) = 1#1 := by rw [guard2, if_neg h0]; decide
      have k0_h3 : k0_cond3 (crd F h t) = 1#1 := by rw [guard3, if_neg h0]
      have k0_h4 : ¬ k0_cond4 (crd F h t) = 1#1 := by rw [guard4, if_neg h6]; decide
      rewrite [i3]
      simp only [before0_0, before0_1, before0_2, before0_3 F h m ρ c t (Or.inl (by omega)), after0_0, after0_1, after0_2, after0_3]
      rewrite [show (dats F h m ρ 0 c).Φ t.succ = Phi F T0 T1 c from rfl, show (dats F h m ρ 0 c).Φ t.castSucc = Phi F T0 T1 c from rfl,
        show (dats F h m ρ 0 c).owesAt () t.succ = (dats F h m ρ 0 c).owesAt () t.castSucc from rfl]
      unfold Phi
      rw [left_mid F h m ρ c t hc h0 h6]
      iintro ⟨⟨HT0, HT1⟩, Ho, ⟨%d0, H0⟩, ⟨%d1, H1⟩, ⟨%d2, H2⟩, ⟨%d3, H3⟩⟩
      iapply ((kernelRun0_B c (crd F h t) (ms0_0 F h t) (hs0_0 F h t) (ms0_1 F h t) (hs0_1 F h t) (ms0_2 F h t) (hs0_2 F h t) (ms0_3 F h t) (hs0_3 F h t) T0 T1 (iblk F h m ρ c (0 : Fin 4) t) (iblk F h m ρ c (1 : Fin 4) t) (iblk F h m ρ c (2 : Fin 4) t) (left F h m ρ c ⟨t.val - 1, by omega⟩) k0_h1 k0_h2 k0_h3 k0_h4).2 _)
      isplitl [H0]; · iapply rep_of_owns; iexact H0
      isplitl [H1]; · iapply rep_of_owns; iexact H1
      isplitl [H2]; · iapply rep_of_owns; iexact H2
      isplitl [HT0]; · iexact HT0
      isplitl [HT1]; · iexact HT1
      isplitl [H3]; · iapply rep_of_owns; iexact H3
      iintro ⟨H0, H1, H2, HT0, HT1, ⟨%e3, H3⟩⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      unfold owns; iexists _; isplitr; swap
      · iexact H3
      · ipureintro
        exact (View.read_writes_of_cover _ _ _ _ _ (cover0_B_3 c _ _ _ _ _ _ _ _ _ _ _ _ _ _ _ _ _ _ _)).trans (out0_B_3 c _ _ _ _ _ _ _ _ _ _ _ _ _ _ _ _ _ _ _)
  · have i3 : (cfgA F h).idle (3 : Fin 4) ((cfgA F h).grid.coords t) = true := by rw [idle3]; simp [hc]
    have k0_h1 := guard F h t
    rw [if_neg hc] at k0_h1
    have k0_h2 : ¬ k0_cond1 (crd F h t) (View.readAt (Elt F) (tbM0_1).view (Rect.unit (s := S1) ![0] S1.size inb_S1_S1_0).toLoadRect (T1 : S1.Idx → Elt F .i32) (Shape.Idx.first (numel1_S1.symm ▸ Nat.one_pos))) = 1#1 := by
      rw [k0_h1]; decide
    rewrite [i3]
    simp only [before0_0, before0_1, before0_2, before0_3_idle F h m ρ c t hc, after0_0, after0_1, after0_2, after0_3]
    rewrite [show (dats F h m ρ 0 c).Φ t.succ = Phi F T0 T1 c from rfl, show (dats F h m ρ 0 c).Φ t.castSucc = Phi F T0 T1 c from rfl,
      show (dats F h m ρ 0 c).owesAt () t.succ = (dats F h m ρ 0 c).owesAt () t.castSucc from rfl]
    unfold Phi
    iintro ⟨⟨HT0, HT1⟩, Ho, ⟨%d0, H0⟩, ⟨%d1, H1⟩, ⟨%d2, H2⟩, ⟨%d3, H3⟩⟩
    iapply (kernelRun0_D c (crd F h t) (ms0_0 F h t) (hs0_0 F h t) (ms0_1 F h t) (hs0_1 F h t) (ms0_2 F h t) (hs0_2 F h t) (ms0_3 F h t) (hs0_3 F h t) T0 T1 k0_h2 _)
    isplitl [HT0]; · iexact HT0
    isplitl [HT1]; · iexact HT1
    iintro ⟨HT0, HT1⟩
    isplitl [HT0 HT1]
    · isplitl [HT0]
      · iexact HT0
      iexact HT1
    isplitl [Ho]; · iexact Ho
    isplitl [H0]; · iexact H0
    isplitl [H1]; · iexact H1
    isplitl [H2]; · iexact H2
    cases hf : ((cfgA F h).win (3 : Fin 4)).flush t
    · iexists d3; iexact H3
    · iexact H3

/-- The library's body obligation, at every point. -/
theorem body_obligation (c : Dev nD) : BodyObligation (dats F h m ρ 0 c) (defs₀ (F := F)) Variants.none () Set.univ := fun t => by
  rw [bigSep_W0]
  exact sound_body F h m ρ c t

/-! ## The launch -/

/-- The rounds library's launch element. -/
def u₀ : UR sig nD τ :=
  initOf (Pipeline.cells (pcs F h) ((launch0 (F := F)).cellOf_inj fun _ => adm F h))
    (Pipeline.launchToks (pcs F h) ((launch0 (F := F)).cellOf_inj fun _ => adm F h))

theorem share_eq (c : Dev nD) (w : Fin (cfgA F h).W) : (dats F h m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm F h).1 ∗ Pipeline.scopedRest spec0 c) ⊢ (dats F h m ρ 0 c).Φ 0 := by
  rw [prefHeld_eq, scopedRest0_eq, show (dats F h m ρ 0 c).Φ 0 = Phi F T0 T1 c from rfl]
  unfold Phi
  iintro ⟨-, ⟨HT0, HT1⟩, -⟩
  isplitl [HT0]
  · iexact HT0
  iexact HT1

theorem phiN_exit (c : Dev nD) : (dats F h m ρ 0 c).Φ (Fin.last (cfgA F h).N) ⊢ iprop(BI.emp ∗ Pipeline.scopedRest spec0 c) := by
  rw [scopedRest0_eq, show (dats F h m ρ 0 c).Φ (Fin.last (cfgA F h).N) = Phi F T0 T1 c from rfl]
  unfold Phi
  iintro ⟨-, -⟩
  isplitr; · iempintro
  iempintro

/-- The physical post: every array at what the library computes, every table at what the pipeline ran at. -/
def QC : PUnit × MemSt nD τ sig (Elt F) → Prop := fun r =>
  ∀ c : Dev nD, (∀ w : Fin (cfgA F h).W, r.2.mem (((cfgA F h).win w).arr.view.loc (c : Thread nD τ)) = (dats F h m ρ 0 c).arrAt w (cfgA F h).N)
    ∧ ∀ j, r.2.mem ((c : Thread nD τ).loc (pre0.ref j)) = (adm F h).1 j

theorem V_pre (hp : Held F m T0 T1) (c : Dev nD) (j : Fin 2) : m ((c : Thread nD τ).loc (pre0.ref j)) = (adm F h).1 j := by
  fin_cases j
  · exact hp.1 c
  · exact hp.2 c

set_option backward.isDefEq.respectTransparency.types false in
set_option maxHeartbeats 4000000 in
/-- From any memory with zero counters that holds the tables, every weakly fair execution of @main terminates, each array ends at
    the computed contents, and every semaphore counter at zero. -/
theorem run_main_quiescent (hp : Held F m T0 T1) : θ_run (defs (F := F)) (onTc (τ := τ) (main (F := F))) (s₀ m ρ) (fun r => QC F h m ρ r ∧ r.2.sem = fun _ => 0) :=
  Pipeline.θ_run_region_noSem_pf_quiescent pcfgs (fun _ => adm F h) (dats F h m ρ) () ((launch0 (F := F)).cellOf_inj fun _ => adm F h) (0 : Fin 1)
    (launch0 (F := F)).win.to₀ (launch0 (F := F)).pre (EP F) defs₀ Variants.none m ρ main
    (hbody := fun c => (body_obligation F h m ρ c).loose) (hne := (launch0 (F := F)).block_pos)
    (harr := (launch0 (F := F)).arr_whole) (hstage := (launch0 (F := F)).stage_whole) (howed := fun _ _ => rfl)
    (u₀ := u₀ F h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs F h) (dats F h m ρ) 0 (launch0 (F := F)).win.arr_inj c (launch0 (F := F)).arr_whole
      (share_eq F h m ρ c) _ _ fun _ => rfl)
    (hpf := V_pre F h m hp)
    (X := fun _ => iprop(emp)) (Y := fun _ => iprop(emp)) (Z := fun _ => iprop(emp))
    (hX := fun c => by rw [unscopedRestP0_eq]; iintro -; isplitr <;> iempintro)
    (hin := phi0_intro F h m ρ)
    (hout := phiN_exit F h m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include h in
/-- The arguments end as they were, and every counter at zero. -/
theorem frame_all (hp : Held F m T0 T1) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hr => ⟨fun c => ⟨((hr.1 c).2 0).trans (hp.1 c).symm, ((hr.1 c).2 1).trans (hp.2 c).symm,
    ((hr.1 c).1 (0 : Fin 4)).trans ((dats F h m ρ 0 c).arrAt_in (0 : Fin 4) rfl _), ((hr.1 c).1 (1 : Fin 4)).trans ((dats F h m ρ 0 c).arrAt_in (1 : Fin 4) rfl _),
    ((hr.1 c).1 (2 : Fin 4)).trans ((dats F h m ρ 0 c).arrAt_in (2 : Fin 4) rfl _)⟩, hr.2⟩) (run_main_quiescent F h m ρ hp)

end Cert.ExpertsDownProof

end
-- ==== Proof.ExpertsDownReference.lean ====
module

public import proofs.«01_k».proof.Proof.ExpertsReference
public import proofs.«01_k».proof.Proof.Gen.ExpertsDownReferenceIdeal.Run
public import proofs.«01_k».proof.Defs
public import Idealize.ShloMosaic.Lib.Pointwise
public import Idealize.ShloMosaic.Lib.IdealHost
public import Idealize.ShloMosaic.Lib.WordCmp

/-! The reference of the grouped down projection, which takes every expert's product and keeps the row's own. -/

@[expose] public section

set_option maxRecDepth 16384

noncomputable section

namespace Cert.ExpertsDownProof

open Idealize.ShloMosaic Idealize.ShloMosaic.TcCoe Idealize.ShloMosaic.WordCmp
open Cert.ExpertsProof (expertOf eq_word)

/-- The result array as a function of the argument arrays: a row's sum over its expert's weight matrix, times the row's weight. -/
def result (T0 : Cert.ExpertsDownReferenceIdeal.S41.Idx → BitVec 32) (x : Vec Ideal Cert.ExpertsDownReferenceIdeal.S41984x7168 .bf16)
    (w : Vec Ideal Cert.ExpertsDownReferenceIdeal.S8x7168x2048 .f32) (g : Vec Ideal Cert.ExpertsDownReferenceIdeal.S41984x1 .f32) : Vec Ideal Cert.ExpertsDownReferenceIdeal.S41984x2048 .f32 := fun i =>
  ((∑ k : Fin 7168, x (ix2 (i 0) k) * w (ix3 (expertOf T0 (i 0)) k (i 1))) * g (ix2 (i 0) (0 : Fin 1)) : EReal)

/-- The side conditions of the precondition and of the mask. -/
theorem preFacts : Cert.Pre_down_tables.Facts where
  bcast_S_S41 := by decide
  bcast_S_S1 := by decide

theorem onFacts : Cert.On_down_rows_used.Facts where
  bcast_S_S1 := by decide
  bcast_S1_S41984x2048_1 := by decide

/-- The reference ends with the weighted sums over each row's own expert. -/
theorem ref (m : (ℓ : Loc Cert.ExpertsDownReferenceIdeal.nD Cert.ExpertsDownReferenceIdeal.τ Cert.ExpertsDownReferenceIdeal.sig) → Buf (Elt Ideal) ℓ)
    (ρ : Dev Cert.ExpertsDownReferenceIdeal.nD → PrngReg)
    (hT : ∀ (c : Dev Cert.ExpertsDownReferenceIdeal.nD) (x : Cert.ExpertsDownReferenceIdeal.S41.Idx), ((m ((c.tc : Thread Cert.ExpertsDownReferenceIdeal.nD Cert.ExpertsDownReferenceIdeal.τ).loc Cert.ExpertsDownReferenceIdeal.main_arg0) : Cert.ExpertsDownReferenceIdeal.S41.Idx → BitVec 32) x).toNat < 8) :
    θ_run Cert.ExpertsDownReferenceIdeal.defs (onTc (τ := Cert.ExpertsDownReferenceIdeal.τ) (Cert.ExpertsDownReferenceIdeal.main (F := Ideal))) ⟨m, fun _ => 0, ρ⟩
      fun r => ∀ c : Dev Cert.ExpertsDownReferenceIdeal.nD,
        r.2.mem ((c.tc : Thread Cert.ExpertsDownReferenceIdeal.nD Cert.ExpertsDownReferenceIdeal.τ).loc Cert.ExpertsDownReferenceIdeal.main_v11)
          = result (m ((c.tc : Thread Cert.ExpertsDownReferenceIdeal.nD Cert.ExpertsDownReferenceIdeal.τ).loc Cert.ExpertsDownReferenceIdeal.main_arg0)) (m ((c.tc : Thread Cert.ExpertsDownReferenceIdeal.nD Cert.ExpertsDownReferenceIdeal.τ).loc Cert.ExpertsDownReferenceIdeal.main_arg2)) (m ((c.tc : Thread Cert.ExpertsDownReferenceIdeal.nD Cert.ExpertsDownReferenceIdeal.τ).loc Cert.ExpertsDownReferenceIdeal.main_arg3)) (m ((c.tc : Thread Cert.ExpertsDownReferenceIdeal.nD Cert.ExpertsDownReferenceIdeal.τ).loc Cert.ExpertsDownReferenceIdeal.main_arg4))
        ∧ r.2.mem ((c.tc : Thread Cert.ExpertsDownReferenceIdeal.nD Cert.ExpertsDownReferenceIdeal.τ).loc Cert.ExpertsDownReferenceIdeal.main_arg0) = m ((c.tc : Thread Cert.ExpertsDownReferenceIdeal.nD Cert.ExpertsDownReferenceIdeal.τ).loc Cert.ExpertsDownReferenceIdeal.main_arg0)
        ∧ r.2.mem ((c.tc : Thread Cert.ExpertsDownReferenceIdeal.nD Cert.ExpertsDownReferenceIdeal.τ).loc Cert.ExpertsDownReferenceIdeal.main_arg1) = m ((c.tc : Thread Cert.ExpertsDownReferenceIdeal.nD Cert.ExpertsDownReferenceIdeal.τ).loc Cert.ExpertsDownReferenceIdeal.main_arg1)
        ∧ r.2.mem ((c.tc : Thread Cert.ExpertsDownReferenceIdeal.nD Cert.ExpertsDownReferenceIdeal.τ).loc Cert.ExpertsDownReferenceIdeal.main_arg2) = m ((c.tc : Thread Cert.ExpertsDownReferenceIdeal.nD Cert.ExpertsDownReferenceIdeal.τ).loc Cert.ExpertsDownReferenceIdeal.main_arg2)
        ∧ r.2.mem ((c.tc : Thread Cert.ExpertsDownReferenceIdeal.nD Cert.ExpertsDownReferenceIdeal.τ).loc Cert.ExpertsDownReferenceIdeal.main_arg3) = m ((c.tc : Thread Cert.ExpertsDownReferenceIdeal.nD Cert.ExpertsDownReferenceIdeal.τ).loc Cert.ExpertsDownReferenceIdeal.main_arg3)
        ∧ r.2.mem ((c.tc : Thread Cert.ExpertsDownReferenceIdeal.nD Cert.ExpertsDownReferenceIdeal.τ).loc Cert.ExpertsDownReferenceIdeal.main_arg4) = m ((c.tc : Thread Cert.ExpertsDownReferenceIdeal.nD Cert.ExpertsDownReferenceIdeal.τ).loc Cert.ExpertsDownReferenceIdeal.main_arg4) := by
  refine (θ_run _ _ _).mono (fun r h c => ⟨(h c).1.trans (funext fun i => ?_), (h c).2⟩) (Cert.ExpertsDownReferenceIdeal.Value.run (F := Ideal) m ρ)
  have hTc := hT c
  clear h hT
  generalize m ((c.tc : Thread Cert.ExpertsDownReferenceIdeal.nD Cert.ExpertsDownReferenceIdeal.τ).loc Cert.ExpertsDownReferenceIdeal.main_arg0) = T0 at hTc ⊢
  generalize m ((c.tc : Thread Cert.ExpertsDownReferenceIdeal.nD Cert.ExpertsDownReferenceIdeal.τ).loc Cert.ExpertsDownReferenceIdeal.main_arg2) = x
  generalize m ((c.tc : Thread Cert.ExpertsDownReferenceIdeal.nD Cert.ExpertsDownReferenceIdeal.τ).loc Cert.ExpertsDownReferenceIdeal.main_arg3) = w
  generalize m ((c.tc : Thread Cert.ExpertsDownReferenceIdeal.nD Cert.ExpertsDownReferenceIdeal.τ).loc Cert.ExpertsDownReferenceIdeal.main_arg4) = g
  rw [← ix2_eta i]
  generalize i 0 = a
  generalize i 1 = b
  pointwise [result]
  have ha : a.val < 41984 := a.isLt
  have hw := hTc (ix1 (⟨a.val / 1024, by omega⟩ : Fin 41))
  refine congrArg (fun z : EReal => z * g (ix2 a (0 : Fin 1))) ?_
  refine (Finset.sum_eq_single (expertOf T0 a) (fun e _ he => ?_) (fun h => absurd (Finset.mem_univ _) h)).trans ?_
  · have z : IntOp.cmpi .eq (T0 (ix1 (⟨a.val / 1024, by omega⟩ : Fin 41)) : BitVec 32) (BitVec.ofNat 32 e.val) = 0#1 := by
      rw [eq_word, decide_eq_false fun h => he (Fin.ext (h.symm.trans (Nat.mod_eq_of_lt hw).symm))]
      rfl
    exact congrArg (fun b : BitVec 1 => Scalar.select b _ (0 : EReal)) z
  · have z : IntOp.cmpi .eq (T0 (ix1 (⟨a.val / 1024, by omega⟩ : Fin 41)) : BitVec 32) (BitVec.ofNat 32 (expertOf T0 a).val) = 1#1 := by
      rw [eq_word, decide_eq_true (show _ = (expertOf T0 a).val from (Nat.mod_eq_of_lt hw).symm)]
      rfl
    exact congrArg (fun b : BitVec 1 => Scalar.select b _ (0 : EReal)) z

/-- The reference runs and leaves its arguments as they were. -/
theorem frame_r : Cert.quiescent_ExpertsDownReferenceIdeal (hExpertsDownReferenceIdeal := Cert.ExpertsDownReferenceIdeal.Gen.facts) (hPre_down_tables := preFacts) := fun m ρ _ =>
  (θ_run Cert.ExpertsDownReferenceIdeal.defs _ _).mono (fun r h => ⟨fun c => (h c).2, sem_eq_zero_of_no_sems (by decide) r.2⟩)
    (Cert.ExpertsDownReferenceIdeal.Value.run (F := Ideal) m ρ)

end Cert.ExpertsDownProof

end
-- ==== Proof.ExpertsDownValue.lean ====
module

public import proofs.«01_k».proof.Proof.ExpertsDownLaunch
public import proofs.«01_k».proof.Proof.ExpertsDownReference
public import Idealize.ShloMosaic.Lib.Pointwise
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! The grouped down projection computes, on the rows of the tiles in use, each row's weighted sum over its tile's expert. -/

@[expose] public section

set_option maxRecDepth 16384
set_option Elab.async false

noncomputable section

namespace Cert.ExpertsDownProof

open Cert.ExpertsDownIdeal Cert.ExpertsDownIdeal.Gen
open Cert.ExpertsProof (expertOf lt_of_words row_of_word)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {T0 : S41.Idx → BitVec 32} {T1 : S1.Idx → BitVec 32} (h : Tab T0 T1)
variable (m : (ℓ : Loc nD τ sig) → Buf (Elt Ideal) ℓ) (ρ : Dev nD → PrngReg)

theorem pay1 (x : Vec Ideal S1024x1024 .bf16) (w : Vec Ideal S1x1024x2048 .f32) (r : Fin 1024) (q : Fin 2048) :
    k0_pay1 (F := Ideal) x w (ix2 r q) = (∑ k : Fin 1024, x (ix2 r k) * w (ix3 (0 : Fin 1) k q) : EReal) := by
  unfold k0_pay1
  pointwise

theorem pay2 (x : Vec Ideal S1024x1024 .bf16) (w : Vec Ideal S1x1024x2048 .f32) (y : Vec Ideal S1024x2048 .f32) (r : Fin 1024) (q : Fin 2048) :
    k0_pay2 (F := Ideal) x w y (ix2 r q) = (y (ix2 r q) + ∑ k : Fin 1024, x (ix2 r k) * w (ix3 (0 : Fin 1) k q) : EReal) := by
  unfold k0_pay2 k0_pay1
  pointwise

theorem pay3 (y : Vec Ideal S1024x2048 .f32) (g : Vec Ideal S1024x1 .f32) (r : Fin 1024) (q : Fin 2048) :
    k0_pay3 (F := Ideal) y g (ix2 r q) = (y (ix2 r q) * g (ix2 r (0 : Fin 1)) : EReal) := by
  unfold k0_pay3
  pointwise

/-- Which block each input window holds at a point of a tile in use. -/
theorem ix0 (t : Fin (cfgA Ideal h).N) (ht : t.val / 7 < used T1) : ((cfgA Ideal h).win (0 : Fin 4)).index t = ![t.val / 7, t.val % 7] := by
  refine (index0 (F := Ideal) h (crd Ideal h t)).trans ?_
  rw [(coord Ideal h t).1, (coord Ideal h t).2, if_pos ht, show min (t.val / 7) (used T1 - 1) = t.val / 7 by omega]

theorem ix1w (t : Fin (cfgA Ideal h).N) (ht : t.val / 7 < used T1) :
    ((cfgA Ideal h).win (1 : Fin 4)).index t = ![(T0 (ix1 (crd Ideal h t 0 : Fin 41))).toNat, t.val % 7, 0] := by
  refine (index1 (F := Ideal) h (crd Ideal h t)).trans ?_
  rw [(coord Ideal h t).1, (coord Ideal h t).2, if_pos ht]

theorem ix2w (t : Fin (cfgA Ideal h).N) (ht : t.val / 7 < used T1) : ((cfgA Ideal h).win (2 : Fin 4)).index t = ![t.val / 7, 0] := by
  refine (index3 (F := Ideal) h (crd Ideal h t)).trans ?_
  rw [(coord Ideal h t).1, show min (t.val / 7) (used T1 - 1) = t.val / 7 by omega]

theorem blk0 (c : Dev nD) (t : Fin (cfgA Ideal h).N) (ht : t.val / 7 < used T1) (r : Fin 1024) (k : Fin 1024) (R : Fin 41984) (K : Fin 7168)
    (hR : R.val = t.val / 7 * 1024 + r.val) (hK : K.val = t.val % 7 * 1024 + k.val) :
    (iblk Ideal h m ρ c (0 : Fin 4) t : S1024x1024.Idx → EReal) (ix2 r k) = m ((c : Thread nD τ).loc main_arg2) (ix2 R K) := by
  refine congrArg (m ((c : Thread nD τ).loc main_arg2)) ?_
  funext a
  apply Fin.ext
  have e := Pipeline.Window.rect_emb_val ((cfgA Ideal h).win (0 : Fin 4)) t (ix2 r k) a rfl
  refine e.trans ?_
  rw [ix0 h t ht]
  fin_cases a
  · exact hR.symm
  · exact hK.symm

theorem blk1 (c : Dev nD) (t : Fin (cfgA Ideal h).N) (ht : t.val / 7 < used T1) (k : Fin 1024) (q : Fin 2048) (E : Fin 8) (K : Fin 7168) (Q : Fin 2048)
    (hE : E.val = (T0 (ix1 (crd Ideal h t 0 : Fin 41))).toNat) (hK : K.val = t.val % 7 * 1024 + k.val) (hQ : Q.val = q.val) :
    (iblk Ideal h m ρ c (1 : Fin 4) t : S1x1024x2048.Idx → EReal) (ix3 (0 : Fin 1) k q) = m ((c : Thread nD τ).loc main_arg3) (ix3 E K Q) := by
  refine congrArg (m ((c : Thread nD τ).loc main_arg3)) ?_
  funext a
  apply Fin.ext
  have e := Pipeline.Window.rect_emb_val ((cfgA Ideal h).win (1 : Fin 4)) t (ix3 (0 : Fin 1) k q) a rfl
  refine e.trans ?_
  rw [ix1w h t ht]
  fin_cases a
  · show (T0 (ix1 (crd Ideal h t 0 : Fin 41))).toNat * 1 + 0 = E.val
    omega
  · exact hK.symm
  · show 0 * 2048 + q.val = Q.val
    omega

theorem blk2 (c : Dev nD) (t : Fin (cfgA Ideal h).N) (ht : t.val / 7 < used T1) (r : Fin 1024) (R : Fin 41984)
    (hR : R.val = t.val / 7 * 1024 + r.val) :
    (iblk Ideal h m ρ c (2 : Fin 4) t : S1024x1.Idx → EReal) (ix2 r (0 : Fin 1)) = m ((c : Thread nD τ).loc main_arg4) (ix2 R (0 : Fin 1)) := by
  refine congrArg (m ((c : Thread nD τ).loc main_arg4)) ?_
  funext a
  apply Fin.ext
  have e := Pipeline.Window.rect_emb_val ((cfgA Ideal h).win (2 : Fin 4)) t (ix2 r (0 : Fin 1)) a rfl
  refine e.trans ?_
  rw [ix2w h t ht]
  fin_cases a
  · exact hR.symm
  · rfl

/-- An entry of the product of two blocks. -/
def dot (x : Vec Ideal S1024x1024 .bf16) (w : Vec Ideal S1x1024x2048 .f32) (r : Fin 1024) (q : Fin 2048) : EReal :=
  (∑ k : Fin 1024, x (ix2 r k) * w (ix3 (0 : Fin 1) k q) : EReal)

/-- The product that point `n` adds to an entry of the sum. -/
def term (c : Dev nD) (r : Fin 1024) (q : Fin 2048) (n : ℕ) : EReal :=
  if hn : n < (cfgA Ideal h).N then dot (iblk Ideal h m ρ c (0 : Fin 4) ⟨n, hn⟩) (iblk Ideal h m ρ c (1 : Fin 4) ⟨n, hn⟩) r q else 0

theorem term_eq (c : Dev nD) (r : Fin 1024) (q : Fin 2048) (t : Fin (cfgA Ideal h).N) :
    term h m ρ c r q t.val = dot (iblk Ideal h m ρ c (0 : Fin 4) t) (iblk Ideal h m ρ c (1 : Fin 4) t) r q := dif_pos t.isLt

/-- Before its last point a tile in use holds the sum so far. -/
theorem part (c : Dev nD) (r : Fin 1024) (q : Fin 2048) (a : ℕ) (ha : a < used T1) : ∀ j, j < 6 → ∀ t : Fin (cfgA Ideal h).N, t.val = 7 * a + j →
    left Ideal h m ρ c t (ix2 r q) = ∑ s ∈ Finset.range (j + 1), term h m ρ c r q (7 * a + s) := by
  intro j
  induction j with
  | zero =>
    intro _ t ht
    rw [left_first Ideal h m ρ c t (by omega) (by omega), Finset.sum_range_one, ← ht, term_eq]
    exact pay1 _ _ r q
  | succ j ih =>
    intro hj t ht
    rw [left_mid Ideal h m ρ c t (by omega) (by omega) (by omega), Finset.sum_range_succ, ← ht, term_eq,
      ← ih (by omega) ⟨t.val - 1, by omega⟩ (show t.val - 1 = 7 * a + j by omega)]
    exact pay2 _ _ _ r q

/-- The last point of a tile in use leaves the whole sum times the row's weight. -/
theorem total (c : Dev nD) (r : Fin 1024) (q : Fin 2048) (t : Fin (cfgA Ideal h).N) (ht : t.val / 7 < used T1) (h6 : t.val % 7 = 6) :
    left Ideal h m ρ c t (ix2 r q) = ((∑ s : Fin 7, term h m ρ c r q (7 * (t.val / 7) + s.val))
      * (iblk Ideal h m ρ c (2 : Fin 4) t : S1024x1.Idx → EReal) (ix2 r (0 : Fin 1)) : EReal) := by
  rw [left_last Ideal h m ρ c t ht h6]
  refine (pay3 _ _ r q).trans (congrArg (fun z : EReal => z * (iblk Ideal h m ρ c (2 : Fin 4) t : S1024x1.Idx → EReal) (ix2 r (0 : Fin 1))) ?_)
  refine (pay2 _ _ _ r q).trans ?_
  rw [part h m ρ c r q (t.val / 7) ht 5 (by decide) ⟨t.val - 1, by omega⟩ (show t.val - 1 = 7 * (t.val / 7) + 5 by omega),
    ← Finset.sum_range (fun s => term h m ρ c r q (7 * (t.val / 7) + s)), Finset.sum_range_succ _ 6]
  refine congrArg (fun z : EReal => (∑ s ∈ Finset.range 6, term h m ρ c r q (7 * (t.val / 7) + s)) + z) ?_
  rw [show 7 * (t.val / 7) + 6 = t.val by omega, term_eq]
  rfl

/-- After the last tile in use the result's buffer is left alone. -/
theorem left_lv (c : Dev nD) : ∀ n (hn : n < (cfgA Ideal h).N) (hl : live T1 n < (cfgA Ideal h).N), left Ideal h m ρ c ⟨n, hn⟩ = left Ideal h m ρ c ⟨live T1 n, hl⟩ := by
  have hp : 1 ≤ used T1 := h.pos
  intro n
  induction n with
  | zero => intro hn hl; exact congrArg (left Ideal h m ρ c) (Fin.ext (show 0 = live T1 0 by unfold live; omega))
  | succ n ih =>
    intro hn hl
    by_cases hc : (n + 1) / 7 < used T1
    · exact congrArg (left Ideal h m ρ c) (Fin.ext (show n + 1 = live T1 (n + 1) by unfold live; omega))
    · rw [left_idle Ideal h m ρ c ⟨n + 1, hn⟩ hc (Nat.succ_ne_zero n)]
      have e : live T1 (n + 1) = live T1 n := by unfold live; omega
      refine (ih (by omega) (by omega)).trans (congrArg (left Ideal h m ρ c) (Fin.ext e.symm))

/-- The values of the result's buffer at a point that writes it back. -/
theorem left_apply (c : Dev nD) (t : Fin (cfgA Ideal h).N) (hf : t.val = 286 ∨ (t.val % 7 = 6 ∧ t.val + 1 < 7 * used T1)) (r : Fin 1024) (q : Fin 2048) (R : Fin 41984) (Q : Fin 2048)
    (hR : R.val = live T1 t.val / 7 * 1024 + r.val) (hQ : Q.val = q.val) :
    left Ideal h m ρ c t (ix2 r q) = result T0 (m ((c : Thread nD τ).loc main_arg2)) (m ((c : Thread nD τ).loc main_arg3))
      (m ((c : Thread nD τ).loc main_arg4)) (ix2 R Q) := by
  have hp : 1 ≤ used T1 := h.pos
  have hu : used T1 ≤ 41 := h.le
  have hN := N_eq Ideal h
  have htl := t_lt Ideal h t
  have hlt : live T1 t.val < (cfgA Ideal h).N := Nat.lt_of_le_of_lt (Nat.min_le_left _ _) t.isLt
  rw [show left Ideal h m ρ c t = left Ideal h m ρ c ⟨live T1 t.val, hlt⟩ from left_lv h m ρ c t.val t.isLt hlt]
  have hl6 : live T1 t.val % 7 = 6 := by unfold live; omega
  have hl7 : live T1 t.val / 7 < used T1 := by unfold live; omega
  generalize live T1 t.val = n at hR hlt hl6 hl7 ⊢
  rw [total h m ρ c r q ⟨n, hlt⟩ hl7 hl6]
  unfold result
  refine congrArg₂ (fun a b : EReal => a * b) ?_ (blk2 h m ρ c ⟨n, hlt⟩ hl7 r R hR)
  refine Eq.trans (Finset.sum_congr rfl fun s _ => term_eq h m ρ c r q ⟨7 * (n / 7) + s.val, by omega⟩) ?_
  unfold dot
  refine Fin.sum_mul_add_congr fun s k hl => ?_
  have hd : (7 * (n / 7) + s.val) / 7 = n / 7 := by omega
  have hm : (7 * (n / 7) + s.val) % 7 = s.val := by omega
  have hE : (expertOf T0 R).val = (T0 (ix1 (crd Ideal h ⟨7 * (n / 7) + s.val, by omega⟩ 0 : Fin 41))).toNat := by
    have e : (crd Ideal h ⟨7 * (n / 7) + s.val, by omega⟩ 0 : Fin 41) = (⟨R.val / 1024, by omega⟩ : Fin 41) :=
      Fin.ext ((coord Ideal h ⟨7 * (n / 7) + s.val, by omega⟩).1.trans (show (7 * (n / 7) + s.val) / 7 = R.val / 1024 by omega))
    rw [e]
    exact Nat.mod_eq_of_lt (h.expert _)
  refine congrArg₂ (fun a b : EReal => a * b)
    (blk0 h m ρ c ⟨7 * (n / 7) + s.val, by omega⟩ (by rw [hd]; exact hl7) r k R ⟨s.val * 1024 + k.val, hl⟩ (by simp only [hd]; exact hR) (by simp only [hm]))
    (blk1 h m ρ c ⟨7 * (n / 7) + s.val, by omega⟩ (by rw [hd]; exact hl7) k q (expertOf T0 R) ⟨s.val * 1024 + k.val, hl⟩ Q hE (by simp only [hm]) hQ)

/-- What a point writes back is the result on the block it writes. -/
theorem written (c : Dev nD) (t : Fin (cfgA Ideal h).N) (hf : t.val = 286 ∨ (t.val % 7 = 6 ∧ t.val + 1 < 7 * used T1)) (y : S1024x2048.Idx) :
    left Ideal h m ρ c t y = result T0 (m ((c : Thread nD τ).loc main_arg2)) (m ((c : Thread nD τ).loc main_arg3))
      (m ((c : Thread nD τ).loc main_arg4)) ((((cfgA Ideal h).win (3 : Fin 4)).rect t).emb y : S41984x2048.Idx) := by
  have e0 := Pipeline.Window.rect_emb_val ((cfgA Ideal h).win (3 : Fin 4)) t y (0 : Fin 2) rfl
  have e1 := Pipeline.Window.rect_emb_val ((cfgA Ideal h).win (3 : Fin 4)) t y (1 : Fin 2) rfl
  rw [res3] at e0 e1
  generalize hz : ((((cfgA Ideal h).win (3 : Fin 4)).rect t).emb y : S41984x2048.Idx) = z at e0 e1 ⊢
  have e := left_apply h m ρ c t hf (y 0 : Fin 1024) (y 1 : Fin 2048) (z 0 : Fin 41984) (z 1 : Fin 2048) e0 (by have e1v : (z 1 : Fin 2048).val = 0 * 2048 + (y 1 : Fin 2048).val := e1; omega)
  rw [ix2_eta (n0 := 1024) (n1 := 2048) y, ix2_eta (n0 := 41984) (n1 := 2048) z] at e
  exact e

set_option maxHeartbeats 1000000 in
/-- On the rows of the tiles in use the result array ends with the weighted sums. -/
theorem final (c : Dev nD) (i : Fin 41984) (j : Fin 2048) (hi : i.val < 1024 * used T1) :
    (dats Ideal h m ρ 0 c).arrAt (3 : Fin 4) (cfgA Ideal h).N (ix2 i j)
      = result T0 (m ((c : Thread nD τ).loc main_arg2)) (m ((c : Thread nD τ).loc main_arg3)) (m ((c : Thread nD τ).loc main_arg4)) (ix2 i j) := by
  have hp : 1 ≤ used T1 := h.pos
  have hl : used T1 ≤ 41 := h.le
  have hN := N_eq Ideal h
  have hj := j.isLt
  have hb : i.val / 1024 < used T1 := by omega
  have key : ∀ n, n < 287 → (n = 286 ∨ (n % 7 = 6 ∧ n + 1 < 7 * used T1)) → live T1 n / 7 = i.val / 1024 →
      (dats Ideal h m ρ 0 c).arrAt (3 : Fin 4) (cfgA Ideal h).N (ix2 i j)
        = result T0 (m ((c : Thread nD τ).loc main_arg2)) (m ((c : Thread nD τ).loc main_arg3)) (m ((c : Thread nD τ).loc main_arg4)) (ix2 i j) := by
    intro n hn hf hv
    have hn' : n < (cfgA Ideal h).N := by omega
    refine (dats Ideal h m ρ 0 c).arrAt_forall_of_flushed (3 : Fin 4)
      (fun i v => v = result T0 (m ((c : Thread nD τ).loc main_arg2)) (m ((c : Thread nD τ).loc main_arg3)) (m ((c : Thread nD τ).loc main_arg4)) i)
      (fun t ht y => written h m ρ c t (by rw [flush3] at ht; exact of_decide_eq_true ht) y) (cfgA Ideal h).N ⟨n, hn'⟩ (ix2 i j) hn' (by rw [flush3]; exact decide_eq_true hf) ?_
    refine (Pipeline.Window.emb_mem_blk_iff ((cfgA Ideal h).win (3 : Fin 4)) ⟨n, hn'⟩ (ix2 i j) rfl).mpr fun a => ?_
    rw [res3]
    show (![live T1 n / 7, 0] : Fin 2 → ℕ) a * (![1024, 2048] : Fin 2 → ℕ) a ≤ _ ∧ _ < (![live T1 n / 7, 0] : Fin 2 → ℕ) a * (![1024, 2048] : Fin 2 → ℕ) a + (![1024, 2048] : Fin 2 → ℕ) a
    rw [hv]
    fin_cases a
    · show i.val / 1024 * 1024 ≤ i.val ∧ i.val < i.val / 1024 * 1024 + 1024
      omega
    · show 0 * 2048 ≤ j.val ∧ j.val < 0 * 2048 + 2048
      omega
  by_cases hlast : i.val / 1024 + 1 = used T1
  · exact key 286 (by omega) (Or.inl rfl) (by unfold live; omega)
  · exact key (i.val / 1024 * 7 + 6) (by omega) (Or.inr (by omega)) (by unfold live; omega)

/-! ## The claims -/

theorem tab_of (T0 : S41.Idx → BitVec 32) (T1 : S1.Idx → BitVec 32)
    (p0 : ∀ x, IntOp.cmpi .sge (T0 x) (BitVec.ofNat 32 0) = 1#1) (p1 : ∀ x, IntOp.cmpi .slt (T0 x) (BitVec.ofNat 32 8) = 1#1)
    (p2 : ∀ x, IntOp.cmpi .sge (T1 x) (BitVec.ofNat 32 1) = 1#1) (p3 : ∀ x, IntOp.cmpi .slt (T1 x) (BitVec.ofNat 32 42) = 1#1) : Tab T0 T1 where
  expert x := (lt_of_words (T0 x) 0 8 (by decide) (by decide) (p0 x) (p1 x)).2
  pos := (lt_of_words (T1 o1) 1 42 (by decide) (by decide) (p2 o1) (p3 o1)).1
  le := Nat.le_of_lt_succ (lt_of_words (T1 o1) 1 42 (by decide) (by decide) (p2 o1) (p3 o1)).2

/-- The launch memory's tables, read at the only device. -/
abbrev M0 {F : FTy → Type} (m : (ℓ : Loc nD τ sig) → Buf (Elt F) ℓ) : S41.Idx → BitVec 32 := m (((0 : Fin 1) : Thread nD τ).loc main_arg0)
abbrev M1 {F : FTy → Type} (m : (ℓ : Loc nD τ sig) → Buf (Elt F) ℓ) : S1.Idx → BitVec 32 := m (((0 : Fin 1) : Thread nD τ).loc main_arg1)

theorem held {F : FTy → Type} [FloatOps F] (m : (ℓ : Loc nD τ sig) → Buf (Elt F) ℓ) : Held F m (M0 m) (M1 m) :=
  ⟨fun c => by rw [show c = (0 : Fin 1) from Subsingleton.elim _ _], fun c => by rw [show c = (0 : Fin 1) from Subsingleton.elim _ _]⟩

theorem tab_i (hpre : Cert.Pre_ExpertsDownIdeal (hPre_down_tables := preFacts) m) : Tab (M0 m) (M1 m) :=
  tab_of _ _ (fun x => congrFun (hpre (0 : Fin 1)).1 x) (fun x => congrFun (hpre (0 : Fin 1)).2.1 x)
    (fun x => congrFun (hpre (0 : Fin 1)).2.2.1 x) (fun x => congrFun (hpre (0 : Fin 1)).2.2.2 x)

/-- The idealized program runs and leaves its arguments as they were. -/
theorem frame_i : Cert.quiescent_ExpertsDownIdeal (hExpertsDownIdeal := Cert.ExpertsDownIdeal.Gen.facts) (hPre_down_tables := preFacts) := fun m ρ hpre =>
  frame_all Ideal (tab_i m hpre) m ρ (held m)

/-- The program and the reference, started from the same arguments, end with the same values on the rows of the tiles in use. -/
theorem algebraic : Cert.algebraic_ExpertsDownIdeal_ExpertsDownReferenceIdeal_on_down_rows_used (hExpertsDownIdeal := Cert.ExpertsDownIdeal.Gen.facts)
    (hExpertsDownReferenceIdeal := Cert.ExpertsDownReferenceIdeal.Gen.facts) (hPre_down_tables := preFacts) (hOn_down_rows_used := onFacts) := fun m ρ m' ρ' hpre hag =>
  ⟨fun c => result (m ((c : Thread nD τ).loc main_arg0)) (m ((c : Thread nD τ).loc main_arg2)) (m ((c : Thread nD τ).loc main_arg3)) (m ((c : Thread nD τ).loc main_arg4)),
    (θ_run (defs (F := Ideal)) _ _).mono (fun r hr c => ⟨fun i hi => by
      have h1 := (hr.1 c).1 (3 : Fin 4)
      have hrow : (i 0 : Fin 41984).val < 1024 * used (M1 m) := by
        have hc : c = (0 : Fin 1) := Subsingleton.elim _ _
        subst hc
        exact row_of_word (M1 m o1) (tab_i m hpre).le (i 0) ((congrArg (fun x => IntOp.cmpi .slt _ (IntOp.muli (M1 m x) 1024#32)) (idx1 _)).symm.trans hi)
      have h2 := final (tab_i m hpre) m ρ c (i 0) (i 1) hrow
      have h3 : M0 m = m ((c : Thread nD τ).loc main_arg0) := ((held m).1 c).symm
      rw [ix2_eta (n0 := 41984) (n1 := 2048) i] at h2
      exact (congrFun h1 i).trans (h2.trans (congrArg (fun T => result T (m ((c : Thread nD τ).loc main_arg2)) (m ((c : Thread nD τ).loc main_arg3)) (m ((c : Thread nD τ).loc main_arg4)) i) h3)),
      ((hr.1 c).2 0).trans ((held m).1 c).symm, ((hr.1 c).2 1).trans ((held m).2 c).symm,
      ((hr.1 c).1 (0 : Fin 4)).trans ((dats Ideal (tab_i m hpre) m ρ 0 c).arrAt_in (0 : Fin 4) rfl _),
      ((hr.1 c).1 (1 : Fin 4)).trans ((dats Ideal (tab_i m hpre) m ρ 0 c).arrAt_in (1 : Fin 4) rfl _),
      ((hr.1 c).1 (2 : Fin 4)).trans ((dats Ideal (tab_i m hpre) m ρ 0 c).arrAt_in (2 : Fin 4) rfl _)⟩)
      (run_main_quiescent Ideal (tab_i m hpre) m ρ (held m)),
    (θ_run Cert.ExpertsDownReferenceIdeal.defs _ _).mono (fun r hr c => by
      obtain ⟨e0, e1, e2, e3, e4⟩ := hag c
      refine ⟨fun i _ => ?_, (hr c).2⟩
      refine (congrFun (hr c).1 i).trans ?_
      rw [e0, e2, e3, e4])
      (ref m' ρ' fun c x => by
        rw [(hag c).1]
        have h3 : m ((c : Thread nD τ).loc main_arg0) = M0 m := (held m).1 c
        exact (congrArg (fun f : S41.Idx → BitVec 32 => (f x).toNat < 8) h3).mpr ((tab_i m hpre).expert x))⟩

end Cert.ExpertsDownProof

end
-- ==== Proof.ExpertsDownBitsFrame.lean ====
module

public import proofs.«01_k».proof.Proof.ExpertsDownBitsLaunch
public import proofs.«01_k».proof.Proof.ExpertsDownReference
public import Idealize.ShloMosaic.Lib.Pointwise
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! The grouped down projection as it is printed before idealization runs and leaves its arguments as they were. -/

@[expose] public section

set_option maxRecDepth 16384
set_option Elab.async false

noncomputable section

namespace Cert.ExpertsDownBits

open Cert.ExpertsDown Cert.ExpertsDown.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

theorem tab_of (T0 : S41.Idx → BitVec 32) (T1 : S1.Idx → BitVec 32)
    (p0 : ∀ x, IntOp.cmpi .sge (T0 x) (BitVec.ofNat 32 0) = 1#1) (p1 : ∀ x, IntOp.cmpi .slt (T0 x) (BitVec.ofNat 32 8) = 1#1)
    (p2 : ∀ x, IntOp.cmpi .sge (T1 x) (BitVec.ofNat 32 1) = 1#1) (p3 : ∀ x, IntOp.cmpi .slt (T1 x) (BitVec.ofNat 32 42) = 1#1) : Tab T0 T1 where
  expert x := (Cert.ExpertsProof.lt_of_words (T0 x) 0 8 (by decide) (by decide) (p0 x) (p1 x)).2
  pos := (Cert.ExpertsProof.lt_of_words (T1 o1) 1 42 (by decide) (by decide) (p2 o1) (p3 o1)).1
  le := Nat.le_of_lt_succ (Cert.ExpertsProof.lt_of_words (T1 o1) 1 42 (by decide) (by decide) (p2 o1) (p3 o1)).2

/-- The launch memory's tables, read at the only device. -/
abbrev M0 {F : FTy → Type} (m : (ℓ : Loc nD τ sig) → Buf (Elt F) ℓ) : S41.Idx → BitVec 32 := m (((0 : Fin 1) : Thread nD τ).loc main_arg0)
abbrev M1 {F : FTy → Type} (m : (ℓ : Loc nD τ sig) → Buf (Elt F) ℓ) : S1.Idx → BitVec 32 := m (((0 : Fin 1) : Thread nD τ).loc main_arg1)

theorem held {F : FTy → Type} [FloatOps F] (m : (ℓ : Loc nD τ sig) → Buf (Elt F) ℓ) : Held F m (M0 m) (M1 m) :=
  ⟨fun c => by rw [show c = (0 : Fin 1) from Subsingleton.elim _ _], fun c => by rw [show c = (0 : Fin 1) from Subsingleton.elim _ _]⟩

theorem tab_p (m : (ℓ : Loc nD τ sig) → Buf (Elt Bits) ℓ) (hpre : Cert.Pre_ExpertsDown (hPre_down_tables := Cert.ExpertsDownProof.preFacts) m) : Tab (M0 m) (M1 m) :=
  tab_of _ _ (fun x => congrFun (hpre (0 : Fin 1)).1 x) (fun x => congrFun (hpre (0 : Fin 1)).2.1 x)
    (fun x => congrFun (hpre (0 : Fin 1)).2.2.1 x) (fun x => congrFun (hpre (0 : Fin 1)).2.2.2 x)

/-- The program runs and leaves its arguments as they were. -/
theorem frame_p : Cert.quiescent_ExpertsDown (hExpertsDown := Cert.ExpertsDown.Gen.facts) (hPre_down_tables := Cert.ExpertsDownProof.preFacts) := fun m ρ hpre =>
  frame_all Bits (tab_p m hpre) m ρ (held m)

end Cert.ExpertsDownBits

end
-- ==== Proof.SampleKvValue.lean ====
module

public import proofs.«01_k».proof.Proof.Gen.SampleKvIdeal.Frame
public import proofs.«01_k».proof.Proof.Gen.SampleKvReferenceIdeal.Run
public import proofs.«01_k».proof.Proof.Gen.SampleKv.Frame
public import proofs.«01_k».proof.Defs
public import Idealize.ShloMosaic.Lib.Pipeline.ValueKit
public import Idealize.ShloMosaic.Lib.Pointwise
public import Idealize.ShloMosaic.Lib.StableHlo.RunClose

/-! The sample batch's keys and values: the product of 32 rows of 2048 with a 2048 × 3072 matrix, its six slices, three of them turned by the
position, and the windows with the new row. The block that a grid point leaves is the block of the whole product, and the lines after
the kernel are the reference's. -/

@[expose] public section

set_option maxRecDepth 16384

noncomputable section

namespace Cert.SampleKvProof

open Cert.SampleKvIdeal Cert.SampleKvIdeal.Gen Idealize.ShloMosaic Idealize.ShloMosaic.TcCoe
open Idealize.ShloMosaic.Pipeline (Dat)

variable (m : (ℓ : Loc nD τ sig) → Buf (Elt Ideal) ℓ)

/-- Which block each window reads or writes at a grid point. -/
theorem idx : ∀ t : Fin grid0.N,
    win0_0.index t = ![0, 0] ∧ win0_1.index t = ![0, (grid0.coords t 1).val]
      ∧ win0_2.index t = ![0, (grid0.coords t 1).val] := by decide +kernel

/-- The matrix product of the rows and the weights. -/
def product (x : Vec Ideal S32x1x2048 .f32) (w : Vec Ideal S2048x3072 .f32) : Vec Ideal S32x3072 .f32 := fun i =>
  (∑ k : Fin 2048, x (ix3 (i 0) 0 k) * w (ix2 k (i 1)) : EReal)

/-- The accumulator starts at zero. -/
theorem pay1 (r : Fin 32) (q : Fin 512) : k0_pay1 (F := Ideal) (ix2 r q) = (0 : EReal) := by
  unfold k0_pay1
  pointwise

/-- A point adds its block's product to the accumulator. -/
theorem pay2 (a : Vec Ideal S32x512 .f32) (x : Vec Ideal S32x2048 .f32) (w : Vec Ideal S2048x512 .f32) (r : Fin 32) (q : Fin 512) :
    k0_pay2 (F := Ideal) a x w (ix2 r q) = (a (ix2 r q) + ∑ k : Fin 2048, x (ix2 r k) * w (ix2 k q) : EReal) := by
  unfold k0_pay2
  pointwise

/-- The rows that the host hands to the kernel. -/
theorem rows (c : Dev nD) : V m c main_v0 = shapeCast S32x2048 (m ((c : Thread nD τ).loc main_arg0)) shapeCasts_S32x1x2048_S32x2048 := by
  unfold V V0 hostOps0
  simp only [List.flatten_cons, List.flatten_nil, List.append_nil]
  after_results
  rfl

set_option maxHeartbeats 4000000 in
theorem blk0 (c : Dev nD) (t : Fin cfg0.N) (r : Fin 32) (k : Fin 2048) :
    iblk m c 0 t (ix2 r k) = m ((c : Thread nD τ).loc main_arg0) (ix3 r 0 k) := by
  have e : iblk m c 0 t (ix2 r k) = V m c main_v0 (ix2 r k) := by
    blk_ext [iblk, idx t]
  rw [e, rows]
  pointwise

theorem blk1 (c : Dev nD) (t : Fin cfg0.N) (k : Fin 2048) (q : Fin 512) (Q : Fin 3072) (hQ : Q.val = (grid0.coords t 1).val * 512 + q.val) :
    iblk m c 1 t (ix2 k q) = m ((c : Thread nD τ).loc main_arg1) (ix2 k Q) := by
  blk_ext [iblk, V_main_arg1, idx t]

/-- The kernel's array after the run. -/
theorem final (c : Dev nD) : (dats m 0 c).arrAt 2 cfg0.N = product (m ((c : Thread nD τ).loc main_arg0))
    (m ((c : Thread nD τ).loc main_arg1)) := by
  refine (dats m 0 c).arrAt_eq_of_covers 2 _ (by decide +kernel) fun t hf y => ?_
  blk_simp
  rw [after0_2]
  unfold outsAt0
  frame_out
  have e : ∀ (r : Fin 32) (q : Fin 512), k0_pay2 k0_pay1 (iblk m c 0 t) (iblk m c 1 t) (ix2 r q)
      = product (m ((c : Thread nD τ).loc main_arg0)) (m ((c : Thread nD τ).loc main_arg1))
        (((View.whole main_v1).slice (win0_2.rect t)).emb (ix2 r q)) := by
    intro r q
    rw [pay2, pay1, zero_add]
    unfold product
    have h0 : (((View.whole main_v1).slice (win0_2.rect t)).emb (ix2 r q)) 0 = r := by
      refine Fin.ext ?_
      blk_simp [idx t]
    have h1 : ((((View.whole main_v1).slice (win0_2.rect t)).emb (ix2 r q)) 1).val = (grid0.coords t 1).val * 512 + q.val := by
      blk_simp [idx t]
    rw [h0]
    simp only [fun k => blk0 m c t r k, fun k => blk1 m c t k q _ h1]
  exact (congrArg _ (ix2_eta y).symm).trans ((e _ _).trans (congrArg
    (fun y => product _ _ (((View.whole main_v1).slice (win0_2.rect t)).emb y)) (ix2_eta y)))

section

variable {F : FTy → Type} [FloatOps F]

/-- Two blocks of columns side by side. -/
def cat16 (a b : FVec F S32x1x4x16 .f32) : FVec F S32x1x4x32 .f32 :=
  concatenate S32x1x4x32 3 [⟨S32x1x4x16, a⟩, ⟨S32x1x4x16, b⟩] concatenates_S32x1x4x16_S32x1x4x16_S32x1x4x32_d3

/-- The turned columns and the others. -/
def cat32 (a : FVec F S32x1x4x32 .f32) (b : FVec F S32x1x4x96 .f32) : FVec F S32x1x4x128 .f32 :=
  concatenate S32x1x4x128 3 [⟨S32x1x4x32, a⟩, ⟨S32x1x4x96, b⟩] concatenates_S32x1x4x32_S32x1x4x96_S32x1x4x128_d3

/-- The window's rows and the new one. -/
def cat512 (a : FVec F S32x512x4x128 .f32) (b : FVec F S32x1x4x128 .f32) : FVec F S32x513x4x128 .f32 :=
  concatenate S32x513x4x128 1 [⟨S32x512x4x128, a⟩, ⟨S32x1x4x128, b⟩] concatenates_S32x512x4x128_S32x1x4x128_S32x513x4x128_d1

set_option maxHeartbeats 4000000 in
/-- The operations after the kernel. -/
abbrev ops : List (HloOp τ sig (Elt F)) :=
  [ StableHlo.reshape main_v1 main_v2 (rfl : (.f32 : EltTy) = .f32) shapeCasts_S32x3072_S32x1x3072,
    StableHlo.reshape main_v2 main_v3 (rfl : (.f32 : EltTy) = .f32) shapeCasts_S32x1x3072_S32x1x6x4x128,
    StableHlo.nullary main_v4 (iotaInDim S1 32 0),
    StableHlo.nullary main_c (constantI S_ 32 8192#32),
    StableHlo.unary main_c main_v5 (broadcastInDim S1 ![] bcast_S_S1 : (⟨S_, .i32⟩ : BufTy).Contents (Elt F) → (⟨S1, .i32⟩ : BufTy).Contents (Elt F)),
    StableHlo.binary main_v5 main_v4 main_v6 (addi : (⟨S1, .i32⟩ : BufTy).Contents (Elt F) → (⟨S1, .i32⟩ : BufTy).Contents (Elt F) → (⟨S1, .i32⟩ : BufTy).Contents (Elt F)),
    StableHlo.unary main_v3 main_v7 ((extractStridedSlice S32x1x1x4x128 ![0, 0, 0, 0, 0] · slices_S32x1x6x4x128_S32x1x1x4x128_0_0_0_0_0) : (⟨S32x1x6x4x128, .f32⟩ : BufTy).Contents (Elt F) → (⟨S32x1x1x4x128, .f32⟩ : BufTy).Contents (Elt F)),
    StableHlo.reshape main_v7 main_v8 (rfl : (.f32 : EltTy) = .f32) shapeCasts_S32x1x1x4x128_S32x1x4x128,
    StableHlo.nullary main_v9 (sitofp .f32 (iotaInDim S16 32 0)),
    StableHlo.unary main_v9 main_v10 (Host.negf : (⟨S16, .f32⟩ : BufTy).Contents (Elt F) → (⟨S16, .f32⟩ : BufTy).Contents (Elt F)),
    StableHlo.nullary main_cst (constant S_ .f32 0x41800000#32),
    StableHlo.unary main_cst main_v11 (broadcastInDim S16 ![] bcast_S_S16 : (⟨S_, .f32⟩ : BufTy).Contents (Elt F) → (⟨S16, .f32⟩ : BufTy).Contents (Elt F)),
    StableHlo.binary main_v10 main_v11 main_v12 (Host.divf : (⟨S16, .f32⟩ : BufTy).Contents (Elt F) → (⟨S16, .f32⟩ : BufTy).Contents (Elt F) → (⟨S16, .f32⟩ : BufTy).Contents (Elt F)),
    StableHlo.nullary main_cst_0 (constant S_ .f32 0x48F42400#32),
    StableHlo.unary main_cst_0 main_v13 (broadcastInDim S16 ![] bcast_S_S16 : (⟨S_, .f32⟩ : BufTy).Contents (Elt F) → (⟨S16, .f32⟩ : BufTy).Contents (Elt F)),
    StableHlo.binary main_v13 main_v12 main_v14 (Host.powf : (⟨S16, .f32⟩ : BufTy).Contents (Elt F) → (⟨S16, .f32⟩ : BufTy).Contents (Elt F) → (⟨S16, .f32⟩ : BufTy).Contents (Elt F)),
    StableHlo.unary main_v6 main_v15 (sitofp .f32 : (⟨S1, .i32⟩ : BufTy).Contents (Elt F) → (⟨S1, .f32⟩ : BufTy).Contents (Elt F)),
    StableHlo.unary main_v15 main_v16 (broadcastInDim S1x1 ![0] bcast_S1_S1x1_0 : (⟨S1, .f32⟩ : BufTy).Contents (Elt F) → (⟨S1x1, .f32⟩ : BufTy).Contents (Elt F)),
    StableHlo.unary main_v14 main_v17 (broadcastInDim S1x16 ![1] bcast_S16_S1x16_1 : (⟨S16, .f32⟩ : BufTy).Contents (Elt F) → (⟨S1x16, .f32⟩ : BufTy).Contents (Elt F)),
    StableHlo.unary main_v16 main_v18 (broadcastInDim S1x16 ![0, 1] bcast_S1x1_S1x16_0_1 : (⟨S1x1, .f32⟩ : BufTy).Contents (Elt F) → (⟨S1x16, .f32⟩ : BufTy).Contents (Elt F)),
    StableHlo.binary main_v18 main_v17 main_v19 (mulf : (⟨S1x16, .f32⟩ : BufTy).Contents (Elt F) → (⟨S1x16, .f32⟩ : BufTy).Contents (Elt F) → (⟨S1x16, .f32⟩ : BufTy).Contents (Elt F)),
    StableHlo.reshape main_v19 main_v20 (rfl : (.f32 : EltTy) = .f32) shapeCasts_S1x16_S1x1x1x16,
    StableHlo.unary main_v20 main_v21 (Host.cos : (⟨S1x1x1x16, .f32⟩ : BufTy).Contents (Elt F) → (⟨S1x1x1x16, .f32⟩ : BufTy).Contents (Elt F)),
    StableHlo.unary main_v20 main_v22 (Host.sin : (⟨S1x1x1x16, .f32⟩ : BufTy).Contents (Elt F) → (⟨S1x1x1x16, .f32⟩ : BufTy).Contents (Elt F)),
    StableHlo.unary main_v8 main_v23 ((extractStridedSlice S32x1x4x32 ![0, 0, 0, 0] · slices_S32x1x4x128_S32x1x4x32_0_0_0_0) : (⟨S32x1x4x128, .f32⟩ : BufTy).Contents (Elt F) → (⟨S32x1x4x32, .f32⟩ : BufTy).Contents (Elt F)),
    StableHlo.unary main_v23 main_v24 ((extractStridedSlice S32x1x4x16 ![0, 0, 0, 0] · slices_S32x1x4x32_S32x1x4x16_0_0_0_0) : (⟨S32x1x4x32, .f32⟩ : BufTy).Contents (Elt F) → (⟨S32x1x4x16, .f32⟩ : BufTy).Contents (Elt F)),
    StableHlo.unary main_v23 main_v25 ((extractStridedSlice S32x1x4x16 ![0, 0, 0, 16] · slices_S32x1x4x32_S32x1x4x16_0_0_0_16) : (⟨S32x1x4x32, .f32⟩ : BufTy).Contents (Elt F) → (⟨S32x1x4x16, .f32⟩ : BufTy).Contents (Elt F)),
    StableHlo.unary main_v21 main_v26 (broadcastInDim S32x1x4x16 ![0, 1, 2, 3] bcast_S1x1x1x16_S32x1x4x16_0_1_2_3 : (⟨S1x1x1x16, .f32⟩ : BufTy).Contents (Elt F) → (⟨S32x1x4x16, .f32⟩ : BufTy).Contents (Elt F)),
    StableHlo.binary main_v24 main_v26 main_v27 (mulf : (⟨S32x1x4x16, .f32⟩ : BufTy).Contents (Elt F) → (⟨S32x1x4x16, .f32⟩ : BufTy).Contents (Elt F) → (⟨S32x1x4x16, .f32⟩ : BufTy).Contents (Elt F)),
    StableHlo.unary main_v22 main_v28 (broadcastInDim S32x1x4x16 ![0, 1, 2, 3] bcast_S1x1x1x16_S32x1x4x16_0_1_2_3 : (⟨S1x1x1x16, .f32⟩ : BufTy).Contents (Elt F) → (⟨S32x1x4x16, .f32⟩ : BufTy).Contents (Elt F)),
    StableHlo.binary main_v25 main_v28 main_v29 (mulf : (⟨S32x1x4x16, .f32⟩ : BufTy).Contents (Elt F) → (⟨S32x1x4x16, .f32⟩ : BufTy).Contents (Elt F) → (⟨S32x1x4x16, .f32⟩ : BufTy).Contents (Elt F)),
    StableHlo.binary main_v27 main_v29 main_v30 (subf : (⟨S32x1x4x16, .f32⟩ : BufTy).Contents (Elt F) → (⟨S32x1x4x16, .f32⟩ : BufTy).Contents (Elt F) → (⟨S32x1x4x16, .f32⟩ : BufTy).Contents (Elt F)),
    StableHlo.unary main_v21 main_v31 (broadcastInDim S32x1x4x16 ![0, 1, 2, 3] bcast_S1x1x1x16_S32x1x4x16_0_1_2_3 : (⟨S1x1x1x16, .f32⟩ : BufTy).Contents (Elt F) → (⟨S32x1x4x16, .f32⟩ : BufTy).Contents (Elt F)),
    StableHlo.binary main_v25 main_v31 main_v32 (mulf : (⟨S32x1x4x16, .f32⟩ : BufTy).Contents (Elt F) → (⟨S32x1x4x16, .f32⟩ : BufTy).Contents (Elt F) → (⟨S32x1x4x16, .f32⟩ : BufTy).Contents (Elt F)),
    StableHlo.unary main_v22 main_v33 (broadcastInDim S32x1x4x16 ![0, 1, 2, 3] bcast_S1x1x1x16_S32x1x4x16_0_1_2_3 : (⟨S1x1x1x16, .f32⟩ : BufTy).Contents (Elt F) → (⟨S32x1x4x16, .f32⟩ : BufTy).Contents (Elt F)),
    StableHlo.binary main_v24 main_v33 main_v34 (mulf : (⟨S32x1x4x16, .f32⟩ : BufTy).Contents (Elt F) → (⟨S32x1x4x16, .f32⟩ : BufTy).Contents (Elt F) → (⟨S32x1x4x16, .f32⟩ : BufTy).Contents (Elt F)),
    StableHlo.binary main_v32 main_v34 main_v35 (addf : (⟨S32x1x4x16, .f32⟩ : BufTy).Contents (Elt F) → (⟨S32x1x4x16, .f32⟩ : BufTy).Contents (Elt F) → (⟨S32x1x4x16, .f32⟩ : BufTy).Contents (Elt F)),
    StableHlo.binary main_v30 main_v35 main_v36 (cat16 (F := F)),
    StableHlo.unary main_v8 main_v37 ((extractStridedSlice S32x1x4x96 ![0, 0, 0, 32] · slices_S32x1x4x128_S32x1x4x96_0_0_0_32) : (⟨S32x1x4x128, .f32⟩ : BufTy).Contents (Elt F) → (⟨S32x1x4x96, .f32⟩ : BufTy).Contents (Elt F)),
    StableHlo.binary main_v36 main_v37 main_v38 (cat32 (F := F)),
    StableHlo.unary main_v3 main_v39 ((extractStridedSlice S32x1x1x4x128 ![0, 0, 2, 0, 0] · slices_S32x1x6x4x128_S32x1x1x4x128_0_0_2_0_0) : (⟨S32x1x6x4x128, .f32⟩ : BufTy).Contents (Elt F) → (⟨S32x1x1x4x128, .f32⟩ : BufTy).Contents (Elt F)),
    StableHlo.reshape main_v39 main_v40 (rfl : (.f32 : EltTy) = .f32) shapeCasts_S32x1x1x4x128_S32x1x4x128,
    StableHlo.nullary main_v41 (sitofp .f32 (iotaInDim S16 32 0)),
    StableHlo.unary main_v41 main_v42 (Host.negf : (⟨S16, .f32⟩ : BufTy).Contents (Elt F) → (⟨S16, .f32⟩ : BufTy).Contents (Elt F)),
    StableHlo.nullary main_cst_1 (constant S_ .f32 0x41800000#32),
    StableHlo.unary main_cst_1 main_v43 (broadcastInDim S16 ![] bcast_S_S16 : (⟨S_, .f32⟩ : BufTy).Contents (Elt F) → (⟨S16, .f32⟩ : BufTy).Contents (Elt F)),
    StableHlo.binary main_v42 main_v43 main_v44 (Host.divf : (⟨S16, .f32⟩ : BufTy).Contents (Elt F) → (⟨S16, .f32⟩ : BufTy).Contents (Elt F) → (⟨S16, .f32⟩ : BufTy).Contents (Elt F)),
    StableHlo.nullary main_cst_2 (constant S_ .f32 0x48F42400#32),
    StableHlo.unary main_cst_2 main_v45 (broadcastInDim S16 ![] bcast_S_S16 : (⟨S_, .f32⟩ : BufTy).Contents (Elt F) → (⟨S16, .f32⟩ : BufTy).Contents (Elt F)),
    StableHlo.binary main_v45 main_v44 main_v46 (Host.powf : (⟨S16, .f32⟩ : BufTy).Contents (Elt F) → (⟨S16, .f32⟩ : BufTy).Contents (Elt F) → (⟨S16, .f32⟩ : BufTy).Contents (Elt F)),
    StableHlo.unary main_v6 main_v47 (sitofp .f32 : (⟨S1, .i32⟩ : BufTy).Contents (Elt F) → (⟨S1, .f32⟩ : BufTy).Contents (Elt F)),
    StableHlo.unary main_v47 main_v48 (broadcastInDim S1x1 ![0] bcast_S1_S1x1_0 : (⟨S1, .f32⟩ : BufTy).Contents (Elt F) → (⟨S1x1, .f32⟩ : BufTy).Contents (Elt F)),
    StableHlo.unary main_v46 main_v49 (broadcastInDim S1x16 ![1] bcast_S16_S1x16_1 : (⟨S16, .f32⟩ : BufTy).Contents (Elt F) → (⟨S1x16, .f32⟩ : BufTy).Contents (Elt F)),
    StableHlo.unary main_v48 main_v50 (broadcastInDim S1x16 ![0, 1] bcast_S1x1_S1x16_0_1 : (⟨S1x1, .f32⟩ : BufTy).Contents (Elt F) → (⟨S1x16, .f32⟩ : BufTy).Contents (Elt F)),
    StableHlo.binary main_v50 main_v49 main_v51 (mulf : (⟨S1x16, .f32⟩ : BufTy).Contents (Elt F) → (⟨S1x16, .f32⟩ : BufTy).Contents (Elt F) → (⟨S1x16, .f32⟩ : BufTy).Contents (Elt F)),
    StableHlo.reshape main_v51 main_v52 (rfl : (.f32 : EltTy) = .f32) shapeCasts_S1x16_S1x1x1x16,
    StableHlo.unary main_v52 main_v53 (Host.cos : (⟨S1x1x1x16, .f32⟩ : BufTy).Contents (Elt F) → (⟨S1x1x1x16, .f32⟩ : BufTy).Contents (Elt F)),
    StableHlo.unary main_v52 main_v54 (Host.sin : (⟨S1x1x1x16, .f32⟩ : BufTy).Contents (Elt F) → (⟨S1x1x1x16, .f32⟩ : BufTy).Contents (Elt F)),
    StableHlo.unary main_v40 main_v55 ((extractStridedSlice S32x1x4x32 ![0, 0, 0, 0] · slices_S32x1x4x128_S32x1x4x32_0_0_0_0) : (⟨S32x1x4x128, .f32⟩ : BufTy).Contents (Elt F) → (⟨S32x1x4x32, .f32⟩ : BufTy).Contents (Elt F)),
    StableHlo.unary main_v55 main_v56 ((extractStridedSlice S32x1x4x16 ![0, 0, 0, 0] · slices_S32x1x4x32_S32x1x4x16_0_0_0_0) : (⟨S32x1x4x32, .f32⟩ : BufTy).Contents (Elt F) → (⟨S32x1x4x16, .f32⟩ : BufTy).Contents (Elt F)),
    StableHlo.unary main_v55 main_v57 ((extractStridedSlice S32x1x4x16 ![0, 0, 0, 16] · slices_S32x1x4x32_S32x1x4x16_0_0_0_16) : (⟨S32x1x4x32, .f32⟩ : BufTy).Contents (Elt F) → (⟨S32x1x4x16, .f32⟩ : BufTy).Contents (Elt F)),
    StableHlo.unary main_v53 main_v58 (broadcastInDim S32x1x4x16 ![0, 1, 2, 3] bcast_S1x1x1x16_S32x1x4x16_0_1_2_3 : (⟨S1x1x1x16, .f32⟩ : BufTy).Contents (Elt F) → (⟨S32x1x4x16, .f32⟩ : BufTy).Contents (Elt F)),
    StableHlo.binary main_v56 main_v58 main_v59 (mulf : (⟨S32x1x4x16, .f32⟩ : BufTy).Contents (Elt F) → (⟨S32x1x4x16, .f32⟩ : BufTy).Contents (Elt F) → (⟨S32x1x4x16, .f32⟩ : BufTy).Contents (Elt F)),
    StableHlo.unary main_v54 main_v60 (broadcastInDim S32x1x4x16 ![0, 1, 2, 3] bcast_S1x1x1x16_S32x1x4x16_0_1_2_3 : (⟨S1x1x1x16, .f32⟩ : BufTy).Contents (Elt F) → (⟨S32x1x4x16, .f32⟩ : BufTy).Contents (Elt F)),
    StableHlo.binary main_v57 main_v60 main_v61 (mulf : (⟨S32x1x4x16, .f32⟩ : BufTy).Contents (Elt F) → (⟨S32x1x4x16, .f32⟩ : BufTy).Contents (Elt F) → (⟨S32x1x4x16, .f32⟩ : BufTy).Contents (Elt F)),
    StableHlo.binary main_v59 main_v61 main_v62 (subf : (⟨S32x1x4x16, .f32⟩ : BufTy).Contents (Elt F) → (⟨S32x1x4x16, .f32⟩ : BufTy).Contents (Elt F) → (⟨S32x1x4x16, .f32⟩ : BufTy).Contents (Elt F)),
    StableHlo.unary main_v53 main_v63 (broadcastInDim S32x1x4x16 ![0, 1, 2, 3] bcast_S1x1x1x16_S32x1x4x16_0_1_2_3 : (⟨S1x1x1x16, .f32⟩ : BufTy).Contents (Elt F) → (⟨S32x1x4x16, .f32⟩ : BufTy).Contents (Elt F)),
    StableHlo.binary main_v57 main_v63 main_v64 (mulf : (⟨S32x1x4x16, .f32⟩ : BufTy).Contents (Elt F) → (⟨S32x1x4x16, .f32⟩ : BufTy).Contents (Elt F) → (⟨S32x1x4x16, .f32⟩ : BufTy).Contents (Elt F)),
    StableHlo.unary main_v54 main_v65 (broadcastInDim S32x1x4x16 ![0, 1, 2, 3] bcast_S1x1x1x16_S32x1x4x16_0_1_2_3 : (⟨S1x1x1x16, .f32⟩ : BufTy).Contents (Elt F) → (⟨S32x1x4x16, .f32⟩ : BufTy).Contents (Elt F)),
    StableHlo.binary main_v56 main_v65 main_v66 (mulf : (⟨S32x1x4x16, .f32⟩ : BufTy).Contents (Elt F) → (⟨S32x1x4x16, .f32⟩ : BufTy).Contents (Elt F) → (⟨S32x1x4x16, .f32⟩ : BufTy).Contents (Elt F)),
    StableHlo.binary main_v64 main_v66 main_v67 (addf : (⟨S32x1x4x16, .f32⟩ : BufTy).Contents (Elt F) → (⟨S32x1x4x16, .f32⟩ : BufTy).Contents (Elt F) → (⟨S32x1x4x16, .f32⟩ : BufTy).Contents (Elt F)),
    StableHlo.binary main_v62 main_v67 main_v68 (cat16 (F := F)),
    StableHlo.unary main_v40 main_v69 ((extractStridedSlice S32x1x4x96 ![0, 0, 0, 32] · slices_S32x1x4x128_S32x1x4x96_0_0_0_32) : (⟨S32x1x4x128, .f32⟩ : BufTy).Contents (Elt F) → (⟨S32x1x4x96, .f32⟩ : BufTy).Contents (Elt F)),
    StableHlo.binary main_v68 main_v69 main_v70 (cat32 (F := F)),
    StableHlo.unary main_v3 main_v71 ((extractStridedSlice S32x1x1x4x128 ![0, 0, 4, 0, 0] · slices_S32x1x6x4x128_S32x1x1x4x128_0_0_4_0_0) : (⟨S32x1x6x4x128, .f32⟩ : BufTy).Contents (Elt F) → (⟨S32x1x1x4x128, .f32⟩ : BufTy).Contents (Elt F)),
    StableHlo.reshape main_v71 main_v72 (rfl : (.f32 : EltTy) = .f32) shapeCasts_S32x1x1x4x128_S32x1x4x128,
    StableHlo.nullary main_v73 (sitofp .f32 (iotaInDim S16 32 0)),
    StableHlo.unary main_v73 main_v74 (Host.negf : (⟨S16, .f32⟩ : BufTy).Contents (Elt F) → (⟨S16, .f32⟩ : BufTy).Contents (Elt F)),
    StableHlo.nullary main_cst_3 (constant S_ .f32 0x41800000#32),
    StableHlo.unary main_cst_3 main_v75 (broadcastInDim S16 ![] bcast_S_S16 : (⟨S_, .f32⟩ : BufTy).Contents (Elt F) → (⟨S16, .f32⟩ : BufTy).Contents (Elt F)),
    StableHlo.binary main_v74 main_v75 main_v76 (Host.divf : (⟨S16, .f32⟩ : BufTy).Contents (Elt F) → (⟨S16, .f32⟩ : BufTy).Contents (Elt F) → (⟨S16, .f32⟩ : BufTy).Contents (Elt F)),
    StableHlo.nullary main_cst_4 (constant S_ .f32 0x48F42400#32),
    StableHlo.unary main_cst_4 main_v77 (broadcastInDim S16 ![] bcast_S_S16 : (⟨S_, .f32⟩ : BufTy).Contents (Elt F) → (⟨S16, .f32⟩ : BufTy).Contents (Elt F)),
    StableHlo.binary main_v77 main_v76 main_v78 (Host.powf : (⟨S16, .f32⟩ : BufTy).Contents (Elt F) → (⟨S16, .f32⟩ : BufTy).Contents (Elt F) → (⟨S16, .f32⟩ : BufTy).Contents (Elt F)),
    StableHlo.unary main_v6 main_v79 (sitofp .f32 : (⟨S1, .i32⟩ : BufTy).Contents (Elt F) → (⟨S1, .f32⟩ : BufTy).Contents (Elt F)),
    StableHlo.unary main_v79 main_v80 (broadcastInDim S1x1 ![0] bcast_S1_S1x1_0 : (⟨S1, .f32⟩ : BufTy).Contents (Elt F) → (⟨S1x1, .f32⟩ : BufTy).Contents (Elt F)),
    StableHlo.unary main_v78 main_v81 (broadcastInDim S1x16 ![1] bcast_S16_S1x16_1 : (⟨S16, .f32⟩ : BufTy).Contents (Elt F) → (⟨S1x16, .f32⟩ : BufTy).Contents (Elt F)),
    StableHlo.unary main_v80 main_v82 (broadcastInDim S1x16 ![0, 1] bcast_S1x1_S1x16_0_1 : (⟨S1x1, .f32⟩ : BufTy).Contents (Elt F) → (⟨S1x16, .f32⟩ : BufTy).Contents (Elt F)),
    StableHlo.binary main_v82 main_v81 main_v83 (mulf : (⟨S1x16, .f32⟩ : BufTy).Contents (Elt F) → (⟨S1x16, .f32⟩ : BufTy).Contents (Elt F) → (⟨S1x16, .f32⟩ : BufTy).Contents (Elt F)),
    StableHlo.reshape main_v83 main_v84 (rfl : (.f32 : EltTy) = .f32) shapeCasts_S1x16_S1x1x1x16,
    StableHlo.unary main_v84 main_v85 (Host.cos : (⟨S1x1x1x16, .f32⟩ : BufTy).Contents (Elt F) → (⟨S1x1x1x16, .f32⟩ : BufTy).Contents (Elt F)),
    StableHlo.unary main_v84 main_v86 (Host.sin : (⟨S1x1x1x16, .f32⟩ : BufTy).Contents (Elt F) → (⟨S1x1x1x16, .f32⟩ : BufTy).Contents (Elt F)),
    StableHlo.unary main_v72 main_v87 ((extractStridedSlice S32x1x4x32 ![0, 0, 0, 0] · slices_S32x1x4x128_S32x1x4x32_0_0_0_0) : (⟨S32x1x4x128, .f32⟩ : BufTy).Contents (Elt F) → (⟨S32x1x4x32, .f32⟩ : BufTy).Contents (Elt F)),
    StableHlo.unary main_v87 main_v88 ((extractStridedSlice S32x1x4x16 ![0, 0, 0, 0] · slices_S32x1x4x32_S32x1x4x16_0_0_0_0) : (⟨S32x1x4x32, .f32⟩ : BufTy).Contents (Elt F) → (⟨S32x1x4x16, .f32⟩ : BufTy).Contents (Elt F)),
    StableHlo.unary main_v87 main_v89 ((extractStridedSlice S32x1x4x16 ![0, 0, 0, 16] · slices_S32x1x4x32_S32x1x4x16_0_0_0_16) : (⟨S32x1x4x32, .f32⟩ : BufTy).Contents (Elt F) → (⟨S32x1x4x16, .f32⟩ : BufTy).Contents (Elt F)),
    StableHlo.unary main_v85 main_v90 (broadcastInDim S32x1x4x16 ![0, 1, 2, 3] bcast_S1x1x1x16_S32x1x4x16_0_1_2_3 : (⟨S1x1x1x16, .f32⟩ : BufTy).Contents (Elt F) → (⟨S32x1x4x16, .f32⟩ : BufTy).Contents (Elt F)),
    StableHlo.binary main_v88 main_v90 main_v91 (mulf : (⟨S32x1x4x16, .f32⟩ : BufTy).Contents (Elt F) → (⟨S32x1x4x16, .f32⟩ : BufTy).Contents (Elt F) → (⟨S32x1x4x16, .f32⟩ : BufTy).Contents (Elt F)),
    StableHlo.unary main_v86 main_v92 (broadcastInDim S32x1x4x16 ![0, 1, 2, 3] bcast_S1x1x1x16_S32x1x4x16_0_1_2_3 : (⟨S1x1x1x16, .f32⟩ : BufTy).Contents (Elt F) → (⟨S32x1x4x16, .f32⟩ : BufTy).Contents (Elt F)),
    StableHlo.binary main_v89 main_v92 main_v93 (mulf : (⟨S32x1x4x16, .f32⟩ : BufTy).Contents (Elt F) → (⟨S32x1x4x16, .f32⟩ : BufTy).Contents (Elt F) → (⟨S32x1x4x16, .f32⟩ : BufTy).Contents (Elt F)),
    StableHlo.binary main_v91 main_v93 main_v94 (subf : (⟨S32x1x4x16, .f32⟩ : BufTy).Contents (Elt F) → (⟨S32x1x4x16, .f32⟩ : BufTy).Contents (Elt F) → (⟨S32x1x4x16, .f32⟩ : BufTy).Contents (Elt F)),
    StableHlo.unary main_v85 main_v95 (broadcastInDim S32x1x4x16 ![0, 1, 2, 3] bcast_S1x1x1x16_S32x1x4x16_0_1_2_3 : (⟨S1x1x1x16, .f32⟩ : BufTy).Contents (Elt F) → (⟨S32x1x4x16, .f32⟩ : BufTy).Contents (Elt F)),
    StableHlo.binary main_v89 main_v95 main_v96 (mulf : (⟨S32x1x4x16, .f32⟩ : BufTy).Contents (Elt F) → (⟨S32x1x4x16, .f32⟩ : BufTy).Contents (Elt F) → (⟨S32x1x4x16, .f32⟩ : BufTy).Contents (Elt F)),
    StableHlo.unary main_v86 main_v97 (broadcastInDim S32x1x4x16 ![0, 1, 2, 3] bcast_S1x1x1x16_S32x1x4x16_0_1_2_3 : (⟨S1x1x1x16, .f32⟩ : BufTy).Contents (Elt F) → (⟨S32x1x4x16, .f32⟩ : BufTy).Contents (Elt F)),
    StableHlo.binary main_v88 main_v97 main_v98 (mulf : (⟨S32x1x4x16, .f32⟩ : BufTy).Contents (Elt F) → (⟨S32x1x4x16, .f32⟩ : BufTy).Contents (Elt F) → (⟨S32x1x4x16, .f32⟩ : BufTy).Contents (Elt F)),
    StableHlo.binary main_v96 main_v98 main_v99 (addf : (⟨S32x1x4x16, .f32⟩ : BufTy).Contents (Elt F) → (⟨S32x1x4x16, .f32⟩ : BufTy).Contents (Elt F) → (⟨S32x1x4x16, .f32⟩ : BufTy).Contents (Elt F)),
    StableHlo.binary main_v94 main_v99 main_v100 (cat16 (F := F)),
    StableHlo.unary main_v72 main_v101 ((extractStridedSlice S32x1x4x96 ![0, 0, 0, 32] · slices_S32x1x4x128_S32x1x4x96_0_0_0_32) : (⟨S32x1x4x128, .f32⟩ : BufTy).Contents (Elt F) → (⟨S32x1x4x96, .f32⟩ : BufTy).Contents (Elt F)),
    StableHlo.binary main_v100 main_v101 main_v102 (cat32 (F := F)),
    StableHlo.unary main_v3 main_v103 ((extractStridedSlice S32x1x1x4x128 ![0, 0, 1, 0, 0] · slices_S32x1x6x4x128_S32x1x1x4x128_0_0_1_0_0) : (⟨S32x1x6x4x128, .f32⟩ : BufTy).Contents (Elt F) → (⟨S32x1x1x4x128, .f32⟩ : BufTy).Contents (Elt F)),
    StableHlo.reshape main_v103 main_v104 (rfl : (.f32 : EltTy) = .f32) shapeCasts_S32x1x1x4x128_S32x1x4x128,
    StableHlo.unary main_v3 main_v105 ((extractStridedSlice S32x1x1x4x128 ![0, 0, 3, 0, 0] · slices_S32x1x6x4x128_S32x1x1x4x128_0_0_3_0_0) : (⟨S32x1x6x4x128, .f32⟩ : BufTy).Contents (Elt F) → (⟨S32x1x1x4x128, .f32⟩ : BufTy).Contents (Elt F)),
    StableHlo.reshape main_v105 main_v106 (rfl : (.f32 : EltTy) = .f32) shapeCasts_S32x1x1x4x128_S32x1x4x128,
    StableHlo.unary main_v3 main_v107 ((extractStridedSlice S32x1x1x4x128 ![0, 0, 5, 0, 0] · slices_S32x1x6x4x128_S32x1x1x4x128_0_0_5_0_0) : (⟨S32x1x6x4x128, .f32⟩ : BufTy).Contents (Elt F) → (⟨S32x1x1x4x128, .f32⟩ : BufTy).Contents (Elt F)),
    StableHlo.reshape main_v107 main_v108 (rfl : (.f32 : EltTy) = .f32) shapeCasts_S32x1x1x4x128_S32x1x4x128,
    StableHlo.binary main_arg2 main_v102 main_v109 (cat512 (F := F)),
    StableHlo.binary main_arg3 main_v108 main_v110 (cat512 (F := F)),
    StableHlo.unary main_v109 main_v111 ((extractStridedSlice S32x512x4x128 ![0, 1, 0, 0] · slices_S32x513x4x128_S32x512x4x128_0_1_0_0) : (⟨S32x513x4x128, .f32⟩ : BufTy).Contents (Elt F) → (⟨S32x512x4x128, .f32⟩ : BufTy).Contents (Elt F)),
    StableHlo.unary main_v110 main_v112 ((extractStridedSlice S32x512x4x128 ![0, 1, 0, 0] · slices_S32x513x4x128_S32x512x4x128_0_1_0_0) : (⟨S32x513x4x128, .f32⟩ : BufTy).Contents (Elt F) → (⟨S32x512x4x128, .f32⟩ : BufTy).Contents (Elt F)) ]

/-- The angles at the position of the new row. -/
def ang : FVec F S1x1x1x16 .f32 :=
  shapeCast S1x1x1x16 (mulf (broadcastInDim S1x16 ![0, 1] bcast_S1x1_S1x16_0_1 (broadcastInDim S1x1 ![0] bcast_S1_S1x1_0 (sitofp .f32 (addi (broadcastInDim S1 ![] bcast_S_S1 (constantI S_ 32 8192#32)) (iotaInDim S1 32 0))))) (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32)))))) shapeCasts_S1x16_S1x1x1x16

/-- The first 32 columns of every head turned by the angles. -/
def turn (x : FVec F S32x1x4x128 .f32) : FVec F S32x1x4x128 .f32 :=
  cat32 (cat16 (subf (mulf (extractStridedSlice S32x1x4x16 ![0, 0, 0, 0] (extractStridedSlice S32x1x4x32 ![0, 0, 0, 0] x slices_S32x1x4x128_S32x1x4x32_0_0_0_0) slices_S32x1x4x32_S32x1x4x16_0_0_0_0) (broadcastInDim S32x1x4x16 ![0, 1, 2, 3] bcast_S1x1x1x16_S32x1x4x16_0_1_2_3 (Host.cos ang))) (mulf (extractStridedSlice S32x1x4x16 ![0, 0, 0, 16] (extractStridedSlice S32x1x4x32 ![0, 0, 0, 0] x slices_S32x1x4x128_S32x1x4x32_0_0_0_0) slices_S32x1x4x32_S32x1x4x16_0_0_0_16) (broadcastInDim S32x1x4x16 ![0, 1, 2, 3] bcast_S1x1x1x16_S32x1x4x16_0_1_2_3 (Host.sin ang)))) (addf (mulf (extractStridedSlice S32x1x4x16 ![0, 0, 0, 16] (extractStridedSlice S32x1x4x32 ![0, 0, 0, 0] x slices_S32x1x4x128_S32x1x4x32_0_0_0_0) slices_S32x1x4x32_S32x1x4x16_0_0_0_16) (broadcastInDim S32x1x4x16 ![0, 1, 2, 3] bcast_S1x1x1x16_S32x1x4x16_0_1_2_3 (Host.cos ang))) (mulf (extractStridedSlice S32x1x4x16 ![0, 0, 0, 0] (extractStridedSlice S32x1x4x32 ![0, 0, 0, 0] x slices_S32x1x4x128_S32x1x4x32_0_0_0_0) slices_S32x1x4x32_S32x1x4x16_0_0_0_0) (broadcastInDim S32x1x4x16 ![0, 1, 2, 3] bcast_S1x1x1x16_S32x1x4x16_0_1_2_3 (Host.sin ang))))) (extractStridedSlice S32x1x4x96 ![0, 0, 0, 32] x slices_S32x1x4x128_S32x1x4x96_0_0_0_32)

/-- Slice 0 of the six. -/
def part0 (d : FVec F S32x1x3072 .f32) : FVec F S32x1x4x128 .f32 :=
  shapeCast S32x1x4x128 (extractStridedSlice S32x1x1x4x128 ![0, 0, 0, 0, 0] (shapeCast S32x1x6x4x128 d shapeCasts_S32x1x3072_S32x1x6x4x128)
    slices_S32x1x6x4x128_S32x1x1x4x128_0_0_0_0_0) shapeCasts_S32x1x1x4x128_S32x1x4x128

/-- Slice 1 of the six. -/
def part1 (d : FVec F S32x1x3072 .f32) : FVec F S32x1x4x128 .f32 :=
  shapeCast S32x1x4x128 (extractStridedSlice S32x1x1x4x128 ![0, 0, 1, 0, 0] (shapeCast S32x1x6x4x128 d shapeCasts_S32x1x3072_S32x1x6x4x128)
    slices_S32x1x6x4x128_S32x1x1x4x128_0_0_1_0_0) shapeCasts_S32x1x1x4x128_S32x1x4x128

/-- Slice 2 of the six. -/
def part2 (d : FVec F S32x1x3072 .f32) : FVec F S32x1x4x128 .f32 :=
  shapeCast S32x1x4x128 (extractStridedSlice S32x1x1x4x128 ![0, 0, 2, 0, 0] (shapeCast S32x1x6x4x128 d shapeCasts_S32x1x3072_S32x1x6x4x128)
    slices_S32x1x6x4x128_S32x1x1x4x128_0_0_2_0_0) shapeCasts_S32x1x1x4x128_S32x1x4x128

/-- Slice 3 of the six. -/
def part3 (d : FVec F S32x1x3072 .f32) : FVec F S32x1x4x128 .f32 :=
  shapeCast S32x1x4x128 (extractStridedSlice S32x1x1x4x128 ![0, 0, 3, 0, 0] (shapeCast S32x1x6x4x128 d shapeCasts_S32x1x3072_S32x1x6x4x128)
    slices_S32x1x6x4x128_S32x1x1x4x128_0_0_3_0_0) shapeCasts_S32x1x1x4x128_S32x1x4x128

/-- Slice 4 of the six. -/
def part4 (d : FVec F S32x1x3072 .f32) : FVec F S32x1x4x128 .f32 :=
  shapeCast S32x1x4x128 (extractStridedSlice S32x1x1x4x128 ![0, 0, 4, 0, 0] (shapeCast S32x1x6x4x128 d shapeCasts_S32x1x3072_S32x1x6x4x128)
    slices_S32x1x6x4x128_S32x1x1x4x128_0_0_4_0_0) shapeCasts_S32x1x1x4x128_S32x1x4x128

/-- Slice 5 of the six. -/
def part5 (d : FVec F S32x1x3072 .f32) : FVec F S32x1x4x128 .f32 :=
  shapeCast S32x1x4x128 (extractStridedSlice S32x1x1x4x128 ![0, 0, 5, 0, 0] (shapeCast S32x1x6x4x128 d shapeCasts_S32x1x3072_S32x1x6x4x128)
    slices_S32x1x6x4x128_S32x1x1x4x128_0_0_5_0_0) shapeCasts_S32x1x1x4x128_S32x1x4x128

/-- The last 512 rows of the window's rows and the new one. -/
def window (old : FVec F S32x512x4x128 .f32) (x : FVec F S32x1x4x128 .f32) : FVec F S32x512x4x128 .f32 :=
  extractStridedSlice S32x512x4x128 ![0, 1, 0, 0] (cat512 old x) slices_S32x513x4x128_S32x512x4x128_0_1_0_0

/-- The kernel's array with its rows shaped as sequences of one step. -/
def seqs (p : FVec F S32x3072 .f32) : FVec F S32x1x3072 .f32 := shapeCast S32x1x3072 p shapeCasts_S32x3072_S32x1x3072

end

set_option maxHeartbeats 4000000 in
/-- They are the printed ones. -/
theorem ops_eq : hostOps1 (F := Ideal) = ops := rfl

set_option maxHeartbeats 40000000 in
theorem out0 (W : Valuation τ sig (Elt Ideal)) : StableHlo.after ops W (Proc.devRef .tc main_v38)
    = turn (part0 (seqs (F := Ideal) (W (Proc.devRef .tc main_v1)))) := by
  after_results_simp <;> rfl

set_option maxHeartbeats 40000000 in
theorem out1 (W : Valuation τ sig (Elt Ideal)) : StableHlo.after ops W (Proc.devRef .tc main_v104)
    = part1 (seqs (F := Ideal) (W (Proc.devRef .tc main_v1))) := by
  after_results_simp <;> rfl

set_option maxHeartbeats 40000000 in
theorem out2 (W : Valuation τ sig (Elt Ideal)) : StableHlo.after ops W (Proc.devRef .tc main_v70)
    = turn (part2 (seqs (F := Ideal) (W (Proc.devRef .tc main_v1)))) := by
  after_results_simp <;> rfl

set_option maxHeartbeats 40000000 in
theorem out3 (W : Valuation τ sig (Elt Ideal)) : StableHlo.after ops W (Proc.devRef .tc main_v106)
    = part3 (seqs (F := Ideal) (W (Proc.devRef .tc main_v1))) := by
  after_results_simp <;> rfl

set_option maxHeartbeats 40000000 in
theorem out4 (W : Valuation τ sig (Elt Ideal)) : StableHlo.after ops W (Proc.devRef .tc main_v111)
    = window (W (Proc.devRef .tc main_arg2)) (turn (F := Ideal) (part4 (seqs (F := Ideal) (W (Proc.devRef .tc main_v1))))) := by
  after_results_simp <;> rfl

set_option maxHeartbeats 40000000 in
theorem out5 (W : Valuation τ sig (Elt Ideal)) : StableHlo.after ops W (Proc.devRef .tc main_v112)
    = window (W (Proc.devRef .tc main_arg3)) (part5 (seqs (F := Ideal) (W (Proc.devRef .tc main_v1)))) := by
  after_results_simp <;> rfl

/-- The product with its rows shaped as sequences of one step is the reference's. -/
theorem product_eq (x : Vec Ideal S32x1x2048 .f32) (w : Vec Ideal S2048x3072 .f32) : seqs (F := Ideal) (product x w) = Host.dotGeneral (F := Ideal) (φ₁ := .f32) (φ₂ := .f32) Cert.SampleKvReferenceIdeal.dot_S32x1x2048_S2048x3072_S32x1x3072_2_0_01_1_n_n none x w := by
  have e : ∀ (r : Fin 32) (u : Fin 1) (q : Fin 3072), seqs (F := Ideal) (product x w) (ix3 r u q) = Host.dotGeneral (F := Ideal) (φ₁ := .f32) (φ₂ := .f32) Cert.SampleKvReferenceIdeal.dot_S32x1x2048_S2048x3072_S32x1x3072_2_0_01_1_n_n none x w (ix3 r u q) := by
    intro r u q
    obtain rfl : u = 0 := Subsingleton.elim _ _
    unfold seqs
    pointwise [product]
  funext i
  exact (congrArg _ (ix3_eta i).symm).trans ((e _ _ _).trans (congrArg _ (ix3_eta i)))

/-- The reference's product. -/
def dot (x : Vec Ideal S32x1x2048 .f32) (w : Vec Ideal S2048x3072 .f32) : Vec Ideal S32x1x3072 .f32 :=
  Host.dotGeneral (F := Ideal) (φ₁ := .f32) (φ₂ := .f32) Cert.SampleKvReferenceIdeal.dot_S32x1x2048_S2048x3072_S32x1x3072_2_0_01_1_n_n none x w

/-- What the region leaves in every buffer. -/
def exit (c : Dev nD) : Valuation τ sig (Elt Ideal) :=
  Pipeline.withArrays (cfgs 0).spec c (V0 m c) (fun w => (dats m 0 c).arrAt w (cfgs 0).N)

theorem exit_product (c : Dev nD) : seqs (F := Ideal) (exit m c (Proc.devRef .tc main_v1))
    = dot (m ((c : Thread nD τ).loc main_arg0)) (m ((c : Thread nD τ).loc main_arg1)) :=
  (congrArg (seqs (F := Ideal)) ((Pipeline.withArrays_arr (cfgs 0).spec launch0.win.arr_inj c _ _ 2).trans (final m c))).trans (product_eq _ _)

theorem exit_arg2 (c : Dev nD) : exit m c (Proc.devRef .tc main_arg2) = m ((c : Thread nD τ).loc main_arg2) :=
  (Pipeline.withArrays_of_ne (cfgs 0).spec c _ _ main_arg2 (by decide)).trans (V_main_arg2 m c)

theorem exit_arg3 (c : Dev nD) : exit m c (Proc.devRef .tc main_arg3) = m ((c : Thread nD τ).loc main_arg3) :=
  (Pipeline.withArrays_of_ne (cfgs 0).spec c _ _ main_arg3 (by decide)).trans (V_main_arg3 m c)

/-- What the lines after the kernel leave, read from what the region leaves. -/
theorem tail_eq (c : Dev nD) (b : Ref sig .tc) : Pipeline.afterTail₀ cfgs (dats m) 0 (V0 m) [hostOps1] c b = StableHlo.after ops (exit m c) (Proc.devRef .tc b) := by
  unfold Pipeline.afterTail₀
  rw [List.flatten_cons, List.flatten_nil, List.append_nil, ops_eq]
  rfl

theorem tail0 (c : Dev nD) : Pipeline.afterTail₀ cfgs (dats m) 0 (V0 m) [hostOps1] c main_v38
    = turn (F := Ideal) (part0 (F := Ideal) (dot (m ((c : Thread nD τ).loc main_arg0)) (m ((c : Thread nD τ).loc main_arg1)))) := by
  rw [tail_eq, out0, exit_product]

theorem tail1 (c : Dev nD) : Pipeline.afterTail₀ cfgs (dats m) 0 (V0 m) [hostOps1] c main_v104
    = part1 (F := Ideal) (dot (m ((c : Thread nD τ).loc main_arg0)) (m ((c : Thread nD τ).loc main_arg1))) := by
  rw [tail_eq, out1, exit_product]

theorem tail2 (c : Dev nD) : Pipeline.afterTail₀ cfgs (dats m) 0 (V0 m) [hostOps1] c main_v70
    = turn (F := Ideal) (part2 (F := Ideal) (dot (m ((c : Thread nD τ).loc main_arg0)) (m ((c : Thread nD τ).loc main_arg1)))) := by
  rw [tail_eq, out2, exit_product]

theorem tail3 (c : Dev nD) : Pipeline.afterTail₀ cfgs (dats m) 0 (V0 m) [hostOps1] c main_v106
    = part3 (F := Ideal) (dot (m ((c : Thread nD τ).loc main_arg0)) (m ((c : Thread nD τ).loc main_arg1))) := by
  rw [tail_eq, out3, exit_product]

theorem tail4 (c : Dev nD) : Pipeline.afterTail₀ cfgs (dats m) 0 (V0 m) [hostOps1] c main_v111
    = window (F := Ideal) (m ((c : Thread nD τ).loc main_arg2)) (turn (F := Ideal) (part4 (F := Ideal) (dot (m ((c : Thread nD τ).loc main_arg0)) (m ((c : Thread nD τ).loc main_arg1))))) := by
  rw [tail_eq, out4, exit_product, exit_arg2]

theorem tail5 (c : Dev nD) : Pipeline.afterTail₀ cfgs (dats m) 0 (V0 m) [hostOps1] c main_v112
    = window (F := Ideal) (m ((c : Thread nD τ).loc main_arg3)) (part5 (F := Ideal) (dot (m ((c : Thread nD τ).loc main_arg0)) (m ((c : Thread nD τ).loc main_arg1)))) := by
  rw [tail_eq, out5, exit_product, exit_arg3]

/-- `SampleKv` runs and leaves its arguments as they were. -/
theorem frame_p : Cert.quiescent_SampleKv (hSampleKv := Cert.SampleKv.Gen.facts) := fun m ρ _ => Cert.SampleKv.Gen.frame m ρ

/-- The idealized program runs and leaves its arguments as they were. -/
theorem frame_i : Cert.quiescent_SampleKvIdeal (hSampleKvIdeal := Cert.SampleKvIdeal.Gen.facts) := fun m ρ _ => Cert.SampleKvIdeal.Gen.frame m ρ

/-- The reference runs and leaves its arguments as they were. -/
theorem frame_r : Cert.quiescent_SampleKvReferenceIdeal (hSampleKvReferenceIdeal := Cert.SampleKvReferenceIdeal.Gen.facts) := fun m ρ _ =>
  (θ_run Cert.SampleKvReferenceIdeal.defs _ _).mono (fun r h => ⟨fun c => (h c).2.2.2.2.2.2, sem_eq_zero_of_no_sems (by decide) r.2⟩)
    (Cert.SampleKvReferenceIdeal.Value.run (F := Ideal) m ρ)

/-- The program and the reference, started from the same arguments, end with the same results. -/
theorem algebraic : Cert.algebraic_SampleKvIdeal_SampleKvReferenceIdeal (hSampleKvIdeal := Cert.SampleKvIdeal.Gen.facts)
    (hSampleKvReferenceIdeal := Cert.SampleKvReferenceIdeal.Gen.facts) := fun m ρ m' ρ' _ hag =>
  ⟨fun c => turn (F := Ideal) (part0 (F := Ideal) (dot (m ((c : Thread nD τ).loc main_arg0)) (m ((c : Thread nD τ).loc main_arg1)))),
    fun c => part1 (F := Ideal) (dot (m ((c : Thread nD τ).loc main_arg0)) (m ((c : Thread nD τ).loc main_arg1))),
    fun c => turn (F := Ideal) (part2 (F := Ideal) (dot (m ((c : Thread nD τ).loc main_arg0)) (m ((c : Thread nD τ).loc main_arg1)))),
    fun c => part3 (F := Ideal) (dot (m ((c : Thread nD τ).loc main_arg0)) (m ((c : Thread nD τ).loc main_arg1))),
    fun c => window (F := Ideal) (m ((c : Thread nD τ).loc main_arg2)) (turn (F := Ideal) (part4 (F := Ideal) (dot (m ((c : Thread nD τ).loc main_arg0)) (m ((c : Thread nD τ).loc main_arg1))))),
    fun c => window (F := Ideal) (m ((c : Thread nD τ).loc main_arg3)) (part5 (F := Ideal) (dot (m ((c : Thread nD τ).loc main_arg0)) (m ((c : Thread nD τ).loc main_arg1)))),
    (θ_run Cert.SampleKvIdeal.defs _ _).mono (fun r h c => ⟨((h.1 c).2 main_v38 (Pipeline.mem_restRefs_of main_v38 (by decide) (by decide))).trans (tail0 m c),
      ((h.1 c).2 main_v104 (Pipeline.mem_restRefs_of main_v104 (by decide) (by decide))).trans (tail1 m c),
      ((h.1 c).2 main_v70 (Pipeline.mem_restRefs_of main_v70 (by decide) (by decide))).trans (tail2 m c),
      ((h.1 c).2 main_v106 (Pipeline.mem_restRefs_of main_v106 (by decide) (by decide))).trans (tail3 m c),
      ((h.1 c).2 main_v111 (Pipeline.mem_restRefs_of main_v111 (by decide) (by decide))).trans (tail4 m c),
      ((h.1 c).2 main_v112 (Pipeline.mem_restRefs_of main_v112 (by decide) (by decide))).trans (tail5 m c), h.2 c⟩)
      (θ_run_and (run_main m ρ) (unchanged m ρ)),
    (θ_run Cert.SampleKvReferenceIdeal.defs _ _).mono (fun r h c => by
      obtain ⟨e0, e1, e2, e3⟩ := hag c
      obtain ⟨r0, r1, r2, r3, r4, r5, hr⟩ := h c
      refine ⟨r0.trans ?_, r1.trans ?_, r2.trans ?_, r3.trans ?_, r4.trans ?_, r5.trans ?_, hr⟩
      · beta_reduce
        rw [← e0, ← e1]
        rfl
      · beta_reduce
        rw [← e0, ← e1]
        rfl
      · beta_reduce
        rw [← e0, ← e1]
        rfl
      · beta_reduce
        rw [← e0, ← e1]
        rfl
      · beta_reduce
        rw [← e0, ← e1, ← e2]
        rfl
      · beta_reduce
        rw [← e0, ← e1, ← e3]
        rfl) (Cert.SampleKvReferenceIdeal.Value.run (F := Ideal) m' ρ')⟩

end Cert.SampleKvProof

end
-- ==== Proof.RopeRef.lean ====
module

public import proofs.«01_k».proof.Proof.Gen.RopeReferenceIdeal.Run
public import Idealize.ShloMosaic.Lib.Pipeline.ValueKit
public import Idealize.ShloMosaic.Lib.Pointwise
public import Idealize.ShloMosaic.Lib.Claim

/-! The rotation of the keys by their positions: what the reference leaves, entry by entry. The rows hold four heads of
128 columns side by side, and row `R` has position `R mod 2048`. -/

@[expose] public section

set_option maxRecDepth 16384

noncomputable section

namespace Cert.RopePlain

open Cert.RopeReferenceIdeal Cert.RopeReferenceIdeal.Gen Idealize.ShloMosaic Idealize.ShloMosaic.TcCoe

variable {F : FTy → Type} [FloatOps F]

/-- The rotation of the reference, over the cosines and sines. -/
def rot (x : FVec F S8x2048x4x128 .f32) (cs sn : FVec F S1x2048x1x16 .f32) : FVec F S8x2048x4x128 .f32 :=
  (concatenate S8x2048x4x128 3 [⟨S8x2048x4x32, (concatenate S8x2048x4x32 3 [⟨S8x2048x4x16, (subf (mulf (extractStridedSlice S8x2048x4x16 ![0, 0, 0, 0] (extractStridedSlice S8x2048x4x32 ![0, 0, 0, 0] x slices_S8x2048x4x128_S8x2048x4x32_0_0_0_0) slices_S8x2048x4x32_S8x2048x4x16_0_0_0_0) (broadcastInDim S8x2048x4x16 ![0, 1, 2, 3] bcast_S1x2048x1x16_S8x2048x4x16_0_1_2_3 cs)) (mulf (extractStridedSlice S8x2048x4x16 ![0, 0, 0, 16] (extractStridedSlice S8x2048x4x32 ![0, 0, 0, 0] x slices_S8x2048x4x128_S8x2048x4x32_0_0_0_0) slices_S8x2048x4x32_S8x2048x4x16_0_0_0_16) (broadcastInDim S8x2048x4x16 ![0, 1, 2, 3] bcast_S1x2048x1x16_S8x2048x4x16_0_1_2_3 sn)))⟩, ⟨S8x2048x4x16, (addf (mulf (extractStridedSlice S8x2048x4x16 ![0, 0, 0, 16] (extractStridedSlice S8x2048x4x32 ![0, 0, 0, 0] x slices_S8x2048x4x128_S8x2048x4x32_0_0_0_0) slices_S8x2048x4x32_S8x2048x4x16_0_0_0_16) (broadcastInDim S8x2048x4x16 ![0, 1, 2, 3] bcast_S1x2048x1x16_S8x2048x4x16_0_1_2_3 cs)) (mulf (extractStridedSlice S8x2048x4x16 ![0, 0, 0, 0] (extractStridedSlice S8x2048x4x32 ![0, 0, 0, 0] x slices_S8x2048x4x128_S8x2048x4x32_0_0_0_0) slices_S8x2048x4x32_S8x2048x4x16_0_0_0_0) (broadcastInDim S8x2048x4x16 ![0, 1, 2, 3] bcast_S1x2048x1x16_S8x2048x4x16_0_1_2_3 sn)))⟩] concatenates_S8x2048x4x16_S8x2048x4x16_S8x2048x4x32_d3)⟩, ⟨S8x2048x4x96, (extractStridedSlice S8x2048x4x96 ![0, 0, 0, 32] x slices_S8x2048x4x128_S8x2048x4x96_0_0_0_32)⟩] concatenates_S8x2048x4x32_S8x2048x4x96_S8x2048x4x128_d3)

/-- The cosines of the angles. -/
def cs : FVec F S1x2048x1x16 .f32 := (Host.cos (shapeCast _ (mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))) shapeCasts_S2048x16_S1x2048x1x16))

/-- The sines of the angles. -/
def sn : FVec F S1x2048x1x16 .f32 := (Host.sin (shapeCast _ (mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))) shapeCasts_S2048x16_S1x2048x1x16))

/-- The printed result is the rotation between two reshapes. -/
theorem res_eq (m : (ℓ : Loc Cert.RopeReferenceIdeal.nD Cert.RopeReferenceIdeal.τ Cert.RopeReferenceIdeal.sig) → Buf (Elt Ideal) ℓ) (c : Dev Cert.RopeReferenceIdeal.nD) :
    Cert.RopeReferenceIdeal.Value.res_main_v33 (F := Ideal) m c
      = shapeCast S16384x512 (rot (F := Ideal) (shapeCast S8x2048x4x128 (m ((c.tc : Thread nD τ).loc Cert.RopeReferenceIdeal.main_arg0)) shapeCasts_S16384x512_S8x2048x4x128) cs sn) shapeCasts_S8x2048x4x128_S16384x512 := rfl

/-- The angle of position `p` at frequency `q`. -/
def angle (p q : ℕ) : EReal :=
  FloatOps.sitofp (F := Ideal) FTy.f32 (BitVec.ofNat 32 p) *
    Ideal.pow (Ideal.ofBits FTy.f32 1223959552#32)
      (Ideal.div (-FloatOps.sitofp (F := Ideal) FTy.f32 (BitVec.ofNat 32 q)) (Ideal.ofBits FTy.f32 1098907648#32))

/-- One entry of the rotated rows: of each head's 128 columns the first 32 are turned in pairs (`j`, `j + 16`) by the
angle of the row's position, the others are kept. -/
def turn (x : Vec Ideal S16384x512 .f32) (R : Fin 16384) (C : Fin 512) : EReal :=
  if h : C.val % 128 < 16 then
    x (ix2 R C) * Ideal.cos (angle (R.val % 2048) (C.val % 128)) - x (ix2 R ⟨C.val + 16, by omega⟩) * Ideal.sin (angle (R.val % 2048) (C.val % 128))
  else if h : C.val % 128 < 32 then
    x (ix2 R C) * Ideal.cos (angle (R.val % 2048) (C.val % 128 - 16)) + x (ix2 R ⟨C.val - 16, by omega⟩) * Ideal.sin (angle (R.val % 2048) (C.val % 128 - 16))
  else x (ix2 R C)

/-- The rotated rows. -/
def result (x : Vec Ideal S16384x512 .f32) : Vec Ideal S16384x512 .f32 := fun i => turn x (i 0) (i 1)

theorem rotE (x : Vec Ideal S8x2048x4x128 .f32) (cs sn : Vec Ideal S1x2048x1x16 .f32) (b : Fin 8) (p : Fin 2048) (g : Fin 4) (d : Fin 128) :
    rot (F := Ideal) x cs sn (ix4 b p g d) = (if h : d.val < 32 then
      if h' : d.val < 16 then
        x (ix4 b p g d) * cs (ix4 0 p 0 ⟨d.val, h'⟩) - x (ix4 b p g ⟨16 + d.val, by omega⟩) * sn (ix4 0 p 0 ⟨d.val, h'⟩)
      else
        x (ix4 b p g ⟨16 + (d.val - 16), by omega⟩) * cs (ix4 0 p 0 ⟨d.val - 16, by omega⟩) +
          x (ix4 b p g ⟨d.val - 16, by omega⟩) * sn (ix4 0 p 0 ⟨d.val - 16, by omega⟩)
    else x (ix4 b p g ⟨32 + (d.val - 32), by omega⟩) : EReal) := by
  unfold rot
  pointwise

theorem csE (p : Fin 2048) (q : Fin 16) : cs (F := Ideal) (ix4 0 p 0 q) = Ideal.cos (angle p.val q.val) := by
  unfold cs
  pointwise [angle]

theorem snE (p : Fin 2048) (q : Fin 16) : sn (F := Ideal) (ix4 0 p 0 q) = Ideal.sin (angle p.val q.val) := by
  unfold sn
  pointwise [angle]

/-- Rows of all heads side by side, out of one row per head. -/
theorem backE (y : Vec Ideal S8x2048x4x128 .f32) (R : Fin 16384) (C : Fin 512) :
    shapeCast S16384x512 y shapeCasts_S8x2048x4x128_S16384x512 (ix2 R C)
      = y (ix4 ⟨R.val / 2048, by omega⟩ ⟨R.val % 2048, by omega⟩ ⟨C.val / 128, by omega⟩ ⟨C.val % 128, by omega⟩) := by
  pointwise

/-- The same read the other way. -/
theorem inE (y : Vec Ideal S16384x512 .f32) (b : Fin 8) (p : Fin 2048) (g : Fin 4) (d : Fin 128) :
    shapeCast S8x2048x4x128 y shapeCasts_S16384x512_S8x2048x4x128 (ix4 b p g d)
      = y (ix2 ⟨b.val * 2048 + p.val, by omega⟩ ⟨g.val * 128 + d.val, by omega⟩) := by
  pointwise

/-- A read at another spelling of the same row and column. -/
theorem at_eq (y : Vec Ideal S16384x512 .f32) (R R' : Fin 16384) (C C' : Fin 512) (h : R.val = R'.val) (h' : C.val = C'.val) :
    y (ix2 R C) = y (ix2 R' C') := by
  obtain rfl := Fin.ext h
  obtain rfl := Fin.ext h'
  rfl

/-- The reference's function is `result`. -/
theorem res (x : Vec Ideal S16384x512 .f32) (R : Fin 16384) (C : Fin 512) :
    shapeCast S16384x512 (rot (F := Ideal) (shapeCast S8x2048x4x128 x shapeCasts_S16384x512_S8x2048x4x128) cs sn) shapeCasts_S8x2048x4x128_S16384x512 (ix2 R C)
      = turn x R C := by
  rw [backE, rotE]
  unfold turn
  simp only [csE, snE]
  by_cases h1 : C.val % 128 < 16
  · have h2 : C.val % 128 < 32 := by omega
    rw [dif_pos h2, dif_pos h1, dif_pos h1]
    congr 2
    all_goals exact (inE x _ _ _ _).trans (at_eq x _ _ _ _ (by dsimp only; omega) (by dsimp only; omega))
  · by_cases h2 : C.val % 128 < 32
    · rw [dif_pos h2, dif_neg h1, dif_neg h1, dif_pos h2]
      congr 2
      all_goals exact (inE x _ _ _ _).trans (at_eq x _ _ _ _ (by dsimp only; omega) (by dsimp only; omega))
    · rw [dif_neg h2, dif_neg h1, dif_neg h2]
      exact (inE x _ _ _ _).trans (at_eq x _ _ _ _ (by dsimp only; omega) (by dsimp only; omega))

/-- The reference ends with `result` of its argument. -/
theorem ref (m : (ℓ : Loc Cert.RopeReferenceIdeal.nD Cert.RopeReferenceIdeal.τ Cert.RopeReferenceIdeal.sig) → Buf (Elt Ideal) ℓ)
    (ρ : Dev Cert.RopeReferenceIdeal.nD → PrngReg) :
    θ_run Cert.RopeReferenceIdeal.defs (onTc (τ := Cert.RopeReferenceIdeal.τ) (Cert.RopeReferenceIdeal.main (F := Ideal))) ⟨m, fun _ => 0, ρ⟩
      fun r => ∀ c : Dev Cert.RopeReferenceIdeal.nD,
        r.2.mem ((c.tc : Thread Cert.RopeReferenceIdeal.nD Cert.RopeReferenceIdeal.τ).loc Cert.RopeReferenceIdeal.main_v33)
          = result (m ((c.tc : Thread Cert.RopeReferenceIdeal.nD Cert.RopeReferenceIdeal.τ).loc Cert.RopeReferenceIdeal.main_arg0))
        ∧ r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0) := by
  refine (θ_run _ _ _).mono (fun r h c => ⟨(h c).1.trans ((res_eq m c).trans (funext fun i => ?_)), (h c).2⟩) (Cert.RopeReferenceIdeal.Value.run (F := Ideal) m ρ)
  exact (congrArg _ (ix2_eta i).symm).trans (res _ _ _)

end Cert.RopePlain
-- ==== Proof.RopeValue.lean ====
module

public import proofs.«01_k».proof.Proof.Gen.RopeIdeal.Value
public import proofs.«01_k».proof.Proof.Gen.Rope.Frame
public import proofs.«01_k».proof.Proof.RopeRef
public import proofs.«01_k».proof.Defs
public import Idealize.ShloMosaic.Lib.Pipeline.ValueKit
public import Idealize.ShloMosaic.Lib.Pointwise
public import Idealize.ShloMosaic.Lib.StableHlo.RunClose
public import Idealize.ShloMosaic.Lib.Claim

/-! The rotation of the keys by their positions, as the kernel does it: a grid point takes 512 rows and turns each of the
four heads' columns by tables of cosines and sines made before the call. A column's partner is found by rotating the
lanes by 16 either way; the second table holds the sign. -/

@[expose] public section

set_option maxRecDepth 16384

noncomputable section

namespace Cert.RopeProof

open Cert.RopeIdeal Cert.RopeIdeal.Gen Idealize.ShloMosaic Idealize.ShloMosaic.TcCoe
open Idealize.ShloMosaic.Pipeline (Dat)

variable (m : (ℓ : Loc nD τ sig) → Buf (Elt Ideal) ℓ)

/-- Which block each window reads or writes at a grid point. -/
theorem idx : ∀ t : Fin grid0.N,
    win0_0.index t = ![t.val, 0] ∧ win0_1.index t = ![t.val % 4, 0] ∧ win0_2.index t = ![t.val % 4, 0]
      ∧ win0_3.index t = ![t.val, 0] := by decide +kernel

variable {F : FTy → Type} [FloatOps F]

/-- Three tables side by side. -/
def join (a b : FVec F S2048x16 .f32) (d : FVec F S2048x96 .f32) : FVec F S2048x128 .f32 :=
  concatenate S2048x128 1 [⟨S2048x16, a⟩, ⟨S2048x16, b⟩, ⟨S2048x96, d⟩] concatenates_S2048x16_S2048x16_S2048x96_S2048x128_d1

/-- The operations before the kernel. -/
abbrev ops : List (HloOp τ sig (Elt F)) :=
  [ StableHlo.nullary main_v0 (iotaInDim S2048 32 0),
    StableHlo.nullary main_v1 (sitofp .f32 (iotaInDim S16 32 0)),
    StableHlo.unary main_v1 main_v2 (Host.negf : (⟨S16, .f32⟩ : BufTy).Contents (Elt F) → (⟨S16, .f32⟩ : BufTy).Contents (Elt F)),
    StableHlo.nullary main_cst (constant S_ .f32 0x41800000#32),
    StableHlo.unary main_cst main_v3 (broadcastInDim S16 ![] bcast_S_S16 : (⟨S_, .f32⟩ : BufTy).Contents (Elt F) → (⟨S16, .f32⟩ : BufTy).Contents (Elt F)),
    StableHlo.binary main_v2 main_v3 main_v4 (Host.divf : (⟨S16, .f32⟩ : BufTy).Contents (Elt F) → (⟨S16, .f32⟩ : BufTy).Contents (Elt F) → (⟨S16, .f32⟩ : BufTy).Contents (Elt F)),
    StableHlo.nullary main_cst_0 (constant S_ .f32 0x48F42400#32),
    StableHlo.unary main_cst_0 main_v5 (broadcastInDim S16 ![] bcast_S_S16 : (⟨S_, .f32⟩ : BufTy).Contents (Elt F) → (⟨S16, .f32⟩ : BufTy).Contents (Elt F)),
    StableHlo.binary main_v5 main_v4 main_v6 (Host.powf : (⟨S16, .f32⟩ : BufTy).Contents (Elt F) → (⟨S16, .f32⟩ : BufTy).Contents (Elt F) → (⟨S16, .f32⟩ : BufTy).Contents (Elt F)),
    StableHlo.unary main_v0 main_v7 (sitofp .f32 : (⟨S2048, .i32⟩ : BufTy).Contents (Elt F) → (⟨S2048, .f32⟩ : BufTy).Contents (Elt F)),
    StableHlo.unary main_v7 main_v8 (broadcastInDim S2048x1 ![0] bcast_S2048_S2048x1_0 : (⟨S2048, .f32⟩ : BufTy).Contents (Elt F) → (⟨S2048x1, .f32⟩ : BufTy).Contents (Elt F)),
    StableHlo.unary main_v6 main_v9 (broadcastInDim S1x16 ![1] bcast_S16_S1x16_1 : (⟨S16, .f32⟩ : BufTy).Contents (Elt F) → (⟨S1x16, .f32⟩ : BufTy).Contents (Elt F)),
    StableHlo.unary main_v8 main_v10 (broadcastInDim S2048x16 ![0, 1] bcast_S2048x1_S2048x16_0_1 : (⟨S2048x1, .f32⟩ : BufTy).Contents (Elt F) → (⟨S2048x16, .f32⟩ : BufTy).Contents (Elt F)),
    StableHlo.unary main_v9 main_v11 (broadcastInDim S2048x16 ![0, 1] bcast_S1x16_S2048x16_0_1 : (⟨S1x16, .f32⟩ : BufTy).Contents (Elt F) → (⟨S2048x16, .f32⟩ : BufTy).Contents (Elt F)),
    StableHlo.binary main_v10 main_v11 main_v12 (mulf : (⟨S2048x16, .f32⟩ : BufTy).Contents (Elt F) → (⟨S2048x16, .f32⟩ : BufTy).Contents (Elt F) → (⟨S2048x16, .f32⟩ : BufTy).Contents (Elt F)),
    StableHlo.unary main_v12 main_v13 (Host.cos : (⟨S2048x16, .f32⟩ : BufTy).Contents (Elt F) → (⟨S2048x16, .f32⟩ : BufTy).Contents (Elt F)),
    StableHlo.unary main_v12 main_v14 (Host.sin : (⟨S2048x16, .f32⟩ : BufTy).Contents (Elt F) → (⟨S2048x16, .f32⟩ : BufTy).Contents (Elt F)),
    StableHlo.nullary main_cst_1 (constant S_ .f32 0x3F800000#32),
    StableHlo.unary main_cst_1 main_v15 (broadcastInDim S2048x96 ![] bcast_S_S2048x96 : (⟨S_, .f32⟩ : BufTy).Contents (Elt F) → (⟨S2048x96, .f32⟩ : BufTy).Contents (Elt F)),
    StableHlo.nary ![main_v13, main_v13, main_v15] main_v16 (fun u => join (u 0) (u 1) (u 2)),
    StableHlo.unary main_v14 main_v17 (Host.negf : (⟨S2048x16, .f32⟩ : BufTy).Contents (Elt F) → (⟨S2048x16, .f32⟩ : BufTy).Contents (Elt F)),
    StableHlo.nullary main_cst_2 (constant S_ .f32 0x00000000#32),
    StableHlo.unary main_cst_2 main_v18 (broadcastInDim S2048x96 ![] bcast_S_S2048x96 : (⟨S_, .f32⟩ : BufTy).Contents (Elt F) → (⟨S2048x96, .f32⟩ : BufTy).Contents (Elt F)),
    StableHlo.nary ![main_v17, main_v14, main_v18] main_v19 (fun u => join (u 0) (u 1) (u 2)) ]

/-- The angle of a position and a frequency, as the host computes it. -/
def ang : FVec F S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

/-- They are the printed ones. -/
theorem ops_eq : hostOps0 (F := Ideal) = ops := rfl

theorem cosT (c : Dev nD) : V m c main_v16 = join (F := Ideal) (Host.cos ang) (Host.cos ang) (broadcastInDim S2048x96 ![] bcast_S_S2048x96 (constant S_ .f32 0x3F800000#32)) := by
  unfold V
  rw [ops_eq]
  after_results_entrywise (rounds := 1) []

theorem sinT (c : Dev nD) : V m c main_v19 = join (F := Ideal) (Host.negf (Host.sin ang)) (Host.sin ang) (broadcastInDim S2048x96 ![] bcast_S_S2048x96 (constant S_ .f32 0x00000000#32)) := by
  unfold V
  rw [ops_eq]
  after_results_entrywise (rounds := 1) []

open Cert.RopePlain (angle turn result at_eq)

theorem angE (p : Fin 2048) (q : Fin 16) : ang (F := Ideal) (ix2 p q) = angle p.val q.val := by
  unfold ang
  pointwise [angle]

theorem joinE (a b : Vec Ideal S2048x16 .f32) (d : Vec Ideal S2048x96 .f32) (p : Fin 2048) (q : Fin 128) : join (F := Ideal) a b d (ix2 p q)
    = (if h : q.val < 16 then a (ix2 p ⟨q.val, h⟩)
        else if h' : q.val - 16 < 16 then b (ix2 p ⟨q.val - 16, h'⟩) else d (ix2 p ⟨q.val - 16 - 16, by omega⟩) : EReal) := by
  unfold join
  pointwise

/-- The first table: cosines on the turned columns, ones on the others. -/
def cosAt (p q : ℕ) : EReal :=
  if q < 16 then Ideal.cos (angle p q) else if q - 16 < 16 then Ideal.cos (angle p (q - 16)) else 1

/-- The second table: sines on the turned columns, the first half of them negated, zeros on the others. -/
def sinAt (p q : ℕ) : EReal :=
  if q < 16 then - Ideal.sin (angle p q) else if q - 16 < 16 then Ideal.sin (angle p (q - 16)) else 0

theorem cosV (c : Dev nD) (p : Fin 2048) (q : Fin 128) : V m c main_v16 (ix2 p q) = cosAt p.val q.val := by
  rw [cosT]
  refine (joinE _ _ _ p q).trans ?_
  unfold cosAt
  split
  · pointwise [angE]
  · split
    · pointwise [angE]
    · pointwise []

theorem sinV (c : Dev nD) (p : Fin 2048) (q : Fin 128) : V m c main_v19 (ix2 p q) = sinAt p.val q.val := by
  rw [sinT]
  refine (joinE _ _ _ p q).trans ?_
  unfold sinAt
  split
  · pointwise [angE]
  · split
    · pointwise [angE]
    · pointwise []

theorem blk0 (c : Dev nD) (t : Fin cfg0.N) (r k : Fin 512) (R : Fin 16384) (hR : R.val = t.val * 512 + r.val) :
    iblk m c 0 t (ix2 r k) = m ((c : Thread nD τ).loc main_arg0) (ix2 R k) := by
  blk_ext [iblk, V_main_arg0, idx t]

theorem blk1 (c : Dev nD) (t : Fin cfg0.N) (r : Fin 512) (k : Fin 128) (R : Fin 2048) (hR : R.val = (t.val % 4) * 512 + r.val) :
    iblk m c 1 t (ix2 r k) = V m c main_v16 (ix2 R k) := by
  blk_ext [iblk, idx t]

theorem blk2 (c : Dev nD) (t : Fin cfg0.N) (r : Fin 512) (k : Fin 128) (R : Fin 2048) (hR : R.val = (t.val % 4) * 512 + r.val) :
    iblk m c 2 t (ix2 r k) = V m c main_v19 (ix2 R k) := by
  blk_ext [iblk, idx t]

/-- The comparison that picks the partner of a column. -/
theorem first : ∀ q : Fin 128, IntOp.cmpi CmpIPredicate.slt (BitVec.ofNat 32 q.val) 16#32 = if q.val < 16 then 1#1 else 0#1 := by
  decide

/-- What the body computes of one head's columns, entry by entry. -/
theorem pay (a b x : Vec Ideal S512x128 .f32) (r : Fin 512) (q : Fin 128) :
    k0_pay5 (F := Ideal) a b x (ix2 r q) = (x (ix2 r q) * a (ix2 r q) +
      (if q.val < 16 then x (ix2 r ⟨(q.val + 128 - 112) % 128, by omega⟩) else x (ix2 r ⟨(q.val + 128 - 16) % 128, by omega⟩)) * b (ix2 r q) : EReal) := by
  unfold k0_pay5
  pointwise [k0_pay2, k0_pay3, k0_pay4]
  rw [first]
  split <;> rfl

/-- One entry of a head's columns, over tables that hold the angles of the row's position, is the rotated entry. -/
theorem piece (y : Vec Ideal S16384x512 .f32) (a b x : Vec Ideal S512x128 .f32) (r : Fin 512) (q : Fin 128) (R : Fin 16384) (C : Fin 512) (h : ℕ)
    (hC : C.val = h * 128 + q.val) (hx : ∀ (k : Fin 128) (K : Fin 512), K.val = h * 128 + k.val → x (ix2 r k) = y (ix2 R K))
    (ha : a (ix2 r q) = cosAt (R.val % 2048) q.val) (hb : b (ix2 r q) = sinAt (R.val % 2048) q.val) :
    k0_pay5 (F := Ideal) a b x (ix2 r q) = turn y R C := by
  have e : C.val % 128 = q.val := by omega
  rw [pay, ha, hb, hx q C hC]
  unfold turn cosAt sinAt
  simp only [e]
  by_cases h1 : q.val < 16
  · rw [if_pos h1, if_pos h1, if_pos h1, dif_pos h1, hx _ ⟨C.val + 16, by omega⟩ (by dsimp only; omega), sub_eq_add_neg, mul_neg]
  · by_cases h2 : q.val < 32
    · have h3 : q.val - 16 < 16 := by omega
      rw [if_neg h1, if_neg h1, if_neg h1, dif_neg h1, if_pos h3, if_pos h3, dif_pos h2, hx _ ⟨C.val - 16, by omega⟩ (by dsimp only; omega)]
    · have h3 : ¬ q.val - 16 < 16 := by omega
      rw [if_neg h1, if_neg h1, if_neg h1, dif_neg h1, if_neg h3, if_neg h3, dif_neg h2, mul_one, mul_zero, add_zero]

/-- One head's columns of a block of the result. -/
theorem head (c : Dev nD) (t : Fin cfg0.N) (x : Vec Ideal S512x128 .f32) (r : Fin 512) (q : Fin 128) (h : ℕ) (hh : h < 4) (R : Fin 16384) (C : Fin 512)
    (hR : R.val = t.val * 512 + r.val) (hC : C.val = h * 128 + q.val)
    (hx : ∀ (k : Fin 128) (K : Fin 512), K.val = h * 128 + k.val → x (ix2 r k) = iblk m c 0 t (ix2 r K)) :
    k0_pay5 (F := Ideal) (iblk m c 1 t) (iblk m c 2 t) x (ix2 r q) = turn (m ((c : Thread nD τ).loc main_arg0)) R C := by
  have p : R.val % 2048 = (t.val % 4) * 512 + r.val := by omega
  refine piece _ _ _ _ r q R C h hC (fun k K hK => (hx k K hK).trans (blk0 m c t r K R hR)) ?_ ?_
  · rw [blk1 m c t r q ⟨R.val % 2048, by omega⟩ p, cosV]
  · rw [blk2 m c t r q ⟨R.val % 2048, by omega⟩ p, sinV]

theorem whole (X : Vec Ideal S512x128 .f32) : View.ld X r0_0 = X := by
  funext i
  rw [← ix2_eta i]
  pointwise [r0_0]

theorem cols0 (X : Vec Ideal S512x512 .f32) (r : Fin 512) (k : Fin 128) (K : Fin 512) (h : K.val = 0 * 128 + k.val) :
    View.ld X r0_1 (ix2 r k) = X (ix2 r K) := by
  have e : K = ⟨k.val, by have := k.isLt; clear h; omega⟩ := Fin.ext (by dsimp only; omega)
  rw [e]
  pointwise [r0_1]

theorem cols1 (X : Vec Ideal S512x512 .f32) (r : Fin 512) (k : Fin 128) (K : Fin 512) (h : K.val = 1 * 128 + k.val) :
    View.ld X r0_2 (ix2 r k) = X (ix2 r K) := by
  have e : K = ⟨128 + k.val, by have := k.isLt; clear h; omega⟩ := Fin.ext (by dsimp only; omega)
  rw [e]
  pointwise [r0_2]

theorem cols2 (X : Vec Ideal S512x512 .f32) (r : Fin 512) (k : Fin 128) (K : Fin 512) (h : K.val = 2 * 128 + k.val) :
    View.ld X r0_3 (ix2 r k) = X (ix2 r K) := by
  have e : K = ⟨256 + k.val, by have := k.isLt; clear h; omega⟩ := Fin.ext (by dsimp only; omega)
  rw [e]
  pointwise [r0_3]

theorem cols3 (X : Vec Ideal S512x512 .f32) (r : Fin 512) (k : Fin 128) (K : Fin 512) (h : K.val = 3 * 128 + k.val) :
    View.ld X r0_4 (ix2 r k) = X (ix2 r K) := by
  have e : K = ⟨384 + k.val, by have := k.isLt; clear h; omega⟩ := Fin.ext (by dsimp only; omega)
  rw [e]
  pointwise [r0_4]

theorem pay1_eq (a b x : Vec Ideal S512x128 .f32) : k0_pay1 (F := Ideal) (k0_pay2 a) (k0_pay3 b) k0_pay4 x = k0_pay5 a b x := rfl
theorem pay6_eq (a b x : Vec Ideal S512x128 .f32) : k0_pay6 (F := Ideal) a b x = k0_pay5 a b x := rfl
theorem pay7_eq (a b x : Vec Ideal S512x128 .f32) : k0_pay7 (F := Ideal) a b x = k0_pay5 a b x := rfl

theorem emb0 (t : Fin cfg0.N) (y : S512x512.Idx) : (((win0_3.blk t).view.emb y) 0).val = t.val * 512 + (y 0).val := by
  rw [← ix2_eta y]
  blk_simp [idx t]

theorem emb1 (t : Fin cfg0.N) (y : S512x512.Idx) : (((win0_3.blk t).view.emb y) 1).val = (y 1).val := by
  rw [← ix2_eta y]
  blk_simp [idx t]

/-- The result array after the run. -/
theorem final (c : Dev nD) : (dats m 0 c).arrAt 3 cfg0.N = result (m ((c : Thread nD τ).loc main_arg0)) := by
  refine (dats m 0 c).arrAt_eq_of_covers 3 _ (by decide +kernel) fun t hf y => ?_
  blk_simp
  rw [after0_3]
  unfold out0_3
  have e0 := emb0 t y
  have e1 := emb1 t y
  canon_tiles x h
  · rw [whole, whole, pay1_eq]
    exact (congrArg _ (ix2_eta x).symm).trans (head m c t _ (x 0) (x 1) 3 (by omega) _ _ (by omega) (by omega) (cols3 _ _))
  · rw [whole, whole, pay7_eq]
    exact (congrArg _ (ix2_eta x).symm).trans (head m c t _ (x 0) (x 1) 2 (by omega) _ _ (by omega) (by omega) (cols2 _ _))
  · rw [whole, whole, pay6_eq]
    exact (congrArg _ (ix2_eta x).symm).trans (head m c t _ (x 0) (x 1) 1 (by omega) _ _ (by omega) (by omega) (cols1 _ _))
  · rw [whole, whole]
    exact (congrArg _ (ix2_eta x).symm).trans (head m c t _ (x 0) (x 1) 0 (by omega) _ _ (by omega) (by omega) (cols0 _ _))

/-- `Rope` runs and leaves its argument as it was. -/
theorem frame_p : Cert.quiescent_Rope (hRope := Cert.Rope.Gen.facts) := fun m ρ _ => Cert.Rope.Gen.frame m ρ

/-- The idealized program runs and leaves its argument as it was. -/
theorem frame_i : Cert.quiescent_RopeIdeal (hRopeIdeal := Cert.RopeIdeal.Gen.facts) := fun m ρ _ => Cert.RopeIdeal.Gen.frame m ρ

/-- The reference runs and leaves its argument as it was. -/
theorem frame_r : Cert.quiescent_RopeReferenceIdeal (hRopeReferenceIdeal := Cert.RopeReferenceIdeal.Gen.facts) := fun m ρ _ =>
  (θ_run Cert.RopeReferenceIdeal.defs _ _).mono (fun r h => ⟨fun c => (h c).2, sem_eq_zero_of_no_sems (by decide) r.2⟩)
    (Cert.RopeReferenceIdeal.Value.run (F := Ideal) m ρ)

/-- The program and the reference, started from the same argument, end with the same result. -/
theorem algebraic : Cert.algebraic_RopeIdeal_RopeReferenceIdeal (hRopeIdeal := Cert.RopeIdeal.Gen.facts)
    (hRopeReferenceIdeal := Cert.RopeReferenceIdeal.Gen.facts) := fun m ρ m' ρ' _ hag =>
  ⟨fun c => result (m ((c.tc : Thread Cert.RopeIdeal.nD Cert.RopeIdeal.τ).loc Cert.RopeIdeal.main_arg0)), (θ_run Cert.RopeIdeal.defs _ _).mono (fun r h c => ⟨(h c).1.trans (final m c), (h c).2⟩) (Cert.RopeIdeal.Value.run_blocks (F := Ideal) m ρ),
    (θ_run Cert.RopeReferenceIdeal.defs _ _).mono (fun r h c => by
      have e0 := hag c
      refine ⟨(h c).1.trans ?_, (h c).2⟩
      rw [e0]) (Cert.RopePlain.ref m' ρ')⟩

end Cert.RopeProof
-- ==== Proof.ProjGValue.lean ====
module

public import proofs.«01_k».proof.Proof.Gen.ProjGIdeal.Value
public import proofs.«01_k».proof.Proof.Gen.ProjGReferenceIdeal.Run
public import proofs.«01_k».proof.Proof.Gen.ProjG.Frame
public import proofs.«01_k».proof.Defs
public import Idealize.ShloMosaic.Lib.Pipeline.ValueKit
public import Idealize.ShloMosaic.Lib.Pointwise

/-! The row-block product of a 16384 × 2048 matrix with a 2048 × 48 one: the block that a grid point leaves is the block of
the whole product, because every point sums over the whole inner axis. The reference is that product. -/

@[expose] public section

set_option maxRecDepth 16384

noncomputable section

namespace Cert.ProjGProof

open Cert.ProjGIdeal Cert.ProjGIdeal.Gen Idealize.ShloMosaic Idealize.ShloMosaic.TcCoe
open Idealize.ShloMosaic.Pipeline (Dat)

variable (m : (ℓ : Loc nD τ sig) → Buf (Elt Ideal) ℓ)

/-- Which block each window reads or writes at a grid point. -/
theorem idx : ∀ t : Fin grid0.N,
    win0_0.index t = ![(grid0.coords t 0).val, 0] ∧ win0_1.index t = ![0, (grid0.coords t 1).val]
      ∧ win0_2.index t = ![(grid0.coords t 0).val, (grid0.coords t 1).val] := by decide +kernel

/-- The matrix product of the argument arrays. -/
def result (x : Vec Ideal S16384x2048 .bf16) (w : Vec Ideal S2048x48 .f32) : Vec Ideal S16384x48 .f32 := fun i =>
  (∑ k : Fin 2048, x (ix2 (i 0) k) * w (ix2 k (i 1)) : EReal)

/-- The accumulator starts at zero. -/
theorem pay1 (r : Fin 1024) (q : Fin 48) : k0_pay1 (F := Ideal) (ix2 r q) = (0 : EReal) := by
  unfold k0_pay1
  pointwise

/-- A point adds its block's product to the accumulator. -/
theorem pay2 (a : Vec Ideal S1024x48 .f32) (x : Vec Ideal S1024x2048 .bf16) (w : Vec Ideal S2048x48 .f32) (r : Fin 1024) (q : Fin 48) :
    k0_pay2 (F := Ideal) a x w (ix2 r q) = (a (ix2 r q) + ∑ k : Fin 2048, x (ix2 r k) * w (ix2 k q) : EReal) := by
  unfold k0_pay2
  pointwise

theorem blk0 (c : Dev nD) (t : Fin cfg0.N) (r : Fin 1024) (k : Fin 2048) (R : Fin 16384) (hR : R.val = (grid0.coords t 0).val * 1024 + r.val) :
    iblk m c 0 t (ix2 r k) = m ((c : Thread nD τ).loc main_arg0) (ix2 R k) := by
  blk_ext [iblk, V_main_arg0, idx t]

theorem blk1 (c : Dev nD) (t : Fin cfg0.N) (k : Fin 2048) (q : Fin 48) (Q : Fin 48) (hQ : Q.val = (grid0.coords t 1).val * 48 + q.val) :
    iblk m c 1 t (ix2 k q) = m ((c : Thread nD τ).loc main_arg1) (ix2 k Q) := by
  blk_ext [iblk, V_main_arg1, idx t]

/-- The result array after the run. -/
theorem final (c : Dev nD) : (dats m 0 c).arrAt 2 cfg0.N = result (m ((c : Thread nD τ).loc main_arg0))
    (m ((c : Thread nD τ).loc main_arg1)) := by
  refine (dats m 0 c).arrAt_eq_of_covers 2 _ (by decide +kernel) fun t hf y => ?_
  blk_simp
  rw [after0_2]
  unfold outsAt0
  frame_out
  have e : ∀ (r : Fin 1024) (q : Fin 48), k0_pay2 k0_pay1 (iblk m c 0 t) (iblk m c 1 t) (ix2 r q)
      = result (m ((c : Thread nD τ).loc main_arg0)) (m ((c : Thread nD τ).loc main_arg1))
        (((View.whole main_v0).slice (win0_2.rect t)).emb (ix2 r q)) := by
    intro r q
    rw [pay2, pay1, zero_add]
    unfold result
    have h0 : ((((View.whole main_v0).slice (win0_2.rect t)).emb (ix2 r q)) 0).val = (grid0.coords t 0).val * 1024 + r.val := by
      blk_simp [idx t]
    have h1 : ((((View.whole main_v0).slice (win0_2.rect t)).emb (ix2 r q)) 1).val = (grid0.coords t 1).val * 48 + q.val := by
      blk_simp [idx t]
    simp only [fun k => blk0 m c t r k _ h0, fun k => blk1 m c t k q _ h1]
  exact (congrArg _ (ix2_eta y).symm).trans ((e _ _).trans (congrArg
    (fun y => result _ _ (((View.whole main_v0).slice (win0_2.rect t)).emb y)) (ix2_eta y)))

/-- The reference ends with the same function of its arguments. -/
theorem ref (m : (ℓ : Loc Cert.ProjGReferenceIdeal.nD Cert.ProjGReferenceIdeal.τ Cert.ProjGReferenceIdeal.sig) → Buf (Elt Ideal) ℓ)
    (ρ : Dev Cert.ProjGReferenceIdeal.nD → PrngReg) :
    θ_run Cert.ProjGReferenceIdeal.defs (onTc (τ := Cert.ProjGReferenceIdeal.τ) (Cert.ProjGReferenceIdeal.main (F := Ideal))) ⟨m, fun _ => 0, ρ⟩
      fun r => ∀ c : Dev Cert.ProjGReferenceIdeal.nD,
        r.2.mem ((c.tc : Thread Cert.ProjGReferenceIdeal.nD Cert.ProjGReferenceIdeal.τ).loc Cert.ProjGReferenceIdeal.main_v1)
          = result (m ((c.tc : Thread Cert.ProjGReferenceIdeal.nD Cert.ProjGReferenceIdeal.τ).loc Cert.ProjGReferenceIdeal.main_arg0)) (m ((c.tc : Thread Cert.ProjGReferenceIdeal.nD Cert.ProjGReferenceIdeal.τ).loc Cert.ProjGReferenceIdeal.main_arg1))
        ∧ r.2.mem ((c.tc : Thread Cert.ProjGReferenceIdeal.nD Cert.ProjGReferenceIdeal.τ).loc Cert.ProjGReferenceIdeal.main_arg0) = m ((c.tc : Thread Cert.ProjGReferenceIdeal.nD Cert.ProjGReferenceIdeal.τ).loc Cert.ProjGReferenceIdeal.main_arg0)
        ∧ r.2.mem ((c.tc : Thread Cert.ProjGReferenceIdeal.nD Cert.ProjGReferenceIdeal.τ).loc Cert.ProjGReferenceIdeal.main_arg1) = m ((c.tc : Thread Cert.ProjGReferenceIdeal.nD Cert.ProjGReferenceIdeal.τ).loc Cert.ProjGReferenceIdeal.main_arg1) := by
  refine (θ_run _ _ _).mono (fun r h c => ⟨(h c).1.trans (funext fun i => ?_), (h c).2⟩) (Cert.ProjGReferenceIdeal.Value.run (F := Ideal) m ρ)
  rw [← ix2_eta i]
  pointwise [result]

/-- `ProjG` runs and leaves its arguments as they were. -/
theorem frame_p : Cert.quiescent_ProjG (hProjG := Cert.ProjG.Gen.facts) := fun m ρ _ => Cert.ProjG.Gen.frame m ρ

/-- The idealized program runs and leaves its arguments as they were. -/
theorem frame_i : Cert.quiescent_ProjGIdeal (hProjGIdeal := Cert.ProjGIdeal.Gen.facts) := fun m ρ _ => Cert.ProjGIdeal.Gen.frame m ρ

/-- The reference runs and leaves its arguments as they were. -/
theorem frame_r : Cert.quiescent_ProjGReferenceIdeal (hProjGReferenceIdeal := Cert.ProjGReferenceIdeal.Gen.facts) := fun m ρ _ =>
  (θ_run Cert.ProjGReferenceIdeal.defs _ _).mono (fun r h => ⟨fun c => (h c).2, sem_eq_zero_of_no_sems (by decide) r.2⟩)
    (Cert.ProjGReferenceIdeal.Value.run (F := Ideal) m ρ)

/-- The program and the reference, started from the same arguments, end with the same result. -/
theorem algebraic : Cert.algebraic_ProjGIdeal_ProjGReferenceIdeal (hProjGIdeal := Cert.ProjGIdeal.Gen.facts)
    (hProjGReferenceIdeal := Cert.ProjGReferenceIdeal.Gen.facts) := fun m ρ m' ρ' _ hag =>
  ⟨fun c => result (m ((c.tc : Thread Cert.ProjGIdeal.nD Cert.ProjGIdeal.τ).loc Cert.ProjGIdeal.main_arg0)) (m ((c.tc : Thread Cert.ProjGIdeal.nD Cert.ProjGIdeal.τ).loc Cert.ProjGIdeal.main_arg1)), (θ_run Cert.ProjGIdeal.defs _ _).mono (fun r h c => ⟨(h c).1.trans (final m c), (h c).2⟩) (Cert.ProjGIdeal.Value.run_blocks (F := Ideal) m ρ),
    (θ_run Cert.ProjGReferenceIdeal.defs _ _).mono (fun r h c => by
      obtain ⟨e0, e1⟩ := hag c
      refine ⟨(h c).1.trans ?_, (h c).2⟩
      rw [e0, e1]) (ref m' ρ')⟩

end Cert.ProjGProof

end
-- ==== Proof.ProjFValue.lean ====
module

public import proofs.«01_k».proof.Proof.Gen.ProjFIdeal.Value
public import proofs.«01_k».proof.Proof.Gen.ProjFReferenceIdeal.Run
public import proofs.«01_k».proof.Proof.Gen.ProjF.Frame
public import proofs.«01_k».proof.Defs
public import Idealize.ShloMosaic.Lib.Pipeline.ValueKit
public import Idealize.ShloMosaic.Lib.Pointwise

/-! The row-block product of a 16384 × 2048 matrix with a 2048 × 128 one: the block that a grid point leaves is the block of
the whole product, because every point sums over the whole inner axis. The reference is that product. -/

@[expose] public section

set_option maxRecDepth 16384

noncomputable section

namespace Cert.ProjFProof

open Cert.ProjFIdeal Cert.ProjFIdeal.Gen Idealize.ShloMosaic Idealize.ShloMosaic.TcCoe
open Idealize.ShloMosaic.Pipeline (Dat)

variable (m : (ℓ : Loc nD τ sig) → Buf (Elt Ideal) ℓ)

/-- Which block each window reads or writes at a grid point. -/
theorem idx : ∀ t : Fin grid0.N,
    win0_0.index t = ![(grid0.coords t 0).val, 0] ∧ win0_1.index t = ![0, (grid0.coords t 1).val]
      ∧ win0_2.index t = ![(grid0.coords t 0).val, (grid0.coords t 1).val] := by decide +kernel

/-- The matrix product of the argument arrays. -/
def result (x : Vec Ideal S16384x2048 .bf16) (w : Vec Ideal S2048x128 .f32) : Vec Ideal S16384x128 .f32 := fun i =>
  (∑ k : Fin 2048, x (ix2 (i 0) k) * w (ix2 k (i 1)) : EReal)

/-- The accumulator starts at zero. -/
theorem pay1 (r : Fin 1024) (q : Fin 128) : k0_pay1 (F := Ideal) (ix2 r q) = (0 : EReal) := by
  unfold k0_pay1
  pointwise

/-- A point adds its block's product to the accumulator. -/
theorem pay2 (a : Vec Ideal S1024x128 .f32) (x : Vec Ideal S1024x2048 .bf16) (w : Vec Ideal S2048x128 .f32) (r : Fin 1024) (q : Fin 128) :
    k0_pay2 (F := Ideal) a x w (ix2 r q) = (a (ix2 r q) + ∑ k : Fin 2048, x (ix2 r k) * w (ix2 k q) : EReal) := by
  unfold k0_pay2
  pointwise

theorem blk0 (c : Dev nD) (t : Fin cfg0.N) (r : Fin 1024) (k : Fin 2048) (R : Fin 16384) (hR : R.val = (grid0.coords t 0).val * 1024 + r.val) :
    iblk m c 0 t (ix2 r k) = m ((c : Thread nD τ).loc main_arg0) (ix2 R k) := by
  blk_ext [iblk, V_main_arg0, idx t]

theorem blk1 (c : Dev nD) (t : Fin cfg0.N) (k : Fin 2048) (q : Fin 128) (Q : Fin 128) (hQ : Q.val = (grid0.coords t 1).val * 128 + q.val) :
    iblk m c 1 t (ix2 k q) = m ((c : Thread nD τ).loc main_arg1) (ix2 k Q) := by
  blk_ext [iblk, V_main_arg1, idx t]

/-- The result array after the run. -/
theorem final (c : Dev nD) : (dats m 0 c).arrAt 2 cfg0.N = result (m ((c : Thread nD τ).loc main_arg0))
    (m ((c : Thread nD τ).loc main_arg1)) := by
  refine (dats m 0 c).arrAt_eq_of_covers 2 _ (by decide +kernel) fun t hf y => ?_
  blk_simp
  rw [after0_2]
  unfold outsAt0
  frame_out
  have e : ∀ (r : Fin 1024) (q : Fin 128), k0_pay2 k0_pay1 (iblk m c 0 t) (iblk m c 1 t) (ix2 r q)
      = result (m ((c : Thread nD τ).loc main_arg0)) (m ((c : Thread nD τ).loc main_arg1))
        (((View.whole main_v0).slice (win0_2.rect t)).emb (ix2 r q)) := by
    intro r q
    rw [pay2, pay1, zero_add]
    unfold result
    have h0 : ((((View.whole main_v0).slice (win0_2.rect t)).emb (ix2 r q)) 0).val = (grid0.coords t 0).val * 1024 + r.val := by
      blk_simp [idx t]
    have h1 : ((((View.whole main_v0).slice (win0_2.rect t)).emb (ix2 r q)) 1).val = (grid0.coords t 1).val * 128 + q.val := by
      blk_simp [idx t]
    simp only [fun k => blk0 m c t r k _ h0, fun k => blk1 m c t k q _ h1]
  exact (congrArg _ (ix2_eta y).symm).trans ((e _ _).trans (congrArg
    (fun y => result _ _ (((View.whole main_v0).slice (win0_2.rect t)).emb y)) (ix2_eta y)))

/-- The reference ends with the same function of its arguments. -/
theorem ref (m : (ℓ : Loc Cert.ProjFReferenceIdeal.nD Cert.ProjFReferenceIdeal.τ Cert.ProjFReferenceIdeal.sig) → Buf (Elt Ideal) ℓ)
    (ρ : Dev Cert.ProjFReferenceIdeal.nD → PrngReg) :
    θ_run Cert.ProjFReferenceIdeal.defs (onTc (τ := Cert.ProjFReferenceIdeal.τ) (Cert.ProjFReferenceIdeal.main (F := Ideal))) ⟨m, fun _ => 0, ρ⟩
      fun r => ∀ c : Dev Cert.ProjFReferenceIdeal.nD,
        r.2.mem ((c.tc : Thread Cert.ProjFReferenceIdeal.nD Cert.ProjFReferenceIdeal.τ).loc Cert.ProjFReferenceIdeal.main_v1)
          = result (m ((c.tc : Thread Cert.ProjFReferenceIdeal.nD Cert.ProjFReferenceIdeal.τ).loc Cert.ProjFReferenceIdeal.main_arg0)) (m ((c.tc : Thread Cert.ProjFReferenceIdeal.nD Cert.ProjFReferenceIdeal.τ).loc Cert.ProjFReferenceIdeal.main_arg1))
        ∧ r.2.mem ((c.tc : Thread Cert.ProjFReferenceIdeal.nD Cert.ProjFReferenceIdeal.τ).loc Cert.ProjFReferenceIdeal.main_arg0) = m ((c.tc : Thread Cert.ProjFReferenceIdeal.nD Cert.ProjFReferenceIdeal.τ).loc Cert.ProjFReferenceIdeal.main_arg0)
        ∧ r.2.mem ((c.tc : Thread Cert.ProjFReferenceIdeal.nD Cert.ProjFReferenceIdeal.τ).loc Cert.ProjFReferenceIdeal.main_arg1) = m ((c.tc : Thread Cert.ProjFReferenceIdeal.nD Cert.ProjFReferenceIdeal.τ).loc Cert.ProjFReferenceIdeal.main_arg1) := by
  refine (θ_run _ _ _).mono (fun r h c => ⟨(h c).1.trans (funext fun i => ?_), (h c).2⟩) (Cert.ProjFReferenceIdeal.Value.run (F := Ideal) m ρ)
  rw [← ix2_eta i]
  pointwise [result]

/-- `ProjF` runs and leaves its arguments as they were. -/
theorem frame_p : Cert.quiescent_ProjF (hProjF := Cert.ProjF.Gen.facts) := fun m ρ _ => Cert.ProjF.Gen.frame m ρ

/-- The idealized program runs and leaves its arguments as they were. -/
theorem frame_i : Cert.quiescent_ProjFIdeal (hProjFIdeal := Cert.ProjFIdeal.Gen.facts) := fun m ρ _ => Cert.ProjFIdeal.Gen.frame m ρ

/-- The reference runs and leaves its arguments as they were. -/
theorem frame_r : Cert.quiescent_ProjFReferenceIdeal (hProjFReferenceIdeal := Cert.ProjFReferenceIdeal.Gen.facts) := fun m ρ _ =>
  (θ_run Cert.ProjFReferenceIdeal.defs _ _).mono (fun r h => ⟨fun c => (h c).2, sem_eq_zero_of_no_sems (by decide) r.2⟩)
    (Cert.ProjFReferenceIdeal.Value.run (F := Ideal) m ρ)

/-- The program and the reference, started from the same arguments, end with the same result. -/
theorem algebraic : Cert.algebraic_ProjFIdeal_ProjFReferenceIdeal (hProjFIdeal := Cert.ProjFIdeal.Gen.facts)
    (hProjFReferenceIdeal := Cert.ProjFReferenceIdeal.Gen.facts) := fun m ρ m' ρ' _ hag =>
  ⟨fun c => result (m ((c.tc : Thread Cert.ProjFIdeal.nD Cert.ProjFIdeal.τ).loc Cert.ProjFIdeal.main_arg0)) (m ((c.tc : Thread Cert.ProjFIdeal.nD Cert.ProjFIdeal.τ).loc Cert.ProjFIdeal.main_arg1)), (θ_run Cert.ProjFIdeal.defs _ _).mono (fun r h c => ⟨(h c).1.trans (final m c), (h c).2⟩) (Cert.ProjFIdeal.Value.run_blocks (F := Ideal) m ρ),
    (θ_run Cert.ProjFReferenceIdeal.defs _ _).mono (fun r h c => by
      obtain ⟨e0, e1⟩ := hag c
      refine ⟨(h c).1.trans ?_, (h c).2⟩
      rw [e0, e1]) (ref m' ρ')⟩

end Cert.ProjFProof

end
-- ==== Proof.lean ====
/-
  The certificate: the frames, the named constant, and the two results of the state-space prompt layer as one function
  of the arguments on the kernel's side and on the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Final
public import proofs.«01_k».proof.Proof.Gen.Up.Frame
public import proofs.«01_k».proof.Proof.Gen.UpIdeal.Frame
public import proofs.«01_k».proof.Proof.Gen.UpIdeal.Value
public import proofs.«01_k».proof.Proof.Gen.UpReferenceIdeal.Run
public import proofs.«01_k».proof.Proof.UpValue
public import proofs.«01_k».proof.Proof.Gen.Down.Frame
public import proofs.«01_k».proof.Proof.Gen.DownIdeal.Frame
public import proofs.«01_k».proof.Proof.Gen.DownIdeal.Value
public import proofs.«01_k».proof.Proof.Gen.DownReferenceIdeal.Run
public import proofs.«01_k».proof.Proof.DownValue
public import proofs.«01_k».proof.Proof.Gen.Merge.Frame
public import proofs.«01_k».proof.Proof.Gen.MergeIdeal.Frame
public import proofs.«01_k».proof.Proof.Gen.MergeIdeal.Value
public import proofs.«01_k».proof.Proof.Gen.MergeReferenceIdeal.Run
public import proofs.«01_k».proof.Proof.MergeValue
public import proofs.«01_k».proof.Proof.Gen.ProjA.Frame
public import proofs.«01_k».proof.Proof.Gen.ProjAIdeal.Frame
public import proofs.«01_k».proof.Proof.Gen.ProjAIdeal.Value
public import proofs.«01_k».proof.Proof.Gen.ProjAReferenceIdeal.Run
public import proofs.«01_k».proof.Proof.ProjAValue
public import proofs.«01_k».proof.Proof.Gen.ProjB.Frame
public import proofs.«01_k».proof.Proof.Gen.ProjBIdeal.Frame
public import proofs.«01_k».proof.Proof.Gen.ProjBIdeal.Value
public import proofs.«01_k».proof.Proof.Gen.ProjBReferenceIdeal.Run
public import proofs.«01_k».proof.Proof.ProjBValue
public import proofs.«01_k».proof.Proof.Gen.ProjC.Frame
public import proofs.«01_k».proof.Proof.Gen.ProjCIdeal.Frame
public import proofs.«01_k».proof.Proof.Gen.ProjCIdeal.Value
public import proofs.«01_k».proof.Proof.Gen.ProjCReferenceIdeal.Run
public import proofs.«01_k».proof.Proof.ProjCValue
public import proofs.«01_k».proof.Proof.Gen.ProjE.Frame
public import proofs.«01_k».proof.Proof.Gen.ProjEIdeal.Frame
public import proofs.«01_k».proof.Proof.Gen.ProjEIdeal.Value
public import proofs.«01_k».proof.Proof.Gen.ProjEReferenceIdeal.Run
public import proofs.«01_k».proof.Proof.ProjEValue
public import proofs.«01_k».proof.Proof.Gen.SampleConv.Frame
public import proofs.«01_k».proof.Proof.Gen.SampleConvIdeal.Frame
public import proofs.«01_k».proof.Proof.Gen.SampleConvReferenceIdeal.Run
public import proofs.«01_k».proof.Proof.SampleConvValue
public import proofs.«01_k».proof.Proof.Gen.Experts.Launch
public import proofs.«01_k».proof.Proof.Gen.Experts.Skeleton
public import proofs.«01_k».proof.Proof.Gen.ExpertsIdeal.Launch
public import proofs.«01_k».proof.Proof.Gen.ExpertsIdeal.Skeleton
public import proofs.«01_k».proof.Proof.Gen.ExpertsReferenceIdeal.Run
public import proofs.«01_k».proof.Proof.Gen.ExpertsDown.Launch
public import proofs.«01_k».proof.Proof.Gen.ExpertsDown.Skeleton
public import proofs.«01_k».proof.Proof.Gen.ExpertsDownIdeal.Launch
public import proofs.«01_k».proof.Proof.Gen.ExpertsDownIdeal.Skeleton
public import proofs.«01_k».proof.Proof.Gen.ExpertsDownReferenceIdeal.Run
public import proofs.«01_k».proof.Proof.ExpertsValue
public import proofs.«01_k».proof.Proof.ExpertsBitsFrame
public import proofs.«01_k».proof.Proof.ExpertsDownValue
public import proofs.«01_k».proof.Proof.ExpertsDownBitsFrame
public import proofs.«01_k».proof.Proof.Gen.SampleKv.Frame
public import proofs.«01_k».proof.Proof.Gen.SampleKvIdeal.Frame
public import proofs.«01_k».proof.Proof.Gen.SampleKvReferenceIdeal.Run
public import proofs.«01_k».proof.Proof.SampleKvValue
public import proofs.«01_k».proof.Proof.Gen.Rope.Frame
public import proofs.«01_k».proof.Proof.Gen.RopeIdeal.Frame
public import proofs.«01_k».proof.Proof.Gen.RopeIdeal.Value
public import proofs.«01_k».proof.Proof.Gen.RopeReferenceIdeal.Run
public import proofs.«01_k».proof.Proof.RopeValue
public import proofs.«01_k».proof.Proof.Gen.ProjG.Frame
public import proofs.«01_k».proof.Proof.Gen.ProjGIdeal.Frame
public import proofs.«01_k».proof.Proof.Gen.ProjGIdeal.Value
public import proofs.«01_k».proof.Proof.Gen.ProjGReferenceIdeal.Run
public import proofs.«01_k».proof.Proof.ProjGValue
public import proofs.«01_k».proof.Proof.Gen.ProjF.Frame
public import proofs.«01_k».proof.Proof.Gen.ProjFIdeal.Frame
public import proofs.«01_k».proof.Proof.Gen.ProjFIdeal.Value
public import proofs.«01_k».proof.Proof.Gen.ProjFReferenceIdeal.Run
public import proofs.«01_k».proof.Proof.ProjFValue
public import Idealize.ShloMosaic.Adequacy
public import Idealize.ShloMosaic.Init

@[expose] public section

noncomputable section

namespace Cert.Proof

open Idealize.ShloMosaic Idealize.ShloMosaic.StableHlo Idealize.SL.Sem Cert.Ssd Cert.Final

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The gated, normalised rows of the two programs are the same. -/
theorem rows_agree (F : Cert.KernelIdeal.Fold.Fine m c)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    : Cert.ReferenceIdeal.Value.out_main_v83 (Cert.ReferenceIdeal.Value.STEP^[16] (entryContents Cert.ReferenceIdeal.Value.preI m' c))
      = Cert.KernelIdeal.Value.G11 m c := by
  have h0 : Cert.ReferenceIdeal.Entry.aX m' c = Cert.KernelIdeal.Fold.aX m c := funext fun b => funext fun l => funext fun j => congrFun e0 (ix3 b l j)
  have h1 : Cert.ReferenceIdeal.Entry.aZ m' c = Cert.KernelIdeal.Fold.aZ m c := funext fun b => funext fun l => funext fun j => congrFun e1 (ix3 b l j)
  have h2 : Cert.ReferenceIdeal.Entry.aDt m' c = Cert.KernelIdeal.Fold.aDt m c := funext fun b => funext fun l => funext fun j => congrFun e2 (ix3 b l j)
  have h3 : Cert.ReferenceIdeal.Entry.aW m' c = Cert.KernelIdeal.Fold.aW m c := funext fun k => funext fun j => congrFun e3 (ix2 k j)
  have h4 : Cert.ReferenceIdeal.Entry.aB m' c = Cert.KernelIdeal.Fold.aB m c := funext fun j => congrFun e4 (ix1 j)
  have h5 : Cert.ReferenceIdeal.Entry.aBias m' c = Cert.KernelIdeal.Fold.aBias m c := funext fun h => congrFun e5 (ix1 h)
  have h6 : Cert.ReferenceIdeal.Entry.aRate m' c = Cert.KernelIdeal.Fold.aRate m c := funext fun h => congrArg (fun x : EReal => - Ideal.exp x) (congrFun e6 (ix1 h))
  have h7 : Cert.ReferenceIdeal.Entry.aD m' c = Cert.KernelIdeal.Fold.aD m c := funext fun h => congrFun e7 (ix1 h)
  have h8 : Cert.ReferenceIdeal.Entry.aNw m' c = Cert.KernelIdeal.Fold.aNw m c := funext fun j => congrFun e8 (ix1 j)
  refine ext_rows fun b k l g j => ?_
  refine (Cert.ReferenceIdeal.Out.out83 m' c b k l g j).trans (Eq.trans ?_ (Cert.KernelIdeal.Fold.G11_apply F b k l g j).symm)
  rw [h0, h1, h2, h3, h4, h5, h6, h7, h8]

/-- The last states of the two programs are the same. -/
theorem states_agree (F : Cert.KernelIdeal.Fold.Fine m c)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    : Cert.ReferenceIdeal.Value.out_main_v84 (Cert.ReferenceIdeal.Value.STEP^[16] (entryContents Cert.ReferenceIdeal.Value.preI m' c))
      = Cert.KernelIdeal.Value.G12 m c := by
  have h0 : Cert.ReferenceIdeal.Entry.aX m' c = Cert.KernelIdeal.Fold.aX m c := funext fun b => funext fun l => funext fun j => congrFun e0 (ix3 b l j)
  have h2 : Cert.ReferenceIdeal.Entry.aDt m' c = Cert.KernelIdeal.Fold.aDt m c := funext fun b => funext fun l => funext fun j => congrFun e2 (ix3 b l j)
  have h3 : Cert.ReferenceIdeal.Entry.aW m' c = Cert.KernelIdeal.Fold.aW m c := funext fun k => funext fun j => congrFun e3 (ix2 k j)
  have h4 : Cert.ReferenceIdeal.Entry.aB m' c = Cert.KernelIdeal.Fold.aB m c := funext fun j => congrFun e4 (ix1 j)
  have h5 : Cert.ReferenceIdeal.Entry.aBias m' c = Cert.KernelIdeal.Fold.aBias m c := funext fun h => congrFun e5 (ix1 h)
  have h6 : Cert.ReferenceIdeal.Entry.aRate m' c = Cert.KernelIdeal.Fold.aRate m c := funext fun h => congrArg (fun x : EReal => - Ideal.exp x) (congrFun e6 (ix1 h))
  refine ext_state fun b g j n => ?_
  refine (Cert.ReferenceIdeal.Out.out84 m' c b g j n).trans (Eq.trans ?_ (Cert.KernelIdeal.Fold.G12_apply F b g j n).symm)
  rw [h0, h2, h3, h4, h5, h6]

end

theorem frame_r : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic : Cert.algebraic_KernelIdeal_ReferenceIdeal_pre_dt_finite (hKernelIdeal := Cert.KernelIdeal.Gen.facts)
    (hReferenceIdeal := Cert.ReferenceIdeal.Gen.facts) (hPre_dt_finite := preFacts) := fun m ρ m' ρ' hpre hag =>
  ⟨fun c => Cert.KernelIdeal.Value.G11 m c, fun c => Cert.KernelIdeal.Value.G12 m c, Cert.KernelIdeal.Value.run (F := Ideal) m ρ,
    (θ_run Cert.ReferenceIdeal.defs _ _).mono (fun r h c => by
      obtain ⟨e0, e1, e2, e3, e4, e5, e6, e7, e8⟩ := hag c
      exact ⟨(h c).1.trans (rows_agree m m' c (fine m c hpre) e0 e1 e2 e3 e4 e5 e6 e7 e8),
        (h c).2.1.trans (states_agree m m' c (fine m c hpre) e0 e1 e2 e3 e4 e5 e6 e7 e8), (h c).2.2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Up.Gen.facts, Cert.UpIdeal.Gen.facts, Cert.UpReferenceIdeal.Gen.facts, Cert.Down.Gen.facts, Cert.DownIdeal.Gen.facts, Cert.DownReferenceIdeal.Gen.facts, Cert.Merge.Gen.facts, Cert.MergeIdeal.Gen.facts, Cert.MergeReferenceIdeal.Gen.facts, Cert.ProjA.Gen.facts, Cert.ProjAIdeal.Gen.facts, Cert.ProjAReferenceIdeal.Gen.facts, Cert.ProjB.Gen.facts, Cert.ProjBIdeal.Gen.facts, Cert.ProjBReferenceIdeal.Gen.facts, Cert.ProjC.Gen.facts, Cert.ProjCIdeal.Gen.facts, Cert.ProjCReferenceIdeal.Gen.facts, Cert.ProjE.Gen.facts, Cert.ProjEIdeal.Gen.facts, Cert.ProjEReferenceIdeal.Gen.facts, Cert.ProjF.Gen.facts, Cert.ProjFIdeal.Gen.facts, Cert.ProjFReferenceIdeal.Gen.facts, Cert.ProjG.Gen.facts, Cert.ProjGIdeal.Gen.facts, Cert.ProjGReferenceIdeal.Gen.facts, Cert.Rope.Gen.facts, Cert.RopeIdeal.Gen.facts, Cert.RopeReferenceIdeal.Gen.facts, Cert.SampleKv.Gen.facts, Cert.SampleKvIdeal.Gen.facts, Cert.SampleKvReferenceIdeal.Gen.facts, Cert.SampleConv.Gen.facts, Cert.SampleConvIdeal.Gen.facts, Cert.SampleConvReferenceIdeal.Gen.facts, Cert.Experts.Gen.facts, Cert.ExpertsIdeal.Gen.facts, Cert.ExpertsReferenceIdeal.Gen.facts, Cert.ExpertsDown.Gen.facts, Cert.ExpertsDownIdeal.Gen.facts, Cert.ExpertsDownReferenceIdeal.Gen.facts, preFacts, Cert.ExpertsProof.preFacts, Cert.ExpertsDownProof.preFacts, Cert.ExpertsProof.onFacts, Cert.ExpertsDownProof.onFacts,
    fun m ρ _ => Cert.Kernel.Gen.frame m ρ, fun m ρ _ => Cert.KernelIdeal.Gen.frame m ρ, fun m ρ _ => Cert.KernelIdeal.Gen.frame m ρ,
    frame_r, fun m ρ _ => frame_r m ρ trivial,
    Cert.UpProof.frame_p, Cert.UpProof.frame_i, Cert.UpProof.frame_r,
    Cert.DownProof.frame_p, Cert.DownProof.frame_i, Cert.DownProof.frame_r,
    Cert.MergeProof.frame_p, Cert.MergeProof.frame_i, Cert.MergeProof.frame_r,
    Cert.ProjAProof.frame_p, Cert.ProjAProof.frame_i, Cert.ProjAProof.frame_r,
    Cert.ProjBProof.frame_p, Cert.ProjBProof.frame_i, Cert.ProjBProof.frame_r,
    Cert.ProjCProof.frame_p, Cert.ProjCProof.frame_i, Cert.ProjCProof.frame_r,
    Cert.ProjEProof.frame_p, Cert.ProjEProof.frame_i, Cert.ProjEProof.frame_r,
    Cert.ProjFProof.frame_p, Cert.ProjFProof.frame_i, Cert.ProjFProof.frame_r,
    Cert.ProjGProof.frame_p, Cert.ProjGProof.frame_i, Cert.ProjGProof.frame_r,
    Cert.RopeProof.frame_p, Cert.RopeProof.frame_i, Cert.RopeProof.frame_r,
    Cert.SampleKvProof.frame_p, Cert.SampleKvProof.frame_i, Cert.SampleKvProof.frame_r,
    Cert.SampleConvProof.frame_p, Cert.SampleConvProof.frame_i, Cert.SampleConvProof.frame_r,
    Cert.ExpertsBits.frame_p, Cert.ExpertsProof.frame_i, Cert.ExpertsProof.frame_r,
    Cert.ExpertsDownBits.frame_p, Cert.ExpertsDownProof.frame_i, Cert.ExpertsDownProof.frame_r,
    IdealRules.named_const.statement Cert.KernelIdeal.κ "mask" .f32 0xF149F2CA#32 ⊥ rfl, algebraic,
    trivial, Cert.UpProof.algebraic,
    trivial, Cert.DownProof.algebraic,
    trivial, Cert.MergeProof.algebraic,
    trivial, Cert.ProjAProof.algebraic,
    trivial, Cert.ProjBProof.algebraic,
    trivial, Cert.ProjCProof.algebraic,
    trivial, Cert.ProjEProof.algebraic,
    trivial, Cert.ProjFProof.algebraic,
    trivial, Cert.ProjGProof.algebraic,
    trivial, Cert.RopeProof.algebraic,
    trivial, Cert.SampleKvProof.algebraic,
    trivial, Cert.SampleConvProof.algebraic,
    trivial, Cert.ExpertsProof.algebraic,
    trivial, Cert.ExpertsDownProof.algebraic⟩

end Cert.Proof

end
